-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_Rkvg (m : (ℓ : Loc Cert.Rkvg.nD Cert.Rkvg.τ Cert.Rkvg.sig) → Buf (Elt Bits) ℓ) : Prop :=
  True

def Pre_RkvgIdeal (m : (ℓ : Loc Cert.RkvgIdeal.nD Cert.RkvgIdeal.τ Cert.RkvgIdeal.sig) → Buf (Elt Ideal) ℓ) : Prop :=
  True

def Pre_RkvgRefIdeal (m : (ℓ : Loc Cert.RkvgRefIdeal.nD Cert.RkvgRefIdeal.τ Cert.RkvgRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Lora (m : (ℓ : Loc Cert.Lora.nD Cert.Lora.τ Cert.Lora.sig) → Buf (Elt Bits) ℓ) : Prop :=
  True

def Pre_LoraIdeal (m : (ℓ : Loc Cert.LoraIdeal.nD Cert.LoraIdeal.τ Cert.LoraIdeal.sig) → Buf (Elt Ideal) ℓ) : Prop :=
  True

def Pre_LoraRefIdeal (m : (ℓ : Loc Cert.LoraRefIdeal.nD Cert.LoraRefIdeal.τ Cert.LoraRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2)
      ∧ r.2.mem ((c.tc : Thread Cert.ProjA.nD Cert.ProjA.τ).loc Cert.ProjA.main_arg3) = m ((c.tc : Thread Cert.ProjA.nD Cert.ProjA.τ).loc Cert.ProjA.main_arg3))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
      ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2)
      ∧ r.2.mem ((c.tc : Thread Cert.ProjARefIdeal.nD Cert.ProjARefIdeal.τ).loc Cert.ProjARefIdeal.main_arg3) = m ((c.tc : Thread Cert.ProjARefIdeal.nD Cert.ProjARefIdeal.τ).loc Cert.ProjARefIdeal.main_arg3))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2))
      ∧ r.2.sem = fun _ => 0)

def quiescent_Rkvg [hRkvg : Cert.Rkvg.Facts] : Prop :=
  ∀ (m : (ℓ : Loc Cert.Rkvg.nD Cert.Rkvg.τ Cert.Rkvg.sig) → Buf (Elt Bits) ℓ) (g : Dev Cert.Rkvg.nD → PrngReg), Pre_Rkvg m →
    θ_run (Cert.Rkvg.defs (F := Bits)) (onTc (τ := Cert.Rkvg.τ) (Cert.Rkvg.main (F := Bits))) ⟨m, fun _ => 0, g⟩ (fun r => (∀ c : Dev Cert.Rkvg.nD,
      r.2.mem ((c.tc : Thread Cert.Rkvg.nD Cert.Rkvg.τ).loc Cert.Rkvg.main_arg0) = m ((c.tc : Thread Cert.Rkvg.nD Cert.Rkvg.τ).loc Cert.Rkvg.main_arg0)
      ∧ r.2.mem ((c.tc : Thread Cert.Rkvg.nD Cert.Rkvg.τ).loc Cert.Rkvg.main_arg1) = m ((c.tc : Thread Cert.Rkvg.nD Cert.Rkvg.τ).loc Cert.Rkvg.main_arg1))
      ∧ r.2.sem = fun _ => 0)

def quiescent_RkvgIdeal [hRkvgIdeal : Cert.RkvgIdeal.Facts] : Prop :=
  ∀ (m : (ℓ : Loc Cert.RkvgIdeal.nD Cert.RkvgIdeal.τ Cert.RkvgIdeal.sig) → Buf (Elt Ideal) ℓ) (g : Dev Cert.RkvgIdeal.nD → PrngReg), Pre_RkvgIdeal m →
    θ_run (Cert.RkvgIdeal.defs (F := Ideal)) (onTc (τ := Cert.RkvgIdeal.τ) (Cert.RkvgIdeal.main (F := Ideal))) ⟨m, fun _ => 0, g⟩ (fun r => (∀ c : Dev Cert.RkvgIdeal.nD,
      r.2.mem ((c.tc : Thread Cert.RkvgIdeal.nD Cert.RkvgIdeal.τ).loc Cert.RkvgIdeal.main_arg0) = m ((c.tc : Thread Cert.RkvgIdeal.nD Cert.RkvgIdeal.τ).loc Cert.RkvgIdeal.main_arg0)
      ∧ r.2.mem ((c.tc : Thread Cert.RkvgIdeal.nD Cert.RkvgIdeal.τ).loc Cert.RkvgIdeal.main_arg1) = m ((c.tc : Thread Cert.RkvgIdeal.nD Cert.RkvgIdeal.τ).loc Cert.RkvgIdeal.main_arg1))
      ∧ r.2.sem = fun _ => 0)

def quiescent_RkvgRefIdeal [hRkvgRefIdeal : Cert.RkvgRefIdeal.Facts] : Prop :=
  ∀ (m : (ℓ : Loc Cert.RkvgRefIdeal.nD Cert.RkvgRefIdeal.τ Cert.RkvgRefIdeal.sig) → Buf (Elt Ideal) ℓ) (g : Dev Cert.RkvgRefIdeal.nD → PrngReg), Pre_RkvgRefIdeal m →
    θ_run (Cert.RkvgRefIdeal.defs (F := Ideal)) (onTc (τ := Cert.RkvgRefIdeal.τ) (Cert.RkvgRefIdeal.main (F := Ideal))) ⟨m, fun _ => 0, g⟩ (fun r => (∀ c : Dev Cert.RkvgRefIdeal.nD,
      r.2.mem ((c.tc : Thread Cert.RkvgRefIdeal.nD Cert.RkvgRefIdeal.τ).loc Cert.RkvgRefIdeal.main_arg0) = m ((c.tc : Thread Cert.RkvgRefIdeal.nD Cert.RkvgRefIdeal.τ).loc Cert.RkvgRefIdeal.main_arg0)
      ∧ r.2.mem ((c.tc : Thread Cert.RkvgRefIdeal.nD Cert.RkvgRefIdeal.τ).loc Cert.RkvgRefIdeal.main_arg1) = m ((c.tc : Thread Cert.RkvgRefIdeal.nD Cert.RkvgRefIdeal.τ).loc Cert.RkvgRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_Lora [hLora : Cert.Lora.Facts] : Prop :=
  ∀ (m : (ℓ : Loc Cert.Lora.nD Cert.Lora.τ Cert.Lora.sig) → Buf (Elt Bits) ℓ) (g : Dev Cert.Lora.nD → PrngReg), Pre_Lora m →
    θ_run (Cert.Lora.defs (F := Bits)) (onTc (τ := Cert.Lora.τ) (Cert.Lora.main (F := Bits))) ⟨m, fun _ => 0, g⟩ (fun r => (∀ c : Dev Cert.Lora.nD,
      r.2.mem ((c.tc : Thread Cert.Lora.nD Cert.Lora.τ).loc Cert.Lora.main_arg0) = m ((c.tc : Thread Cert.Lora.nD Cert.Lora.τ).loc Cert.Lora.main_arg0)
      ∧ r.2.mem ((c.tc : Thread Cert.Lora.nD Cert.Lora.τ).loc Cert.Lora.main_arg1) = m ((c.tc : Thread Cert.Lora.nD Cert.Lora.τ).loc Cert.Lora.main_arg1)
      ∧ r.2.mem ((c.tc : Thread Cert.Lora.nD Cert.Lora.τ).loc Cert.Lora.main_arg2) = m ((c.tc : Thread Cert.Lora.nD Cert.Lora.τ).loc Cert.Lora.main_arg2)
      ∧ r.2.mem ((c.tc : Thread Cert.Lora.nD Cert.Lora.τ).loc Cert.Lora.main_arg3) = m ((c.tc : Thread Cert.Lora.nD Cert.Lora.τ).loc Cert.Lora.main_arg3)
      ∧ r.2.mem ((c.tc : Thread Cert.Lora.nD Cert.Lora.τ).loc Cert.Lora.main_arg4) = m ((c.tc : Thread Cert.Lora.nD Cert.Lora.τ).loc Cert.Lora.main_arg4)
      ∧ r.2.mem ((c.tc : Thread Cert.Lora.nD Cert.Lora.τ).loc Cert.Lora.main_arg5) = m ((c.tc : Thread Cert.Lora.nD Cert.Lora.τ).loc Cert.Lora.main_arg5)
      ∧ r.2.mem ((c.tc : Thread Cert.Lora.nD Cert.Lora.τ).loc Cert.Lora.main_arg6) = m ((c.tc : Thread Cert.Lora.nD Cert.Lora.τ).loc Cert.Lora.main_arg6))
      ∧ r.2.sem = fun _ => 0)

def quiescent_LoraIdeal [hLoraIdeal : Cert.LoraIdeal.Facts] : Prop :=
  ∀ (m : (ℓ : Loc Cert.LoraIdeal.nD Cert.LoraIdeal.τ Cert.LoraIdeal.sig) → Buf (Elt Ideal) ℓ) (g : Dev Cert.LoraIdeal.nD → PrngReg), Pre_LoraIdeal m →
    θ_run (Cert.LoraIdeal.defs (F := Ideal)) (onTc (τ := Cert.LoraIdeal.τ) (Cert.LoraIdeal.main (F := Ideal))) ⟨m, fun _ => 0, g⟩ (fun r => (∀ c : Dev Cert.LoraIdeal.nD,
      r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
      ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1)
      ∧ r.2.mem ((c.tc : Thread Cert.LoraIdeal.nD Cert.LoraIdeal.τ).loc Cert.LoraIdeal.main_arg2) = m ((c.tc : Thread Cert.LoraIdeal.nD Cert.LoraIdeal.τ).loc Cert.LoraIdeal.main_arg2)
      ∧ r.2.mem ((c.tc : Thread Cert.LoraIdeal.nD Cert.LoraIdeal.τ).loc Cert.LoraIdeal.main_arg3) = m ((c.tc : Thread Cert.LoraIdeal.nD Cert.LoraIdeal.τ).loc Cert.LoraIdeal.main_arg3)
      ∧ r.2.mem ((c.tc : Thread Cert.LoraIdeal.nD Cert.LoraIdeal.τ).loc Cert.LoraIdeal.main_arg4) = m ((c.tc : Thread Cert.LoraIdeal.nD Cert.LoraIdeal.τ).loc Cert.LoraIdeal.main_arg4)
      ∧ r.2.mem ((c.tc : Thread Cert.LoraIdeal.nD Cert.LoraIdeal.τ).loc Cert.LoraIdeal.main_arg5) = m ((c.tc : Thread Cert.LoraIdeal.nD Cert.LoraIdeal.τ).loc Cert.LoraIdeal.main_arg5)
      ∧ r.2.mem ((c.tc : Thread Cert.LoraIdeal.nD Cert.LoraIdeal.τ).loc Cert.LoraIdeal.main_arg6) = m ((c.tc : Thread Cert.LoraIdeal.nD Cert.LoraIdeal.τ).loc Cert.LoraIdeal.main_arg6))
      ∧ r.2.sem = fun _ => 0)

def quiescent_LoraRefIdeal [hLoraRefIdeal : Cert.LoraRefIdeal.Facts] : Prop :=
  ∀ (m : (ℓ : Loc Cert.LoraRefIdeal.nD Cert.LoraRefIdeal.τ Cert.LoraRefIdeal.sig) → Buf (Elt Ideal) ℓ) (g : Dev Cert.LoraRefIdeal.nD → PrngReg), Pre_LoraRefIdeal m →
    θ_run (Cert.LoraRefIdeal.defs (F := Ideal)) (onTc (τ := Cert.LoraRefIdeal.τ) (Cert.LoraRefIdeal.main (F := Ideal))) ⟨m, fun _ => 0, g⟩ (fun r => (∀ c : Dev Cert.LoraRefIdeal.nD,
      r.2.mem ((c.tc : Thread Cert.LoraRefIdeal.nD Cert.LoraRefIdeal.τ).loc Cert.LoraRefIdeal.main_arg0) = m ((c.tc : Thread Cert.LoraRefIdeal.nD Cert.LoraRefIdeal.τ).loc Cert.LoraRefIdeal.main_arg0)
      ∧ r.2.mem ((c.tc : Thread Cert.LoraRefIdeal.nD Cert.LoraRefIdeal.τ).loc Cert.LoraRefIdeal.main_arg1) = m ((c.tc : Thread Cert.LoraRefIdeal.nD Cert.LoraRefIdeal.τ).loc Cert.LoraRefIdeal.main_arg1)
      ∧ r.2.mem ((c.tc : Thread Cert.LoraRefIdeal.nD Cert.LoraRefIdeal.τ).loc Cert.LoraRefIdeal.main_arg2) = m ((c.tc : Thread Cert.LoraRefIdeal.nD Cert.LoraRefIdeal.τ).loc Cert.LoraRefIdeal.main_arg2)
      ∧ r.2.mem ((c.tc : Thread Cert.LoraRefIdeal.nD Cert.LoraRefIdeal.τ).loc Cert.LoraRefIdeal.main_arg3) = m ((c.tc : Thread Cert.LoraRefIdeal.nD Cert.LoraRefIdeal.τ).loc Cert.LoraRefIdeal.main_arg3)
      ∧ r.2.mem ((c.tc : Thread Cert.LoraRefIdeal.nD Cert.LoraRefIdeal.τ).loc Cert.LoraRefIdeal.main_arg4) = m ((c.tc : Thread Cert.LoraRefIdeal.nD Cert.LoraRefIdeal.τ).loc Cert.LoraRefIdeal.main_arg4)
      ∧ r.2.mem ((c.tc : Thread Cert.LoraRefIdeal.nD Cert.LoraRefIdeal.τ).loc Cert.LoraRefIdeal.main_arg5) = m ((c.tc : Thread Cert.LoraRefIdeal.nD Cert.LoraRefIdeal.τ).loc Cert.LoraRefIdeal.main_arg5)
      ∧ r.2.mem ((c.tc : Thread Cert.LoraRefIdeal.nD Cert.LoraRefIdeal.τ).loc Cert.LoraRefIdeal.main_arg6) = m ((c.tc : Thread Cert.LoraRefIdeal.nD Cert.LoraRefIdeal.τ).loc Cert.LoraRefIdeal.main_arg6))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)
      ∧ m' ((c.tc : Thread Cert.ProjARefIdeal.nD Cert.ProjARefIdeal.τ).loc Cert.ProjARefIdeal.main_arg3) = m ((c.tc : Thread Cert.ProjAIdeal.nD Cert.ProjAIdeal.τ).loc Cert.ProjAIdeal.main_arg3)) →
    ∃ (v0 : (c : Dev Cert.ProjAIdeal.nD) → Buf (Elt Ideal) ((c.tc : Thread Cert.ProjAIdeal.nD Cert.ProjAIdeal.τ).loc Cert.ProjAIdeal.main_v4)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v4) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
          ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v32) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2)
          ∧ r.2.mem ((c.tc : Thread Cert.ProjARefIdeal.nD Cert.ProjARefIdeal.τ).loc Cert.ProjARefIdeal.main_arg3) = m' ((c.tc : Thread Cert.ProjARefIdeal.nD Cert.ProjARefIdeal.τ).loc Cert.ProjARefIdeal.main_arg3))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v8)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v8) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v19) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2))

def preserves_Rkvg_RkvgIdeal : Prop :=
  True

def algebraic_RkvgIdeal_RkvgRefIdeal [hRkvgIdeal : Cert.RkvgIdeal.Facts] [hRkvgRefIdeal : Cert.RkvgRefIdeal.Facts] : Prop :=
  ∀ (m : (ℓ : Loc Cert.RkvgIdeal.nD Cert.RkvgIdeal.τ Cert.RkvgIdeal.sig) → Buf (Elt Ideal) ℓ) (g : Dev Cert.RkvgIdeal.nD → PrngReg)
    (m' : (ℓ : Loc Cert.RkvgRefIdeal.nD Cert.RkvgRefIdeal.τ Cert.RkvgRefIdeal.sig) → Buf (Elt Ideal) ℓ) (g' : Dev Cert.RkvgRefIdeal.nD → PrngReg), Pre_RkvgIdeal m →
    (∀ c : Dev Cert.RkvgIdeal.nD,
      m' ((c.tc : Thread Cert.RkvgRefIdeal.nD Cert.RkvgRefIdeal.τ).loc Cert.RkvgRefIdeal.main_arg0) = m ((c.tc : Thread Cert.RkvgIdeal.nD Cert.RkvgIdeal.τ).loc Cert.RkvgIdeal.main_arg0)
      ∧ m' ((c.tc : Thread Cert.RkvgRefIdeal.nD Cert.RkvgRefIdeal.τ).loc Cert.RkvgRefIdeal.main_arg1) = m ((c.tc : Thread Cert.RkvgIdeal.nD Cert.RkvgIdeal.τ).loc Cert.RkvgIdeal.main_arg1)) →
    ∃ (v0 : (c : Dev Cert.RkvgIdeal.nD) → Buf (Elt Ideal) ((c.tc : Thread Cert.RkvgIdeal.nD Cert.RkvgIdeal.τ).loc Cert.RkvgIdeal.main_v0)),
      θ_run (Cert.RkvgIdeal.defs (F := Ideal)) (onTc (τ := Cert.RkvgIdeal.τ) (Cert.RkvgIdeal.main (F := Ideal))) ⟨m, fun _ => 0, g⟩ (fun r => ∀ c : Dev Cert.RkvgIdeal.nD,
          r.2.mem ((c.tc : Thread Cert.RkvgIdeal.nD Cert.RkvgIdeal.τ).loc Cert.RkvgIdeal.main_v0) = v0 c
          ∧ r.2.mem ((c.tc : Thread Cert.RkvgIdeal.nD Cert.RkvgIdeal.τ).loc Cert.RkvgIdeal.main_arg0) = m ((c.tc : Thread Cert.RkvgIdeal.nD Cert.RkvgIdeal.τ).loc Cert.RkvgIdeal.main_arg0)
          ∧ r.2.mem ((c.tc : Thread Cert.RkvgIdeal.nD Cert.RkvgIdeal.τ).loc Cert.RkvgIdeal.main_arg1) = m ((c.tc : Thread Cert.RkvgIdeal.nD Cert.RkvgIdeal.τ).loc Cert.RkvgIdeal.main_arg1))
      ∧ θ_run (Cert.RkvgRefIdeal.defs (F := Ideal)) (onTc (τ := Cert.RkvgRefIdeal.τ) (Cert.RkvgRefIdeal.main (F := Ideal))) ⟨m', fun _ => 0, g'⟩ (fun r => ∀ c : Dev Cert.RkvgRefIdeal.nD,
          r.2.mem ((c.tc : Thread Cert.RkvgRefIdeal.nD Cert.RkvgRefIdeal.τ).loc Cert.RkvgRefIdeal.main_v3) = v0 c
          ∧ r.2.mem ((c.tc : Thread Cert.RkvgRefIdeal.nD Cert.RkvgRefIdeal.τ).loc Cert.RkvgRefIdeal.main_arg0) = m' ((c.tc : Thread Cert.RkvgRefIdeal.nD Cert.RkvgRefIdeal.τ).loc Cert.RkvgRefIdeal.main_arg0)
          ∧ r.2.mem ((c.tc : Thread Cert.RkvgRefIdeal.nD Cert.RkvgRefIdeal.τ).loc Cert.RkvgRefIdeal.main_arg1) = m' ((c.tc : Thread Cert.RkvgRefIdeal.nD Cert.RkvgRefIdeal.τ).loc Cert.RkvgRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v7) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v4_0)) (v1 : (c : Dev Cert.PrepIdeal.nD) → Buf (Elt Ideal) ((c.tc : Thread Cert.PrepIdeal.nD Cert.PrepIdeal.τ).loc Cert.PrepIdeal.main_v4_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v4_0) = v0 c
          ∧ r.2.mem ((c.tc : Thread Cert.PrepIdeal.nD Cert.PrepIdeal.τ).loc Cert.PrepIdeal.main_v4_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v62) = v0 c
          ∧ r.2.mem ((c.tc : Thread Cert.PrepRefIdeal.nD Cert.PrepRefIdeal.τ).loc Cert.PrepRefIdeal.main_v64) = v1 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def preserves_Lora_LoraIdeal : Prop :=
  True

def algebraic_LoraIdeal_LoraRefIdeal [hLoraIdeal : Cert.LoraIdeal.Facts] [hLoraRefIdeal : Cert.LoraRefIdeal.Facts] : Prop :=
  ∀ (m : (ℓ : Loc Cert.LoraIdeal.nD Cert.LoraIdeal.τ Cert.LoraIdeal.sig) → Buf (Elt Ideal) ℓ) (g : Dev Cert.LoraIdeal.nD → PrngReg)
    (m' : (ℓ : Loc Cert.LoraRefIdeal.nD Cert.LoraRefIdeal.τ Cert.LoraRefIdeal.sig) → Buf (Elt Ideal) ℓ) (g' : Dev Cert.LoraRefIdeal.nD → PrngReg), Pre_LoraIdeal m →
    (∀ c : Dev Cert.LoraIdeal.nD,
      m' ((c.tc : Thread Cert.LoraRefIdeal.nD Cert.LoraRefIdeal.τ).loc Cert.LoraRefIdeal.main_arg0) = m ((c.tc : Thread Cert.LoraIdeal.nD Cert.LoraIdeal.τ).loc Cert.LoraIdeal.main_arg0)
      ∧ m' ((c.tc : Thread Cert.LoraRefIdeal.nD Cert.LoraRefIdeal.τ).loc Cert.LoraRefIdeal.main_arg1) = m ((c.tc : Thread Cert.LoraIdeal.nD Cert.LoraIdeal.τ).loc Cert.LoraIdeal.main_arg1)
      ∧ m' ((c.tc : Thread Cert.LoraRefIdeal.nD Cert.LoraRefIdeal.τ).loc Cert.LoraRefIdeal.main_arg2) = m ((c.tc : Thread Cert.LoraIdeal.nD Cert.LoraIdeal.τ).loc Cert.LoraIdeal.main_arg2)
      ∧ m' ((c.tc : Thread Cert.LoraRefIdeal.nD Cert.LoraRefIdeal.τ).loc Cert.LoraRefIdeal.main_arg3) = m ((c.tc : Thread Cert.LoraIdeal.nD Cert.LoraIdeal.τ).loc Cert.LoraIdeal.main_arg3)
      ∧ m' ((c.tc : Thread Cert.LoraRefIdeal.nD Cert.LoraRefIdeal.τ).loc Cert.LoraRefIdeal.main_arg4) = m ((c.tc : Thread Cert.LoraIdeal.nD Cert.LoraIdeal.τ).loc Cert.LoraIdeal.main_arg4)
      ∧ m' ((c.tc : Thread Cert.LoraRefIdeal.nD Cert.LoraRefIdeal.τ).loc Cert.LoraRefIdeal.main_arg5) = m ((c.tc : Thread Cert.LoraIdeal.nD Cert.LoraIdeal.τ).loc Cert.LoraIdeal.main_arg5)
      ∧ m' ((c.tc : Thread Cert.LoraRefIdeal.nD Cert.LoraRefIdeal.τ).loc Cert.LoraRefIdeal.main_arg6) = m ((c.tc : Thread Cert.LoraIdeal.nD Cert.LoraIdeal.τ).loc Cert.LoraIdeal.main_arg6)) →
    ∃ (v0 : (c : Dev Cert.LoraIdeal.nD) → Buf (Elt Ideal) ((c.tc : Thread Cert.LoraIdeal.nD Cert.LoraIdeal.τ).loc Cert.LoraIdeal.main_v10_0)) (v1 : (c : Dev Cert.LoraIdeal.nD) → Buf (Elt Ideal) ((c.tc : Thread Cert.LoraIdeal.nD Cert.LoraIdeal.τ).loc Cert.LoraIdeal.main_v10_1)),
      θ_run (Cert.LoraIdeal.defs (F := Ideal)) (onTc (τ := Cert.LoraIdeal.τ) (Cert.LoraIdeal.main (F := Ideal))) ⟨m, fun _ => 0, g⟩ (fun r => ∀ c : Dev Cert.LoraIdeal.nD,
          r.2.mem ((c.tc : Thread Cert.LoraIdeal.nD Cert.LoraIdeal.τ).loc Cert.LoraIdeal.main_v10_0) = v0 c
          ∧ r.2.mem ((c.tc : Thread Cert.LoraIdeal.nD Cert.LoraIdeal.τ).loc Cert.LoraIdeal.main_v10_1) = v1 c
          ∧ r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
          ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1)
          ∧ r.2.mem ((c.tc : Thread Cert.LoraIdeal.nD Cert.LoraIdeal.τ).loc Cert.LoraIdeal.main_arg2) = m ((c.tc : Thread Cert.LoraIdeal.nD Cert.LoraIdeal.τ).loc Cert.LoraIdeal.main_arg2)
          ∧ r.2.mem ((c.tc : Thread Cert.LoraIdeal.nD Cert.LoraIdeal.τ).loc Cert.LoraIdeal.main_arg3) = m ((c.tc : Thread Cert.LoraIdeal.nD Cert.LoraIdeal.τ).loc Cert.LoraIdeal.main_arg3)
          ∧ r.2.mem ((c.tc : Thread Cert.LoraIdeal.nD Cert.LoraIdeal.τ).loc Cert.LoraIdeal.main_arg4) = m ((c.tc : Thread Cert.LoraIdeal.nD Cert.LoraIdeal.τ).loc Cert.LoraIdeal.main_arg4)
          ∧ r.2.mem ((c.tc : Thread Cert.LoraIdeal.nD Cert.LoraIdeal.τ).loc Cert.LoraIdeal.main_arg5) = m ((c.tc : Thread Cert.LoraIdeal.nD Cert.LoraIdeal.τ).loc Cert.LoraIdeal.main_arg5)
          ∧ r.2.mem ((c.tc : Thread Cert.LoraIdeal.nD Cert.LoraIdeal.τ).loc Cert.LoraIdeal.main_arg6) = m ((c.tc : Thread Cert.LoraIdeal.nD Cert.LoraIdeal.τ).loc Cert.LoraIdeal.main_arg6))
      ∧ θ_run (Cert.LoraRefIdeal.defs (F := Ideal)) (onTc (τ := Cert.LoraRefIdeal.τ) (Cert.LoraRefIdeal.main (F := Ideal))) ⟨m', fun _ => 0, g'⟩ (fun r => ∀ c : Dev Cert.LoraRefIdeal.nD,
          r.2.mem ((c.tc : Thread Cert.LoraRefIdeal.nD Cert.LoraRefIdeal.τ).loc Cert.LoraRefIdeal.main_v8) = v0 c
          ∧ r.2.mem ((c.tc : Thread Cert.LoraRefIdeal.nD Cert.LoraRefIdeal.τ).loc Cert.LoraRefIdeal.main_v15) = v1 c
          ∧ r.2.mem ((c.tc : Thread Cert.LoraRefIdeal.nD Cert.LoraRefIdeal.τ).loc Cert.LoraRefIdeal.main_arg0) = m' ((c.tc : Thread Cert.LoraRefIdeal.nD Cert.LoraRefIdeal.τ).loc Cert.LoraRefIdeal.main_arg0)
          ∧ r.2.mem ((c.tc : Thread Cert.LoraRefIdeal.nD Cert.LoraRefIdeal.τ).loc Cert.LoraRefIdeal.main_arg1) = m' ((c.tc : Thread Cert.LoraRefIdeal.nD Cert.LoraRefIdeal.τ).loc Cert.LoraRefIdeal.main_arg1)
          ∧ r.2.mem ((c.tc : Thread Cert.LoraRefIdeal.nD Cert.LoraRefIdeal.τ).loc Cert.LoraRefIdeal.main_arg2) = m' ((c.tc : Thread Cert.LoraRefIdeal.nD Cert.LoraRefIdeal.τ).loc Cert.LoraRefIdeal.main_arg2)
          ∧ r.2.mem ((c.tc : Thread Cert.LoraRefIdeal.nD Cert.LoraRefIdeal.τ).loc Cert.LoraRefIdeal.main_arg3) = m' ((c.tc : Thread Cert.LoraRefIdeal.nD Cert.LoraRefIdeal.τ).loc Cert.LoraRefIdeal.main_arg3)
          ∧ r.2.mem ((c.tc : Thread Cert.LoraRefIdeal.nD Cert.LoraRefIdeal.τ).loc Cert.LoraRefIdeal.main_arg4) = m' ((c.tc : Thread Cert.LoraRefIdeal.nD Cert.LoraRefIdeal.τ).loc Cert.LoraRefIdeal.main_arg4)
          ∧ r.2.mem ((c.tc : Thread Cert.LoraRefIdeal.nD Cert.LoraRefIdeal.τ).loc Cert.LoraRefIdeal.main_arg5) = m' ((c.tc : Thread Cert.LoraRefIdeal.nD Cert.LoraRefIdeal.τ).loc Cert.LoraRefIdeal.main_arg5)
          ∧ r.2.mem ((c.tc : Thread Cert.LoraRefIdeal.nD Cert.LoraRefIdeal.τ).loc Cert.LoraRefIdeal.main_arg6) = m' ((c.tc : Thread Cert.LoraRefIdeal.nD Cert.LoraRefIdeal.τ).loc Cert.LoraRefIdeal.main_arg6))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v56_0)) (v1 : (c : Dev Cert.RopeIdeal.nD) → Buf (Elt Ideal) ((c.tc : Thread Cert.RopeIdeal.nD Cert.RopeIdeal.τ).loc Cert.RopeIdeal.main_v56_1)) (v2 : (c : Dev Cert.RopeIdeal.nD) → Buf (Elt Ideal) ((c.tc : Thread Cert.RopeIdeal.nD Cert.RopeIdeal.τ).loc Cert.RopeIdeal.main_v56_2)) (v3 : (c : Dev Cert.RopeIdeal.nD) → Buf (Elt Ideal) ((c.tc : Thread Cert.RopeIdeal.nD Cert.RopeIdeal.τ).loc Cert.RopeIdeal.main_v56_3)) (v4 : (c : Dev Cert.RopeIdeal.nD) → Buf (Elt Ideal) ((c.tc : Thread Cert.RopeIdeal.nD Cert.RopeIdeal.τ).loc Cert.RopeIdeal.main_v56_4)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v56_0) = v0 c
          ∧ r.2.mem ((c.tc : Thread Cert.RopeIdeal.nD Cert.RopeIdeal.τ).loc Cert.RopeIdeal.main_v56_1) = v1 c
          ∧ r.2.mem ((c.tc : Thread Cert.RopeIdeal.nD Cert.RopeIdeal.τ).loc Cert.RopeIdeal.main_v56_2) = v2 c
          ∧ r.2.mem ((c.tc : Thread Cert.RopeIdeal.nD Cert.RopeIdeal.τ).loc Cert.RopeIdeal.main_v56_3) = v3 c
          ∧ r.2.mem ((c.tc : Thread Cert.RopeIdeal.nD Cert.RopeIdeal.τ).loc Cert.RopeIdeal.main_v56_4) = v4 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v62) = v0 c
          ∧ r.2.mem ((c.tc : Thread Cert.RopeRefIdeal.nD Cert.RopeRefIdeal.τ).loc Cert.RopeRefIdeal.main_v63) = v1 c
          ∧ r.2.mem ((c.tc : Thread Cert.RopeRefIdeal.nD Cert.RopeRefIdeal.τ).loc Cert.RopeRefIdeal.main_v64) = v2 c
          ∧ r.2.mem ((c.tc : Thread Cert.RopeRefIdeal.nD Cert.RopeRefIdeal.τ).loc Cert.RopeRefIdeal.main_v65) = v3 c
          ∧ r.2.mem ((c.tc : Thread Cert.RopeRefIdeal.nD Cert.RopeRefIdeal.τ).loc Cert.RopeRefIdeal.main_v66) = v4 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hKernel : Cert.Kernel.Facts) (hKernelIdeal : Cert.KernelIdeal.Facts) (hReferenceIdeal : Cert.ReferenceIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hRkvg : Cert.Rkvg.Facts) (hRkvgIdeal : Cert.RkvgIdeal.Facts) (hRkvgRefIdeal : Cert.RkvgRefIdeal.Facts) (hOut : Cert.Out.Facts) (hOutIdeal : Cert.OutIdeal.Facts) (hOutRefIdeal : Cert.OutRefIdeal.Facts) (hPrep : Cert.Prep.Facts) (hPrepIdeal : Cert.PrepIdeal.Facts) (hPrepRefIdeal : Cert.PrepRefIdeal.Facts) (hLora : Cert.Lora.Facts) (hLoraIdeal : Cert.LoraIdeal.Facts) (hLoraRefIdeal : Cert.LoraRefIdeal.Facts) (hRope : Cert.Rope.Facts) (hRopeIdeal : Cert.RopeIdeal.Facts) (hRopeRefIdeal : Cert.RopeRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_Rkvg (hRkvg := hRkvg)
    ∧ quiescent_RkvgIdeal (hRkvgIdeal := hRkvgIdeal)
    ∧ quiescent_RkvgRefIdeal (hRkvgRefIdeal := hRkvgRefIdeal)
    ∧ quiescent_Out (hOut := hOut)
    ∧ quiescent_OutIdeal (hOutIdeal := hOutIdeal)
    ∧ quiescent_OutRefIdeal (hOutRefIdeal := hOutRefIdeal)
    ∧ quiescent_Prep (hPrep := hPrep)
    ∧ quiescent_PrepIdeal (hPrepIdeal := hPrepIdeal)
    ∧ quiescent_PrepRefIdeal (hPrepRefIdeal := hPrepRefIdeal)
    ∧ quiescent_Lora (hLora := hLora)
    ∧ quiescent_LoraIdeal (hLoraIdeal := hLoraIdeal)
    ∧ quiescent_LoraRefIdeal (hLoraRefIdeal := hLoraRefIdeal)
    ∧ quiescent_Rope (hRope := hRope)
    ∧ quiescent_RopeIdeal (hRopeIdeal := hRopeIdeal)
    ∧ quiescent_RopeRefIdeal (hRopeRefIdeal := hRopeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_Rkvg_RkvgIdeal
    ∧ algebraic_RkvgIdeal_RkvgRefIdeal (hRkvgIdeal := hRkvgIdeal) (hRkvgRefIdeal := hRkvgRefIdeal)
    ∧ preserves_Out_OutIdeal
    ∧ algebraic_OutIdeal_OutRefIdeal (hOutIdeal := hOutIdeal) (hOutRefIdeal := hOutRefIdeal)
    ∧ preserves_Prep_PrepIdeal
    ∧ algebraic_PrepIdeal_PrepRefIdeal (hPrepIdeal := hPrepIdeal) (hPrepRefIdeal := hPrepRefIdeal)
    ∧ preserves_Lora_LoraIdeal
    ∧ algebraic_LoraIdeal_LoraRefIdeal (hLoraIdeal := hLoraIdeal) (hLoraRefIdeal := hLoraRefIdeal)
    ∧ preserves_Rope_RopeIdeal
    ∧ algebraic_RopeIdeal_RopeRefIdeal (hRopeIdeal := hRopeIdeal) (hRopeRefIdeal := hRopeRefIdeal)
-- ==== Pre_finite.lean ====
abbrev S8704x2048 : Shape := ⟨2, ![8704, 2048]⟩
abbrev S8192x2048 : Shape := ⟨2, ![8192, 2048]⟩
abbrev S8704x8192 : Shape := ⟨2, ![8704, 8192]⟩
abbrev S4x64 : Shape := ⟨2, ![4, 64]⟩
abbrev S128 : Shape := ⟨1, ![128]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S8704x2048 .f32) (main_arg1 : FVec F S8192x2048 .f32) (main_arg2 : FVec F S8192x2048 .f32) (main_arg3 : FVec F S8704x8192 .f32) (main_arg4 : FVec F S4x64 .f32) (main_arg5 : FVec F S128 .f32) : IVec S_ 1 :=
  let main_v0 : FVec F S8192x2048 .f32 := Host.absf main_arg2
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4x64 .f32 := Host.absf main_arg4
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  main_v8
-- ==== Kernel.lean ====
abbrev S8704x2048 : Shape := ⟨2, ![8704, 2048]⟩
abbrev S8192x2048 : Shape := ⟨2, ![8192, 2048]⟩
abbrev S8704x8192 : Shape := ⟨2, ![8704, 8192]⟩
abbrev S4x64 : Shape := ⟨2, ![4, 64]⟩
abbrev S128 : Shape := ⟨1, ![128]⟩
abbrev S1x128 : Shape := ⟨2, ![1, 128]⟩
abbrev S256x1024 : Shape := ⟨2, ![256, 1024]⟩
abbrev S2048x1024 : Shape := ⟨2, ![2048, 1024]⟩
abbrev S256x128 : Shape := ⟨2, ![256, 128]⟩
abbrev S512x128 : Shape := ⟨2, ![512, 128]⟩
abbrev S128x512 : Shape := ⟨2, ![128, 512]⟩
abbrev S128x256 : Shape := ⟨2, ![128, 256]⟩
abbrev S256x256 : Shape := ⟨2, ![256, 256]⟩
abbrev S1x256 : Shape := ⟨2, ![1, 256]⟩
abbrev S256 : Shape := ⟨1, ![256]⟩
abbrev S1x512 : Shape := ⟨2, ![1, 512]⟩
abbrev S1x64 : Shape := ⟨2, ![1, 64]⟩
abbrev S1 : Shape := ⟨1, ![1]⟩
abbrev S1x1 : Shape := ⟨2, ![1, 1]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S8704x2048, .f32⟩
  | .hbm, ⟨1, _⟩ => ⟨S8192x2048, .f32⟩
  | .hbm, ⟨2, _⟩ => ⟨S8192x2048, .f32⟩
  | .hbm, ⟨3, _⟩ => ⟨S8704x8192, .f32⟩
  | .hbm, ⟨4, _⟩ => ⟨S4x64, .f32⟩
  | .hbm, ⟨5, _⟩ => ⟨S128, .f32⟩
  | .hbm, ⟨6, _⟩ => ⟨S1x128, .f32⟩
  | .hbm, ⟨7, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S256x1024, .f32⟩
  | .local _ .vmem, ⟨7, _⟩ => ⟨S256x1024, .f32⟩
  | .local _ .vmem, ⟨8, _⟩ => ⟨S4x64, .f32⟩
  | .local _ .vmem, ⟨9, _⟩ => ⟨S1x128, .f32⟩
  | .local _ .vmem, ⟨10, _⟩ => ⟨S256x1024, .bf16⟩
  | .local _ .vmem, ⟨11, _⟩ => ⟨S256x1024, .bf16⟩
  | .local _ .vmem, ⟨12, _⟩ => ⟨S2048x1024, .bf16⟩
  | .local _ .vmem, ⟨13, _⟩ => ⟨S2048x1024, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 2, 8], ![false, false, false]⟩

@[reducible] def k0_t1_loop (i : grid0.Coords) : Scf.Loop 32 :=
  let c0_i32_88 : BitVec 32 := 0#32
  let arg2 : BitVec 32 := BitVec.ofNat 32 (i 2).val
  let v178 : BitVec 32 := Scalar.subi arg2 c0_i32_88
  let c1_i32 : BitVec 32 := 1#32
  let v180 : BitVec 32 := Scalar.divsi v178 c1_i32
  let v181 : BitVec 32 := Scalar.muli v180 c1_i32
  let v182 : BitVec 32 := Scalar.addi c0_i32_88 v181
  let c1_i32_89 : BitVec 32 := 1#32
  ⟨c0_i32_88, v182, c1_i32_89⟩
def k0_mult1 (i : grid0.Coords) (k0_t1 : Fin (k0_t1_loop i).trips) : BitVec 32 :=
  let c0_i32_88 : BitVec 32 := 0#32
  let c1_i32_89 : BitVec 32 := 1#32
  let arg12 : BitVec 32 := Scf.iv c0_i32_88 c1_i32_89 k0_t1
  let c256_i32_347 : BitVec 32 := 256#32
  let v1003 : BitVec 32 := Scalar.muli arg12 c256_i32_347
  v1003
def k0_off1 (i : grid0.Coords) (k0_t1 : Fin (k0_t1_loop i).trips) : Fin 2 → Nat :=
  let c0_i32_88 : BitVec 32 := 0#32
  let c1_i32_89 : BitVec 32 := 1#32
  let arg12 : BitVec 32 := Scf.iv c0_i32_88 c1_i32_89 k0_t1
  let c256_i32_347 : BitVec 32 := 256#32
  let v1003 : BitVec 32 := Scalar.muli arg12 c256_i32_347
  let v1004 : BitVec 32 := v1003
  let v1005 : Index := Scalar.indexCast v1004
  let c0_348 : Index := 0#32
  ![v1005.toNat, 0]
def k0_off2 (i : grid0.Coords) (k0_t1 : Fin (k0_t1_loop i).trips) : Fin 2 → Nat :=
  let c0_i32_88 : BitVec 32 := 0#32
  let c1_i32_89 : BitVec 32 := 1#32
  let arg12 : BitVec 32 := Scf.iv c0_i32_88 c1_i32_89 k0_t1
  let c256_i32_347 : BitVec 32 := 256#32
  let v1003 : BitVec 32 := Scalar.muli arg12 c256_i32_347
  let v1004 : BitVec 32 := v1003
  let v1011 : Index := Scalar.indexCast v1004
  let c128_352 : Index := 128#32
  ![v1011.toNat, 128]
def k0_off3 (i : grid0.Coords) (k0_t1 : Fin (k0_t1_loop i).trips) : Fin 2 → Nat :=
  let c0_i32_88 : BitVec 32 := 0#32
  let c1_i32_89 : BitVec 32 := 1#32
  let arg12 : BitVec 32 := Scf.iv c0_i32_88 c1_i32_89 k0_t1
  let c256_i32_347 : BitVec 32 := 256#32
  let v1003 : BitVec 32 := Scalar.muli arg12 c256_i32_347
  let v1004 : BitVec 32 := v1003
  let v1017 : Index := Scalar.indexCast v1004
  let c256_356 : Index := 256#32
  ![v1017.toNat, 256]
def k0_off4 (i : grid0.Coords) (k0_t1 : Fin (k0_t1_loop i).trips) : Fin 2 → Nat :=
  let c0_i32_88 : BitVec 32 := 0#32
  let c1_i32_89 : BitVec 32 := 1#32
  let arg12 : BitVec 32 := Scf.iv c0_i32_88 c1_i32_89 k0_t1
  let c256_i32_347 : BitVec 32 := 256#32
  let v1003 : BitVec 32 := Scalar.muli arg12 c256_i32_347
  let v1004 : BitVec 32 := v1003
  let v1023 : Index := Scalar.indexCast v1004
  let c384_360 : Index := 384#32
  ![v1023.toNat, 384]
def k0_off5 (i : grid0.Coords) (k0_t1 : Fin (k0_t1_loop i).trips) : Fin 2 → Nat :=
  let c0_i32_88 : BitVec 32 := 0#32
  let c1_i32_89 : BitVec 32 := 1#32
  let arg12 : BitVec 32 := Scf.iv c0_i32_88 c1_i32_89 k0_t1
  let c256_i32_347 : BitVec 32 := 256#32
  let v1003 : BitVec 32 := Scalar.muli arg12 c256_i32_347
  let v1004 : BitVec 32 := v1003
  let v1029 : Index := Scalar.indexCast v1004
  let c512_364 : Index := 512#32
  ![v1029.toNat, 512]
def k0_off6 (i : grid0.Coords) (k0_t1 : Fin (k0_t1_loop i).trips) : Fin 2 → Nat :=
  let c0_i32_88 : BitVec 32 := 0#32
  let c1_i32_89 : BitVec 32 := 1#32
  let arg12 : BitVec 32 := Scf.iv c0_i32_88 c1_i32_89 k0_t1
  let c256_i32_347 : BitVec 32 := 256#32
  let v1003 : BitVec 32 := Scalar.muli arg12 c256_i32_347
  let v1004 : BitVec 32 := v1003
  let v1035 : Index := Scalar.indexCast v1004
  let c640_368 : Index := 640#32
  ![v1035.toNat, 640]
def k0_off7 (i : grid0.Coords) (k0_t1 : Fin (k0_t1_loop i).trips) : Fin 2 → Nat :=
  let c0_i32_88 : BitVec 32 := 0#32
  let c1_i32_89 : BitVec 32 := 1#32
  let arg12 : BitVec 32 := Scf.iv c0_i32_88 c1_i32_89 k0_t1
  let c256_i32_347 : BitVec 32 := 256#32
  let v1003 : BitVec 32 := Scalar.muli arg12 c256_i32_347
  let v1004 : BitVec 32 := v1003
  let v1041 : Index := Scalar.indexCast v1004
  let c768_372 : Index := 768#32
  ![v1041.toNat, 768]
def k0_off8 (i : grid0.Coords) (k0_t1 : Fin (k0_t1_loop i).trips) : Fin 2 → Nat :=
  let c0_i32_88 : BitVec 32 := 0#32
  let c1_i32_89 : BitVec 32 := 1#32
  let arg12 : BitVec 32 := Scf.iv c0_i32_88 c1_i32_89 k0_t1
  let c256_i32_347 : BitVec 32 := 256#32
  let v1003 : BitVec 32 := Scalar.muli arg12 c256_i32_347
  let v1004 : BitVec 32 := v1003
  let v1047 : Index := Scalar.indexCast v1004
  let c896_376 : Index := 896#32
  ![v1047.toNat, 896]
@[reducible] def k0_t2_loop (i : grid0.Coords) : Scf.Loop 32 :=
  let c0_i32_88 : BitVec 32 := 0#32
  let arg2 : BitVec 32 := BitVec.ofNat 32 (i 2).val
  let v178 : BitVec 32 := Scalar.subi arg2 c0_i32_88
  let c1_i32 : BitVec 32 := 1#32
  let v180 : BitVec 32 := Scalar.divsi v178 c1_i32
  let v181 : BitVec 32 := Scalar.muli v180 c1_i32
  let v182 : BitVec 32 := Scalar.addi c0_i32_88 v181
  let v179 : BitVec 32 := Scalar.addi c0_i32_88 v178
  let c1_i32_90 : BitVec 32 := 1#32
  ⟨v182, v179, c1_i32_90⟩
def k0_mult2 (i : grid0.Coords) (k0_t2 : Fin (k0_t2_loop i).trips) : BitVec 32 :=
  let c0_i32_88 : BitVec 32 := 0#32
  let arg2 : BitVec 32 := BitVec.ofNat 32 (i 2).val
  let v178 : BitVec 32 := Scalar.subi arg2 c0_i32_88
  let c1_i32 : BitVec 32 := 1#32
  let v180 : BitVec 32 := Scalar.divsi v178 c1_i32
  let v181 : BitVec 32 := Scalar.muli v180 c1_i32
  let v182 : BitVec 32 := Scalar.addi c0_i32_88 v181
  let c1_i32_90 : BitVec 32 := 1#32
  let arg12 : BitVec 32 := Scf.iv v182 c1_i32_90 k0_t2
  let c256_i32_347 : BitVec 32 := 256#32
  let v1003 : BitVec 32 := Scalar.muli arg12 c256_i32_347
  v1003
def k0_off9 (i : grid0.Coords) (k0_t2 : Fin (k0_t2_loop i).trips) : Fin 2 → Nat :=
  let c0_i32_88 : BitVec 32 := 0#32
  let arg2 : BitVec 32 := BitVec.ofNat 32 (i 2).val
  let v178 : BitVec 32 := Scalar.subi arg2 c0_i32_88
  let c1_i32 : BitVec 32 := 1#32
  let v180 : BitVec 32 := Scalar.divsi v178 c1_i32
  let v181 : BitVec 32 := Scalar.muli v180 c1_i32
  let v182 : BitVec 32 := Scalar.addi c0_i32_88 v181
  let c1_i32_90 : BitVec 32 := 1#32
  let arg12 : BitVec 32 := Scf.iv v182 c1_i32_90 k0_t2
  let c256_i32_347 : BitVec 32 := 256#32
  let v1003 : BitVec 32 := Scalar.muli arg12 c256_i32_347
  let v1004 : BitVec 32 := v1003
  let v1005 : Index := Scalar.indexCast v1004
  let c0_348 : Index := 0#32
  ![v1005.toNat, 0]
def k0_off10 (i : grid0.Coords) (k0_t2 : Fin (k0_t2_loop i).trips) : Fin 2 → Nat :=
  let c0_i32_88 : BitVec 32 := 0#32
  let arg2 : BitVec 32 := BitVec.ofNat 32 (i 2).val
  let v178 : BitVec 32 := Scalar.subi arg2 c0_i32_88
  let c1_i32 : BitVec 32 := 1#32
  let v180 : BitVec 32 := Scalar.divsi v178 c1_i32
  let v181 : BitVec 32 := Scalar.muli v180 c1_i32
  let v182 : BitVec 32 := Scalar.addi c0_i32_88 v181
  let c1_i32_90 : BitVec 32 := 1#32
  let arg12 : BitVec 32 := Scf.iv v182 c1_i32_90 k0_t2
  let c256_i32_347 : BitVec 32 := 256#32
  let v1003 : BitVec 32 := Scalar.muli arg12 c256_i32_347
  let v1004 : BitVec 32 := v1003
  let v1011 : Index := Scalar.indexCast v1004
  let c128_352 : Index := 128#32
  ![v1011.toNat, 128]
def k0_off11 (i : grid0.Coords) (k0_t2 : Fin (k0_t2_loop i).trips) : Fin 2 → Nat :=
  let c0_i32_88 : BitVec 32 := 0#32
  let arg2 : BitVec 32 := BitVec.ofNat 32 (i 2).val
  let v178 : BitVec 32 := Scalar.subi arg2 c0_i32_88
  let c1_i32 : BitVec 32 := 1#32
  let v180 : BitVec 32 := Scalar.divsi v178 c1_i32
  let v181 : BitVec 32 := Scalar.muli v180 c1_i32
  let v182 : BitVec 32 := Scalar.addi c0_i32_88 v181
  let c1_i32_90 : BitVec 32 := 1#32
  let arg12 : BitVec 32 := Scf.iv v182 c1_i32_90 k0_t2
  let c256_i32_347 : BitVec 32 := 256#32
  let v1003 : BitVec 32 := Scalar.muli arg12 c256_i32_347
  let v1004 : BitVec 32 := v1003
  let v1017 : Index := Scalar.indexCast v1004
  let c256_356 : Index := 256#32
  ![v1017.toNat, 256]
def k0_off12 (i : grid0.Coords) (k0_t2 : Fin (k0_t2_loop i).trips) : Fin 2 → Nat :=
  let c0_i32_88 : BitVec 32 := 0#32
  let arg2 : BitVec 32 := BitVec.ofNat 32 (i 2).val
  let v178 : BitVec 32 := Scalar.subi arg2 c0_i32_88
  let c1_i32 : BitVec 32 := 1#32
  let v180 : BitVec 32 := Scalar.divsi v178 c1_i32
  let v181 : BitVec 32 := Scalar.muli v180 c1_i32
  let v182 : BitVec 32 := Scalar.addi c0_i32_88 v181
  let c1_i32_90 : BitVec 32 := 1#32
  let arg12 : BitVec 32 := Scf.iv v182 c1_i32_90 k0_t2
  let c256_i32_347 : BitVec 32 := 256#32
  let v1003 : BitVec 32 := Scalar.muli arg12 c256_i32_347
  let v1004 : BitVec 32 := v1003
  let v1023 : Index := Scalar.indexCast v1004
  let c384_360 : Index := 384#32
  ![v1023.toNat, 384]
def k0_off13 (i : grid0.Coords) (k0_t2 : Fin (k0_t2_loop i).trips) : Fin 2 → Nat :=
  let c0_i32_88 : BitVec 32 := 0#32
  let arg2 : BitVec 32 := BitVec.ofNat 32 (i 2).val
  let v178 : BitVec 32 := Scalar.subi arg2 c0_i32_88
  let c1_i32 : BitVec 32 := 1#32
  let v180 : BitVec 32 := Scalar.divsi v178 c1_i32
  let v181 : BitVec 32 := Scalar.muli v180 c1_i32
  let v182 : BitVec 32 := Scalar.addi c0_i32_88 v181
  let c1_i32_90 : BitVec 32 := 1#32
  let arg12 : BitVec 32 := Scf.iv v182 c1_i32_90 k0_t2
  let c256_i32_347 : BitVec 32 := 256#32
  let v1003 : BitVec 32 := Scalar.muli arg12 c256_i32_347
  let v1004 : BitVec 32 := v1003
  let v1029 : Index := Scalar.indexCast v1004
  let c512_364 : Index := 512#32
  ![v1029.toNat, 512]
def k0_off14 (i : grid0.Coords) (k0_t2 : Fin (k0_t2_loop i).trips) : Fin 2 → Nat :=
  let c0_i32_88 : BitVec 32 := 0#32
  let arg2 : BitVec 32 := BitVec.ofNat 32 (i 2).val
  let v178 : BitVec 32 := Scalar.subi arg2 c0_i32_88
  let c1_i32 : BitVec 32 := 1#32
  let v180 : BitVec 32 := Scalar.divsi v178 c1_i32
  let v181 : BitVec 32 := Scalar.muli v180 c1_i32
  let v182 : BitVec 32 := Scalar.addi c0_i32_88 v181
  let c1_i32_90 : BitVec 32 := 1#32
  let arg12 : BitVec 32 := Scf.iv v182 c1_i32_90 k0_t2
  let c256_i32_347 : BitVec 32 := 256#32
  let v1003 : BitVec 32 := Scalar.muli arg12 c256_i32_347
  let v1004 : BitVec 32 := v1003
  let v1035 : Index := Scalar.indexCast v1004
  let c640_368 : Index := 640#32
  ![v1035.toNat, 640]
def k0_off15 (i : grid0.Coords) (k0_t2 : Fin (k0_t2_loop i).trips) : Fin 2 → Nat :=
  let c0_i32_88 : BitVec 32 := 0#32
  let arg2 : BitVec 32 := BitVec.ofNat 32 (i 2).val
  let v178 : BitVec 32 := Scalar.subi arg2 c0_i32_88
  let c1_i32 : BitVec 32 := 1#32
  let v180 : BitVec 32 := Scalar.divsi v178 c1_i32
  let v181 : BitVec 32 := Scalar.muli v180 c1_i32
  let v182 : BitVec 32 := Scalar.addi c0_i32_88 v181
  let c1_i32_90 : BitVec 32 := 1#32
  let arg12 : BitVec 32 := Scf.iv v182 c1_i32_90 k0_t2
  let c256_i32_347 : BitVec 32 := 256#32
  let v1003 : BitVec 32 := Scalar.muli arg12 c256_i32_347
  let v1004 : BitVec 32 := v1003
  let v1041 : Index := Scalar.indexCast v1004
  let c768_372 : Index := 768#32
  ![v1041.toNat, 768]
def k0_off16 (i : grid0.Coords) (k0_t2 : Fin (k0_t2_loop i).trips) : Fin 2 → Nat :=
  let c0_i32_88 : BitVec 32 := 0#32
  let arg2 : BitVec 32 := BitVec.ofNat 32 (i 2).val
  let v178 : BitVec 32 := Scalar.subi arg2 c0_i32_88
  let c1_i32 : BitVec 32 := 1#32
  let v180 : BitVec 32 := Scalar.divsi v178 c1_i32
  let v181 : BitVec 32 := Scalar.muli v180 c1_i32
  let v182 : BitVec 32 := Scalar.addi c0_i32_88 v181
  let c1_i32_90 : BitVec 32 := 1#32
  let arg12 : BitVec 32 := Scf.iv v182 c1_i32_90 k0_t2
  let c256_i32_347 : BitVec 32 := 256#32
  let v1003 : BitVec 32 := Scalar.muli arg12 c256_i32_347
  let v1004 : BitVec 32 := v1003
  let v1047 : Index := Scalar.indexCast v1004
  let c896_376 : Index := 896#32
  ![v1047.toNat, 896]
def k0_mult3 (i : grid0.Coords) : BitVec 32 :=
  let arg2 : BitVec 32 := BitVec.ofNat 32 (i 2).val
  let c256_i32 : BitVec 32 := 256#32
  let v185 : BitVec 32 := Scalar.muli arg2 c256_i32
  v185
def k0_off17 (i : grid0.Coords) : Fin 2 → Nat :=
  let arg2 : BitVec 32 := BitVec.ofNat 32 (i 2).val
  let c256_i32 : BitVec 32 := 256#32
  let v185 : BitVec 32 := Scalar.muli arg2 c256_i32
  let v186 : BitVec 32 := v185
  let v187 : Index := Scalar.indexCast v186
  let c0_91 : Index := 0#32
  ![v187.toNat, 0]
def k0_off18 (i : grid0.Coords) : Fin 2 → Nat :=
  let arg2 : BitVec 32 := BitVec.ofNat 32 (i 2).val
  let c256_i32 : BitVec 32 := 256#32
  let v185 : BitVec 32 := Scalar.muli arg2 c256_i32
  let v186 : BitVec 32 := v185
  let v193 : Index := Scalar.indexCast v186
  let c128_95 : Index := 128#32
  ![v193.toNat, 128]
def k0_off19 (i : grid0.Coords) : Fin 2 → Nat :=
  let arg2 : BitVec 32 := BitVec.ofNat 32 (i 2).val
  let c256_i32 : BitVec 32 := 256#32
  let v185 : BitVec 32 := Scalar.muli arg2 c256_i32
  let v186 : BitVec 32 := v185
  let v199 : Index := Scalar.indexCast v186
  let c256_99 : Index := 256#32
  ![v199.toNat, 256]
def k0_off20 (i : grid0.Coords) : Fin 2 → Nat :=
  let arg2 : BitVec 32 := BitVec.ofNat 32 (i 2).val
  let c256_i32 : BitVec 32 := 256#32
  let v185 : BitVec 32 := Scalar.muli arg2 c256_i32
  let v186 : BitVec 32 := v185
  let v205 : Index := Scalar.indexCast v186
  let c384_103 : Index := 384#32
  ![v205.toNat, 384]
def k0_off21 (i : grid0.Coords) : Fin 2 → Nat :=
  let arg2 : BitVec 32 := BitVec.ofNat 32 (i 2).val
  let c256_i32 : BitVec 32 := 256#32
  let v185 : BitVec 32 := Scalar.muli arg2 c256_i32
  let v186 : BitVec 32 := v185
  let v211 : Index := Scalar.indexCast v186
  let c512_107 : Index := 512#32
  ![v211.toNat, 512]
def k0_off22 (i : grid0.Coords) : Fin 2 → Nat :=
  let arg2 : BitVec 32 := BitVec.ofNat 32 (i 2).val
  let c256_i32 : BitVec 32 := 256#32
  let v185 : BitVec 32 := Scalar.muli arg2 c256_i32
  let v186 : BitVec 32 := v185
  let v217 : Index := Scalar.indexCast v186
  let c640_111 : Index := 640#32
  ![v217.toNat, 640]
def k0_off23 (i : grid0.Coords) : Fin 2 → Nat :=
  let arg2 : BitVec 32 := BitVec.ofNat 32 (i 2).val
  let c256_i32 : BitVec 32 := 256#32
  let v185 : BitVec 32 := Scalar.muli arg2 c256_i32
  let v186 : BitVec 32 := v185
  let v223 : Index := Scalar.indexCast v186
  let c768_115 : Index := 768#32
  ![v223.toNat, 768]
def k0_off24 (i : grid0.Coords) : Fin 2 → Nat :=
  let arg2 : BitVec 32 := BitVec.ofNat 32 (i 2).val
  let c256_i32 : BitVec 32 := 256#32
  let v185 : BitVec 32 := Scalar.muli arg2 c256_i32
  let v186 : BitVec 32 := v185
  let v229 : Index := Scalar.indexCast v186
  let c896_119 : Index := 896#32
  ![v229.toNat, 896]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8704x2048 : Shape := ⟨2, ![8704, 2048]⟩
abbrev S8192x2048 : Shape := ⟨2, ![8192, 2048]⟩
abbrev S8704x8192 : Shape := ⟨2, ![8704, 8192]⟩
abbrev S4x64 : Shape := ⟨2, ![4, 64]⟩
abbrev S128 : Shape := ⟨1, ![128]⟩
abbrev S4x2048x16x2x64 : Shape := ⟨5, ![4, 2048, 16, 2, 64]⟩
abbrev S4x2048x16x128 : Shape := ⟨4, ![4, 2048, 16, 128]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x64 : Shape := ⟨2, ![1, 64]⟩
abbrev S64 : Shape := ⟨1, ![64]⟩
abbrev S4x2048x16x1x64 : Shape := ⟨5, ![4, 2048, 16, 1, 64]⟩
abbrev S4x2048x16x64 : Shape := ⟨4, ![4, 2048, 16, 64]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩

abbrev nBuf : Space → Nat
  | .hbm => 156
  | .vmem => 0
  | .smem => 0
  | _ => 0

abbrev hbmTy0_0 (i : Nat) : BufTy := match i % 128 with
  | 0 => ⟨S8704x2048, .f32⟩
  | 1 => ⟨S8192x2048, .f32⟩
  | 2 => ⟨S8192x2048, .f32⟩
  | 3 => ⟨S8704x8192, .f32⟩
  | 4 => ⟨S4x64, .f32⟩
  | 5 => ⟨S128, .f32⟩
  | 6 => ⟨S8192x2048, .f32⟩
  | 7 => ⟨S4x2048x16x2x64, .f32⟩
  | 8 => ⟨S4x2048x16x2x64, .f32⟩
  | 9 => ⟨S4x2048x16x128, .f32⟩
  | 10 => ⟨S8192x2048, .f32⟩
  | 11 => ⟨S2048, .i32⟩
  | 12 => ⟨S_, .i32⟩
  | 13 => ⟨S_, .i32⟩
  | 14 => ⟨S2048, .i32⟩
  | 15 => ⟨S2048, .i32⟩
  | 16 => ⟨S2048, .i32⟩
  | 17 => ⟨S_, .i32⟩
  | 18 => ⟨S2048, .i32⟩
  | 19 => ⟨S2048, .i1⟩
  | 20 => ⟨S2048, .i32⟩
  | 21 => ⟨S2048, .i32⟩
  | 22 => ⟨S_, .i32⟩
  | 23 => ⟨S2048, .i32⟩
  | 24 => ⟨S2048, .i1⟩
  | 25 => ⟨S2048, .i1⟩
  | 26 => ⟨S_, .i32⟩
  | 27 => ⟨S2048, .i32⟩
  | 28 => ⟨S2048, .i32⟩
  | 29 => ⟨S2048, .i32⟩
  | 30 => ⟨S1x2048, .i32⟩
  | 31 => ⟨S_, .i32⟩
  | 32 => ⟨S_, .i32⟩
  | 33 => ⟨S2048, .i32⟩
  | 34 => ⟨S2048, .i32⟩
  | 35 => ⟨S2048, .i32⟩
  | 36 => ⟨S_, .i32⟩
  | 37 => ⟨S2048, .i32⟩
  | 38 => ⟨S2048, .i1⟩
  | 39 => ⟨S2048, .i32⟩
  | 40 => ⟨S2048, .i32⟩
  | 41 => ⟨S_, .i32⟩
  | 42 => ⟨S2048, .i32⟩
  | 43 => ⟨S2048, .i1⟩
  | 44 => ⟨S2048, .i1⟩
  | 45 => ⟨S_, .i32⟩
  | 46 => ⟨S2048, .i32⟩
  | 47 => ⟨S2048, .i32⟩
  | 48 => ⟨S2048, .i32⟩
  | 49 => ⟨S2048x1, .i32⟩
  | 50 => ⟨S2048x2048, .i32⟩
  | 51 => ⟨S2048x2048, .i32⟩
  | 52 => ⟨S2048x2048, .i1⟩
  | 53 => ⟨S1x64, .f32⟩
  | 54 => ⟨S64, .f32⟩
  | 55 => ⟨S1x64, .f32⟩
  | 56 => ⟨S64, .f32⟩
  | 57 => ⟨S64, .f32⟩
  | 58 => ⟨S_, .f32⟩
  | 59 => ⟨S_, .f32⟩
  | 60 => ⟨S_, .f32⟩
  | 61 => ⟨S1x64, .f32⟩
  | 62 => ⟨S64, .f32⟩
  | 63 => ⟨S1x64, .f32⟩
  | 64 => ⟨S64, .f32⟩
  | 65 => ⟨S64, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S4x2048x16x1x64, .f32⟩
  | 73 => ⟨S4x2048x16x64, .f32⟩
  | 74 => ⟨S4x2048x16x1x64, .f32⟩
  | 75 => ⟨S4x2048x16x64, .f32⟩
  | 76 => ⟨S4x16x2048x2048, .f32⟩
  | 77 => ⟨S_, .f32⟩
  | 78 => ⟨S_, .f32⟩
  | 79 => ⟨S4x16x2048x2048, .i1⟩
  | 80 => ⟨S4x16x2048x2048, .f32⟩
  | 81 => ⟨S4x16x2048x2048, .f32⟩
  | 82 => ⟨S_, .f32⟩
  | 83 => ⟨S4x16x2048, .f32⟩
  | 84 => ⟨S_, .f32⟩
  | 85 => ⟨S4x16x2048, .f32⟩
  | 86 => ⟨S4x16x2048, .f32⟩
  | 87 => ⟨S4x16x2048x1, .f32⟩
  | 88 => ⟨S4x16x2048x2048, .f32⟩
  | 89 => ⟨S4x16x2048x2048, .f32⟩
  | 90 => ⟨S4x16x2048x2048, .f32⟩
  | 91 => ⟨S_, .f32⟩
  | 92 => ⟨S4x16x2048, .f32⟩
  | 93 => ⟨S4x16x2048x1, .f32⟩
  | 94 => ⟨S4x16x2048x2048, .f32⟩
  | 95 => ⟨S4x16x2048x2048, .f32⟩
  | 96 => ⟨S4x2048x16x1x64, .f32⟩
  | 97 => ⟨S4x2048x16x64, .f32⟩
  | 98 => ⟨S4x2048x16x1x64, .f32⟩
  | 99 => ⟨S4x2048x16x64, .f32⟩
  | 100 => ⟨S4x16x2048x2048, .f32⟩
  | 101 => ⟨S_, .f32⟩
  | 102 => ⟨S_, .f32⟩
  | 103 => ⟨S4x16x2048x2048, .i1⟩
  | 104 => ⟨S4x16x2048x2048, .f32⟩
  | 105 => ⟨S4x16x2048x2048, .f32⟩
  | 106 => ⟨S_, .f32⟩
  | 107 => ⟨S4x16x2048, .f32⟩
  | 108 => ⟨S_, .f32⟩
  | 109 => ⟨S4x16x2048, .f32⟩
  | 110 => ⟨S4x16x2048, .f32⟩
  | 111 => ⟨S4x16x2048x1, .f32⟩
  | 112 => ⟨S4x16x2048x2048, .f32⟩
  | 113 => ⟨S4x16x2048x2048, .f32⟩
  | 114 => ⟨S4x16x2048x2048, .f32⟩
  | 115 => ⟨S_, .f32⟩
  | 116 => ⟨S4x16x2048, .f32⟩
  | 117 => ⟨S4x16x2048x1, .f32⟩
  | 118 => ⟨S4x16x2048x2048, .f32⟩
  | 119 => ⟨S4x16x2048x2048, .f32⟩
  | 120 => ⟨S4x16x2048x2048, .f32⟩
  | 121 => ⟨S4x16x2048x2048, .f32⟩
  | 122 => ⟨S4x16x2048x2048, .f32⟩
  | 123 => ⟨S4x16x128x2048, .f32⟩
  | 124 => ⟨S4x2048x16x128, .f32⟩
  | 125 => ⟨S4x2048x16x128, .f32⟩
  | 126 => ⟨S_, .f32⟩
  | 127 => ⟨S4x2048x16, .f32⟩
  | _ => ⟨S8704x2048, .f32⟩

abbrev hbmTy0_1 (i : Nat) : BufTy := match i % 128 with
  | 0 => ⟨S4x2048x16x1, .f32⟩
  | 1 => ⟨S_, .f32⟩
  | 2 => ⟨S4x2048x16x1, .f32⟩
  | 3 => ⟨S4x2048x16x1, .f32⟩
  | 4 => ⟨S_, .f32⟩
  | 5 => ⟨S4x2048x16x1, .f32⟩
  | 6 => ⟨S4x2048x16x1, .f32⟩
  | 7 => ⟨S4x2048x16x1, .f32⟩
  | 8 => ⟨S4x2048x16x128, .f32⟩
  | 9 => ⟨S4x2048x16x128, .f32⟩
  | 10 => ⟨S1x1x1x128, .f32⟩
  | 11 => ⟨S4x2048x16x128, .f32⟩
  | 12 => ⟨S4x2048x16x128, .f32⟩
  | 13 => ⟨S_, .f32⟩
  | 14 => ⟨S4x2048x16x128, .f32⟩
  | 15 => ⟨S4x2048x16x128, .f32⟩
  | 16 => ⟨S8192x2048, .f32⟩
  | 17 => ⟨S8192x2048, .f32⟩
  | 18 => ⟨S8192x2048, .f32⟩
  | 19 => ⟨S_, .f32⟩
  | 20 => ⟨S8192x2048, .f32⟩
  | 21 => ⟨S8192x2048, .f32⟩
  | 22 => ⟨S_, .f32⟩
  | 23 => ⟨S8192x2048, .f32⟩
  | 24 => ⟨S8192x2048, .f32⟩
  | 25 => ⟨S8192x2048, .f32⟩
  | 26 => ⟨S8192x2048, .f32⟩
  | 27 => ⟨S8192x2048, .bf16⟩
  | _ => ⟨S8704x2048, .f32⟩

abbrev hbmTy (i : Nat) : BufTy := match i / 128 with
  | 0 => hbmTy0_0 i
  | 1 => hbmTy0_1 i
  | _ => ⟨S8704x2048, .f32⟩

abbrev bufTy : (tb : Table) → Fin (tcTables nBuf tb) → BufTy
  | .hbm, ⟨i, _⟩ => hbmTy i
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_1 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_3 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v34 : Ref sig .tc := ⟨.hbm, 81, rfl⟩
abbrev main_cst_4 : Ref sig .tc := ⟨.hbm, 82, rfl⟩
abbrev main_v35 : Ref sig .tc := ⟨.hbm, 83, rfl⟩
abbrev main_cst_5 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_6 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_7 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v51 : Ref sig .tc := ⟨.hbm, 105, rfl⟩
abbrev main_cst_8 : Ref sig .tc := ⟨.hbm, 106, rfl⟩
abbrev main_v52 : Ref sig .tc := ⟨.hbm, 107, rfl⟩
abbrev main_cst_9 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_10 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_cst_11 : Ref sig .tc := ⟨.hbm, 126, rfl⟩
abbrev main_v69 : Ref sig .tc := ⟨.hbm, 127, rfl⟩
abbrev main_v70 : Ref sig .tc := ⟨.hbm, 128, rfl⟩
abbrev main_cst_12 : Ref sig .tc := ⟨.hbm, 129, rfl⟩
abbrev main_v71 : Ref sig .tc := ⟨.hbm, 130, rfl⟩
abbrev main_v72 : Ref sig .tc := ⟨.hbm, 131, rfl⟩
abbrev main_cst_13 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_cst_14 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_call4_v0 : Ref sig .tc := ⟨.hbm, 145, rfl⟩
abbrev main_call4_v1 : Ref sig .tc := ⟨.hbm, 146, rfl⟩
abbrev main_call4_cst : Ref sig .tc := ⟨.hbm, 147, rfl⟩
abbrev main_call4_v2 : Ref sig .tc := ⟨.hbm, 148, rfl⟩
abbrev main_call4_v3 : Ref sig .tc := ⟨.hbm, 149, rfl⟩
abbrev main_call4_cst_0 : Ref sig .tc := ⟨.hbm, 150, rfl⟩
abbrev main_call4_v4 : Ref sig .tc := ⟨.hbm, 151, rfl⟩
abbrev main_call4_v5 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩

abbrev nD : Nat := 1
abbrev τ : Topo := Topo.v7x

variable {F : FTy → Type} [FloatOps F]
-- ==== ProjA.lean ====
abbrev S4x2048x2048 : Shape := ⟨3, ![4, 2048, 2048]⟩
abbrev S8x64x2048 : Shape := ⟨3, ![8, 64, 2048]⟩
abbrev S2048 : Shape := ⟨1, ![2048]⟩
abbrev S4096x8192 : Shape := ⟨2, ![4096, 8192]⟩
abbrev S8192x2048 : Shape := ⟨2, ![8192, 2048]⟩
abbrev S512x2048 : Shape := ⟨2, ![512, 2048]⟩
abbrev S8704x2048 : Shape := ⟨2, ![8704, 2048]⟩
abbrev S1x2048 : Shape := ⟨2, ![1, 2048]⟩
abbrev S8704x8192 : Shape := ⟨2, ![8704, 8192]⟩
abbrev S1088x2048 : Shape := ⟨2, ![1088, 2048]⟩
abbrev S2048x1024 : Shape := ⟨2, ![2048, 1024]⟩
abbrev S1088x1024 : Shape := ⟨2, ![1088, 1024]⟩
abbrev S1088 : Shape := ⟨1, ![1088]⟩
abbrev S1088x1 : Shape := ⟨2, ![1088, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S8x64x2048, .f32⟩
  | .hbm, ⟨2, _⟩ => ⟨S2048, .f32⟩
  | .hbm, ⟨3, _⟩ => ⟨S4096x8192, .bf16⟩
  | .hbm, ⟨4, _⟩ => ⟨S8192x2048, .f32⟩
  | .hbm, ⟨5, _⟩ => ⟨S512x2048, .f32⟩
  | .hbm, ⟨6, _⟩ => ⟨S8704x2048, .f32⟩
  | .hbm, ⟨7, _⟩ => ⟨S1x2048, .f32⟩
  | .hbm, ⟨8, _⟩ => ⟨S8704x8192, .f32⟩
  | .local _ .vmem, ⟨0, _⟩ => ⟨S1088x2048, .f32⟩
  | .local _ .vmem, ⟨1, _⟩ => ⟨S1088x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1088x1024, .f32⟩
  | .local _ .vmem, ⟨6, _⟩ => ⟨S1088x1024, .f32⟩
  | .local _ .vmem, ⟨7, _⟩ => ⟨S1088x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjARefIdeal.lean ====
abbrev S4x2048x2048 : Shape := ⟨3, ![4, 2048, 2048]⟩
abbrev S8x64x2048 : Shape := ⟨3, ![8, 64, 2048]⟩
abbrev S2048 : Shape := ⟨1, ![2048]⟩
abbrev S4096x8192 : Shape := ⟨2, ![4096, 8192]⟩
abbrev S2048x8192 : Shape := ⟨2, ![2048, 8192]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x8192 : Shape := ⟨3, ![4, 2048, 8192]⟩
abbrev S8x64 : Shape := ⟨2, ![8, 64]⟩
abbrev S8x64x1 : Shape := ⟨3, ![8, 64, 1]⟩
abbrev S8x64x8192 : Shape := ⟨3, ![8, 64, 8192]⟩
abbrev S8192x8192 : Shape := ⟨2, ![8192, 8192]⟩
abbrev S512x8192 : Shape := ⟨2, ![512, 8192]⟩
abbrev S8704x8192 : Shape := ⟨2, ![8704, 8192]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x64x2048, .f32⟩
  | .hbm, ⟨2, _⟩ => ⟨S2048, .f32⟩
  | .hbm, ⟨3, _⟩ => ⟨S4096x8192, .bf16⟩
  | .hbm, ⟨4, _⟩ => ⟨S2048x8192, .bf16⟩
  | .hbm, ⟨5, _⟩ => ⟨S2048x8192, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x2048x8192, .f32⟩
  | .hbm, ⟨23, _⟩ => ⟨S8x64x2048, .f32⟩
  | .hbm, ⟨24, _⟩ => ⟨S_, .f32⟩
  | .hbm, ⟨25, _⟩ => ⟨S8x64, .f32⟩
  | .hbm, ⟨26, _⟩ => ⟨S8x64x1, .f32⟩
  | .hbm, ⟨27, _⟩ => ⟨S_, .f32⟩
  | .hbm, ⟨28, _⟩ => ⟨S8x64x1, .f32⟩
  | .hbm, ⟨29, _⟩ => ⟨S8x64x1, .f32⟩
  | .hbm, ⟨30, _⟩ => ⟨S_, .f32⟩
  | .hbm, ⟨31, _⟩ => ⟨S8x64x1, .f32⟩
  | .hbm, ⟨32, _⟩ => ⟨S8x64x1, .f32⟩
  | .hbm, ⟨33, _⟩ => ⟨S8x64x1, .f32⟩
  | .hbm, ⟨34, _⟩ => ⟨S8x64x2048, .f32⟩
  | .hbm, ⟨35, _⟩ => ⟨S8x64x2048, .f32⟩
  | .hbm, ⟨36, _⟩ => ⟨S1x1x2048, .f32⟩
  | .hbm, ⟨37, _⟩ => ⟨S8x64x2048, .f32⟩
  | .hbm, ⟨38, _⟩ => ⟨S8x64x2048, .f32⟩
  | .hbm, ⟨39, _⟩ => ⟨S8x64x8192, .f32⟩
  | .hbm, ⟨40, _⟩ => ⟨S8192x8192, .f32⟩
  | .hbm, ⟨41, _⟩ => ⟨S512x8192, .f32⟩
  | .hbm, ⟨42, _⟩ => ⟨S8704x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== ProjB.lean ====
abbrev S8704x2048 : Shape := ⟨2, ![8704, 2048]⟩
abbrev S2048 : Shape := ⟨1, ![2048]⟩
abbrev S1x2048x6224 : Shape := ⟨3, ![1, 2048, 6224]⟩
abbrev S2048x6224 : Shape := ⟨2, ![2048, 6224]⟩
abbrev S2048x4096 : Shape := ⟨2, ![2048, 4096]⟩
abbrev S2048x2048 : Shape := ⟨2, ![2048, 2048]⟩
abbrev S2048x80 : Shape := ⟨2, ![2048, 80]⟩
abbrev S_ : Shape := ⟨0, ![]⟩
abbrev S2048x48 : Shape := ⟨2, ![2048, 48]⟩
abbrev S2048x6272 : Shape := ⟨2, ![2048, 6272]⟩
abbrev S1x2048 : Shape := ⟨2, ![1, 2048]⟩
abbrev S8704x6272 : Shape := ⟨2, ![8704, 6272]⟩
abbrev S1088x2048 : Shape := ⟨2, ![1088, 2048]⟩
abbrev S2048x896 : Shape := ⟨2, ![2048, 896]⟩
abbrev S1088x896 : Shape := ⟨2, ![1088, 896]⟩
abbrev S1088 : Shape := ⟨1, ![1088]⟩
abbrev S1088x1 : Shape := ⟨2, ![1088, 1]⟩

abbrev nBuf : Space → Nat
  | .hbm => 13
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S1x2048x6224, .f32⟩
  | .hbm, ⟨3, _⟩ => ⟨S2048x6224, .f32⟩
  | .hbm, ⟨4, _⟩ => ⟨S2048x4096, .f32⟩
  | .hbm, ⟨5, _⟩ => ⟨S2048x2048, .f32⟩
  | .hbm, ⟨6, _⟩ => ⟨S2048x80, .f32⟩
  | .hbm, ⟨7, _⟩ => ⟨S_, .f32⟩
  | .hbm, ⟨8, _⟩ => ⟨S2048x48, .f32⟩
  | .hbm, ⟨9, _⟩ => ⟨S2048x6272, .f32⟩
  | .hbm, ⟨10, _⟩ => ⟨S2048x6272, .bf16⟩
  | .hbm, ⟨11, _⟩ => ⟨S1x2048, .f32⟩
  | .hbm, ⟨12, _⟩ => ⟨S8704x6272, .f32⟩
  | .local _ .vmem, ⟨0, _⟩ => ⟨S1088x2048, .f32⟩
  | .local _ .vmem, ⟨1, _⟩ => ⟨S1088x2048, .f32⟩
  | .local _ .vmem, ⟨2, _⟩ => ⟨S1x2048, .f32⟩
  | .local _ .vmem, ⟨3, _⟩ => ⟨S2048x896, .bf16⟩
  | .local _ .vmem, ⟨4, _⟩ => ⟨S2048x896, .bf16⟩
  | .local _ .vmem, ⟨5, _⟩ => ⟨S1088x896, .f32⟩
  | .local _ .vmem, ⟨6, _⟩ => ⟨S1088x896, .f32⟩
  | .local _ .vmem, ⟨7, _⟩ => ⟨S1088x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjBRefIdeal.lean ====
abbrev S8704x2048 : Shape := ⟨2, ![8704, 2048]⟩
abbrev S2048 : Shape := ⟨1, ![2048]⟩
abbrev S1x2048x6224 : Shape := ⟨3, ![1, 2048, 6224]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S2048x6224 : Shape := ⟨2, ![2048, 6224]⟩
abbrev S8704x6224 : Shape := ⟨2, ![8704, 6224]⟩
abbrev S8704x4096 : Shape := ⟨2, ![8704, 4096]⟩
abbrev S8704x80 : Shape := ⟨2, ![8704, 80]⟩
abbrev S8704x48 : Shape := ⟨2, ![8704, 48]⟩
abbrev S8704x6272 : Shape := ⟨2, ![8704, 6272]⟩

abbrev nBuf : Space → Nat
  | .hbm => 27
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S1x2048x6224, .f32⟩
  | .hbm, ⟨3, _⟩ => ⟨S8704x2048, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x2048, .f32⟩
  | .hbm, ⟨15, _⟩ => ⟨S8704x2048, .f32⟩
  | .hbm, ⟨16, _⟩ => ⟨S1x2048, .f32⟩
  | .hbm, ⟨17, _⟩ => ⟨S8704x2048, .f32⟩
  | .hbm, ⟨18, _⟩ => ⟨S8704x2048, .f32⟩
  | .hbm, ⟨19, _⟩ => ⟨S2048x6224, .f32⟩
  | .hbm, ⟨20, _⟩ => ⟨S8704x6224, .f32⟩
  | .hbm, ⟨21, _⟩ => ⟨S8704x4096, .f32⟩
  | .hbm, ⟨22, _⟩ => ⟨S8704x2048, .f32⟩
  | .hbm, ⟨23, _⟩ => ⟨S8704x80, .f32⟩
  | .hbm, ⟨24, _⟩ => ⟨S_, .f32⟩
  | .hbm, ⟨25, _⟩ => ⟨S8704x48, .f32⟩
  | .hbm, ⟨26, _⟩ => ⟨S8704x6272, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Rkvg.lean ====
abbrev S6x8704x2048 : Shape := ⟨3, ![6, 8704, 2048]⟩
abbrev S4x2048x2048 : Shape := ⟨3, ![4, 2048, 2048]⟩
abbrev S4x8704x2048 : Shape := ⟨3, ![4, 8704, 2048]⟩
abbrev S1x1088x2048 : Shape := ⟨3, ![1, 1088, 2048]⟩
abbrev S1x2048x1024 : Shape := ⟨3, ![1, 2048, 1024]⟩
abbrev S1x1088x1024 : Shape := ⟨3, ![1, 1088, 1024]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S6x8704x2048, .bf16⟩
  | .hbm, ⟨1, _⟩ => ⟨S4x2048x2048, .bf16⟩
  | .hbm, ⟨2, _⟩ => ⟨S4x8704x2048, .f32⟩
  | .local _ .vmem, ⟨0, _⟩ => ⟨S1x1088x2048, .bf16⟩
  | .local _ .vmem, ⟨1, _⟩ => ⟨S1x1088x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1088x1024, .f32⟩
  | .local _ .vmem, ⟨5, _⟩ => ⟨S1x1088x1024, .f32⟩
  | _, _ => ⟨S6x8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== RkvgRefIdeal.lean ====
abbrev S6x8704x2048 : Shape := ⟨3, ![6, 8704, 2048]⟩
abbrev S4x2048x2048 : Shape := ⟨3, ![4, 2048, 2048]⟩
abbrev S4x8704x2048 : Shape := ⟨3, ![4, 8704, 2048]⟩

abbrev nBuf : Space → Nat
  | .hbm => 6
  | .vmem => 0
  | .smem => 0
  | _ => 0

abbrev bufTy : (tb : Table) → Fin (tcTables nBuf tb) → BufTy
  | .hbm, ⟨0, _⟩ => ⟨S6x8704x2048, .bf16⟩
  | .hbm, ⟨1, _⟩ => ⟨S4x2048x2048, .bf16⟩
  | .hbm, ⟨2, _⟩ => ⟨S4x8704x2048, .bf16⟩
  | .hbm, ⟨3, _⟩ => ⟨S4x8704x2048, .f32⟩
  | .hbm, ⟨4, _⟩ => ⟨S4x2048x2048, .f32⟩
  | .hbm, ⟨5, _⟩ => ⟨S4x8704x2048, .f32⟩
  | _, _ => ⟨S6x8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x2048 : Shape := ⟨2, ![8192, 2048]⟩
abbrev S512x2048 : Shape := ⟨2, ![512, 2048]⟩
abbrev S8704x2048 : Shape := ⟨2, ![8704, 2048]⟩
abbrev S2048x2048 : Shape := ⟨2, ![2048, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8704x2048, .f32⟩
  | .hbm, ⟨3, _⟩ => ⟨S8192x2048, .bf16⟩
  | .hbm, ⟨4, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32 : BitVec 32 := 16#32
  let v0 : BitVec 1 := Scalar.cmpi .slt arg0 c16_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S8192x2048 : Shape := ⟨2, ![8192, 2048]⟩
abbrev S512x2048 : Shape := ⟨2, ![512, 2048]⟩
abbrev S8704x2048 : Shape := ⟨2, ![8704, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S8704x2048, .f32⟩
  | .hbm, ⟨3, _⟩ => ⟨S8192x2048, .bf16⟩
  | .hbm, ⟨4, _⟩ => ⟨S2048x2048, .bf16⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S512x2048, .f32⟩
  | .hbm, ⟨9, _⟩ => ⟨S512x2048, .f32⟩
  | .hbm, ⟨10, _⟩ => ⟨S8704x2048, .f32⟩
  | .hbm, ⟨11, _⟩ => ⟨S8704x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Prep.lean ====
abbrev S8704x2048 : Shape := ⟨2, ![8704, 2048]⟩
abbrev S2048 : Shape := ⟨1, ![2048]⟩
abbrev S6x2048 : Shape := ⟨2, ![6, 2048]⟩
abbrev S8x2048 : Shape := ⟨2, ![8, 2048]⟩
abbrev S_ : Shape := ⟨0, ![]⟩
abbrev S4x2048 : Shape := ⟨2, ![4, 2048]⟩
abbrev S12x2048 : Shape := ⟨2, ![12, 2048]⟩
abbrev S1x2048 : Shape := ⟨2, ![1, 2048]⟩
abbrev S12x1x2048 : Shape := ⟨3, ![12, 1, 2048]⟩
abbrev S6x8704x2048 : Shape := ⟨3, ![6, 8704, 2048]⟩
abbrev S64x2048 : Shape := ⟨2, ![64, 2048]⟩
abbrev S1x1x2048 : Shape := ⟨3, ![1, 1, 2048]⟩
abbrev S6x64x2048 : Shape := ⟨3, ![6, 64, 2048]⟩
abbrev S64 : Shape := ⟨1, ![64]⟩
abbrev S64x1 : Shape := ⟨2, ![64, 1]⟩
abbrev S1x64x2048 : Shape := ⟨3, ![1, 64, 2048]⟩

abbrev nBuf : Space → Nat
  | .hbm => 11
  | .vmem => 11
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S6x2048, .f32⟩
  | .hbm, ⟨3, _⟩ => ⟨S8x2048, .f32⟩
  | .hbm, ⟨4, _⟩ => ⟨S_, .f32⟩
  | .hbm, ⟨5, _⟩ => ⟨S4x2048, .f32⟩
  | .hbm, ⟨6, _⟩ => ⟨S12x2048, .f32⟩
  | .hbm, ⟨7, _⟩ => ⟨S1x2048, .f32⟩
  | .hbm, ⟨8, _⟩ => ⟨S12x1x2048, .f32⟩
  | .hbm, ⟨9, _⟩ => ⟨S6x8704x2048, .bf16⟩
  | .hbm, ⟨10, _⟩ => ⟨S12x1x2048, .f32⟩
  | .local _ .vmem, ⟨0, _⟩ => ⟨S64x2048, .f32⟩
  | .local _ .vmem, ⟨1, _⟩ => ⟨S64x2048, .f32⟩
  | .local _ .vmem, ⟨2, _⟩ => ⟨S1x2048, .f32⟩
  | .local _ .vmem, ⟨3, _⟩ => ⟨S6x2048, .f32⟩
  | .local _ .vmem, ⟨4, _⟩ => ⟨S1x1x2048, .f32⟩
  | .local _ .vmem, ⟨5, _⟩ => ⟨S1x1x2048, .f32⟩
  | .local _ .vmem, ⟨6, _⟩ => ⟨S6x64x2048, .bf16⟩
  | .local _ .vmem, ⟨7, _⟩ => ⟨S6x64x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![136], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c128_i32 : BitVec 32 := 128#32
  let v0 : BitVec 1 := Scalar.cmpi .slt arg0 c128_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c128_i32_4 : BitVec 32 := 128#32
  let v18 : BitVec 32 := Scalar.subi arg0 c128_i32_4
  let c4_i32 : BitVec 32 := 4#32
  let v19 : BitVec 32 := Scalar.addi v18 c4_i32
  let v20 : BitVec 32 := Scalar.select v0 v17 v19
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c128_i32 : BitVec 32 := 128#32
  let v0 : BitVec 1 := Scalar.cmpi .slt arg0 c128_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c128_i32_4 : BitVec 32 := 128#32
  let v18 : BitVec 32 := Scalar.subi arg0 c128_i32_4
  let c4_i32 : BitVec 32 := 4#32
  let v19 : BitVec 32 := Scalar.addi v18 c4_i32
  let v20 : BitVec 32 := Scalar.select v0 v17 v19
  let c0_i32_5 : BitVec 32 := 0#32
  let c0_i32_6 : BitVec 32 := 0#32
  let c0_i32_7 : BitVec 32 := 0#32
  ![v20.toNat, c0_i32_5.toNat, c0_i32_6.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PrepRefIdeal.lean ====
abbrev S8704x2048 : Shape := ⟨2, ![8704, 2048]⟩
abbrev S2048 : Shape := ⟨1, ![2048]⟩
abbrev S6x2048 : Shape := ⟨2, ![6, 2048]⟩
abbrev S8x2048 : Shape := ⟨2, ![8, 2048]⟩
abbrev S8192x2048 : Shape := ⟨2, ![8192, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x1x2048 : Shape := ⟨3, ![4, 1, 2048]⟩
abbrev S4x2047x2048 : Shape := ⟨3, ![4, 2047, 2048]⟩
abbrev S1x4x2048x2048 : Shape := ⟨4, ![1, 4, 2048, 2048]⟩
abbrev S6x1x1x2048 : Shape := ⟨4, ![6, 1, 1, 2048]⟩
abbrev S6x4x2048x2048 : Shape := ⟨4, ![6, 4, 2048, 2048]⟩
abbrev S6x8192x2048 : Shape := ⟨3, ![6, 8192, 2048]⟩
abbrev S512x2048 : Shape := ⟨2, ![512, 2048]⟩
abbrev S8x64x2048 : Shape := ⟨3, ![8, 64, 2048]⟩
abbrev S8x64 : Shape := ⟨2, ![8, 64]⟩
abbrev S8x64x1 : Shape := ⟨3, ![8, 64, 1]⟩
abbrev S8x1x2048 : Shape := ⟨3, ![8, 1, 2048]⟩
abbrev S8x63x2048 : Shape := ⟨3, ![8, 63, 2048]⟩
abbrev S1x8x64x2048 : Shape := ⟨4, ![1, 8, 64, 2048]⟩
abbrev S6x8x64x2048 : Shape := ⟨4, ![6, 8, 64, 2048]⟩
abbrev S6x512x2048 : Shape := ⟨3, ![6, 512, 2048]⟩
abbrev S6x8704x2048 : Shape := ⟨3, ![6, 8704, 2048]⟩
abbrev S12x2048 : Shape := ⟨2, ![12, 2048]⟩
abbrev S12x1x2048 : Shape := ⟨3, ![12, 1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S6x2048, .f32⟩
  | .hbm, ⟨3, _⟩ => ⟨S8x2048, .f32⟩
  | .hbm, ⟨4, _⟩ => ⟨S8192x2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x2048, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | .hbm, ⟨24, _⟩ => ⟨S4x1x2048, .f32⟩
  | .hbm, ⟨25, _⟩ => ⟨S4x2047x2048, .f32⟩
  | .hbm, ⟨26, _⟩ => ⟨S4x2048x2048, .f32⟩
  | .hbm, ⟨27, _⟩ => ⟨S1x4x2048x2048, .f32⟩
  | .hbm, ⟨28, _⟩ => ⟨S4x2048x2048, .f32⟩
  | .hbm, ⟨29, _⟩ => ⟨S1x4x2048x2048, .f32⟩
  | .hbm, ⟨30, _⟩ => ⟨S6x1x1x2048, .f32⟩
  | .hbm, ⟨31, _⟩ => ⟨S6x4x2048x2048, .f32⟩
  | .hbm, ⟨32, _⟩ => ⟨S6x4x2048x2048, .f32⟩
  | .hbm, ⟨33, _⟩ => ⟨S6x4x2048x2048, .f32⟩
  | .hbm, ⟨34, _⟩ => ⟨S6x4x2048x2048, .f32⟩
  | .hbm, ⟨35, _⟩ => ⟨S6x4x2048x2048, .f32⟩
  | .hbm, ⟨36, _⟩ => ⟨S6x8192x2048, .f32⟩
  | .hbm, ⟨37, _⟩ => ⟨S4x1x2048, .f32⟩
  | .hbm, ⟨38, _⟩ => ⟨S4x2048, .f32⟩
  | .hbm, ⟨39, _⟩ => ⟨S512x2048, .f32⟩
  | .hbm, ⟨40, _⟩ => ⟨S8x64x2048, .f32⟩
  | .hbm, ⟨41, _⟩ => ⟨S8x64x2048, .f32⟩
  | .hbm, ⟨42, _⟩ => ⟨S_, .f32⟩
  | .hbm, ⟨43, _⟩ => ⟨S8x64, .f32⟩
  | .hbm, ⟨44, _⟩ => ⟨S8x64x1, .f32⟩
  | .hbm, ⟨45, _⟩ => ⟨S_, .f32⟩
  | .hbm, ⟨46, _⟩ => ⟨S8x64x1, .f32⟩
  | .hbm, ⟨47, _⟩ => ⟨S8x64x1, .f32⟩
  | .hbm, ⟨48, _⟩ => ⟨S_, .f32⟩
  | .hbm, ⟨49, _⟩ => ⟨S8x64x1, .f32⟩
  | .hbm, ⟨50, _⟩ => ⟨S8x64x1, .f32⟩
  | .hbm, ⟨51, _⟩ => ⟨S8x64x1, .f32⟩
  | .hbm, ⟨52, _⟩ => ⟨S8x64x2048, .f32⟩
  | .hbm, ⟨53, _⟩ => ⟨S8x64x2048, .f32⟩
  | .hbm, ⟨54, _⟩ => ⟨S1x1x2048, .f32⟩
  | .hbm, ⟨55, _⟩ => ⟨S8x64x2048, .f32⟩
  | .hbm, ⟨56, _⟩ => ⟨S8x64x2048, .f32⟩
  | .hbm, ⟨57, _⟩ => ⟨S8x1x2048, .f32⟩
  | .hbm, ⟨58, _⟩ => ⟨S8x63x2048, .f32⟩
  | .hbm, ⟨59, _⟩ => ⟨S8x64x2048, .f32⟩
  | .hbm, ⟨60, _⟩ => ⟨S1x8x64x2048, .f32⟩
  | .hbm, ⟨61, _⟩ => ⟨S8x64x2048, .f32⟩
  | .hbm, ⟨62, _⟩ => ⟨S1x8x64x2048, .f32⟩
  | .hbm, ⟨63, _⟩ => ⟨S6x1x1x2048, .f32⟩
  | .hbm, ⟨64, _⟩ => ⟨S6x8x64x2048, .f32⟩
  | .hbm, ⟨65, _⟩ => ⟨S6x8x64x2048, .f32⟩
  | .hbm, ⟨66, _⟩ => ⟨S6x8x64x2048, .f32⟩
  | .hbm, ⟨67, _⟩ => ⟨S6x8x64x2048, .f32⟩
  | .hbm, ⟨68, _⟩ => ⟨S6x8x64x2048, .f32⟩
  | .hbm, ⟨69, _⟩ => ⟨S6x512x2048, .f32⟩
  | .hbm, ⟨70, _⟩ => ⟨S8x1x2048, .f32⟩
  | .hbm, ⟨71, _⟩ => ⟨S8x2048, .f32⟩
  | .hbm, ⟨72, _⟩ => ⟨S6x8704x2048, .f32⟩
  | .hbm, ⟨73, _⟩ => ⟨S6x8704x2048, .bf16⟩
  | .hbm, ⟨74, _⟩ => ⟨S12x2048, .f32⟩
  | .hbm, ⟨75, _⟩ => ⟨S12x1x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩

abbrev nD : Nat := 1
abbrev τ : Topo := Topo.v7x

variable {F : FTy → Type} [FloatOps F]
-- ==== Lora.lean ====
abbrev S6x8704x2048 : Shape := ⟨3, ![6, 8704, 2048]⟩
abbrev S2048x96 : Shape := ⟨2, ![2048, 96]⟩
abbrev S96x2048 : Shape := ⟨2, ![96, 2048]⟩
abbrev S2048 : Shape := ⟨1, ![2048]⟩
abbrev S_ : Shape := ⟨0, ![]⟩
abbrev S2048x128 : Shape := ⟨2, ![2048, 128]⟩
abbrev S128x2048 : Shape := ⟨2, ![128, 2048]⟩
abbrev S1x2048 : Shape := ⟨2, ![1, 2048]⟩
abbrev S8704x2048 : Shape := ⟨2, ![8704, 2048]⟩
abbrev S1x512x2048 : Shape := ⟨3, ![1, 512, 2048]⟩
abbrev S512x2048 : Shape := ⟨2, ![512, 2048]⟩
abbrev S512x128 : Shape := ⟨2, ![512, 128]⟩

abbrev nBuf : Space → Nat
  | .hbm => 27
  | .vmem => 14
  | .smem => 0
  | _ => 0

abbrev bufTy : (tb : Table) → Fin (tcTables nBuf tb) → BufTy
  | .hbm, ⟨0, _⟩ => ⟨S6x8704x2048, .bf16⟩
  | .hbm, ⟨1, _⟩ => ⟨S2048x96, .f32⟩
  | .hbm, ⟨2, _⟩ => ⟨S96x2048, .f32⟩
  | .hbm, ⟨3, _⟩ => ⟨S2048x96, .f32⟩
  | .hbm, ⟨4, _⟩ => ⟨S96x2048, .f32⟩
  | .hbm, ⟨5, _⟩ => ⟨S2048, .f32⟩
  | .hbm, ⟨6, _⟩ => ⟨S2048, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S_, .i32⟩
  | .hbm, ⟨12, _⟩ => ⟨S_, .f32⟩
  | .hbm, ⟨13, _⟩ => ⟨S128x2048, .f32⟩
  | .hbm, ⟨14, _⟩ => ⟨S128x2048, .bf16⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S_, .i32⟩
  | .hbm, ⟨20, _⟩ => ⟨S_, .f32⟩
  | .hbm, ⟨21, _⟩ => ⟨S128x2048, .f32⟩
  | .hbm, ⟨22, _⟩ => ⟨S128x2048, .bf16⟩
  | .hbm, ⟨23, _⟩ => ⟨S1x2048, .f32⟩
  | .hbm, ⟨24, _⟩ => ⟨S1x2048, .f32⟩
  | .hbm, ⟨25, _⟩ => ⟨S8704x2048, .f32⟩
  | .hbm, ⟨26, _⟩ => ⟨S8704x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x128, .bf16⟩
  | .local _ .vmem, ⟨5, _⟩ => ⟨S128x2048, .bf16⟩
  | .local _ .vmem, ⟨6, _⟩ => ⟨S2048x128, .bf16⟩
  | .local _ .vmem, ⟨7, _⟩ => ⟨S128x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S6x8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_call3_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_1 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LoraRefIdeal.lean ====
abbrev S6x8704x2048 : Shape := ⟨3, ![6, 8704, 2048]⟩
abbrev S2048x96 : Shape := ⟨2, ![2048, 96]⟩
abbrev S96x2048 : Shape := ⟨2, ![96, 2048]⟩
abbrev S2048 : Shape := ⟨1, ![2048]⟩
abbrev S1x8704x2048 : Shape := ⟨3, ![1, 8704, 2048]⟩
abbrev S8704x2048 : Shape := ⟨2, ![8704, 2048]⟩
abbrev S8704x96 : Shape := ⟨2, ![8704, 96]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S6x8704x2048, .bf16⟩
  | .hbm, ⟨1, _⟩ => ⟨S2048x96, .f32⟩
  | .hbm, ⟨2, _⟩ => ⟨S96x2048, .f32⟩
  | .hbm, ⟨3, _⟩ => ⟨S2048x96, .f32⟩
  | .hbm, ⟨4, _⟩ => ⟨S96x2048, .f32⟩
  | .hbm, ⟨5, _⟩ => ⟨S2048, .f32⟩
  | .hbm, ⟨6, _⟩ => ⟨S2048, .f32⟩
  | .hbm, ⟨7, _⟩ => ⟨S6x8704x2048, .f32⟩
  | .hbm, ⟨8, _⟩ => ⟨S1x8704x2048, .f32⟩
  | .hbm, ⟨9, _⟩ => ⟨S8704x2048, .f32⟩
  | .hbm, ⟨10, _⟩ => ⟨S8704x96, .f32⟩
  | .hbm, ⟨11, _⟩ => ⟨S8704x96, .f32⟩
  | .hbm, ⟨12, _⟩ => ⟨S8704x2048, .f32⟩
  | .hbm, ⟨13, _⟩ => ⟨S1x2048, .f32⟩
  | .hbm, ⟨14, _⟩ => ⟨S8704x2048, .f32⟩
  | .hbm, ⟨15, _⟩ => ⟨S8704x2048, .f32⟩
  | .hbm, ⟨16, _⟩ => ⟨S1x8704x2048, .f32⟩
  | .hbm, ⟨17, _⟩ => ⟨S8704x2048, .f32⟩
  | .hbm, ⟨18, _⟩ => ⟨S8704x96, .f32⟩
  | .hbm, ⟨19, _⟩ => ⟨S8704x2048, .f32⟩
  | .hbm, ⟨20, _⟩ => ⟨S1x2048, .f32⟩
  | .hbm, ⟨21, _⟩ => ⟨S8704x2048, .f32⟩
  | .hbm, ⟨22, _⟩ => ⟨S8704x2048, .f32⟩
  | _, _ => ⟨S6x8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Rope.lean ====
abbrev S8704x8192 : Shape := ⟨2, ![8704, 8192]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S64 : Shape := ⟨1, ![64]⟩
abbrev S_ : Shape := ⟨0, ![]⟩
abbrev S1x64 : Shape := ⟨2, ![1, 64]⟩
abbrev S8x64 : Shape := ⟨2, ![8, 64]⟩
abbrev S512 : Shape := ⟨1, ![512]⟩
abbrev S8704 : Shape := ⟨1, ![8704]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S8704x64 : Shape := ⟨2, ![8704, 64]⟩
abbrev S1x8704x1x64 : Shape := ⟨4, ![1, 8704, 1, 64]⟩
abbrev S1x8704x2x64 : Shape := ⟨4, ![1, 8704, 2, 64]⟩
abbrev S8704x128 : Shape := ⟨2, ![8704, 128]⟩
abbrev S1x8704x1x128 : Shape := ⟨4, ![1, 8704, 1, 128]⟩
abbrev S8704x2048 : Shape := ⟨2, ![8704, 2048]⟩
abbrev S8192x2048 : Shape := ⟨2, ![8192, 2048]⟩
abbrev S512x2048 : Shape := ⟨2, ![512, 2048]⟩
abbrev S256x2048 : Shape := ⟨2, ![256, 2048]⟩
abbrev S256x128 : Shape := ⟨2, ![256, 128]⟩

abbrev nBuf : Space → Nat
  | .hbm => 67
  | .vmem => 20
  | .smem => 0
  | _ => 0

abbrev bufTy : (tb : Table) → Fin (tcTables nBuf tb) → BufTy
  | .hbm, ⟨0, _⟩ => ⟨S8704x8192, .f32⟩
  | .hbm, ⟨1, _⟩ => ⟨S2048, .i32⟩
  | .hbm, ⟨2, _⟩ => ⟨S1x2048, .i32⟩
  | .hbm, ⟨3, _⟩ => ⟨S4x2048, .i32⟩
  | .hbm, ⟨4, _⟩ => ⟨S8192, .i32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S1x64, .i32⟩
  | .hbm, ⟨10, _⟩ => ⟨S8x64, .i32⟩
  | .hbm, ⟨11, _⟩ => ⟨S512, .i32⟩
  | .hbm, ⟨12, _⟩ => ⟨S8704, .i32⟩
  | .hbm, ⟨13, _⟩ => ⟨S8704, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S8704x1, .f32⟩
  | .hbm, ⟨23, _⟩ => ⟨S1x32, .f32⟩
  | .hbm, ⟨24, _⟩ => ⟨S8704x32, .f32⟩
  | .hbm, ⟨25, _⟩ => ⟨S8704x32, .f32⟩
  | .hbm, ⟨26, _⟩ => ⟨S8704x32, .f32⟩
  | .hbm, ⟨27, _⟩ => ⟨S8704x32, .f32⟩
  | .hbm, ⟨28, _⟩ => ⟨S8704x32, .f32⟩
  | .hbm, ⟨29, _⟩ => ⟨S8704x64, .f32⟩
  | .hbm, ⟨30, _⟩ => ⟨S1x8704x1x64, .f32⟩
  | .hbm, ⟨31, _⟩ => ⟨S1x8704x2x64, .f32⟩
  | .hbm, ⟨32, _⟩ => ⟨S8704x128, .f32⟩
  | .hbm, ⟨33, _⟩ => ⟨S8704x32, .f32⟩
  | .hbm, ⟨34, _⟩ => ⟨S8704x64, .f32⟩
  | .hbm, ⟨35, _⟩ => ⟨S1x8704x1x64, .f32⟩
  | .hbm, ⟨36, _⟩ => ⟨S1x8704x2x64, .f32⟩
  | .hbm, ⟨37, _⟩ => ⟨S8704x128, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S8704x1, .f32⟩
  | .hbm, ⟨47, _⟩ => ⟨S1x64, .f32⟩
  | .hbm, ⟨48, _⟩ => ⟨S8704x64, .f32⟩
  | .hbm, ⟨49, _⟩ => ⟨S8704x64, .f32⟩
  | .hbm, ⟨50, _⟩ => ⟨S8704x64, .f32⟩
  | .hbm, ⟨51, _⟩ => ⟨S8704x64, .f32⟩
  | .hbm, ⟨52, _⟩ => ⟨S8704x64, .f32⟩
  | .hbm, ⟨53, _⟩ => ⟨S8704x128, .f32⟩
  | .hbm, ⟨54, _⟩ => ⟨S1x8704x1x128, .f32⟩
  | .hbm, ⟨55, _⟩ => ⟨S1x8704x1x128, .f32⟩
  | .hbm, ⟨56, _⟩ => ⟨S8704x128, .f32⟩
  | .hbm, ⟨57, _⟩ => ⟨S8704x64, .f32⟩
  | .hbm, ⟨58, _⟩ => ⟨S8704x128, .f32⟩
  | .hbm, ⟨59, _⟩ => ⟨S1x8704x1x128, .f32⟩
  | .hbm, ⟨60, _⟩ => ⟨S1x8704x1x128, .f32⟩
  | .hbm, ⟨61, _⟩ => ⟨S8704x128, .f32⟩
  | .hbm, ⟨62, _⟩ => ⟨S8704x2048, .f32⟩
  | .hbm, ⟨63, _⟩ => ⟨S8192x2048, .f32⟩
  | .hbm, ⟨64, _⟩ => ⟨S512x2048, .f32⟩
  | .hbm, ⟨65, _⟩ => ⟨S8192x2048, .f32⟩
  | .hbm, ⟨66, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | _, _ => ⟨S8704x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_1 : Ref sig .tc := ⟨.hbm, 40, rfl⟩
abbrev main_v36 : Ref sig .tc := ⟨.hbm, 41, rfl⟩
abbrev main_v37 : Ref sig .tc := ⟨.hbm, 42, rfl⟩
abbrev main_cst_2 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56_0 : Ref sig .tc := ⟨.hbm, 62, rfl⟩
abbrev main_v56_1 : Ref sig .tc := ⟨.hbm, 63, rfl⟩
abbrev main_v56_2 : Ref sig .tc := ⟨.hbm, 64, rfl⟩
abbrev main_v56_3 : Ref sig .tc := ⟨.hbm, 65, rfl⟩
abbrev main_v56_4 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32_128 : BitVec 32 := 32#32
  let v244 : BitVec 1 := Scalar.cmpi .slt arg0 c32_i32_128
  let v245 : BitVec 32 := Scalar.extui v244
  let c0_i32 : BitVec 32 := 0#32
  let v246 : BitVec 1 := Scalar.cmpi .ne v245 c0_i32
  v246

def k0_cond2 (i : grid0.Coords) : BitVec 1 :=
  let arg0 : BitVec 32 := BitVec.ofNat 32 (i 0).val
  let c32_i32_128 : BitVec 32 := 32#32
  let v244 : BitVec 1 := Scalar.cmpi .slt arg0 c32_i32_128
  let v_true : BitVec 1 := 1#1
  let v247 : BitVec 1 := Scalar.xori v244 v_true
  let v248 : BitVec 32 := Scalar.extui v247
  let c0_i32_129 : BitVec 32 := 0#32
  let v249 : BitVec 1 := Scalar.cmpi .ne v248 c0_i32_129
  v249

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RopeRefIdeal.lean ====
abbrev S8704x8192 : Shape := ⟨2, ![8704, 8192]⟩
abbrev S8704x2048 : Shape := ⟨2, ![8704, 2048]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S64 : Shape := ⟨1, ![64]⟩
abbrev S_ : Shape := ⟨0, ![]⟩
abbrev S1x64 : Shape := ⟨2, ![1, 64]⟩
abbrev S8x64 : Shape := ⟨2, ![8, 64]⟩
abbrev S512 : Shape := ⟨1, ![512]⟩
abbrev S8704 : Shape := ⟨1, ![8704]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S8704x1x32 : Shape := ⟨3, ![8704, 1, 32]⟩
abbrev S8704x32x64 : Shape := ⟨3, ![8704, 32, 64]⟩
abbrev S8704x32x32 : Shape := ⟨3, ![8704, 32, 32]⟩
abbrev S8192x2048 : Shape := ⟨2, ![8192, 2048]⟩
abbrev S512x2048 : Shape := ⟨2, ![512, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8704x8192, .f32⟩
  | .hbm, ⟨1, _⟩ => ⟨S8704x2048, .f32⟩
  | .hbm, ⟨2, _⟩ => ⟨S8704x2048, .f32⟩
  | .hbm, ⟨3, _⟩ => ⟨S8704x2048, .f32⟩
  | .hbm, ⟨4, _⟩ => ⟨S8704x2048, .f32⟩
  | .hbm, ⟨5, _⟩ => ⟨S2048, .i32⟩
  | .hbm, ⟨6, _⟩ => ⟨S1x2048, .i32⟩
  | .hbm, ⟨7, _⟩ => ⟨S4x2048, .i32⟩
  | .hbm, ⟨8, _⟩ => ⟨S8192, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S1x64, .i32⟩
  | .hbm, ⟨14, _⟩ => ⟨S8x64, .i32⟩
  | .hbm, ⟨15, _⟩ => ⟨S512, .i32⟩
  | .hbm, ⟨16, _⟩ => ⟨S8704, .i32⟩
  | .hbm, ⟨17, _⟩ => ⟨S8704, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S8704x1, .f32⟩
  | .hbm, ⟨27, _⟩ => ⟨S1x32, .f32⟩
  | .hbm, ⟨28, _⟩ => ⟨S8704x32, .f32⟩
  | .hbm, ⟨29, _⟩ => ⟨S8704x32, .f32⟩
  | .hbm, ⟨30, _⟩ => ⟨S8704x32, .f32⟩
  | .hbm, ⟨31, _⟩ => ⟨S8704x32, .f32⟩
  | .hbm, ⟨32, _⟩ => ⟨S8704x1x32, .f32⟩
  | .hbm, ⟨33, _⟩ => ⟨S8704x32, .f32⟩
  | .hbm, ⟨34, _⟩ => ⟨S8704x1x32, .f32⟩
  | .hbm, ⟨35, _⟩ => ⟨S8704x32x64, .f32⟩
  | .hbm, ⟨36, _⟩ => ⟨S8704x32x32, .f32⟩
  | .hbm, ⟨37, _⟩ => ⟨S8704x32x32, .f32⟩
  | .hbm, ⟨38, _⟩ => ⟨S8704x32x32, .f32⟩
  | .hbm, ⟨39, _⟩ => ⟨S8704x32x32, .f32⟩
  | .hbm, ⟨40, _⟩ => ⟨S8704x32x32, .f32⟩
  | .hbm, ⟨41, _⟩ => ⟨S8704x32x32, .f32⟩
  | .hbm, ⟨42, _⟩ => ⟨S8704x32x32, .f32⟩
  | .hbm, ⟨43, _⟩ => ⟨S8704x32x32, .f32⟩
  | .hbm, ⟨44, _⟩ => ⟨S8704x32x32, .f32⟩
  | .hbm, ⟨45, _⟩ => ⟨S8704x32x32, .f32⟩
  | .hbm, ⟨46, _⟩ => ⟨S8704x32x32, .f32⟩
  | .hbm, ⟨47, _⟩ => ⟨S8704x32x32, .f32⟩
  | .hbm, ⟨48, _⟩ => ⟨S8704x32x64, .f32⟩
  | .hbm, ⟨49, _⟩ => ⟨S8704x2048, .f32⟩
  | .hbm, ⟨50, _⟩ => ⟨S8704x32x64, .f32⟩
  | .hbm, ⟨51, _⟩ => ⟨S8704x32x32, .f32⟩
  | .hbm, ⟨52, _⟩ => ⟨S8704x32x32, .f32⟩
  | .hbm, ⟨53, _⟩ => ⟨S8704x32x32, .f32⟩
  | .hbm, ⟨54, _⟩ => ⟨S8704x32x32, .f32⟩
  | .hbm, ⟨55, _⟩ => ⟨S8704x32x32, .f32⟩
  | .hbm, ⟨56, _⟩ => ⟨S8704x32x32, .f32⟩
  | .hbm, ⟨57, _⟩ => ⟨S8704x32x32, .f32⟩
  | .hbm, ⟨58, _⟩ => ⟨S8704x32x32, .f32⟩
  | .hbm, ⟨59, _⟩ => ⟨S8704x32x32, .f32⟩
  | .hbm, ⟨60, _⟩ => ⟨S8704x32x32, .f32⟩
  | .hbm, ⟨61, _⟩ => ⟨S8704x32x32, .f32⟩
  | .hbm, ⟨62, _⟩ => ⟨S8704x32x32, .f32⟩
  | .hbm, ⟨63, _⟩ => ⟨S8704x32x64, .f32⟩
  | .hbm, ⟨64, _⟩ => ⟨S8704x2048, .f32⟩
  | .hbm, ⟨65, _⟩ => ⟨S_, .f32⟩
  | .hbm, ⟨66, _⟩ => ⟨S8704x2048, .f32⟩
  | .hbm, ⟨67, _⟩ => ⟨S8704x2048, .f32⟩
  | .hbm, ⟨68, _⟩ => ⟨S8192x2048, .f32⟩
  | .hbm, ⟨69, _⟩ => ⟨S512x2048, .f32⟩
  | .hbm, ⟨70, _⟩ => ⟨S8192x2048, .f32⟩
  | .hbm, ⟨71, _⟩ => ⟨S512x2048, .f32⟩
  | _, _ => ⟨S8704x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_cst_1 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩

abbrev nD : Nat := 1
abbrev τ : Topo := Topo.v7x

variable {F : FTy → Type} [FloatOps F]
-- ==== Proof.Trip.lean ====
module
public import proofs.«01_k».proof.Proof.Gen.KernelIdeal.Value
public import Idealize.ShloMosaic.Lib.Pointwise
@[expose] public section
set_option maxRecDepth 16384
noncomputable section

/-! The inner loop of the attention: sixteen running softmaxes (eight heads, two maps each) carried
as one long tuple.  One trip updates each of them by the same step, on the keys and values of its
head. -/

namespace Cert.KernelIdeal.Attn
open Cert.KernelIdeal Cert.KernelIdeal.Gen Idealize.ShloMosaic Idealize.ShloMosaic.TcCoe Idealize.SL.Sem
variable {F : FTy → Type} [FloatOps F]

/-- One running softmax: maximum, sum of weights, weighted values, per query column. -/
abbrev Chain (F : FTy → Type) := FVec F S1x256 .f32 × FVec F S1x256 .f32 × FVec F S128x256 .f32

/-- The carried tuple. -/
abbrev Big (F : FTy → Type) := FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32 × FVec F S1x256 .f32 × FVec F S1x256 .f32 × FVec F S128x256 .f32

/-- The sixteen chains as the carried tuple. -/
def tup (C : Fin 8 → Fin 2 → Chain F) : Big F := ((C 0 0).1, (C 0 0).2.1, (C 0 0).2.2, (C 0 1).1, (C 0 1).2.1, (C 0 1).2.2, (C 1 0).1, (C 1 0).2.1, (C 1 0).2.2, (C 1 1).1, (C 1 1).2.1, (C 1 1).2.2, (C 2 0).1, (C 2 0).2.1, (C 2 0).2.2, (C 2 1).1, (C 2 1).2.1, (C 2 1).2.2, (C 3 0).1, (C 3 0).2.1, (C 3 0).2.2, (C 3 1).1, (C 3 1).2.1, (C 3 1).2.2, (C 4 0).1, (C 4 0).2.1, (C 4 0).2.2, (C 4 1).1, (C 4 1).2.1, (C 4 1).2.2, (C 5 0).1, (C 5 0).2.1, (C 5 0).2.2, (C 5 1).1, (C 5 1).2.1, (C 5 1).2.2, (C 6 0).1, (C 6 0).2.1, (C 6 0).2.2, (C 6 1).1, (C 6 1).2.1, (C 6 1).2.2, (C 7 0).1, (C 7 0).2.1, (C 7 0).2.2, (C 7 1).1, (C 7 1).2.1, (C 7 1).2.2)

/-- The chains of a carried tuple. -/
def ofTup (S : Big F) : Fin 8 → Fin 2 → Chain F :=
  ![![(S.1, S.2.1, S.2.2.1), (S.2.2.2.1, S.2.2.2.2.1, S.2.2.2.2.2.1)],
    ![(S.2.2.2.2.2.2.1, S.2.2.2.2.2.2.2.1, S.2.2.2.2.2.2.2.2.1), (S.2.2.2.2.2.2.2.2.2.1, S.2.2.2.2.2.2.2.2.2.2.1, S.2.2.2.2.2.2.2.2.2.2.2.1)],
    ![(S.2.2.2.2.2.2.2.2.2.2.2.2.1, S.2.2.2.2.2.2.2.2.2.2.2.2.2.1, S.2.2.2.2.2.2.2.2.2.2.2.2.2.2.1), (S.2.2.2.2.2.2.2.2.2.2.2.2.2.2.2.1, S.2.2.2.2.2.2.2.2.2.2.2.2.2.2.2.2.1, S.2.2.2.2.2.2.2.2.2.2.2.2.2.2.2.2.2.1)],
    ![(S.2.2.2.2.2.2.2.2.2.2.2.2.2.2.2.2.2.2.1, S.2.2.2.2.2.2.2.2.2.2.2.2.2.2.2.2.2.2.2.1, S.2.2.2.2.2.2.2.2.2.2.2.2.2.2.2.2.2.2.2.2.1), (S.2.2.2.2.2.2.2.2.2.2.2.2.2.2.2.2.2.2.2.2.2.1, S.2.2.2.2.2.2.2.2.2.2.2.2.2.2.2.2.2.2.2.2.2.2.1, S.2.2.2.2.2.2.2.2.2.2.2.2.2.2.2.2.2.2.2.2.2.2.2.1)],
    ![(S.2.2.2.2.2.2.2.2.2.2.2.2.2.2.2.2.2.2.2.2.2.2.2.2.1, S.2.2.2.2.2.2.2.2.2.2.2.2.2.2.2.2.2.2.2.2.2.2.2.2.2.1, S.2.2.2.2.2.2.2.2.2.2.2.2.2.2.2.2.2.2.2.2.2.2.2.2.2.2.1), (S.2.2.2.2.2.2.2.2.2.2.2.2.2.2.2.2.2.2.2.2.2.2.2.2.2.2.2.1, S.2.2.2.2.2.2.2.2.2.2.2.2.2.2.2.2.2.2.2.2.2.2.2.2.2.2.2.2.1, S.2.2.2.2.2.2.2.2.2.2.2.2.2.2.2.2.2.2.2.2.2.2.2.2.2.2.2.2.2.1)],
    ![(S.2.2.2.2.2.2.2.2.2.2.2.2.2.2.2.2.2.2.2.2.2.2.2.2.2.2.2.2.2.2.1, S.2.2.2.2.2.2.2.2.2.2.2.2.2.2.2.2.2.2.2.2.2.2.2.2.2.2.2.2.2.2.2.1, S.2.2.2.2.2.2.2.2.2.2.2.2.2.2.2.2.2.2.2.2.2.2.2.2.2.2.2.2.2.2.2.2.1), (S.2.2.2.2.2.2.2.2.2.2.2.2.2.2.2.2.2.2.2.2.2.2.2.2.2.2.2.2.2.2.2.2.2.1, S.2.2.2.2.2.2.2.2.2.2.2.2.2.2.2.2.2.2.2.2.2.2.2.2.2.2.2.2.2.2.2.2.2.2.1, S.2.2.2.2.2.2.2.2.2.2.2.2.2.2.2.2.2.2.2.2.2.2.2.2.2.2.2.2.2.2.2.2.2.2.2.1)],
    ![(S.2.2.2.2.2.2.2.2.2.2.2.2.2.2.2.2.2.2.2.2.2.2.2.2.2.2.2.2.2.2.2.2.2.2.2.2.1, S.2.2.2.2.2.2.2.2.2.2.2.2.2.2.2.2.2.2.2.2.2.2.2.2.2.2.2.2.2.2.2.2.2.2.2.2.2.1, S.2.2.2.2.2.2.2.2.2.2.2.2.2.2.2.2.2.2.2.2.2.2.2.2.2.2.2.2.2.2.2.2.2.2.2.2.2.2.1), (S.2.2.2.2.2.2.2.2.2.2.2.2.2.2.2.2.2.2.2.2.2.2.2.2.2.2.2.2.2.2.2.2.2.2.2.2.2.2.2.1, S.2.2.2.2.2.2.2.2.2.2.2.2.2.2.2.2.2.2.2.2.2.2.2.2.2.2.2.2.2.2.2.2.2.2.2.2.2.2.2.2.1, S.2.2.2.2.2.2.2.2.2.2.2.2.2.2.2.2.2.2.2.2.2.2.2.2.2.2.2.2.2.2.2.2.2.2.2.2.2.2.2.2.2.1)],
    ![(S.2.2.2.2.2.2.2.2.2.2.2.2.2.2.2.2.2.2.2.2.2.2.2.2.2.2.2.2.2.2.2.2.2.2.2.2.2.2.2.2.2.2.1, S.2.2.2.2.2.2.2.2.2.2.2.2.2.2.2.2.2.2.2.2.2.2.2.2.2.2.2.2.2.2.2.2.2.2.2.2.2.2.2.2.2.2.2.1, S.2.2.2.2.2.2.2.2.2.2.2.2.2.2.2.2.2.2.2.2.2.2.2.2.2.2.2.2.2.2.2.2.2.2.2.2.2.2.2.2.2.2.2.2.1), (S.2.2.2.2.2.2.2.2.2.2.2.2.2.2.2.2.2.2.2.2.2.2.2.2.2.2.2.2.2.2.2.2.2.2.2.2.2.2.2.2.2.2.2.2.2.1, S.2.2.2.2.2.2.2.2.2.2.2.2.2.2.2.2.2.2.2.2.2.2.2.2.2.2.2.2.2.2.2.2.2.2.2.2.2.2.2.2.2.2.2.2.2.2.1, S.2.2.2.2.2.2.2.2.2.2.2.2.2.2.2.2.2.2.2.2.2.2.2.2.2.2.2.2.2.2.2.2.2.2.2.2.2.2.2.2.2.2.2.2.2.2.2)]]

theorem ofTup_tup (C : Fin 8 → Fin 2 → Chain F) : ofTup (tup C) = C := by
  funext h e
  fin_cases h <;> fin_cases e <;> rfl

/-- Scores of a tile: keys by rows, queries by columns. -/
def score (q : FVec F S128x256 .bf16) (kt : FVec F S256x128 .bf16) : FVec F S256x256 .f32 :=
  matmul dot_S256x128_S128x256_S256x256_1_0_0_1_n_n none kt q (constant S256x256 .f32 0x00000000#32)

/-- The new maximum. -/
def stM (s : FVec F S256x256 .f32) (m : FVec F S1x256 .f32) : FVec F S1x256 .f32 :=
  maximumf m (shapeCast S1x256 (multiReduction .maximumf [0] S256 s 0xFF800000#32 reduces_S256x256_S256 (.inl rfl) rfl) shapeCasts_S256_S1x256)

/-- The factor by which the old sums shrink. -/
def stA (s : FVec F S256x256 .f32) (m : FVec F S1x256 .f32) : FVec F S1x256 .f32 := exp (subf m (stM s m))

/-- The weights of the tile. -/
def stW (s : FVec F S256x256 .f32) (m : FVec F S1x256 .f32) : FVec F S256x256 .f32 :=
  exp (subf s (broadcastTo S256x256 (stM s m) broadcasts_S1x256_S256x256))

/-- The new sum of weights. -/
def stL (s : FVec F S256x256 .f32) (m l : FVec F S1x256 .f32) : FVec F S1x256 .f32 :=
  addf (mulf (stA s m) l) (shapeCast S1x256 (multiReduction .add [0] S256 (stW s m) 0x00000000#32 reduces_S256x256_S256 (.inl rfl) rfl) shapeCasts_S256_S1x256)

/-- The new weighted values. -/
def stO (s : FVec F S256x256 .f32) (vt : FVec F S256x128 .bf16) (m : FVec F S1x256 .f32) (o : FVec F S128x256 .f32) : FVec F S128x256 .f32 :=
  addf (mulf (broadcastTo S128x256 (stA s m) broadcasts_S1x256_S128x256) o)
    (matmul dot_S256x128_S256x256_S128x256_0_0_1_1_n_n none vt (truncf .bf16 (stW s m) bitsLt_bf16_f32) (constant S128x256 .f32 0x00000000#32))

/-- One step of a chain over a tile of scores `s` and values `vt`. -/
def step (s : FVec F S256x256 .f32) (vt : FVec F S256x128 .bf16) (C : Chain F) : Chain F :=
  (stM s C.1, stL s C.1 C.2.1, stO s vt C.1 C.2.2)

theorem trip_tup (𝒱 : Variants) (c : Dev nD) (bd : Option 𝒱.V) (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (arg2 : BitVec 32) (v130 : FVec F S1x256 .f32) (v131 : FVec F S1x256 .f32) (v132 : FVec F S128x256 .f32) (v133 : FVec F S1x256 .f32) (v134 : FVec F S1x256 .f32) (v135 : FVec F S128x256 .f32) (v136 : FVec F S1x256 .f32) (v137 : FVec F S1x256 .f32) (v138 : FVec F S128x256 .f32) (v139 : FVec F S1x256 .f32) (v140 : FVec F S1x256 .f32) (v141 : FVec F S128x256 .f32) (v142 : FVec F S1x256 .f32) (v143 : FVec F S1x256 .f32) (v144 : FVec F S128x256 .f32) (v145 : FVec F S1x256 .f32) (v146 : FVec F S1x256 .f32) (v147 : FVec F S128x256 .f32) (v148 : FVec F S1x256 .f32) (v149 : FVec F S1x256 .f32) (v150 : FVec F S128x256 .f32) (v151 : FVec F S1x256 .f32) (v152 : FVec F S1x256 .f32) (v153 : FVec F S128x256 .f32) (v154 : FVec F S1x256 .f32) (v155 : FVec F S1x256 .f32) (v156 : FVec F S128x256 .f32)
    (q : Fin 8 → Fin 2 → FVec F S128x256 .bf16) (X_arg10 : BufTy.Contents (Elt F) arg10.view.ty) (X_arg11 : BufTy.Contents (Elt F) arg11.view.ty) (k : Fin (k0_t1_loop i).trips) (C : Fin 8 → Fin 2 → Chain F) :
    tripR_k0_t1 (F := F) 𝒱 c bd i arg3 harg3 arg4 harg4 arg5 harg5 arg6 harg6 arg7 harg7 arg8 harg8 arg9 harg9 arg10 harg10 arg11 harg11 arg2 (q 0 0) (q 0 1) (q 1 0) (q 1 1) (q 2 0) (q 2 1) (q 3 0) (q 3 1) (q 4 0) (q 4 1) (q 5 0) (q 5 1) (q 6 0) (q 6 1) (q 7 0) (q 7 1) v130 v131 v132 v133 v134 v135 v136 v137 v138 v139 v140 v141 v142 v143 v144 v145 v146 v147 v148 v149 v150 v151 v152 v153 v154 v155 v156 X_arg10 X_arg11 k (tup C) = tup fun h e => step (score (q h e) ((![View.readAt (Elt F) arg10.view (Rect.unit (s := S2048x1024) (k0_off1 i k) S256x128.size (k0_off1_inb i k)).toLoadRect X_arg10,
    View.readAt (Elt F) arg10.view (Rect.unit (s := S2048x1024) (k0_off2 i k) S256x128.size (k0_off2_inb i k)).toLoadRect X_arg10,
    View.readAt (Elt F) arg10.view (Rect.unit (s := S2048x1024) (k0_off3 i k) S256x128.size (k0_off3_inb i k)).toLoadRect X_arg10,
    View.readAt (Elt F) arg10.view (Rect.unit (s := S2048x1024) (k0_off4 i k) S256x128.size (k0_off4_inb i k)).toLoadRect X_arg10,
    View.readAt (Elt F) arg10.view (Rect.unit (s := S2048x1024) (k0_off5 i k) S256x128.size (k0_off5_inb i k)).toLoadRect X_arg10,
    View.readAt (Elt F) arg10.view (Rect.unit (s := S2048x1024) (k0_off6 i k) S256x128.size (k0_off6_inb i k)).toLoadRect X_arg10,
    View.readAt (Elt F) arg10.view (Rect.unit (s := S2048x1024) (k0_off7 i k) S256x128.size (k0_off7_inb i k)).toLoadRect X_arg10,
    View.readAt (Elt F) arg10.view (Rect.unit (s := S2048x1024) (k0_off8 i k) S256x128.size (k0_off8_inb i k)).toLoadRect X_arg10] : Fin 8 → Vec F S256x128 .bf16) h)) ((![View.readAt (Elt F) arg11.view (Rect.unit (s := S2048x1024) (k0_off1 i k) S256x128.size (k0_off1_inb i k)).toLoadRect X_arg11,
    View.readAt (Elt F) arg11.view (Rect.unit (s := S2048x1024) (k0_off2 i k) S256x128.size (k0_off2_inb i k)).toLoadRect X_arg11,
    View.readAt (Elt F) arg11.view (Rect.unit (s := S2048x1024) (k0_off3 i k) S256x128.size (k0_off3_inb i k)).toLoadRect X_arg11,
    View.readAt (Elt F) arg11.view (Rect.unit (s := S2048x1024) (k0_off4 i k) S256x128.size (k0_off4_inb i k)).toLoadRect X_arg11,
    View.readAt (Elt F) arg11.view (Rect.unit (s := S2048x1024) (k0_off5 i k) S256x128.size (k0_off5_inb i k)).toLoadRect X_arg11,
    View.readAt (Elt F) arg11.view (Rect.unit (s := S2048x1024) (k0_off6 i k) S256x128.size (k0_off6_inb i k)).toLoadRect X_arg11,
    View.readAt (Elt F) arg11.view (Rect.unit (s := S2048x1024) (k0_off7 i k) S256x128.size (k0_off7_inb i k)).toLoadRect X_arg11,
    View.readAt (Elt F) arg11.view (Rect.unit (s := S2048x1024) (k0_off8 i k) S256x128.size (k0_off8_inb i k)).toLoadRect X_arg11] : Fin 8 → Vec F S256x128 .bf16) h) (C h e) := by
  unfold tripR_k0_t1 trip_k0_t1
  dsimp only
  rfl

end Cert.KernelIdeal.Attn
end
-- ==== Proof.Run.lean ====
module
public import proofs.«01_k».proof.Proof.Trip
@[expose] public section
set_option maxRecDepth 16384
noncomputable section

/-! What one grid point stores: eight blocks, one per head, each the same function of the two running
softmaxes of its head after the tiles before the diagonal. -/

namespace Cert.KernelIdeal.Attn
open Cert.KernelIdeal Cert.KernelIdeal.Gen Idealize.ShloMosaic Idealize.ShloMosaic.TcCoe Idealize.SL.Sem
variable {F : FTy → Type} [FloatOps F]

attribute [local irreducible] st_k0_t2 st_k0_t1

/-- A block of queries, for the first and for the second map: transposed, the other half zeroed. -/
def qv (x : Vec F S256x128 .f32) : Fin 2 → FVec F S128x256 .bf16 := ![k0_pay189 x, k0_pay190 x]

/-- The chains before any tile. -/
def ini : Fin 8 → Fin 2 → Chain F := fun _ _ =>
  (constant S1x256 .f32 0xF149F2CA#32, constant S1x256 .f32 0x00000000#32, constant S128x256 .f32 0x00000000#32)

/-- The tile on the diagonal: keys of a later chunk than the query's are left out. -/
def maskS (s : FVec F S256x256 .f32) : FVec F S256x256 .f32 :=
  select (k0_pay215 (iota Kind.tc S256x256 32 [0] iota_S256x256_d0_w32) (iota Kind.tc S256x256 32 [1] iota_S256x256_d1_w32) 6#32) s
    (broadcast S256x256 (Scalar.ofBits .f32 0xFF800000#32))

/-- The last step of a chain. -/
def lastStep (q : FVec F S128x256 .bf16) (kt vt : FVec F S256x128 .bf16) (C : Chain F) : Chain F :=
  step (maskS (score q kt)) vt C

/-- What a head stores, of its two finished chains. -/
def headOut (g : Vec F S1x128 .f32) (gate : Vec F S256x128 .f32) (lam : Vec F S4x64 .f32) (C : Fin 2 → Chain F) : FVec F S256x128 .bf16 :=
  k0_pay400 (k0_pay397 g) gate (k0_pay398 (C 0).2.1 (C 0).2.2 (C 1).2.1 (C 1).2.2 lam)
    (k0_pay399 (C 0).2.1 (C 0).2.2 (C 1).2.1 (C 1).2.2 lam)

/-- The eight blocks a point stores, last head first. -/
def pieces (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (x0 : Vec F S256x1024 .f32) (x3 : Vec F S256x1024 .f32) (x4 : Vec F S4x64 .f32) (x5 : Vec F S1x128 .f32)
    (X_arg10 : BufTy.Contents (Elt F) arg10.view.ty) (X_arg11 : BufTy.Contents (Elt F) arg11.view.ty) (C : Fin 8 → Fin 2 → Chain F) : List (View.Piece (Elt F) S256x1024 .bf16) :=
  [⟨Rect.unit (s := S256x1024) ![0, 896] S256x128.size inb_S256x1024_S256x128_0_896,
      headOut (View.readAt (Elt F) arg8.view (Rect.unit (s := S1x128) ![0, 0] S1x128.size inb_S1x128_S1x128_0_0).toLoadRect (harg8.unread x5))
        (View.readAt (Elt F) arg6.view (Rect.unit (s := S256x1024) ![0, 896] S256x128.size inb_S256x1024_S256x128_0_896).toLoadRect (harg6.unread x3))
        (View.readAt (Elt F) arg7.view (Rect.unit (s := S4x64) ![0, 0] S4x64.size inb_S4x64_S4x64_0_0).toLoadRect (harg7.unread x4))
        (fun e => lastStep (qv (View.readAt (Elt F) arg3.view (Rect.unit (s := S256x1024) ![0, 896] S256x128.size inb_S256x1024_S256x128_0_896).toLoadRect (harg3.unread x0)) e)
          (View.readAt (Elt F) arg10.view (Rect.unit (s := S2048x1024) (k0_off24 i) S256x128.size (k0_off24_inb i)).toLoadRect X_arg10)
          (View.readAt (Elt F) arg11.view (Rect.unit (s := S2048x1024) (k0_off24 i) S256x128.size (k0_off24_inb i)).toLoadRect X_arg11) (C 7 e))⟩,
    ⟨Rect.unit (s := S256x1024) ![0, 768] S256x128.size inb_S256x1024_S256x128_0_768,
      headOut (View.readAt (Elt F) arg8.view (Rect.unit (s := S1x128) ![0, 0] S1x128.size inb_S1x128_S1x128_0_0).toLoadRect (harg8.unread x5))
        (View.readAt (Elt F) arg6.view (Rect.unit (s := S256x1024) ![0, 768] S256x128.size inb_S256x1024_S256x128_0_768).toLoadRect (harg6.unread x3))
        (View.readAt (Elt F) arg7.view (Rect.unit (s := S4x64) ![0, 0] S4x64.size inb_S4x64_S4x64_0_0).toLoadRect (harg7.unread x4))
        (fun e => lastStep (qv (View.readAt (Elt F) arg3.view (Rect.unit (s := S256x1024) ![0, 768] S256x128.size inb_S256x1024_S256x128_0_768).toLoadRect (harg3.unread x0)) e)
          (View.readAt (Elt F) arg10.view (Rect.unit (s := S2048x1024) (k0_off23 i) S256x128.size (k0_off23_inb i)).toLoadRect X_arg10)
          (View.readAt (Elt F) arg11.view (Rect.unit (s := S2048x1024) (k0_off23 i) S256x128.size (k0_off23_inb i)).toLoadRect X_arg11) (C 6 e))⟩,
    ⟨Rect.unit (s := S256x1024) ![0, 640] S256x128.size inb_S256x1024_S256x128_0_640,
      headOut (View.readAt (Elt F) arg8.view (Rect.unit (s := S1x128) ![0, 0] S1x128.size inb_S1x128_S1x128_0_0).toLoadRect (harg8.unread x5))
        (View.readAt (Elt F) arg6.view (Rect.unit (s := S256x1024) ![0, 640] S256x128.size inb_S256x1024_S256x128_0_640).toLoadRect (harg6.unread x3))
        (View.readAt (Elt F) arg7.view (Rect.unit (s := S4x64) ![0, 0] S4x64.size inb_S4x64_S4x64_0_0).toLoadRect (harg7.unread x4))
        (fun e => lastStep (qv (View.readAt (Elt F) arg3.view (Rect.unit (s := S256x1024) ![0, 640] S256x128.size inb_S256x1024_S256x128_0_640).toLoadRect (harg3.unread x0)) e)
          (View.readAt (Elt F) arg10.view (Rect.unit (s := S2048x1024) (k0_off22 i) S256x128.size (k0_off22_inb i)).toLoadRect X_arg10)
          (View.readAt (Elt F) arg11.view (Rect.unit (s := S2048x1024) (k0_off22 i) S256x128.size (k0_off22_inb i)).toLoadRect X_arg11) (C 5 e))⟩,
    ⟨Rect.unit (s := S256x1024) ![0, 512] S256x128.size inb_S256x1024_S256x128_0_512,
      headOut (View.readAt (Elt F) arg8.view (Rect.unit (s := S1x128) ![0, 0] S1x128.size inb_S1x128_S1x128_0_0).toLoadRect (harg8.unread x5))
        (View.readAt (Elt F) arg6.view (Rect.unit (s := S256x1024) ![0, 512] S256x128.size inb_S256x1024_S256x128_0_512).toLoadRect (harg6.unread x3))
        (View.readAt (Elt F) arg7.view (Rect.unit (s := S4x64) ![0, 0] S4x64.size inb_S4x64_S4x64_0_0).toLoadRect (harg7.unread x4))
        (fun e => lastStep (qv (View.readAt (Elt F) arg3.view (Rect.unit (s := S256x1024) ![0, 512] S256x128.size inb_S256x1024_S256x128_0_512).toLoadRect (harg3.unread x0)) e)
          (View.readAt (Elt F) arg10.view (Rect.unit (s := S2048x1024) (k0_off21 i) S256x128.size (k0_off21_inb i)).toLoadRect X_arg10)
          (View.readAt (Elt F) arg11.view (Rect.unit (s := S2048x1024) (k0_off21 i) S256x128.size (k0_off21_inb i)).toLoadRect X_arg11) (C 4 e))⟩,
    ⟨Rect.unit (s := S256x1024) ![0, 384] S256x128.size inb_S256x1024_S256x128_0_384,
      headOut (View.readAt (Elt F) arg8.view (Rect.unit (s := S1x128) ![0, 0] S1x128.size inb_S1x128_S1x128_0_0).toLoadRect (harg8.unread x5))
        (View.readAt (Elt F) arg6.view (Rect.unit (s := S256x1024) ![0, 384] S256x128.size inb_S256x1024_S256x128_0_384).toLoadRect (harg6.unread x3))
        (View.readAt (Elt F) arg7.view (Rect.unit (s := S4x64) ![0, 0] S4x64.size inb_S4x64_S4x64_0_0).toLoadRect (harg7.unread x4))
        (fun e => lastStep (qv (View.readAt (Elt F) arg3.view (Rect.unit (s := S256x1024) ![0, 384] S256x128.size inb_S256x1024_S256x128_0_384).toLoadRect (harg3.unread x0)) e)
          (View.readAt (Elt F) arg10.view (Rect.unit (s := S2048x1024) (k0_off20 i) S256x128.size (k0_off20_inb i)).toLoadRect X_arg10)
          (View.readAt (Elt F) arg11.view (Rect.unit (s := S2048x1024) (k0_off20 i) S256x128.size (k0_off20_inb i)).toLoadRect X_arg11) (C 3 e))⟩,
    ⟨Rect.unit (s := S256x1024) ![0, 256] S256x128.size inb_S256x1024_S256x128_0_256,
      headOut (View.readAt (Elt F) arg8.view (Rect.unit (s := S1x128) ![0, 0] S1x128.size inb_S1x128_S1x128_0_0).toLoadRect (harg8.unread x5))
        (View.readAt (Elt F) arg6.view (Rect.unit (s := S256x1024) ![0, 256] S256x128.size inb_S256x1024_S256x128_0_256).toLoadRect (harg6.unread x3))
        (View.readAt (Elt F) arg7.view (Rect.unit (s := S4x64) ![0, 0] S4x64.size inb_S4x64_S4x64_0_0).toLoadRect (harg7.unread x4))
        (fun e => lastStep (qv (View.readAt (Elt F) arg3.view (Rect.unit (s := S256x1024) ![0, 256] S256x128.size inb_S256x1024_S256x128_0_256).toLoadRect (harg3.unread x0)) e)
          (View.readAt (Elt F) arg10.view (Rect.unit (s := S2048x1024) (k0_off19 i) S256x128.size (k0_off19_inb i)).toLoadRect X_arg10)
          (View.readAt (Elt F) arg11.view (Rect.unit (s := S2048x1024) (k0_off19 i) S256x128.size (k0_off19_inb i)).toLoadRect X_arg11) (C 2 e))⟩,
    ⟨Rect.unit (s := S256x1024) ![0, 128] S256x128.size inb_S256x1024_S256x128_0_128,
      headOut (View.readAt (Elt F) arg8.view (Rect.unit (s := S1x128) ![0, 0] S1x128.size inb_S1x128_S1x128_0_0).toLoadRect (harg8.unread x5))
        (View.readAt (Elt F) arg6.view (Rect.unit (s := S256x1024) ![0, 128] S256x128.size inb_S256x1024_S256x128_0_128).toLoadRect (harg6.unread x3))
        (View.readAt (Elt F) arg7.view (Rect.unit (s := S4x64) ![0, 0] S4x64.size inb_S4x64_S4x64_0_0).toLoadRect (harg7.unread x4))
        (fun e => lastStep (qv (View.readAt (Elt F) arg3.view (Rect.unit (s := S256x1024) ![0, 128] S256x128.size inb_S256x1024_S256x128_0_128).toLoadRect (harg3.unread x0)) e)
          (View.readAt (Elt F) arg10.view (Rect.unit (s := S2048x1024) (k0_off18 i) S256x128.size (k0_off18_inb i)).toLoadRect X_arg10)
          (View.readAt (Elt F) arg11.view (Rect.unit (s := S2048x1024) (k0_off18 i) S256x128.size (k0_off18_inb i)).toLoadRect X_arg11) (C 1 e))⟩,
    ⟨Rect.unit (s := S256x1024) ![0, 0] S256x128.size inb_S256x1024_S256x128_0_0,
      headOut (View.readAt (Elt F) arg8.view (Rect.unit (s := S1x128) ![0, 0] S1x128.size inb_S1x128_S1x128_0_0).toLoadRect (harg8.unread x5))
        (View.readAt (Elt F) arg6.view (Rect.unit (s := S256x1024) ![0, 0] S256x128.size inb_S256x1024_S256x128_0_0).toLoadRect (harg6.unread x3))
        (View.readAt (Elt F) arg7.view (Rect.unit (s := S4x64) ![0, 0] S4x64.size inb_S4x64_S4x64_0_0).toLoadRect (harg7.unread x4))
        (fun e => lastStep (qv (View.readAt (Elt F) arg3.view (Rect.unit (s := S256x1024) ![0, 0] S256x128.size inb_S256x1024_S256x128_0_0).toLoadRect (harg3.unread x0)) e)
          (View.readAt (Elt F) arg10.view (Rect.unit (s := S2048x1024) (k0_off17 i) S256x128.size (k0_off17_inb i)).toLoadRect X_arg10)
          (View.readAt (Elt F) arg11.view (Rect.unit (s := S2048x1024) (k0_off17 i) S256x128.size (k0_off17_inb i)).toLoadRect X_arg11) (C 0 e))⟩]

/-- The carried tuple after both loops of a point. -/
def loops (c : Dev nD) (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (x0 : Vec F S256x1024 .f32)
    (X_arg10 : BufTy.Contents (Elt F) arg10.view.ty) (X_arg11 : BufTy.Contents (Elt F) arg11.view.ty) : Big F :=
  st_k0_t2 (F := F) Variants.none c none i arg3 harg3 arg4 harg4 arg5 harg5 arg6 harg6 arg7 harg7 arg8 harg8 arg9 harg9 arg10 harg10 arg11 harg11 (BitVec.ofNat 32 (i 2).val) (k0_pay189 (View.readAt (Elt F) arg3.view (Rect.unit (s := S256x1024) ![0, 0] S256x128.size inb_S256x1024_S256x128_0_0).toLoadRect (harg3.unread x0))) (k0_pay190 (View.readAt (Elt F) arg3.view (Rect.unit (s := S256x1024) ![0, 0] S256x128.size inb_S256x1024_S256x128_0_0).toLoadRect (harg3.unread x0))) (k0_pay192 (View.readAt (Elt F) arg3.view (Rect.unit (s := S256x1024) ![0, 128] S256x128.size inb_S256x1024_S256x128_0_128).toLoadRect (harg3.unread x0))) (k0_pay193 (View.readAt (Elt F) arg3.view (Rect.unit (s := S256x1024) ![0, 128] S256x128.size inb_S256x1024_S256x128_0_128).toLoadRect (harg3.unread x0))) (k0_pay197 (View.readAt (Elt F) arg3.view (Rect.unit (s := S256x1024) ![0, 256] S256x128.size inb_S256x1024_S256x128_0_256).toLoadRect (harg3.unread x0)) (iota Kind.tc S256x128 32 [1] iota_S256x128_d1_w32) k0_pay194 k0_pay195) (k0_pay198 (View.readAt (Elt F) arg3.view (Rect.unit (s := S256x1024) ![0, 256] S256x128.size inb_S256x1024_S256x128_0_256).toLoadRect (harg3.unread x0)) (iota Kind.tc S256x128 32 [1] iota_S256x128_d1_w32) k0_pay194 k0_pay195) (k0_pay200 (View.readAt (Elt F) arg3.view (Rect.unit (s := S256x1024) ![0, 384] S256x128.size inb_S256x1024_S256x128_0_384).toLoadRect (harg3.unread x0))) (k0_pay201 (View.readAt (Elt F) arg3.view (Rect.unit (s := S256x1024) ![0, 384] S256x128.size inb_S256x1024_S256x128_0_384).toLoadRect (harg3.unread x0))) (k0_pay203 (View.readAt (Elt F) arg3.view (Rect.unit (s := S256x1024) ![0, 512] S256x128.size inb_S256x1024_S256x128_0_512).toLoadRect (harg3.unread x0))) (k0_pay204 (View.readAt (Elt F) arg3.view (Rect.unit (s := S256x1024) ![0, 512] S256x128.size inb_S256x1024_S256x128_0_512).toLoadRect (harg3.unread x0))) (k0_pay207 (View.readAt (Elt F) arg3.view (Rect.unit (s := S256x1024) ![0, 640] S256x128.size inb_S256x1024_S256x128_0_640).toLoadRect (harg3.unread x0)) (iota Kind.tc S256x128 32 [1] iota_S256x128_d1_w32) k0_pay205) (k0_pay208 (View.readAt (Elt F) arg3.view (Rect.unit (s := S256x1024) ![0, 640] S256x128.size inb_S256x1024_S256x128_0_640).toLoadRect (harg3.unread x0)) (iota Kind.tc S256x128 32 [1] iota_S256x128_d1_w32) k0_pay205) (k0_pay210 (View.readAt (Elt F) arg3.view (Rect.unit (s := S256x1024) ![0, 768] S256x128.size inb_S256x1024_S256x128_0_768).toLoadRect (harg3.unread x0))) (k0_pay211 (View.readAt (Elt F) arg3.view (Rect.unit (s := S256x1024) ![0, 768] S256x128.size inb_S256x1024_S256x128_0_768).toLoadRect (harg3.unread x0))) (k0_pay213 (View.readAt (Elt F) arg3.view (Rect.unit (s := S256x1024) ![0, 896] S256x128.size inb_S256x1024_S256x128_0_896).toLoadRect (harg3.unread x0))) (k0_pay214 (View.readAt (Elt F) arg3.view (Rect.unit (s := S256x1024) ![0, 896] S256x128.size inb_S256x1024_S256x128_0_896).toLoadRect (harg3.unread x0))) k0_pay216 k0_pay217 k0_pay218 k0_pay219 k0_pay220 k0_pay221 k0_pay222 k0_pay223 k0_pay224 k0_pay225 k0_pay226 k0_pay227 k0_pay228 k0_pay229 k0_pay230 k0_pay231 k0_pay232 k0_pay233 k0_pay234 k0_pay235 k0_pay236 k0_pay237 k0_pay238 k0_pay239 k0_pay240 k0_pay241 k0_pay242 (Scalar.addi (0#32) (Scalar.muli (Scalar.divsi (Scalar.subi (BitVec.ofNat 32 (i 2).val) 0#32) 1#32) 1#32)) (X_arg10) (X_arg11) (st_k0_t1 (F := F) Variants.none c none i arg3 harg3 arg4 harg4 arg5 harg5 arg6 harg6 arg7 harg7 arg8 harg8 arg9 harg9 arg10 harg10 arg11 harg11 (BitVec.ofNat 32 (i 2).val) (k0_pay189 (View.readAt (Elt F) arg3.view (Rect.unit (s := S256x1024) ![0, 0] S256x128.size inb_S256x1024_S256x128_0_0).toLoadRect (harg3.unread x0))) (k0_pay190 (View.readAt (Elt F) arg3.view (Rect.unit (s := S256x1024) ![0, 0] S256x128.size inb_S256x1024_S256x128_0_0).toLoadRect (harg3.unread x0))) (k0_pay192 (View.readAt (Elt F) arg3.view (Rect.unit (s := S256x1024) ![0, 128] S256x128.size inb_S256x1024_S256x128_0_128).toLoadRect (harg3.unread x0))) (k0_pay193 (View.readAt (Elt F) arg3.view (Rect.unit (s := S256x1024) ![0, 128] S256x128.size inb_S256x1024_S256x128_0_128).toLoadRect (harg3.unread x0))) (k0_pay197 (View.readAt (Elt F) arg3.view (Rect.unit (s := S256x1024) ![0, 256] S256x128.size inb_S256x1024_S256x128_0_256).toLoadRect (harg3.unread x0)) (iota Kind.tc S256x128 32 [1] iota_S256x128_d1_w32) k0_pay194 k0_pay195) (k0_pay198 (View.readAt (Elt F) arg3.view (Rect.unit (s := S256x1024) ![0, 256] S256x128.size inb_S256x1024_S256x128_0_256).toLoadRect (harg3.unread x0)) (iota Kind.tc S256x128 32 [1] iota_S256x128_d1_w32) k0_pay194 k0_pay195) (k0_pay200 (View.readAt (Elt F) arg3.view (Rect.unit (s := S256x1024) ![0, 384] S256x128.size inb_S256x1024_S256x128_0_384).toLoadRect (harg3.unread x0))) (k0_pay201 (View.readAt (Elt F) arg3.view (Rect.unit (s := S256x1024) ![0, 384] S256x128.size inb_S256x1024_S256x128_0_384).toLoadRect (harg3.unread x0))) (k0_pay203 (View.readAt (Elt F) arg3.view (Rect.unit (s := S256x1024) ![0, 512] S256x128.size inb_S256x1024_S256x128_0_512).toLoadRect (harg3.unread x0))) (k0_pay204 (View.readAt (Elt F) arg3.view (Rect.unit (s := S256x1024) ![0, 512] S256x128.size inb_S256x1024_S256x128_0_512).toLoadRect (harg3.unread x0))) (k0_pay207 (View.readAt (Elt F) arg3.view (Rect.unit (s := S256x1024) ![0, 640] S256x128.size inb_S256x1024_S256x128_0_640).toLoadRect (harg3.unread x0)) (iota Kind.tc S256x128 32 [1] iota_S256x128_d1_w32) k0_pay205) (k0_pay208 (View.readAt (Elt F) arg3.view (Rect.unit (s := S256x1024) ![0, 640] S256x128.size inb_S256x1024_S256x128_0_640).toLoadRect (harg3.unread x0)) (iota Kind.tc S256x128 32 [1] iota_S256x128_d1_w32) k0_pay205) (k0_pay210 (View.readAt (Elt F) arg3.view (Rect.unit (s := S256x1024) ![0, 768] S256x128.size inb_S256x1024_S256x128_0_768).toLoadRect (harg3.unread x0))) (k0_pay211 (View.readAt (Elt F) arg3.view (Rect.unit (s := S256x1024) ![0, 768] S256x128.size inb_S256x1024_S256x128_0_768).toLoadRect (harg3.unread x0))) (k0_pay213 (View.readAt (Elt F) arg3.view (Rect.unit (s := S256x1024) ![0, 896] S256x128.size inb_S256x1024_S256x128_0_896).toLoadRect (harg3.unread x0))) (k0_pay214 (View.readAt (Elt F) arg3.view (Rect.unit (s := S256x1024) ![0, 896] S256x128.size inb_S256x1024_S256x128_0_896).toLoadRect (harg3.unread x0))) k0_pay216 k0_pay217 k0_pay218 k0_pay219 k0_pay220 k0_pay221 k0_pay222 k0_pay223 k0_pay224 k0_pay225 k0_pay226 k0_pay227 k0_pay228 k0_pay229 k0_pay230 k0_pay231 k0_pay232 k0_pay233 k0_pay234 k0_pay235 k0_pay236 k0_pay237 k0_pay238 k0_pay239 k0_pay240 k0_pay241 k0_pay242 (X_arg10) (X_arg11) (k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263) (Scf.trips (k0_t1_loop i).lb (k0_t1_loop i).ub (k0_t1_loop i).st)) (Scf.trips (k0_t2_loop i).lb (k0_t2_loop i).ub (k0_t2_loop i).st)

set_option maxHeartbeats 1000000 in
theorem runB_eq (c : Dev nD) (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (hc0 : ¬cond0_0 i)
    (x0 : Vec F S256x1024 .f32) (x1 : Vec F S2048x1024 .f32) (x2 : Vec F S2048x1024 .f32) (x3 : Vec F S256x1024 .f32) (x4 : Vec F S4x64 .f32) (x5 : Vec F S1x128 .f32) (xs0 xs1 : Vec F S2048x1024 .bf16) :
    (kernelRun0_B c i arg3 harg3 arg4 harg4 arg5 harg5 arg6 harg6 arg7 harg7 arg8 harg8 arg9 harg9 arg10 harg10 arg11 harg11 hc0 x0 x1 x2 x3 x4 x5 xs0 xs1).1
      = pieces i arg3 harg3 arg4 harg4 arg5 harg5 arg6 harg6 arg7 harg7 arg8 harg8 arg9 harg9 arg10 harg10 arg11 harg11 x0 x3 x4 x5 (harg10.unread xs0) (harg11.unread xs1)
        (ofTup (loops c i arg3 harg3 arg4 harg4 arg5 harg5 arg6 harg6 arg7 harg7 arg8 harg8 arg9 harg9 arg10 harg10 arg11 harg11 x0 (harg10.unread xs0) (harg11.unread xs1))) := by
  unfold kernelRun0_B loops
  dsimp only [kernelRun0_B.sl.r_87, kernelRun0_B.sl.r_164, kernelRun0_B.sl.r_40, kernelRun0_B.sl.r_32, kernelRun0_B.sl.r_109, kernelRun0_B.sl.r_50, kernelRun0_B.sl.r_113, kernelRun0_B.sl.r_155, kernelRun0_B.sl.r_59, kernelRun0_B.sl.r_3, kernelRun0_B.sl.r_61, kernelRun0_B.sl.r_92, kernelRun0_B.sl.r_98, kernelRun0_B.sl.r_154, kernelRun0_B.sl.r_167, kernelRun0_B.sl.r_106, kernelRun0_B.sl.r_30, kernelRun0_B.sl.r_13, kernelRun0_B.sl.r_63, kernelRun0_B.sl.r_46, kernelRun0_B.sl.r_38, kernelRun0_B.sl.r_16, kernelRun0_B.sl.r_114, kernelRun0_B.sl.r_62, kernelRun0_B.sl.r_140, kernelRun0_B.sl.r_33, kernelRun0_B.sl.r_105, kernelRun0_B.sl.r_107, kernelRun0_B.sl.r_17, kernelRun0_B.sl.r_73, kernelRun0_B.sl.r_143, kernelRun0_B.sl.r_161, kernelRun0_B.sl.r_44, kernelRun0_B.sl.r_116, kernelRun0_B.sl.v0, kernelRun0_B.sl.r_146, kernelRun0_B.sl.r_12, kernelRun0_B.sl.r_64, kernelRun0_B.sl.r_135, kernelRun0_B.sl.r_14, kernelRun0_B.sl.r_166, kernelRun0_B.sl.r_36, kernelRun0_B.sl.r_31, kernelRun0_B.sl.r_151, kernelRun0_B.sl.r_71, kernelRun0_B.sl.r_95, kernelRun0_B.sl.r_27, kernelRun0_B.sl.r_142, kernelRun0_B.sl.r_131, kernelRun0_B.sl.r_35, kernelRun0_B.sl.v180, kernelRun0_B.sl.r_60, kernelRun0_B.sl.r_93, kernelRun0_B.sl.r_156, kernelRun0_B.sl.r_94, kernelRun0_B.sl.r_145, kernelRun0_B.sl.r_7, kernelRun0_B.sl.r_77, kernelRun0_B.sl.cst_303, kernelRun0_B.sl.r_104, kernelRun0_B.sl.r_86, kernelRun0_B.sl.r_160, kernelRun0_B.sl.v181, kernelRun0_B.sl.r_83, kernelRun0_B.sl.r_21, kernelRun0_B.sl.r_47, kernelRun0_B.sl.r_111, kernelRun0_B.sl.r_42, kernelRun0_B.sl.r_57, kernelRun0_B.sl.r_52, kernelRun0_B.sl.r_84, kernelRun0_B.sl.r_69, kernelRun0_B.sl.r_28, kernelRun0_B.sl.r_19, kernelRun0_B.sl.v2, kernelRun0_B.sl.r_34, kernelRun0_B.sl.r_91, kernelRun0_B.sl.v34, kernelRun0_B.sl.r_68, kernelRun0_B.sl.r_118, kernelRun0_B.sl.r_66, kernelRun0_B.sl.r_136, kernelRun0_B.sl.r_81, kernelRun0_B.sl.r_56, kernelRun0_B.sl.r_43, kernelRun0_B.sl.v123, kernelRun0_B.sl.r_74, kernelRun0_B.sl.r_55, kernelRun0_B.sl.r_127, kernelRun0_B.sl.r_130, kernelRun0_B.sl.v1, kernelRun0_B.sl.r_2, kernelRun0_B.sl.r_76, kernelRun0_B.sl.r_134, kernelRun0_B.sl.r_119, kernelRun0_B.sl.r_115, kernelRun0_B.sl.r_10, kernelRun0_B.sl.r_148, kernelRun0_B.sl.r_125, kernelRun0_B.sl.r_18, kernelRun0_B.sl.r_85, kernelRun0_B.sl.r_147, kernelRun0_B.sl.r_152, kernelRun0_B.sl.r_80, kernelRun0_B.sl.r_99, kernelRun0_B.sl.r_162, kernelRun0_B.sl.r_121, kernelRun0_B.sl.r_169, kernelRun0_B.sl.r_132, kernelRun0_B.sl.r_137, kernelRun0_B.sl.r_128, kernelRun0_B.sl.r_1, kernelRun0_B.sl.r_126, kernelRun0_B.sl.r_117, kernelRun0_B.sl.r_65, kernelRun0_B.sl.r_89, kernelRun0_B.sl.r_26, kernelRun0_B.sl.r_15, kernelRun0_B.sl.r_9, kernelRun0_B.sl.r_96, kernelRun0_B.sl.r_168, kernelRun0_B.sl.r_82, kernelRun0_B.sl.r_144, kernelRun0_B.sl.r_79, kernelRun0_B.sl.r_157, kernelRun0_B.sl.r_70, kernelRun0_B.sl.r_102, kernelRun0_B.sl.r_51, kernelRun0_B.sl.r_53, kernelRun0_B.sl.r_138, kernelRun0_B.sl.r_39, kernelRun0_B.sl.r_78, kernelRun0_B.sl.r_45, kernelRun0_B.sl.r_58, kernelRun0_B.sl.r_139, kernelRun0_B.sl.v178, kernelRun0_B.sl.r_170, kernelRun0_B.sl.r_54, kernelRun0_B.sl.r_67, kernelRun0_B.sl.r_88, kernelRun0_B.sl.r_153, kernelRun0_B.sl.r_159, kernelRun0_B.sl.r_37, kernelRun0_B.sl.r_22, kernelRun0_B.sl.r_120, kernelRun0_B.sl.r_108, kernelRun0_B.sl.r_29, kernelRun0_B.sl.r_103, kernelRun0_B.sl.r_129, kernelRun0_B.sl.r_100, kernelRun0_B.sl.r, kernelRun0_B.sl.r_90, kernelRun0_B.sl.r_5, kernelRun0_B.sl.r_124, kernelRun0_B.sl.v185, kernelRun0_B.sl.r_150, kernelRun0_B.sl.r_23, kernelRun0_B.sl.r_72, kernelRun0_B.sl.r_20, kernelRun0_B.sl.r_6, kernelRun0_B.sl.r_24, kernelRun0_B.sl.r_97, kernelRun0_B.sl.v182, kernelRun0_B.sl.r_165, kernelRun0_B.sl.r_75, kernelRun0_B.sl.r_141, kernelRun0_B.sl.r_49, kernelRun0_B.sl.r_8, kernelRun0_B.sl.r_158, kernelRun0_B.sl.r_48, kernelRun0_B.sl.cst_92, kernelRun0_B.sl.r_149, kernelRun0_B.sl.v124, kernelRun0_B.sl.r_122, kernelRun0_B.sl.r_4, kernelRun0_B.sl.r_41, kernelRun0_B.sl.r_163, kernelRun0_B.sl.r_112, kernelRun0_B.sl.r_25, kernelRun0_B.sl.r_123, kernelRun0_B.sl.r_110, kernelRun0_B.sl.r_101, kernelRun0_B.sl.r_133, kernelRun0_B.sl.r_11]
  generalize st_k0_t2 (F := F) Variants.none c none i arg3 harg3 arg4 harg4 arg5 harg5 arg6 harg6 arg7 harg7 arg8 harg8 arg9 harg9 arg10 harg10 arg11 harg11 (BitVec.ofNat 32 (i 2).val) (k0_pay189 (View.readAt (Elt F) arg3.view (Rect.unit (s := S256x1024) ![0, 0] S256x128.size inb_S256x1024_S256x128_0_0).toLoadRect (harg3.unread x0))) (k0_pay190 (View.readAt (Elt F) arg3.view (Rect.unit (s := S256x1024) ![0, 0] S256x128.size inb_S256x1024_S256x128_0_0).toLoadRect (harg3.unread x0))) (k0_pay192 (View.readAt (Elt F) arg3.view (Rect.unit (s := S256x1024) ![0, 128] S256x128.size inb_S256x1024_S256x128_0_128).toLoadRect (harg3.unread x0))) (k0_pay193 (View.readAt (Elt F) arg3.view (Rect.unit (s := S256x1024) ![0, 128] S256x128.size inb_S256x1024_S256x128_0_128).toLoadRect (harg3.unread x0))) (k0_pay197 (View.readAt (Elt F) arg3.view (Rect.unit (s := S256x1024) ![0, 256] S256x128.size inb_S256x1024_S256x128_0_256).toLoadRect (harg3.unread x0)) (iota Kind.tc S256x128 32 [1] iota_S256x128_d1_w32) k0_pay194 k0_pay195) (k0_pay198 (View.readAt (Elt F) arg3.view (Rect.unit (s := S256x1024) ![0, 256] S256x128.size inb_S256x1024_S256x128_0_256).toLoadRect (harg3.unread x0)) (iota Kind.tc S256x128 32 [1] iota_S256x128_d1_w32) k0_pay194 k0_pay195) (k0_pay200 (View.readAt (Elt F) arg3.view (Rect.unit (s := S256x1024) ![0, 384] S256x128.size inb_S256x1024_S256x128_0_384).toLoadRect (harg3.unread x0))) (k0_pay201 (View.readAt (Elt F) arg3.view (Rect.unit (s := S256x1024) ![0, 384] S256x128.size inb_S256x1024_S256x128_0_384).toLoadRect (harg3.unread x0))) (k0_pay203 (View.readAt (Elt F) arg3.view (Rect.unit (s := S256x1024) ![0, 512] S256x128.size inb_S256x1024_S256x128_0_512).toLoadRect (harg3.unread x0))) (k0_pay204 (View.readAt (Elt F) arg3.view (Rect.unit (s := S256x1024) ![0, 512] S256x128.size inb_S256x1024_S256x128_0_512).toLoadRect (harg3.unread x0))) (k0_pay207 (View.readAt (Elt F) arg3.view (Rect.unit (s := S256x1024) ![0, 640] S256x128.size inb_S256x1024_S256x128_0_640).toLoadRect (harg3.unread x0)) (iota Kind.tc S256x128 32 [1] iota_S256x128_d1_w32) k0_pay205) (k0_pay208 (View.readAt (Elt F) arg3.view (Rect.unit (s := S256x1024) ![0, 640] S256x128.size inb_S256x1024_S256x128_0_640).toLoadRect (harg3.unread x0)) (iota Kind.tc S256x128 32 [1] iota_S256x128_d1_w32) k0_pay205) (k0_pay210 (View.readAt (Elt F) arg3.view (Rect.unit (s := S256x1024) ![0, 768] S256x128.size inb_S256x1024_S256x128_0_768).toLoadRect (harg3.unread x0))) (k0_pay211 (View.readAt (Elt F) arg3.view (Rect.unit (s := S256x1024) ![0, 768] S256x128.size inb_S256x1024_S256x128_0_768).toLoadRect (harg3.unread x0))) (k0_pay213 (View.readAt (Elt F) arg3.view (Rect.unit (s := S256x1024) ![0, 896] S256x128.size inb_S256x1024_S256x128_0_896).toLoadRect (harg3.unread x0))) (k0_pay214 (View.readAt (Elt F) arg3.view (Rect.unit (s := S256x1024) ![0, 896] S256x128.size inb_S256x1024_S256x128_0_896).toLoadRect (harg3.unread x0))) k0_pay216 k0_pay217 k0_pay218 k0_pay219 k0_pay220 k0_pay221 k0_pay222 k0_pay223 k0_pay224 k0_pay225 k0_pay226 k0_pay227 k0_pay228 k0_pay229 k0_pay230 k0_pay231 k0_pay232 k0_pay233 k0_pay234 k0_pay235 k0_pay236 k0_pay237 k0_pay238 k0_pay239 k0_pay240 k0_pay241 k0_pay242 (Scalar.addi (0#32) (Scalar.muli (Scalar.divsi (Scalar.subi (BitVec.ofNat 32 (i 2).val) 0#32) 1#32) 1#32)) (harg10.unread xs0) (harg11.unread xs1) (st_k0_t1 (F := F) Variants.none c none i arg3 harg3 arg4 harg4 arg5 harg5 arg6 harg6 arg7 harg7 arg8 harg8 arg9 harg9 arg10 harg10 arg11 harg11 (BitVec.ofNat 32 (i 2).val) (k0_pay189 (View.readAt (Elt F) arg3.view (Rect.unit (s := S256x1024) ![0, 0] S256x128.size inb_S256x1024_S256x128_0_0).toLoadRect (harg3.unread x0))) (k0_pay190 (View.readAt (Elt F) arg3.view (Rect.unit (s := S256x1024) ![0, 0] S256x128.size inb_S256x1024_S256x128_0_0).toLoadRect (harg3.unread x0))) (k0_pay192 (View.readAt (Elt F) arg3.view (Rect.unit (s := S256x1024) ![0, 128] S256x128.size inb_S256x1024_S256x128_0_128).toLoadRect (harg3.unread x0))) (k0_pay193 (View.readAt (Elt F) arg3.view (Rect.unit (s := S256x1024) ![0, 128] S256x128.size inb_S256x1024_S256x128_0_128).toLoadRect (harg3.unread x0))) (k0_pay197 (View.readAt (Elt F) arg3.view (Rect.unit (s := S256x1024) ![0, 256] S256x128.size inb_S256x1024_S256x128_0_256).toLoadRect (harg3.unread x0)) (iota Kind.tc S256x128 32 [1] iota_S256x128_d1_w32) k0_pay194 k0_pay195) (k0_pay198 (View.readAt (Elt F) arg3.view (Rect.unit (s := S256x1024) ![0, 256] S256x128.size inb_S256x1024_S256x128_0_256).toLoadRect (harg3.unread x0)) (iota Kind.tc S256x128 32 [1] iota_S256x128_d1_w32) k0_pay194 k0_pay195) (k0_pay200 (View.readAt (Elt F) arg3.view (Rect.unit (s := S256x1024) ![0, 384] S256x128.size inb_S256x1024_S256x128_0_384).toLoadRect (harg3.unread x0))) (k0_pay201 (View.readAt (Elt F) arg3.view (Rect.unit (s := S256x1024) ![0, 384] S256x128.size inb_S256x1024_S256x128_0_384).toLoadRect (harg3.unread x0))) (k0_pay203 (View.readAt (Elt F) arg3.view (Rect.unit (s := S256x1024) ![0, 512] S256x128.size inb_S256x1024_S256x128_0_512).toLoadRect (harg3.unread x0))) (k0_pay204 (View.readAt (Elt F) arg3.view (Rect.unit (s := S256x1024) ![0, 512] S256x128.size inb_S256x1024_S256x128_0_512).toLoadRect (harg3.unread x0))) (k0_pay207 (View.readAt (Elt F) arg3.view (Rect.unit (s := S256x1024) ![0, 640] S256x128.size inb_S256x1024_S256x128_0_640).toLoadRect (harg3.unread x0)) (iota Kind.tc S256x128 32 [1] iota_S256x128_d1_w32) k0_pay205) (k0_pay208 (View.readAt (Elt F) arg3.view (Rect.unit (s := S256x1024) ![0, 640] S256x128.size inb_S256x1024_S256x128_0_640).toLoadRect (harg3.unread x0)) (iota Kind.tc S256x128 32 [1] iota_S256x128_d1_w32) k0_pay205) (k0_pay210 (View.readAt (Elt F) arg3.view (Rect.unit (s := S256x1024) ![0, 768] S256x128.size inb_S256x1024_S256x128_0_768).toLoadRect (harg3.unread x0))) (k0_pay211 (View.readAt (Elt F) arg3.view (Rect.unit (s := S256x1024) ![0, 768] S256x128.size inb_S256x1024_S256x128_0_768).toLoadRect (harg3.unread x0))) (k0_pay213 (View.readAt (Elt F) arg3.view (Rect.unit (s := S256x1024) ![0, 896] S256x128.size inb_S256x1024_S256x128_0_896).toLoadRect (harg3.unread x0))) (k0_pay214 (View.readAt (Elt F) arg3.view (Rect.unit (s := S256x1024) ![0, 896] S256x128.size inb_S256x1024_S256x128_0_896).toLoadRect (harg3.unread x0))) k0_pay216 k0_pay217 k0_pay218 k0_pay219 k0_pay220 k0_pay221 k0_pay222 k0_pay223 k0_pay224 k0_pay225 k0_pay226 k0_pay227 k0_pay228 k0_pay229 k0_pay230 k0_pay231 k0_pay232 k0_pay233 k0_pay234 k0_pay235 k0_pay236 k0_pay237 k0_pay238 k0_pay239 k0_pay240 k0_pay241 k0_pay242 (harg10.unread xs0) (harg11.unread xs1) (k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263) (Scf.trips (k0_t1_loop i).lb (k0_t1_loop i).ub (k0_t1_loop i).st)) (Scf.trips (k0_t2_loop i).lb (k0_t2_loop i).ub (k0_t2_loop i).st) = S
  unfold pieces
  rfl

end Cert.KernelIdeal.Attn
end
-- ==== Proof.RunA.lean ====
module
public import proofs.«01_k».proof.Proof.Run
@[expose] public section
set_option maxRecDepth 16384
noncomputable section

/-! The eight blocks stored by a point that first fills the scratch with the keys and values. -/

namespace Cert.KernelIdeal.Attn
open Cert.KernelIdeal Cert.KernelIdeal.Gen Idealize.ShloMosaic Idealize.ShloMosaic.TcCoe Idealize.SL.Sem
variable {F : FTy → Type} [FloatOps F]

attribute [local irreducible] st_k0_t2 st_k0_t1

set_option maxHeartbeats 1000000 in
theorem runA_eq (c : Dev nD) (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (hc0 : cond0_0 i)
    (x0 : Vec F S256x1024 .f32) (x1 : Vec F S2048x1024 .f32) (x2 : Vec F S2048x1024 .f32) (x3 : Vec F S256x1024 .f32) (x4 : Vec F S4x64 .f32) (x5 : Vec F S1x128 .f32) :
    (kernelRun0_A c i arg3 harg3 arg4 harg4 arg5 harg5 arg6 harg6 arg7 harg7 arg8 harg8 arg9 harg9 arg10 harg10 arg11 harg11 hc0 x0 x1 x2 x3 x4 x5).1
      = pieces i arg3 harg3 arg4 harg4 arg5 harg5 arg6 harg6 arg7 harg7 arg8 harg8 arg9 harg9 arg10 harg10 arg11 harg11 x0 x3 x4 x5 (arg10.view.writes (Elt F) arg10.view.junk [⟨Rect.unit (s := S2048x1024) ![0, 0] S2048x1024.size inb_S2048x1024_S2048x1024_0_0, k0_pay186 (View.readAt (Elt F) arg4.view (Rect.unit (s := S2048x1024) ![0, 0] S2048x1024.size inb_S2048x1024_S2048x1024_0_0).toLoadRect (harg4.unread x1))⟩]) (arg11.view.writes (Elt F) arg11.view.junk [⟨Rect.unit (s := S2048x1024) ![0, 0] S2048x1024.size inb_S2048x1024_S2048x1024_0_0, k0_pay187 (View.readAt (Elt F) arg5.view (Rect.unit (s := S2048x1024) ![0, 0] S2048x1024.size inb_S2048x1024_S2048x1024_0_0).toLoadRect (harg5.unread x2))⟩])
        (ofTup (loops c i arg3 harg3 arg4 harg4 arg5 harg5 arg6 harg6 arg7 harg7 arg8 harg8 arg9 harg9 arg10 harg10 arg11 harg11 x0 (arg10.view.writes (Elt F) arg10.view.junk [⟨Rect.unit (s := S2048x1024) ![0, 0] S2048x1024.size inb_S2048x1024_S2048x1024_0_0, k0_pay186 (View.readAt (Elt F) arg4.view (Rect.unit (s := S2048x1024) ![0, 0] S2048x1024.size inb_S2048x1024_S2048x1024_0_0).toLoadRect (harg4.unread x1))⟩]) (arg11.view.writes (Elt F) arg11.view.junk [⟨Rect.unit (s := S2048x1024) ![0, 0] S2048x1024.size inb_S2048x1024_S2048x1024_0_0, k0_pay187 (View.readAt (Elt F) arg5.view (Rect.unit (s := S2048x1024) ![0, 0] S2048x1024.size inb_S2048x1024_S2048x1024_0_0).toLoadRect (harg5.unread x2))⟩]))) := by
  unfold kernelRun0_A loops
  dsimp only [kernelRun0_A.sl.r_105, kernelRun0_A.sl.r_26, kernelRun0_A.sl.r_52, kernelRun0_A.sl.r_15, kernelRun0_A.sl.r_33, kernelRun0_A.sl.r_81, kernelRun0_A.sl.r_160, kernelRun0_A.sl.r_65, kernelRun0_A.sl.r_168, kernelRun0_A.sl.r_128, kernelRun0_A.sl.r_94, kernelRun0_A.sl.r_107, kernelRun0_A.sl.r_3, kernelRun0_A.sl.r_18, kernelRun0_A.sl.r_113, kernelRun0_A.sl.r_144, kernelRun0_A.sl.r_74, kernelRun0_A.sl.r_126, kernelRun0_A.sl.r_6, kernelRun0_A.sl.r_99, kernelRun0_A.sl.r_117, kernelRun0_A.sl.r_104, kernelRun0_A.sl.r_101, kernelRun0_A.sl.r_34, kernelRun0_A.sl.r_28, kernelRun0_A.sl.v185, kernelRun0_A.sl.r_25, kernelRun0_A.sl.r_41, kernelRun0_A.sl.r_82, kernelRun0_A.sl.r_141, kernelRun0_A.sl.r_59, kernelRun0_A.sl.r_122, kernelRun0_A.sl.r_66, kernelRun0_A.sl.r_151, kernelRun0_A.sl.r_80, kernelRun0_A.sl.r_48, kernelRun0_A.sl.r_116, kernelRun0_A.sl.r_77, kernelRun0_A.sl.r_22, kernelRun0_A.sl.r_153, kernelRun0_A.sl.r_121, kernelRun0_A.sl.r_97, kernelRun0_A.sl.cst_92, kernelRun0_A.sl.r_62, kernelRun0_A.sl.r_54, kernelRun0_A.sl.r_143, kernelRun0_A.sl.r_103, kernelRun0_A.sl.r_60, kernelRun0_A.sl.v0, kernelRun0_A.sl.r_46, kernelRun0_A.sl.r_108, kernelRun0_A.sl.r_134, kernelRun0_A.sl.r_44, kernelRun0_A.sl.v180, kernelRun0_A.sl.r_133, kernelRun0_A.sl.r_14, kernelRun0_A.sl.r_93, kernelRun0_A.sl.r_43, kernelRun0_A.sl.r_30, kernelRun0_A.sl.r_79, kernelRun0_A.sl.v34, kernelRun0_A.sl.r, kernelRun0_A.sl.r_63, kernelRun0_A.sl.r_146, kernelRun0_A.sl.r_13, kernelRun0_A.sl.r_12, kernelRun0_A.sl.v1, kernelRun0_A.sl.r_7, kernelRun0_A.sl.r_102, kernelRun0_A.sl.r_58, kernelRun0_A.sl.r_10, kernelRun0_A.sl.r_158, kernelRun0_A.sl.r_98, kernelRun0_A.sl.r_5, kernelRun0_A.sl.r_90, kernelRun0_A.sl.r_92, kernelRun0_A.sl.r_85, kernelRun0_A.sl.r_75, kernelRun0_A.sl.r_8, kernelRun0_A.sl.r_140, kernelRun0_A.sl.r_142, kernelRun0_A.sl.r_29, kernelRun0_A.sl.r_20, kernelRun0_A.sl.r_55, kernelRun0_A.sl.r_132, kernelRun0_A.sl.r_51, kernelRun0_A.sl.r_120, kernelRun0_A.sl.r_40, kernelRun0_A.sl.r_145, kernelRun0_A.sl.r_149, kernelRun0_A.sl.r_24, kernelRun0_A.sl.r_162, kernelRun0_A.sl.r_57, kernelRun0_A.sl.r_76, kernelRun0_A.sl.r_148, kernelRun0_A.sl.r_155, kernelRun0_A.sl.r_31, kernelRun0_A.sl.r_56, kernelRun0_A.sl.r_42, kernelRun0_A.sl.r_23, kernelRun0_A.sl.r_73, kernelRun0_A.sl.r_83, kernelRun0_A.sl.r_91, kernelRun0_A.sl.r_139, kernelRun0_A.sl.v123, kernelRun0_A.sl.r_96, kernelRun0_A.sl.r_1, kernelRun0_A.sl.r_154, kernelRun0_A.sl.r_35, kernelRun0_A.sl.r_32, kernelRun0_A.sl.r_67, kernelRun0_A.sl.r_130, kernelRun0_A.sl.r_109, kernelRun0_A.sl.r_161, kernelRun0_A.sl.r_71, kernelRun0_A.sl.r_157, kernelRun0_A.sl.r_100, kernelRun0_A.sl.r_167, kernelRun0_A.sl.r_129, kernelRun0_A.sl.r_53, kernelRun0_A.sl.r_89, kernelRun0_A.sl.r_138, kernelRun0_A.sl.r_70, kernelRun0_A.sl.r_72, kernelRun0_A.sl.v2, kernelRun0_A.sl.r_9, kernelRun0_A.sl.HS0_1, kernelRun0_A.sl.v124, kernelRun0_A.sl.r_110, kernelRun0_A.sl.r_37, kernelRun0_A.sl.r_21, kernelRun0_A.sl.r_64, kernelRun0_A.sl.r_69, kernelRun0_A.sl.r_38, kernelRun0_A.sl.r_111, kernelRun0_A.sl.r_147, kernelRun0_A.sl.r_123, kernelRun0_A.sl.r_50, kernelRun0_A.sl.v182, kernelRun0_A.sl.r_16, kernelRun0_A.sl.r_2, kernelRun0_A.sl.r_135, kernelRun0_A.sl.r_95, kernelRun0_A.sl.r_19, kernelRun0_A.sl.r_169, kernelRun0_A.sl.r_165, kernelRun0_A.sl.r_61, kernelRun0_A.sl.r_152, kernelRun0_A.sl.HS1_1, kernelRun0_A.sl.r_137, kernelRun0_A.sl.r_115, kernelRun0_A.sl.r_36, kernelRun0_A.sl.r_118, kernelRun0_A.sl.r_150, kernelRun0_A.sl.r_39, kernelRun0_A.sl.r_159, kernelRun0_A.sl.v178, kernelRun0_A.sl.r_170, kernelRun0_A.sl.r_78, kernelRun0_A.sl.r_17, kernelRun0_A.sl.r_45, kernelRun0_A.sl.r_68, kernelRun0_A.sl.r_125, kernelRun0_A.sl.r_106, kernelRun0_A.sl.r_119, kernelRun0_A.sl.r_114, kernelRun0_A.sl.r_163, kernelRun0_A.sl.r_166, kernelRun0_A.sl.r_112, kernelRun0_A.sl.r_131, kernelRun0_A.sl.r_164, kernelRun0_A.sl.r_87, kernelRun0_A.sl.r_86, kernelRun0_A.sl.r_4, kernelRun0_A.sl.r_136, kernelRun0_A.sl.r_11, kernelRun0_A.sl.cst_303, kernelRun0_A.sl.r_49, kernelRun0_A.sl.v181, kernelRun0_A.sl.r_127, kernelRun0_A.sl.r_88, kernelRun0_A.sl.r_27, kernelRun0_A.sl.r_156, kernelRun0_A.sl.r_84, kernelRun0_A.sl.r_124, kernelRun0_A.sl.r_47]
  generalize st_k0_t2 (F := F) Variants.none c none i arg3 harg3 arg4 harg4 arg5 harg5 arg6 harg6 arg7 harg7 arg8 harg8 arg9 harg9 arg10 harg10 arg11 harg11 (BitVec.ofNat 32 (i 2).val) (k0_pay189 (View.readAt (Elt F) arg3.view (Rect.unit (s := S256x1024) ![0, 0] S256x128.size inb_S256x1024_S256x128_0_0).toLoadRect (harg3.unread x0))) (k0_pay190 (View.readAt (Elt F) arg3.view (Rect.unit (s := S256x1024) ![0, 0] S256x128.size inb_S256x1024_S256x128_0_0).toLoadRect (harg3.unread x0))) (k0_pay192 (View.readAt (Elt F) arg3.view (Rect.unit (s := S256x1024) ![0, 128] S256x128.size inb_S256x1024_S256x128_0_128).toLoadRect (harg3.unread x0))) (k0_pay193 (View.readAt (Elt F) arg3.view (Rect.unit (s := S256x1024) ![0, 128] S256x128.size inb_S256x1024_S256x128_0_128).toLoadRect (harg3.unread x0))) (k0_pay197 (View.readAt (Elt F) arg3.view (Rect.unit (s := S256x1024) ![0, 256] S256x128.size inb_S256x1024_S256x128_0_256).toLoadRect (harg3.unread x0)) (iota Kind.tc S256x128 32 [1] iota_S256x128_d1_w32) k0_pay194 k0_pay195) (k0_pay198 (View.readAt (Elt F) arg3.view (Rect.unit (s := S256x1024) ![0, 256] S256x128.size inb_S256x1024_S256x128_0_256).toLoadRect (harg3.unread x0)) (iota Kind.tc S256x128 32 [1] iota_S256x128_d1_w32) k0_pay194 k0_pay195) (k0_pay200 (View.readAt (Elt F) arg3.view (Rect.unit (s := S256x1024) ![0, 384] S256x128.size inb_S256x1024_S256x128_0_384).toLoadRect (harg3.unread x0))) (k0_pay201 (View.readAt (Elt F) arg3.view (Rect.unit (s := S256x1024) ![0, 384] S256x128.size inb_S256x1024_S256x128_0_384).toLoadRect (harg3.unread x0))) (k0_pay203 (View.readAt (Elt F) arg3.view (Rect.unit (s := S256x1024) ![0, 512] S256x128.size inb_S256x1024_S256x128_0_512).toLoadRect (harg3.unread x0))) (k0_pay204 (View.readAt (Elt F) arg3.view (Rect.unit (s := S256x1024) ![0, 512] S256x128.size inb_S256x1024_S256x128_0_512).toLoadRect (harg3.unread x0))) (k0_pay207 (View.readAt (Elt F) arg3.view (Rect.unit (s := S256x1024) ![0, 640] S256x128.size inb_S256x1024_S256x128_0_640).toLoadRect (harg3.unread x0)) (iota Kind.tc S256x128 32 [1] iota_S256x128_d1_w32) k0_pay205) (k0_pay208 (View.readAt (Elt F) arg3.view (Rect.unit (s := S256x1024) ![0, 640] S256x128.size inb_S256x1024_S256x128_0_640).toLoadRect (harg3.unread x0)) (iota Kind.tc S256x128 32 [1] iota_S256x128_d1_w32) k0_pay205) (k0_pay210 (View.readAt (Elt F) arg3.view (Rect.unit (s := S256x1024) ![0, 768] S256x128.size inb_S256x1024_S256x128_0_768).toLoadRect (harg3.unread x0))) (k0_pay211 (View.readAt (Elt F) arg3.view (Rect.unit (s := S256x1024) ![0, 768] S256x128.size inb_S256x1024_S256x128_0_768).toLoadRect (harg3.unread x0))) (k0_pay213 (View.readAt (Elt F) arg3.view (Rect.unit (s := S256x1024) ![0, 896] S256x128.size inb_S256x1024_S256x128_0_896).toLoadRect (harg3.unread x0))) (k0_pay214 (View.readAt (Elt F) arg3.view (Rect.unit (s := S256x1024) ![0, 896] S256x128.size inb_S256x1024_S256x128_0_896).toLoadRect (harg3.unread x0))) k0_pay216 k0_pay217 k0_pay218 k0_pay219 k0_pay220 k0_pay221 k0_pay222 k0_pay223 k0_pay224 k0_pay225 k0_pay226 k0_pay227 k0_pay228 k0_pay229 k0_pay230 k0_pay231 k0_pay232 k0_pay233 k0_pay234 k0_pay235 k0_pay236 k0_pay237 k0_pay238 k0_pay239 k0_pay240 k0_pay241 k0_pay242 (Scalar.addi (0#32) (Scalar.muli (Scalar.divsi (Scalar.subi (BitVec.ofNat 32 (i 2).val) 0#32) 1#32) 1#32)) (arg10.view.writes (Elt F) arg10.view.junk [⟨Rect.unit (s := S2048x1024) ![0, 0] S2048x1024.size inb_S2048x1024_S2048x1024_0_0, k0_pay186 (View.readAt (Elt F) arg4.view (Rect.unit (s := S2048x1024) ![0, 0] S2048x1024.size inb_S2048x1024_S2048x1024_0_0).toLoadRect (harg4.unread x1))⟩]) (arg11.view.writes (Elt F) arg11.view.junk [⟨Rect.unit (s := S2048x1024) ![0, 0] S2048x1024.size inb_S2048x1024_S2048x1024_0_0, k0_pay187 (View.readAt (Elt F) arg5.view (Rect.unit (s := S2048x1024) ![0, 0] S2048x1024.size inb_S2048x1024_S2048x1024_0_0).toLoadRect (harg5.unread x2))⟩]) (st_k0_t1 (F := F) Variants.none c none i arg3 harg3 arg4 harg4 arg5 harg5 arg6 harg6 arg7 harg7 arg8 harg8 arg9 harg9 arg10 harg10 arg11 harg11 (BitVec.ofNat 32 (i 2).val) (k0_pay189 (View.readAt (Elt F) arg3.view (Rect.unit (s := S256x1024) ![0, 0] S256x128.size inb_S256x1024_S256x128_0_0).toLoadRect (harg3.unread x0))) (k0_pay190 (View.readAt (Elt F) arg3.view (Rect.unit (s := S256x1024) ![0, 0] S256x128.size inb_S256x1024_S256x128_0_0).toLoadRect (harg3.unread x0))) (k0_pay192 (View.readAt (Elt F) arg3.view (Rect.unit (s := S256x1024) ![0, 128] S256x128.size inb_S256x1024_S256x128_0_128).toLoadRect (harg3.unread x0))) (k0_pay193 (View.readAt (Elt F) arg3.view (Rect.unit (s := S256x1024) ![0, 128] S256x128.size inb_S256x1024_S256x128_0_128).toLoadRect (harg3.unread x0))) (k0_pay197 (View.readAt (Elt F) arg3.view (Rect.unit (s := S256x1024) ![0, 256] S256x128.size inb_S256x1024_S256x128_0_256).toLoadRect (harg3.unread x0)) (iota Kind.tc S256x128 32 [1] iota_S256x128_d1_w32) k0_pay194 k0_pay195) (k0_pay198 (View.readAt (Elt F) arg3.view (Rect.unit (s := S256x1024) ![0, 256] S256x128.size inb_S256x1024_S256x128_0_256).toLoadRect (harg3.unread x0)) (iota Kind.tc S256x128 32 [1] iota_S256x128_d1_w32) k0_pay194 k0_pay195) (k0_pay200 (View.readAt (Elt F) arg3.view (Rect.unit (s := S256x1024) ![0, 384] S256x128.size inb_S256x1024_S256x128_0_384).toLoadRect (harg3.unread x0))) (k0_pay201 (View.readAt (Elt F) arg3.view (Rect.unit (s := S256x1024) ![0, 384] S256x128.size inb_S256x1024_S256x128_0_384).toLoadRect (harg3.unread x0))) (k0_pay203 (View.readAt (Elt F) arg3.view (Rect.unit (s := S256x1024) ![0, 512] S256x128.size inb_S256x1024_S256x128_0_512).toLoadRect (harg3.unread x0))) (k0_pay204 (View.readAt (Elt F) arg3.view (Rect.unit (s := S256x1024) ![0, 512] S256x128.size inb_S256x1024_S256x128_0_512).toLoadRect (harg3.unread x0))) (k0_pay207 (View.readAt (Elt F) arg3.view (Rect.unit (s := S256x1024) ![0, 640] S256x128.size inb_S256x1024_S256x128_0_640).toLoadRect (harg3.unread x0)) (iota Kind.tc S256x128 32 [1] iota_S256x128_d1_w32) k0_pay205) (k0_pay208 (View.readAt (Elt F) arg3.view (Rect.unit (s := S256x1024) ![0, 640] S256x128.size inb_S256x1024_S256x128_0_640).toLoadRect (harg3.unread x0)) (iota Kind.tc S256x128 32 [1] iota_S256x128_d1_w32) k0_pay205) (k0_pay210 (View.readAt (Elt F) arg3.view (Rect.unit (s := S256x1024) ![0, 768] S256x128.size inb_S256x1024_S256x128_0_768).toLoadRect (harg3.unread x0))) (k0_pay211 (View.readAt (Elt F) arg3.view (Rect.unit (s := S256x1024) ![0, 768] S256x128.size inb_S256x1024_S256x128_0_768).toLoadRect (harg3.unread x0))) (k0_pay213 (View.readAt (Elt F) arg3.view (Rect.unit (s := S256x1024) ![0, 896] S256x128.size inb_S256x1024_S256x128_0_896).toLoadRect (harg3.unread x0))) (k0_pay214 (View.readAt (Elt F) arg3.view (Rect.unit (s := S256x1024) ![0, 896] S256x128.size inb_S256x1024_S256x128_0_896).toLoadRect (harg3.unread x0))) k0_pay216 k0_pay217 k0_pay218 k0_pay219 k0_pay220 k0_pay221 k0_pay222 k0_pay223 k0_pay224 k0_pay225 k0_pay226 k0_pay227 k0_pay228 k0_pay229 k0_pay230 k0_pay231 k0_pay232 k0_pay233 k0_pay234 k0_pay235 k0_pay236 k0_pay237 k0_pay238 k0_pay239 k0_pay240 k0_pay241 k0_pay242 (arg10.view.writes (Elt F) arg10.view.junk [⟨Rect.unit (s := S2048x1024) ![0, 0] S2048x1024.size inb_S2048x1024_S2048x1024_0_0, k0_pay186 (View.readAt (Elt F) arg4.view (Rect.unit (s := S2048x1024) ![0, 0] S2048x1024.size inb_S2048x1024_S2048x1024_0_0).toLoadRect (harg4.unread x1))⟩]) (arg11.view.writes (Elt F) arg11.view.junk [⟨Rect.unit (s := S2048x1024) ![0, 0] S2048x1024.size inb_S2048x1024_S2048x1024_0_0, k0_pay187 (View.readAt (Elt F) arg5.view (Rect.unit (s := S2048x1024) ![0, 0] S2048x1024.size inb_S2048x1024_S2048x1024_0_0).toLoadRect (harg5.unread x2))⟩]) (k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263) (Scf.trips (k0_t1_loop i).lb (k0_t1_loop i).ub (k0_t1_loop i).st)) (Scf.trips (k0_t2_loop i).lb (k0_t2_loop i).ub (k0_t2_loop i).st) = S
  unfold pieces
  rfl

end Cert.KernelIdeal.Attn
end
-- ==== Proof.Loop.lean ====
module
public import proofs.«01_k».proof.Proof.RunA
public import Idealize.ShloMosaic.Lib.WholeRead
@[expose] public section
set_option maxRecDepth 16384
noncomputable section

/-! The loop in closed form, and the block a grid point stores as a function of the blocks it is given. -/

namespace Cert.KernelIdeal.Attn
open Cert.KernelIdeal Cert.KernelIdeal.Gen Idealize.ShloMosaic Idealize.ShloMosaic.TcCoe Idealize.SL.Sem
variable {F : FTy → Type} [FloatOps F]

/-- The 256×128 tile of keys or values at row `r`, column `c`. -/
def blk {t : EltTy} (X : Vec F S2048x1024 t) (r c : ℕ) : Vec F S256x128 t := fun y =>
  X (ix2 ⟨(r + (y 0).val) % 2048, Nat.mod_lt _ (by decide)⟩ ⟨(c + (y 1).val) % 1024, Nat.mod_lt _ (by decide)⟩)

/-- The 128 columns from `c` of a block of 256 rows. -/
def qblk {t : EltTy} (X : Vec F S256x1024 t) (c : ℕ) : Vec F S256x128 t := fun y =>
  X (ix2 ⟨(y 0).val % 256, Nat.mod_lt _ (by decide)⟩ ⟨(c + (y 1).val) % 1024, Nat.mod_lt _ (by decide)⟩)

theorem ld_blk {t : EltTy} (a : Memref sig .tc .vmem S2048x1024 t) (ha : a.IsWhole) (X : Vec F S2048x1024 t)
    {off : Fin 2 → ℕ} {r c : ℕ} (h : off = ![r, c]) (inb : ∀ a, off a + S256x128.size a ≤ S2048x1024.size a) :
    View.readAt (Elt F) a.view (Rect.unit (s := S2048x1024) off S256x128.size inb).toLoadRect (ha.unread X) = blk X r c := by
  subst h
  funext y
  rw [ha.readAt_unread]
  unfold blk
  congr 1
  have h0 := inb 0
  have h1 := inb 1
  have y0 : (y 0).val < 256 := (y 0).isLt
  have y1 : (y 1).val < 128 := (y 1).isLt
  simp at h0 h1
  funext d
  apply Fin.ext
  match d with
  | ⟨0, _⟩ => show r + 1 * (y 0).val = (r + (y 0).val) % 2048; omega
  | ⟨1, _⟩ => show c + 1 * (y 1).val = (c + (y 1).val) % 1024; omega

theorem ld_qblk {t : EltTy} (a : Memref sig .tc .vmem S256x1024 t) (ha : a.IsWhole) (X : Vec F S256x1024 t)
    {off : Fin 2 → ℕ} {c : ℕ} (h : off = ![0, c]) (inb : ∀ a, off a + S256x128.size a ≤ S256x1024.size a) :
    View.readAt (Elt F) a.view (Rect.unit (s := S256x1024) off S256x128.size inb).toLoadRect (ha.unread X) = qblk X c := by
  subst h
  funext y
  rw [ha.readAt_unread]
  unfold qblk
  congr 1
  have h1 := inb 1
  have y0 : (y 0).val < 256 := (y 0).isLt
  have y1 : (y 1).val < 128 := (y 1).isLt
  simp at h1
  funext d
  apply Fin.ext
  match d with
  | ⟨0, _⟩ => show 0 + 1 * (y 0).val = (y 0).val % 256; omega
  | ⟨1, _⟩ => show c + 1 * (y 1).val = (c + (y 1).val) % 1024; omega

theorem ld_whole {t : EltTy} {s : Shape} (a : Memref sig .tc .vmem s t) (ha : a.IsWhole) (X : Vec F s t)
    {off : Fin s.rank → ℕ} (h : off = fun _ => 0) (inb : ∀ a, off a + s.size a ≤ s.size a) :
    View.readAt (Elt F) a.view (Rect.unit (s := s) off s.size inb).toLoadRect (ha.unread X) = X := by
  funext y
  rw [ha.readAt_unread]
  exact congrFun (View.ld_unit_zero h inb X) y

theorem writes_whole {t : EltTy} (a : Memref sig .tc .vmem S2048x1024 t) (ha : a.IsWhole) (X : Vec F S2048x1024 t)
    (inb : ∀ a, (![0, 0] : Fin 2 → ℕ) a + S2048x1024.size a ≤ S2048x1024.size a) :
    a.view.writes (Elt F) a.view.junk [⟨Rect.unit (s := S2048x1024) ![0, 0] S2048x1024.size inb, X⟩] = ha.unread X :=
  ha.eq_unread ((View.read_writes_junk_eq_canon _ _).trans (View.canon_unit_zero (by decide) inb X))

theorem trips1 : ∀ i : grid0.Coords, (k0_t1_loop i).trips = (i 2).val := by decide +kernel

theorem trips2 (i : grid0.Coords) : (k0_t2_loop i).trips = 0 := Nat.le_zero.1 (k0_t2_abs i).2.1

/-- A chain of head `h` after `n` tiles of the keys `X` and the values `V`. -/
def fl (q : FVec F S128x256 .bf16) (X V : Vec F S2048x1024 .bf16) (h : ℕ) (C : Chain F) : ℕ → Chain F
  | 0 => C
  | n + 1 => step (score q (blk X (256 * n) (128 * h))) (blk V (256 * n) (128 * h)) (fl q X V h C n)

theorem ldK (i : grid0.Coords) (a : Memref sig .tc .vmem S2048x1024 .bf16) (ha : a.IsWhole) (X : Vec F S2048x1024 .bf16)
    (k : Fin (k0_t1_loop i).trips) (h : Fin 8) :
    (![View.readAt (Elt F) a.view (Rect.unit (s := S2048x1024) (k0_off1 i k) S256x128.size (k0_off1_inb i k)).toLoadRect (ha.unread X), View.readAt (Elt F) a.view (Rect.unit (s := S2048x1024) (k0_off2 i k) S256x128.size (k0_off2_inb i k)).toLoadRect (ha.unread X), View.readAt (Elt F) a.view (Rect.unit (s := S2048x1024) (k0_off3 i k) S256x128.size (k0_off3_inb i k)).toLoadRect (ha.unread X), View.readAt (Elt F) a.view (Rect.unit (s := S2048x1024) (k0_off4 i k) S256x128.size (k0_off4_inb i k)).toLoadRect (ha.unread X), View.readAt (Elt F) a.view (Rect.unit (s := S2048x1024) (k0_off5 i k) S256x128.size (k0_off5_inb i k)).toLoadRect (ha.unread X), View.readAt (Elt F) a.view (Rect.unit (s := S2048x1024) (k0_off6 i k) S256x128.size (k0_off6_inb i k)).toLoadRect (ha.unread X), View.readAt (Elt F) a.view (Rect.unit (s := S2048x1024) (k0_off7 i k) S256x128.size (k0_off7_inb i k)).toLoadRect (ha.unread X), View.readAt (Elt F) a.view (Rect.unit (s := S2048x1024) (k0_off8 i k) S256x128.size (k0_off8_inb i k)).toLoadRect (ha.unread X)] : Fin 8 → Vec F S256x128 .bf16) h
      = blk X (256 * k.val) (128 * h.val) := by
  fin_cases h
  · exact ld_blk a ha X (k0_off1_eq i k) _
  · exact ld_blk a ha X (k0_off2_eq i k) _
  · exact ld_blk a ha X (k0_off3_eq i k) _
  · exact ld_blk a ha X (k0_off4_eq i k) _
  · exact ld_blk a ha X (k0_off5_eq i k) _
  · exact ld_blk a ha X (k0_off6_eq i k) _
  · exact ld_blk a ha X (k0_off7_eq i k) _
  · exact ld_blk a ha X (k0_off8_eq i k) _

theorem st1 (𝒱 : Variants) (c : Dev nD) (bd : Option 𝒱.V) (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (arg2 : BitVec 32)
    (q : Fin 8 → Fin 2 → FVec F S128x256 .bf16) (v130 : FVec F S1x256 .f32) (v131 : FVec F S1x256 .f32) (v132 : FVec F S128x256 .f32) (v133 : FVec F S1x256 .f32) (v134 : FVec F S1x256 .f32) (v135 : FVec F S128x256 .f32) (v136 : FVec F S1x256 .f32) (v137 : FVec F S1x256 .f32) (v138 : FVec F S128x256 .f32) (v139 : FVec F S1x256 .f32) (v140 : FVec F S1x256 .f32) (v141 : FVec F S128x256 .f32) (v142 : FVec F S1x256 .f32) (v143 : FVec F S1x256 .f32) (v144 : FVec F S128x256 .f32) (v145 : FVec F S1x256 .f32) (v146 : FVec F S1x256 .f32) (v147 : FVec F S128x256 .f32) (v148 : FVec F S1x256 .f32) (v149 : FVec F S1x256 .f32) (v150 : FVec F S128x256 .f32) (v151 : FVec F S1x256 .f32) (v152 : FVec F S1x256 .f32) (v153 : FVec F S128x256 .f32) (v154 : FVec F S1x256 .f32) (v155 : FVec F S1x256 .f32) (v156 : FVec F S128x256 .f32) (X V : Vec F S2048x1024 .bf16) (C : Fin 8 → Fin 2 → Chain F) :
    ∀ n, n ≤ (k0_t1_loop i).trips →
    st_k0_t1 (F := F) 𝒱 c bd i arg3 harg3 arg4 harg4 arg5 harg5 arg6 harg6 arg7 harg7 arg8 harg8 arg9 harg9 arg10 harg10 arg11 harg11 arg2 (q 0 0) (q 0 1) (q 1 0) (q 1 1) (q 2 0) (q 2 1) (q 3 0) (q 3 1) (q 4 0) (q 4 1) (q 5 0) (q 5 1) (q 6 0) (q 6 1) (q 7 0) (q 7 1) v130 v131 v132 v133 v134 v135 v136 v137 v138 v139 v140 v141 v142 v143 v144 v145 v146 v147 v148 v149 v150 v151 v152 v153 v154 v155 v156 (harg10.unread X) (harg11.unread V) (tup C) n
      = tup fun h e => fl (q h e) X V h.val (C h e) n
  | 0, _ => rfl
  | n + 1, hn => by
    refine (st_k0_t1_succ (F := F) 𝒱 c bd i arg3 harg3 arg4 harg4 arg5 harg5 arg6 harg6 arg7 harg7 arg8 harg8 arg9 harg9 arg10 harg10 arg11 harg11 arg2 (q 0 0) (q 0 1) (q 1 0) (q 1 1) (q 2 0) (q 2 1) (q 3 0) (q 3 1) (q 4 0) (q 4 1) (q 5 0) (q 5 1) (q 6 0) (q 6 1) (q 7 0) (q 7 1) v130 v131 v132 v133 v134 v135 v136 v137 v138 v139 v140 v141 v142 v143 v144 v145 v146 v147 v148 v149 v150 v151 v152 v153 v154 v155 v156 (harg10.unread X) (harg11.unread V) (tup C) ⟨n, hn⟩).trans ?_
    rw [st1 𝒱 c bd i arg3 harg3 arg4 harg4 arg5 harg5 arg6 harg6 arg7 harg7 arg8 harg8 arg9 harg9 arg10 harg10 arg11 harg11 arg2 q v130 v131 v132 v133 v134 v135 v136 v137 v138 v139 v140 v141 v142 v143 v144 v145 v146 v147 v148 v149 v150 v151 v152 v153 v154 v155 v156 X V C n (Nat.le_of_lt hn), trip_tup]
    refine congrArg tup (funext fun h => funext fun e => ?_)
    rw [ldK, ldK]
    rfl

theorem st2 (𝒱 : Variants) (c : Dev nD) (bd : Option 𝒱.V) (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (arg2 : BitVec 32)
    (q : Fin 8 → Fin 2 → FVec F S128x256 .bf16) (v130 : FVec F S1x256 .f32) (v131 : FVec F S1x256 .f32) (v132 : FVec F S128x256 .f32) (v133 : FVec F S1x256 .f32) (v134 : FVec F S1x256 .f32) (v135 : FVec F S128x256 .f32) (v136 : FVec F S1x256 .f32) (v137 : FVec F S1x256 .f32) (v138 : FVec F S128x256 .f32) (v139 : FVec F S1x256 .f32) (v140 : FVec F S1x256 .f32) (v141 : FVec F S128x256 .f32) (v142 : FVec F S1x256 .f32) (v143 : FVec F S1x256 .f32) (v144 : FVec F S128x256 .f32) (v145 : FVec F S1x256 .f32) (v146 : FVec F S1x256 .f32) (v147 : FVec F S128x256 .f32) (v148 : FVec F S1x256 .f32) (v149 : FVec F S1x256 .f32) (v150 : FVec F S128x256 .f32) (v151 : FVec F S1x256 .f32) (v152 : FVec F S1x256 .f32) (v153 : FVec F S128x256 .f32) (v154 : FVec F S1x256 .f32) (v155 : FVec F S1x256 .f32) (v156 : FVec F S128x256 .f32) (v182 : BitVec 32) (X_arg10 : BufTy.Contents (Elt F) arg10.view.ty) (X_arg11 : BufTy.Contents (Elt F) arg11.view.ty) (S : Big F) :
    st_k0_t2 (F := F) 𝒱 c bd i arg3 harg3 arg4 harg4 arg5 harg5 arg6 harg6 arg7 harg7 arg8 harg8 arg9 harg9 arg10 harg10 arg11 harg11 arg2 (q 0 0) (q 0 1) (q 1 0) (q 1 1) (q 2 0) (q 2 1) (q 3 0) (q 3 1) (q 4 0) (q 4 1) (q 5 0) (q 5 1) (q 6 0) (q 6 1) (q 7 0) (q 7 1) v130 v131 v132 v133 v134 v135 v136 v137 v138 v139 v140 v141 v142 v143 v144 v145 v146 v147 v148 v149 v150 v151 v152 v153 v154 v155 v156 v182 X_arg10 X_arg11 S (k0_t2_loop i).trips = S := by
  rw [trips2]
  rfl

/-- The sixteen chains when the diagonal is reached. -/
def before (n : ℕ) (x0 : Vec F S256x1024 .f32) (X V : Vec F S2048x1024 .bf16) (h : ℕ) (e : Fin 2) : Chain F :=
  fl (qv (qblk x0 (128 * h)) e) X V h (constant S1x256 .f32 0xF149F2CA#32, constant S1x256 .f32 0x00000000#32, constant S128x256 .f32 0x00000000#32) n

theorem loops_eq (c : Dev nD) (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (x0 : Vec F S256x1024 .f32) (X V : Vec F S2048x1024 .bf16) :
    loops c i arg3 harg3 arg4 harg4 arg5 harg5 arg6 harg6 arg7 harg7 arg8 harg8 arg9 harg9 arg10 harg10 arg11 harg11 x0 (harg10.unread X) (harg11.unread V) = tup fun h e => before (i 2).val x0 X V h.val e := by
  unfold loops before
  refine (st2 (F := F) Variants.none c none i arg3 harg3 arg4 harg4 arg5 harg5 arg6 harg6 arg7 harg7 arg8 harg8 arg9 harg9 arg10 harg10 arg11 harg11 _ (fun h e => qv (((![View.readAt (Elt F) arg3.view (Rect.unit (s := S256x1024) ![0, 0] S256x128.size inb_S256x1024_S256x128_0_0).toLoadRect (harg3.unread x0),
    View.readAt (Elt F) arg3.view (Rect.unit (s := S256x1024) ![0, 128] S256x128.size inb_S256x1024_S256x128_0_128).toLoadRect (harg3.unread x0),
    View.readAt (Elt F) arg3.view (Rect.unit (s := S256x1024) ![0, 256] S256x128.size inb_S256x1024_S256x128_0_256).toLoadRect (harg3.unread x0),
    View.readAt (Elt F) arg3.view (Rect.unit (s := S256x1024) ![0, 384] S256x128.size inb_S256x1024_S256x128_0_384).toLoadRect (harg3.unread x0),
    View.readAt (Elt F) arg3.view (Rect.unit (s := S256x1024) ![0, 512] S256x128.size inb_S256x1024_S256x128_0_512).toLoadRect (harg3.unread x0),
    View.readAt (Elt F) arg3.view (Rect.unit (s := S256x1024) ![0, 640] S256x128.size inb_S256x1024_S256x128_0_640).toLoadRect (harg3.unread x0),
    View.readAt (Elt F) arg3.view (Rect.unit (s := S256x1024) ![0, 768] S256x128.size inb_S256x1024_S256x128_0_768).toLoadRect (harg3.unread x0),
    View.readAt (Elt F) arg3.view (Rect.unit (s := S256x1024) ![0, 896] S256x128.size inb_S256x1024_S256x128_0_896).toLoadRect (harg3.unread x0)] : Fin 8 → Vec F S256x128 .f32)) h) e) _ _ _ _ _ _ _ _ _ _ _ _ _ _ _ _ _ _ _ _ _ _ _ _ _ _ _ _ _ _ _).trans ?_
  refine (st1 (F := F) Variants.none c none i arg3 harg3 arg4 harg4 arg5 harg5 arg6 harg6 arg7 harg7 arg8 harg8 arg9 harg9 arg10 harg10 arg11 harg11 _ (fun h e => qv (((![View.readAt (Elt F) arg3.view (Rect.unit (s := S256x1024) ![0, 0] S256x128.size inb_S256x1024_S256x128_0_0).toLoadRect (harg3.unread x0),
    View.readAt (Elt F) arg3.view (Rect.unit (s := S256x1024) ![0, 128] S256x128.size inb_S256x1024_S256x128_0_128).toLoadRect (harg3.unread x0),
    View.readAt (Elt F) arg3.view (Rect.unit (s := S256x1024) ![0, 256] S256x128.size inb_S256x1024_S256x128_0_256).toLoadRect (harg3.unread x0),
    View.readAt (Elt F) arg3.view (Rect.unit (s := S256x1024) ![0, 384] S256x128.size inb_S256x1024_S256x128_0_384).toLoadRect (harg3.unread x0),
    View.readAt (Elt F) arg3.view (Rect.unit (s := S256x1024) ![0, 512] S256x128.size inb_S256x1024_S256x128_0_512).toLoadRect (harg3.unread x0),
    View.readAt (Elt F) arg3.view (Rect.unit (s := S256x1024) ![0, 640] S256x128.size inb_S256x1024_S256x128_0_640).toLoadRect (harg3.unread x0),
    View.readAt (Elt F) arg3.view (Rect.unit (s := S256x1024) ![0, 768] S256x128.size inb_S256x1024_S256x128_0_768).toLoadRect (harg3.unread x0),
    View.readAt (Elt F) arg3.view (Rect.unit (s := S256x1024) ![0, 896] S256x128.size inb_S256x1024_S256x128_0_896).toLoadRect (harg3.unread x0)] : Fin 8 → Vec F S256x128 .f32)) h) e) _ _ _ _ _ _ _ _ _ _ _ _ _ _ _ _ _ _ _ _ _ _ _ _ _ _ _ X V (ini (F := F)) _ (Nat.le_refl _)).trans ?_
  rw [trips1]
  refine congrArg tup (funext fun h => funext fun e => ?_)
  fin_cases h
  · exact congrArg (fun x => fl (qv x e) X V 0 _ _) (ld_qblk arg3 harg3 x0 rfl _)
  · exact congrArg (fun x => fl (qv x e) X V 1 _ _) (ld_qblk arg3 harg3 x0 rfl _)
  · exact congrArg (fun x => fl (qv x e) X V 2 _ _) (ld_qblk arg3 harg3 x0 rfl _)
  · exact congrArg (fun x => fl (qv x e) X V 3 _ _) (ld_qblk arg3 harg3 x0 rfl _)
  · exact congrArg (fun x => fl (qv x e) X V 4 _ _) (ld_qblk arg3 harg3 x0 rfl _)
  · exact congrArg (fun x => fl (qv x e) X V 5 _ _) (ld_qblk arg3 harg3 x0 rfl _)
  · exact congrArg (fun x => fl (qv x e) X V 6 _ _) (ld_qblk arg3 harg3 x0 rfl _)
  · exact congrArg (fun x => fl (qv x e) X V 7 _ _) (ld_qblk arg3 harg3 x0 rfl _)

/-- What head `h` of a point in row block `n` stores. -/
def hd (n : ℕ) (x0 x3 : Vec F S256x1024 .f32) (x4 : Vec F S4x64 .f32) (x5 : Vec F S1x128 .f32) (X V : Vec F S2048x1024 .bf16) (h : ℕ) : FVec F S256x128 .bf16 :=
  headOut x5 (qblk x3 (128 * h)) x4 fun e =>
    lastStep (qv (qblk x0 (128 * h)) e) (blk X (256 * n) (128 * h)) (blk V (256 * n) (128 * h)) (before n x0 X V h e)

/-- The block a point stores. -/
def outBlk (n : ℕ) (x0 x3 : Vec F S256x1024 .f32) (x4 : Vec F S4x64 .f32) (x5 : Vec F S1x128 .f32) (X V : Vec F S2048x1024 .bf16) : Vec F S256x1024 .bf16 := fun y =>
  hd n x0 x3 x4 x5 X V ((y 1).val / 128) (ix2 ⟨(y 0).val % 256, Nat.mod_lt _ (by decide)⟩ ⟨(y 1).val % 128, Nat.mod_lt _ (by decide)⟩)

theorem hd_at (n : ℕ) (x0 x3 : Vec F S256x1024 .f32) (x4 : Vec F S4x64 .f32) (x5 : Vec F S1x128 .f32) (X V : Vec F S2048x1024 .bf16)
    (h : ℕ) (inb : ∀ a, (![0, 128 * h] : Fin 2 → ℕ) a + S256x128.size a ≤ S256x1024.size a) (x : S256x128.Idx) :
    hd n x0 x3 x4 x5 X V h x = outBlk n x0 x3 x4 x5 X V ((Rect.unit (s := S256x1024) ![0, 128 * h] S256x128.size inb).emb x) := by
  have y0 : (x 0).val < 256 := (x 0).isLt
  have y1 : (x 1).val < 128 := (x 1).isLt
  have e0 : ((Rect.unit (s := S256x1024) ![0, 128 * h] S256x128.size inb).emb x 0).val = (x 0).val := by
    show 0 + 1 * (x 0).val = _; omega
  have e1 : ((Rect.unit (s := S256x1024) ![0, 128 * h] S256x128.size inb).emb x 1).val = 128 * h + (x 1).val := by
    show 128 * h + 1 * (x 1).val = _; omega
  unfold outBlk
  rw [show ((Rect.unit (s := S256x1024) ![0, 128 * h] S256x128.size inb).emb x 1).val / 128 = h by rw [e1]; omega]
  congr 1
  funext d
  apply Fin.ext
  match d with
  | ⟨0, _⟩ => exact (by rw [e0]; exact (Nat.mod_eq_of_lt y0).symm : (x 0).val = ((Rect.unit (s := S256x1024) ![0, 128 * h] S256x128.size inb).emb x 0).val % 256)
  | ⟨1, _⟩ => exact (by rw [e1]; omega : (x 1).val = ((Rect.unit (s := S256x1024) ![0, 128 * h] S256x128.size inb).emb x 1).val % 128)

theorem off17 : ∀ i : grid0.Coords, k0_off17 i = ![256 * (i 2).val, 0] ∧ k0_off18 i = ![256 * (i 2).val, 128] ∧ k0_off19 i = ![256 * (i 2).val, 256] ∧ k0_off20 i = ![256 * (i 2).val, 384] ∧ k0_off21 i = ![256 * (i 2).val, 512] ∧ k0_off22 i = ![256 * (i 2).val, 640] ∧ k0_off23 i = ![256 * (i 2).val, 768] ∧ k0_off24 i = ![256 * (i 2).val, 896] := by decide +kernel

theorem pieces_eq (c : Dev nD) (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (x0 x3 : Vec F S256x1024 .f32) (x4 : Vec F S4x64 .f32) (x5 : Vec F S1x128 .f32) (X V : Vec F S2048x1024 .bf16)
    (y : S256x1024.Idx) (hy : ∃ p ∈ pieces i arg3 harg3 arg4 harg4 arg5 harg5 arg6 harg6 arg7 harg7 arg8 harg8 arg9 harg9 arg10 harg10 arg11 harg11 x0 x3 x4 x5 (harg10.unread X) (harg11.unread V)
        (ofTup (loops c i arg3 harg3 arg4 harg4 arg5 harg5 arg6 harg6 arg7 harg7 arg8 harg8 arg9 harg9 arg10 harg10 arg11 harg11 x0 (harg10.unread X) (harg11.unread V))), y ∈ p.1.set) :
    View.canon (pieces i arg3 harg3 arg4 harg4 arg5 harg5 arg6 harg6 arg7 harg7 arg8 harg8 arg9 harg9 arg10 harg10 arg11 harg11 x0 x3 x4 x5 (harg10.unread X) (harg11.unread V)
        (ofTup (loops c i arg3 harg3 arg4 harg4 arg5 harg5 arg6 harg6 arg7 harg7 arg8 harg8 arg9 harg9 arg10 harg10 arg11 harg11 x0 (harg10.unread X) (harg11.unread V)))) y = outBlk (i 2).val x0 x3 x4 x5 X V y := by
  revert hy
  rw [loops_eq, ofTup_tup]
  intro hy
  refine View.canon_apply_of_pieces _ _ ?_ y hy
  obtain ⟨o0, o1, o2, o3, o4, o5, o6, o7⟩ := off17 i
  intro p hp x
  simp only [pieces, List.mem_cons, List.not_mem_nil, or_false] at hp
  rcases hp with rfl | rfl | rfl | rfl | rfl | rfl | rfl | rfl
  · refine Eq.trans ?_ (hd_at (i 2).val x0 x3 x4 x5 X V 7 inb_S256x1024_S256x128_0_896 x); dsimp only; rw [ld_blk arg10 harg10 X o7, ld_blk arg11 harg11 V o7, ld_qblk arg3 harg3 x0 rfl, ld_qblk arg6 harg6 x3 rfl, ld_whole arg8 harg8 x5 (by decide), ld_whole arg7 harg7 x4 (by decide)]; rfl
  · refine Eq.trans ?_ (hd_at (i 2).val x0 x3 x4 x5 X V 6 inb_S256x1024_S256x128_0_768 x); dsimp only; rw [ld_blk arg10 harg10 X o6, ld_blk arg11 harg11 V o6, ld_qblk arg3 harg3 x0 rfl, ld_qblk arg6 harg6 x3 rfl, ld_whole arg8 harg8 x5 (by decide), ld_whole arg7 harg7 x4 (by decide)]; rfl
  · refine Eq.trans ?_ (hd_at (i 2).val x0 x3 x4 x5 X V 5 inb_S256x1024_S256x128_0_640 x); dsimp only; rw [ld_blk arg10 harg10 X o5, ld_blk arg11 harg11 V o5, ld_qblk arg3 harg3 x0 rfl, ld_qblk arg6 harg6 x3 rfl, ld_whole arg8 harg8 x5 (by decide), ld_whole arg7 harg7 x4 (by decide)]; rfl
  · refine Eq.trans ?_ (hd_at (i 2).val x0 x3 x4 x5 X V 4 inb_S256x1024_S256x128_0_512 x); dsimp only; rw [ld_blk arg10 harg10 X o4, ld_blk arg11 harg11 V o4, ld_qblk arg3 harg3 x0 rfl, ld_qblk arg6 harg6 x3 rfl, ld_whole arg8 harg8 x5 (by decide), ld_whole arg7 harg7 x4 (by decide)]; rfl
  · refine Eq.trans ?_ (hd_at (i 2).val x0 x3 x4 x5 X V 3 inb_S256x1024_S256x128_0_384 x); dsimp only; rw [ld_blk arg10 harg10 X o3, ld_blk arg11 harg11 V o3, ld_qblk arg3 harg3 x0 rfl, ld_qblk arg6 harg6 x3 rfl, ld_whole arg8 harg8 x5 (by decide), ld_whole arg7 harg7 x4 (by decide)]; rfl
  · refine Eq.trans ?_ (hd_at (i 2).val x0 x3 x4 x5 X V 2 inb_S256x1024_S256x128_0_256 x); dsimp only; rw [ld_blk arg10 harg10 X o2, ld_blk arg11 harg11 V o2, ld_qblk arg3 harg3 x0 rfl, ld_qblk arg6 harg6 x3 rfl, ld_whole arg8 harg8 x5 (by decide), ld_whole arg7 harg7 x4 (by decide)]; rfl
  · refine Eq.trans ?_ (hd_at (i 2).val x0 x3 x4 x5 X V 1 inb_S256x1024_S256x128_0_128 x); dsimp only; rw [ld_blk arg10 harg10 X o1, ld_blk arg11 harg11 V o1, ld_qblk arg3 harg3 x0 rfl, ld_qblk arg6 harg6 x3 rfl, ld_whole arg8 harg8 x5 (by decide), ld_whole arg7 harg7 x4 (by decide)]; rfl
  · refine Eq.trans ?_ (hd_at (i 2).val x0 x3 x4 x5 X V 0 inb_S256x1024_S256x128_0_0 x); dsimp only; rw [ld_blk arg10 harg10 X o0, ld_blk arg11 harg11 V o0, ld_qblk arg3 harg3 x0 rfl, ld_qblk arg6 harg6 x3 rfl, ld_whole arg8 harg8 x5 (by decide), ld_whole arg7 harg7 x4 (by decide)]; rfl

end Cert.KernelIdeal.Attn
end
-- ==== Proof.Flash.lean ====
/-
  A softmax computed tile by tile over the extended reals: the running maximum, the running sum of
  exponentials and the running weighted sum, and what they are after any number of tiles.
-/
module

public import Idealize.ShloMosaic.PureOps.Ideal

@[expose] public section

noncomputable section

namespace Flash

open Idealize.ShloMosaic

/-! ### The exponential -/

theorem exp_coe (r : ℝ) : Ideal.exp (r : EReal) = (Real.exp r : EReal) := rfl
theorem exp_bot : Ideal.exp ⊥ = 0 := rfl
theorem exp_top : Ideal.exp ⊤ = ⊤ := rfl

theorem exp_nonneg (x : EReal) : 0 ≤ Ideal.exp x := by
  induction x with
  | bot => exact le_rfl
  | top => exact le_top
  | coe r => exact EReal.coe_nonneg.2 (Real.exp_pos r).le

/-- The exponential of a value less a bound of it is a real number. -/
theorem exp_sub_real {s m : EReal} (h : s ≤ m) : ∃ r : ℝ, 0 ≤ r ∧ Ideal.exp (s - m) = (r : EReal) := by
  induction m with
  | top => exact ⟨0, le_rfl, by rw [EReal.sub_top]; rfl⟩
  | bot => exact ⟨0, le_rfl, by rw [le_bot_iff.1 h]; rfl⟩
  | coe b =>
    induction s with
    | bot => exact ⟨0, le_rfl, by rw [EReal.bot_sub]; rfl⟩
    | top => exact absurd h (by simp)
    | coe a => exact ⟨Real.exp (a - b), (Real.exp_pos _).le, by rw [← EReal.coe_sub, exp_coe]⟩

/-- Two successive shifts of the exponent are one. -/
theorem exp_shift {s a b : EReal} (h : s ≤ a) (hab : a ≤ b) :
    Ideal.exp (a - b) * Ideal.exp (s - a) = Ideal.exp (s - b) := by
  induction b with
  | top => rw [EReal.sub_top, EReal.sub_top, exp_bot, zero_mul]
  | bot =>
    have ha := le_bot_iff.1 hab
    have hs := le_bot_iff.1 (ha ▸ h)
    rw [ha, hs, EReal.bot_sub, exp_bot, zero_mul]
  | coe b =>
    induction a with
    | top => exact absurd hab (by simp)
    | bot => rw [le_bot_iff.1 h, EReal.bot_sub, EReal.bot_sub, exp_bot, zero_mul]
    | coe a =>
      induction s with
      | top => exact absurd h (by simp)
      | bot => rw [EReal.bot_sub, EReal.bot_sub, exp_bot, mul_zero]
      | coe s =>
        rw [← EReal.coe_sub, ← EReal.coe_sub, ← EReal.coe_sub, exp_coe, exp_coe, exp_coe, ← EReal.coe_mul,
          ← Real.exp_add]
        congr 2
        ring

/-- A real factor that is not negative goes into a sum. -/
theorem real_mul_sum {ι : Type*} (t : Finset ι) {x : EReal} (hx : ∃ r : ℝ, 0 ≤ r ∧ x = r) (f : ι → EReal) :
    x * ∑ i ∈ t, f i = ∑ i ∈ t, x * f i := by
  classical
  obtain ⟨r, hr, rfl⟩ := hx
  induction t using Finset.induction_on with
  | empty => simp
  | insert a s ha ih =>
    rw [Finset.sum_insert ha, Finset.sum_insert ha, ← ih]
    exact EReal.left_distrib_of_nonneg_of_ne_top (EReal.coe_nonneg.2 hr) (EReal.coe_ne_top r) _ _

/-! ### The recurrence -/

section
variable {κ : Type} [Fintype κ]

/-- The running maximum before tile `n`, over the scores `S k r` of tile `k`. -/
def mx (m0 : EReal) (S : ℕ → κ → EReal) : ℕ → EReal
  | 0 => m0
  | n + 1 => max (mx m0 S n) (Finset.univ.fold max ⊥ (S n))

/-- The running sum of exponentials before tile `n`. -/
def ls (m0 : EReal) (S : ℕ → κ → EReal) : ℕ → EReal
  | 0 => 0
  | n + 1 => Ideal.exp (mx m0 S n - mx m0 S (n + 1)) * ls m0 S n + ∑ r, Ideal.exp (S n r - mx m0 S (n + 1))

/-- The running weighted sum before tile `n`, of the values `V k r`. -/
def ac (m0 : EReal) (S V : ℕ → κ → EReal) : ℕ → EReal
  | 0 => 0
  | n + 1 => Ideal.exp (mx m0 S n - mx m0 S (n + 1)) * ac m0 S V n
      + ∑ r, V n r * Ideal.exp (S n r - mx m0 S (n + 1))

variable (m0 : EReal) (S V : ℕ → κ → EReal)

theorem mx_le_iff (n : ℕ) (b : EReal) : mx m0 S n ≤ b ↔ m0 ≤ b ∧ ∀ k < n, ∀ r, S k r ≤ b := by
  induction n with
  | zero => simp [mx]
  | succ n ih =>
    rw [mx, max_le_iff, ih, Finset.fold_max_le]
    constructor
    · rintro ⟨⟨h0, h⟩, -, hn⟩
      refine ⟨h0, fun k hk r => ?_⟩
      rcases Nat.lt_succ_iff_lt_or_eq.1 hk with h1 | rfl
      · exact h k h1 r
      · exact hn r (Finset.mem_univ _)
    · rintro ⟨h0, h⟩
      exact ⟨⟨h0, fun k hk r => h k (by omega) r⟩, bot_le, fun r _ => h n (by omega) r⟩

theorem mx_mono_succ (n : ℕ) : mx m0 S n ≤ mx m0 S (n + 1) := le_max_left _ _

theorem le_mx {n k : ℕ} (hk : k < n) (r : κ) : S k r ≤ mx m0 S n := ((mx_le_iff m0 S n _).1 le_rfl).2 k hk r

/-- The running sum is the sum over all the tiles met, at the maximum so far. -/
theorem ls_eq (n : ℕ) : ls m0 S n = ∑ k ∈ Finset.range n, ∑ r, Ideal.exp (S k r - mx m0 S n) := by
  induction n with
  | zero => simp [ls]
  | succ n ih =>
    rw [ls, ih, Finset.sum_range_succ, real_mul_sum _ (exp_sub_real (mx_mono_succ m0 S n))]
    congr 1
    refine Finset.sum_congr rfl fun k hk => ?_
    rw [real_mul_sum _ (exp_sub_real (mx_mono_succ m0 S n))]
    refine Finset.sum_congr rfl fun r _ => ?_
    exact exp_shift (le_mx m0 S (Finset.mem_range.1 hk) r) (mx_mono_succ m0 S n)

/-- The running weighted sum is the weighted sum over all the tiles met, at the maximum so far. -/
theorem ac_eq (n : ℕ) : ac m0 S V n = ∑ k ∈ Finset.range n, ∑ r, V k r * Ideal.exp (S k r - mx m0 S n) := by
  induction n with
  | zero => simp [ac]
  | succ n ih =>
    rw [ac, ih, Finset.sum_range_succ, real_mul_sum _ (exp_sub_real (mx_mono_succ m0 S n))]
    congr 1
    refine Finset.sum_congr rfl fun k hk => ?_
    rw [real_mul_sum _ (exp_sub_real (mx_mono_succ m0 S n))]
    refine Finset.sum_congr rfl fun r _ => ?_
    rw [mul_left_comm, exp_shift (le_mx m0 S (Finset.mem_range.1 hk) r) (mx_mono_succ m0 S n)]

end

/-! ### The softmax weights do not depend on the shift -/

theorem coe_sum {ι : Type*} (t : Finset ι) (f : ι → ℝ) : ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

section
variable {ι : Type} [Fintype ι]

/-- With a maximum that is an infinity every exponential vanishes. -/
theorem all_zero {s : ι → EReal} {M : EReal} (h : ∀ i, s i ≤ M) (hM : M = ⊥ ∨ M = ⊤) (i : ι) : Ideal.exp (s i - M) = 0 := by
  rcases hM with rfl | rfl
  · rw [le_bot_iff.1 (h i), EReal.bot_sub]; rfl
  · rw [EReal.sub_top]; rfl

/-- Either no score is a real number at the maximum, and every exponential vanishes at both shifts; or the
    weights at the shift `M` are reals `w`, and the weighted mean at the shift `max m0 M` is the mean at `w`. -/
theorem weights {s : ι → EReal} {M : EReal} (h : ∀ i, s i ≤ M) (hM : M = ⊥ ∨ ∃ i, s i = M) (c : ℝ) :
    ((∀ i, Ideal.exp (s i - max (c : EReal) M) = 0) ∧ ∀ i, Ideal.exp (s i - M) = 0)
    ∨ ∃ w : ι → ℝ, (∀ i, Ideal.div (Ideal.exp (s i - M)) (∑ j, Ideal.exp (s j - M)) = (w i : EReal)) ∧
      ∀ v : ι → ℝ, Ideal.div (∑ i, (v i : EReal) * Ideal.exp (s i - max (c : EReal) M))
        (∑ j, Ideal.exp (s j - max (c : EReal) M)) = ((∑ i, w i * v i : ℝ) : EReal) := by
  have hle : ∀ i, s i ≤ max (c : EReal) M := fun i => (h i).trans (le_max_right _ _)
  induction M with
  | bot =>
    left
    refine ⟨fun i => ?_, all_zero h (Or.inl rfl)⟩
    rw [le_bot_iff.1 (h i), EReal.bot_sub]; rfl
  | top =>
    left
    refine ⟨fun i => ?_, all_zero h (Or.inr rfl)⟩
    rw [max_eq_right le_top, EReal.sub_top]; rfl
  | coe M =>
    right
    obtain ⟨i0, hi0⟩ : ∃ i, s i = (M : EReal) := hM.resolve_left (EReal.coe_ne_bot M)
    choose y hy0 hy using fun i => exp_sub_real (h i)
    have hmm : max (c : EReal) (M : EReal) = ((max c M : ℝ) : EReal) := (EReal.coe_strictMono.monotone.map_max).symm
    set C : ℝ := Real.exp (M - max c M) with hC
    have hCpos : 0 < C := Real.exp_pos _
    have hx : ∀ i, Ideal.exp (s i - max (c : EReal) (M : EReal)) = ((C * y i : ℝ) : EReal) := by
      intro i
      rw [← exp_shift (h i) (le_max_right (c : EReal) (M : EReal)), hy i, hmm, ← EReal.coe_sub, exp_coe, ← EReal.coe_mul]
    have hyi0 : y i0 = 1 := by
      have := hy i0
      rw [hi0, ← EReal.coe_sub, sub_self, exp_coe, Real.exp_zero] at this
      exact_mod_cast this.symm
    have hY : 0 < ∑ i, y i := by
      refine lt_of_lt_of_le zero_lt_one ?_
      rw [← hyi0]
      exact Finset.single_le_sum (fun i _ => hy0 i) (Finset.mem_univ i0)
    refine ⟨fun i => y i * (1 / ∑ j, y j), fun i => ?_, fun v => ?_⟩
    · simp only [hy]
      rw [← coe_sum, Ideal.div_coe hY.ne', ← EReal.coe_mul]
    · simp only [hx]
      simp only [← EReal.coe_mul]
      rw [← coe_sum, ← coe_sum, ← Finset.mul_sum, Ideal.div_coe (mul_pos hCpos hY).ne', ← EReal.coe_mul]
      congr 1
      rw [Finset.sum_mul]
      refine Finset.sum_congr rfl fun i _ => ?_
      field_simp

/-! ### The difference of two maps -/

/-- A value that is zero or an infinity. -/
def Edge (x : EReal) : Prop := x = 0 ∨ x = ⊤ ∨ x = ⊥

theorem Edge.add {x y : EReal} (hx : Edge x) (hy : Edge y) : Edge (x + y) := by
  rcases hx with rfl | rfl | rfl <;> rcases hy with rfl | rfl | rfl <;> simp [Edge]

theorem Edge.sum {α : Type*} (t : Finset α) (f : α → EReal) (h : ∀ i, Edge (f i)) : Edge (∑ i ∈ t, f i) := by
  classical
  induction t using Finset.induction_on with
  | empty => exact Or.inl (by simp)
  | insert a s ha ih => rw [Finset.sum_insert ha]; exact (h a).add ih

theorem Edge.mul_real {x : EReal} (hx : x = ⊤ ∨ x = ⊥) (v : ℝ) : Edge (x * (v : EReal)) := by
  rcases lt_trichotomy v 0 with h | rfl | h
  · rcases hx with rfl | rfl
    · exact Or.inr (Or.inr (EReal.top_mul_coe_of_neg h))
    · exact Or.inr (Or.inl (EReal.bot_mul_coe_of_neg h))
  · exact Or.inl (by simp)
  · rcases hx with rfl | rfl
    · exact Or.inr (Or.inl (EReal.top_mul_coe_of_pos h))
    · exact Or.inr (Or.inr (EReal.bot_mul_coe_of_pos h))

theorem div_zero_zero : Ideal.div 0 0 = ⊥ := by simp [Ideal.div]

/-- Two maps subtracted after they weigh the values, or before: the same at every column, or an edge value in
    every column on both sides. `x`, `x'` are the exponentials the first side uses, `y`, `y'` those of the second. -/
theorem diff_maps {x x' y y' : ι → EReal} {γ : Type} (V : γ → ι → ℝ) (lam : ℝ)
    (h1 : ((∀ i, x i = 0) ∧ ∀ i, y i = 0) ∨ ∃ w : ι → ℝ, (∀ i, Ideal.div (y i) (∑ j, y j) = (w i : EReal)) ∧
      ∀ v : ι → ℝ, Ideal.div (∑ i, (v i : EReal) * x i) (∑ j, x j) = ((∑ i, w i * v i : ℝ) : EReal))
    (h2 : ((∀ i, x' i = 0) ∧ ∀ i, y' i = 0) ∨ ∃ w : ι → ℝ, (∀ i, Ideal.div (y' i) (∑ j, y' j) = (w i : EReal)) ∧
      ∀ v : ι → ℝ, Ideal.div (∑ i, (v i : EReal) * x' i) (∑ j, x' j) = ((∑ i, w i * v i : ℝ) : EReal)) :
    (∀ e, Ideal.div (∑ i, (V e i : EReal) * x i) (∑ j, x j) - (lam : EReal) * Ideal.div (∑ i, (V e i : EReal) * x' i) (∑ j, x' j)
        = ∑ i, (Ideal.div (y i) (∑ j, y j) - (lam : EReal) * Ideal.div (y' i) (∑ j, y' j)) * (V e i : EReal))
    ∨ ((∀ e, Edge (Ideal.div (∑ i, (V e i : EReal) * x i) (∑ j, x j) - (lam : EReal) * Ideal.div (∑ i, (V e i : EReal) * x' i) (∑ j, x' j)))
      ∧ ∀ e, Edge (∑ i, (Ideal.div (y i) (∑ j, y j) - (lam : EReal) * Ideal.div (y' i) (∑ j, y' j)) * (V e i : EReal))) := by
  rcases h1 with ⟨hx, hy⟩ | ⟨w, hw, hv⟩
  · right
    simp only [hx, hy, mul_zero, Finset.sum_const_zero, div_zero_zero, EReal.bot_sub]
    exact ⟨fun e => Or.inr (Or.inr rfl), fun e => Edge.sum _ _ fun i => Edge.mul_real (Or.inr rfl) _⟩
  · rcases h2 with ⟨hx', hy'⟩ | ⟨w', hw', hv'⟩
    · simp only [hx', hy', mul_zero, Finset.sum_const_zero, div_zero_zero, hw, hv]
      rcases lt_trichotomy lam 0 with h | rfl | h
      · right
        rw [EReal.coe_mul_bot_of_neg h]
        exact ⟨fun e => Or.inr (Or.inr (EReal.sub_top _)),
          fun e => Edge.sum _ _ fun i => Edge.mul_real (Or.inr (EReal.sub_top _)) _⟩
      · left
        intro e
        simp only [EReal.coe_zero, zero_mul, sub_zero]
        rw [coe_sum]
        exact Finset.sum_congr rfl fun i _ => EReal.coe_mul _ _
      · right
        rw [EReal.coe_mul_bot_of_pos h]
        exact ⟨fun e => Or.inr (Or.inl (EReal.coe_sub_bot _)),
          fun e => Edge.sum _ _ fun i => Edge.mul_real (Or.inl (EReal.coe_sub_bot _)) _⟩
    · left
      intro e
      simp only [hw, hv, hw', hv']
      simp only [← EReal.coe_mul, ← EReal.coe_sub]
      rw [← coe_sum]
      congr 1
      rw [Finset.mul_sum, ← Finset.sum_sub_distrib]
      exact Finset.sum_congr rfl fun i _ => by ring

end

/-! ### The normalised row -/

theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- A row of edge values is scaled to zero by the reciprocal root of its mean square. -/
theorem edge_row {γ : Type} [Fintype γ] (o : γ → EReal) (h : ∀ e, Edge (o e)) {n eps : ℝ} (hn : 0 < n) (e : γ) :
    o e * Ideal.rsqrt (Ideal.div (∑ k, o k * o k) (n : EReal) + (eps : EReal)) = 0 := by
  by_cases hz : ∀ k, o k = 0
  · rw [hz e, zero_mul]
  · obtain ⟨k, hk⟩ := not_forall.1 hz
    have hsq : o k * o k = ⊤ := by
      rcases h k with h | h | h
      · exact absurd h hk
      · rw [h, EReal.top_mul_top]
      · rw [h, EReal.bot_mul_bot]
    have hs : ∑ k, o k * o k = ⊤ := by
      refine le_antisymm le_top ?_
      rw [← hsq]
      exact Finset.single_le_sum (f := fun k => o k * o k) (fun i _ => sq_nonneg' (o i)) (Finset.mem_univ k)
    rw [hs, Ideal.div_coe hn.ne', EReal.top_mul_coe_of_pos (by positivity), EReal.top_add_coe]
    exact mul_zero _

end Flash

end
-- ==== Proof.Step.lean ====
module
public import proofs.«01_k».proof.Proof.Loop
public import proofs.«01_k».proof.Proof.Flash
@[expose] public section
set_option maxRecDepth 16384
noncomputable section

/-! One step of a chain over the extended reals, entry by entry. -/

namespace Cert.KernelIdeal.Attn
open Cert.KernelIdeal Cert.KernelIdeal.Gen Idealize.ShloMosaic Idealize.ShloMosaic.TcCoe Idealize.SL.Sem

theorem score_at (q : FVec Ideal S128x256 .bf16) (kt : FVec Ideal S256x128 .bf16) (k : Fin 256) (c : Fin 256) :
    score q kt (ix2 k c) = ∑ j : Fin 128, kt (ix2 k j) * q (ix2 j c) := by
  pointwise [score]

theorem bot_bits : Ideal.ofBits .f32 0xFF800000#32 = ⊥ := by
  simp [Ideal.ofBits, Ideal.ieee]

theorem shr6 : ∀ k : Fin 256, IntOp.shrsi ArithUnit.vector (BitVec.ofNat 32 k.val) 6#32 = BitVec.ofNat 32 (k.val / 64) := by
  decide +kernel

theorem sle4 : ∀ a b : Fin 4, IntOp.cmpi CmpIPredicate.sle (BitVec.ofNat 32 a.val) (BitVec.ofNat 32 b.val) = if a.val ≤ b.val then 1#1 else 0#1 := by
  decide +kernel

theorem slt64 : ∀ j : Fin 128, IntOp.cmpi CmpIPredicate.slt (BitVec.ofNat 32 j.val) 64#32 = if j.val < 64 then 1#1 else 0#1 := by
  decide +kernel

theorem sge64 : ∀ j : Fin 128, IntOp.cmpi CmpIPredicate.sge (BitVec.ofNat 32 j.val) 64#32 = if j.val < 64 then 0#1 else 1#1 := by
  decide +kernel

theorem stM_at (s : FVec Ideal S256x256 .f32) (m : FVec Ideal S1x256 .f32) (c : Fin 256) :
    stM s m (ix2 0 c) = max (m (ix2 0 c)) (Finset.univ.fold max ⊥ fun k : Fin 256 => s (ix2 k c)) := by
  pointwise [stM]
  rw [bot_bits]

theorem stA_at (s : FVec Ideal S256x256 .f32) (m : FVec Ideal S1x256 .f32) (c : Fin 256) :
    stA s m (ix2 0 c) = Ideal.exp (m (ix2 0 c) - stM s m (ix2 0 c)) := by
  pointwise [stA]

theorem stW_at (s : FVec Ideal S256x256 .f32) (m : FVec Ideal S1x256 .f32) (k c : Fin 256) :
    stW s m (ix2 k c) = Ideal.exp (s (ix2 k c) - stM s m (ix2 0 c)) := by
  pointwise [stW]

theorem stL_at (s : FVec Ideal S256x256 .f32) (m l : FVec Ideal S1x256 .f32) (c : Fin 256) :
    stL s m l (ix2 0 c) = Ideal.exp (m (ix2 0 c) - stM s m (ix2 0 c)) * l (ix2 0 c)
      + ∑ k : Fin 256, Ideal.exp (s (ix2 k c) - stM s m (ix2 0 c)) := by
  pointwise [stL, stA, stW]

theorem stO_at (s : FVec Ideal S256x256 .f32) (vt : FVec Ideal S256x128 .bf16) (m : FVec Ideal S1x256 .f32)
    (o : FVec Ideal S128x256 .f32) (d : Fin 128) (c : Fin 256) :
    stO s vt m o (ix2 d c) = Ideal.exp (m (ix2 0 c) - stM s m (ix2 0 c)) * o (ix2 d c)
      + ∑ k : Fin 256, vt (ix2 k d) * Ideal.exp (s (ix2 k c) - stM s m (ix2 0 c)) := by
  pointwise [stO, stA, stW]

theorem maskS_at (s : FVec Ideal S256x256 .f32) (k c : Fin 256) :
    maskS s (ix2 k c) = if k.val / 64 ≤ c.val / 64 then s (ix2 k c) else ⊥ := by
  pointwise [maskS, k0_pay215]
  rw [shr6, shr6, bot_bits]
  have h := sle4 ⟨k.val / 64, by omega⟩ ⟨c.val / 64, by omega⟩
  dsimp only at h
  rw [h]
  by_cases hl : k.val / 64 ≤ c.val / 64
  · rw [if_pos hl, if_pos hl]; rfl
  · rw [if_neg hl, if_neg hl]; rfl

theorem qv0_at (x : FVec Ideal S256x128 .f32) (j : Fin 128) (c : Fin 256) :
    qv (F := Ideal) x 0 (ix2 j c) = if j.val < 64 then x (ix2 c j) else 0 := by
  show k0_pay189 (F := Ideal) x (ix2 j c) = _
  pointwise [k0_pay189, k0_pay188]
  rw [slt64]
  by_cases hl : j.val < 64
  · rw [if_pos hl, if_pos hl]; rfl
  · rw [if_neg hl, if_neg hl]; rfl

theorem qv1_at (x : FVec Ideal S256x128 .f32) (j : Fin 128) (c : Fin 256) :
    qv (F := Ideal) x 1 (ix2 j c) = if j.val < 64 then 0 else x (ix2 c j) := by
  show k0_pay190 (F := Ideal) x (ix2 j c) = _
  pointwise [k0_pay190, k0_pay188]
  rw [sge64]
  by_cases hl : j.val < 64
  · rw [if_pos hl, if_pos hl]; rfl
  · rw [if_neg hl, if_neg hl]; rfl

theorem m0_real : ∃ r : ℝ, Ideal.ofBits .f32 0xF149F2CA#32 = (r : EReal) := by
  unfold Ideal.ofBits Ideal.ieee
  dsimp only
  rw [if_neg (by decide), if_neg (by decide)]
  exact ⟨_, rfl⟩

end Cert.KernelIdeal.Attn
end
-- ==== Proof.Head.lean ====
module
public import proofs.«01_k».proof.Proof.Step
@[expose] public section
set_option maxRecDepth 16384
noncomputable section

/-! What a head stores, entry by entry, of the sums of its two chains. -/

namespace Cert.KernelIdeal.Attn
open Cert.KernelIdeal Cert.KernelIdeal.Gen Idealize.ShloMosaic Idealize.ShloMosaic.TcCoe Idealize.SL.Sem

/-- The weight of the second map. -/
def lamv (l : Vec Ideal S4x64 .f32) : EReal :=
  Ideal.exp (∑ j : Fin 64, l (ix2 0 j) * l (ix2 1 j)) - Ideal.exp (∑ j : Fin 64, l (ix2 2 j) * l (ix2 3 j))
    + Ideal.ofBits .f32 0x3E4CCCCD#32

/-- Normalise a row `o` of 128 numbers by its root mean square, scale it and gate it. -/
def tail (o : Fin 128 → EReal) (g gate : EReal) (d : Fin 128) : EReal :=
  o d * Ideal.rsqrt (Ideal.div (∑ k, o k * o k) (Ideal.ofBits .f32 0x43000000#32) + Ideal.ofBits .f32 0x3727C5AC#32) * g
    * Ideal.ofBits .f32 0x3F4CCCCD#32 * (gate * Ideal.div 1 (1 + Ideal.exp (-gate)))

theorem pay398_at (l0 : FVec Ideal S1x256 .f32) (a0 : FVec Ideal S128x256 .f32) (l1 : FVec Ideal S1x256 .f32) (a1 : FVec Ideal S128x256 .f32)
    (lam : Vec Ideal S4x64 .f32) (r : Fin 256) (d : Fin 128) :
    k0_pay398 l0 a0 l1 a1 lam (ix2 r d)
      = Ideal.div (a0 (ix2 d r)) (l0 (ix2 0 r)) - lamv lam * Ideal.div (a1 (ix2 d r)) (l1 (ix2 0 r)) := by
  pointwise [k0_pay398, lamv]

theorem pay399_at (l0 : FVec Ideal S1x256 .f32) (a0 : FVec Ideal S128x256 .f32) (l1 : FVec Ideal S1x256 .f32) (a1 : FVec Ideal S128x256 .f32)
    (lam : Vec Ideal S4x64 .f32) (r : Fin 256) :
    k0_pay399 l0 a0 l1 a1 lam (ix2 r 0)
      = Ideal.div (∑ k : Fin 128, k0_pay398 l0 a0 l1 a1 lam (ix2 r k) * k0_pay398 l0 a0 l1 a1 lam (ix2 r k)) (Ideal.ofBits .f32 0x43000000#32)
        + Ideal.ofBits .f32 0x3727C5AC#32 := by
  pointwise [k0_pay399]

theorem pay400_at (g : FVec Ideal S1x128 .f32) (gate o : FVec Ideal S256x128 .f32) (n : FVec Ideal S256x1 .f32) (r : Fin 256) (d : Fin 128) :
    k0_pay400 (F := Ideal) (k0_pay397 g) gate o n (ix2 r d)
      = o (ix2 r d) * Ideal.rsqrt (n (ix2 r 0)) * g (ix2 0 d) * Ideal.ofBits .f32 0x3F4CCCCD#32
        * (gate (ix2 r d) * Ideal.div 1 (1 + Ideal.exp (-gate (ix2 r d)))) := by
  pointwise [k0_pay400, k0_pay397]
  rw [zero_sub]

theorem headOut_at (g : Vec Ideal S1x128 .f32) (gate : Vec Ideal S256x128 .f32) (lam : Vec Ideal S4x64 .f32) (C : Fin 2 → Chain Ideal)
    (r : Fin 256) (d : Fin 128) :
    headOut (F := Ideal) g gate lam C (ix2 r d)
      = tail (fun k => Ideal.div ((C 0).2.2 (ix2 k r)) ((C 0).2.1 (ix2 0 r)) - lamv lam * Ideal.div ((C 1).2.2 (ix2 k r)) ((C 1).2.1 (ix2 0 r)))
          (g (ix2 0 d)) (gate (ix2 r d)) d := by
  unfold headOut tail
  rw [pay400_at, pay399_at]
  simp only [pay398_at]

end Cert.KernelIdeal.Attn
end
-- ==== Proof.Row.lean ====
module
public import proofs.«01_k».proof.Proof.Flash
@[expose] public section
noncomputable section

/-! The running sums over tiles of 256 scores, as sums over the whole row of 2048. -/

namespace Flash
open Idealize.ShloMosaic

theorem sum_tiles (f : ℕ → EReal) (n : ℕ) :
    (∑ k ∈ Finset.range n, ∑ r : Fin 256, f (256 * k + r.val)) = ∑ x ∈ Finset.range (256 * n), f x := by
  induction n with
  | zero => simp
  | succ n ih =>
    rw [Finset.sum_range_succ, ih, Nat.mul_succ, Finset.sum_range_add, ← Finset.sum_range (fun r => f (256 * n + r))]

theorem sum_row (f : ℕ → EReal) {n : ℕ} (hn : n ≤ 8) (hz : ∀ x, 256 * n ≤ x → f x = 0) :
    (∑ k ∈ Finset.range n, ∑ r : Fin 256, f (256 * k + r.val)) = ∑ x : Fin 2048, f x.val := by
  rw [sum_tiles, ← Finset.sum_range (fun x => f x)]
  refine Finset.sum_subset (fun x hx => ?_) fun x _ hx => hz x ?_
  · rw [Finset.mem_range] at hx ⊢; omega
  · rw [Finset.mem_range] at hx; omega

/-- The largest score of a row. -/
def top (s : ℕ → EReal) : EReal := Finset.univ.fold max ⊥ fun x : Fin 2048 => s x.val

theorem top_le_iff (s : ℕ → EReal) (b : EReal) : top s ≤ b ↔ ∀ x : Fin 2048, s x.val ≤ b := by
  unfold top
  rw [Finset.fold_max_le]
  simp

theorem le_top' (s : ℕ → EReal) (x : Fin 2048) : s x.val ≤ top s := (top_le_iff s _).1 le_rfl x

theorem top_attained (s : ℕ → EReal) : top s = ⊥ ∨ ∃ x : Fin 2048, s x.val = top s := by
  obtain ⟨x, hx⟩ := Finite.exists_max fun x : Fin 2048 => s x.val
  exact Or.inr ⟨x, le_antisymm (le_top' s x) ((top_le_iff s _).2 hx)⟩

theorem mx_row (m0 : EReal) (s : ℕ → EReal) {n : ℕ} (hn : n ≤ 8) (hz : ∀ x, 256 * n ≤ x → s x = ⊥) :
    mx m0 (fun k (r : Fin 256) => s (256 * k + r.val)) n = max m0 (top s) := by
  refine eq_of_forall_ge_iff fun b => ?_
  rw [mx_le_iff, max_le_iff, top_le_iff]
  refine and_congr_right fun _ => ⟨fun h x => ?_, fun h k hk r => h ⟨256 * k + r.val, by omega⟩⟩
  by_cases hx : 256 * n ≤ x.val
  · rw [hz _ hx]; exact bot_le
  · have := h (x.val / 256) (by omega) ⟨x.val % 256, Nat.mod_lt _ (by decide)⟩
    dsimp only at this
    rwa [Nat.div_add_mod] at this

theorem ls_row (m0 : EReal) (s : ℕ → EReal) {n : ℕ} (hn : n ≤ 8) (hz : ∀ x, 256 * n ≤ x → s x = ⊥) :
    ls m0 (fun k (r : Fin 256) => s (256 * k + r.val)) n = ∑ x : Fin 2048, Ideal.exp (s x.val - max m0 (top s)) := by
  rw [ls_eq, mx_row m0 s hn hz]
  refine sum_row (fun x => Ideal.exp (s x - max m0 (top s))) hn fun x hx => ?_
  rw [hz x hx, EReal.bot_sub, exp_bot]

theorem ac_row (m0 : EReal) (s v : ℕ → EReal) {n : ℕ} (hn : n ≤ 8) (hz : ∀ x, 256 * n ≤ x → s x = ⊥) :
    ac m0 (fun k (r : Fin 256) => s (256 * k + r.val)) (fun k (r : Fin 256) => v (256 * k + r.val)) n
      = ∑ x : Fin 2048, v x.val * Ideal.exp (s x.val - max m0 (top s)) := by
  rw [ac_eq, mx_row m0 s hn hz]
  refine sum_row (fun x => v x * Ideal.exp (s x - max m0 (top s))) hn fun x hx => ?_
  rw [hz x hx, EReal.bot_sub, exp_bot, mul_zero]

/-- A sum over 128 lanes whose second half vanishes, and one whose first half does. -/
theorem sum_low (f : Fin 128 → EReal) (h : ∀ j : Fin 64, f ⟨64 + j.val, by omega⟩ = 0) :
    ∑ j, f j = ∑ j : Fin 64, f ⟨j.val, by omega⟩ := by
  refine (Fin.sum_univ_add (a := 64) (b := 64) f).trans ?_
  rw [show (∑ j : Fin 64, f (Fin.natAdd 64 j)) = 0 from Finset.sum_eq_zero fun j _ => h j, add_zero]
  rfl

theorem sum_high (f : Fin 128 → EReal) (h : ∀ j : Fin 64, f ⟨j.val, by omega⟩ = 0) :
    ∑ j, f j = ∑ j : Fin 64, f ⟨64 + j.val, by omega⟩ := by
  refine (Fin.sum_univ_add (a := 64) (b := 64) f).trans ?_
  rw [show (∑ j : Fin 64, f (Fin.castAdd 64 j)) = 0 from Finset.sum_eq_zero fun j _ => h j, zero_add]
  rfl

end Flash
end
-- ==== Proof.Chain.lean ====
module
public import proofs.«01_k».proof.Proof.Head
public import proofs.«01_k».proof.Proof.Row
@[expose] public section
set_option maxRecDepth 16384
noncomputable section

/-! A whole chain: its sums are the sums over the row of 2048 scores. -/

namespace Cert.KernelIdeal.Attn
open Cert.KernelIdeal Cert.KernelIdeal.Gen Idealize.ShloMosaic Idealize.ShloMosaic.TcCoe Idealize.SL.Sem

/-- The entry of key or value row `x`, column `c`. -/
def kv (X : Vec Ideal S2048x1024 .bf16) (x c : ℕ) : EReal :=
  X (ix2 ⟨x % 2048, Nat.mod_lt _ (by decide)⟩ ⟨c % 1024, Nat.mod_lt _ (by decide)⟩)

/-- The score of key `x` for query column `c`, and the same with the later chunks left out. -/
def raw (q : FVec Ideal S128x256 .bf16) (X : Vec Ideal S2048x1024 .bf16) (h : ℕ) (c : Fin 256) (x : ℕ) : EReal :=
  ∑ j : Fin 128, kv X x (128 * h + j.val) * q (ix2 j c)

def msk (q : FVec Ideal S128x256 .bf16) (X : Vec Ideal S2048x1024 .bf16) (h n : ℕ) (c : Fin 256) (x : ℕ) : EReal :=
  if x / 64 ≤ (256 * n + c.val) / 64 then raw q X h c x else ⊥

theorem blk_at (X : Vec Ideal S2048x1024 .bf16) (r c : ℕ) (k : Fin 256) (d : Fin 128) :
    blk (F := Ideal) X r c (ix2 k d) = kv X (r + k.val) (c + d.val) := rfl

theorem score_raw (q : FVec Ideal S128x256 .bf16) (X : Vec Ideal S2048x1024 .bf16) (h r : ℕ) (k c : Fin 256) :
    score q (blk X r (128 * h)) (ix2 k c) = raw q X h c (r + k.val) := by
  rw [score_at]
  rfl

/-- The three numbers of column `c` (and value lane `d`) of a chain after `k` tiles. -/
def At (C : Chain Ideal) (m0 : EReal) (s : ℕ → EReal) (V : Vec Ideal S2048x1024 .bf16) (h : ℕ) (c : Fin 256) (k : ℕ) : Prop :=
  C.1 (ix2 0 c) = Flash.mx m0 (fun k (r : Fin 256) => s (256 * k + r.val)) k
  ∧ C.2.1 (ix2 0 c) = Flash.ls m0 (fun k (r : Fin 256) => s (256 * k + r.val)) k
  ∧ ∀ d : Fin 128, C.2.2 (ix2 d c) = Flash.ac m0 (fun k (r : Fin 256) => s (256 * k + r.val)) (fun k (r : Fin 256) => kv V (256 * k + r.val) (128 * h + d.val)) k

theorem step_At {C : Chain Ideal} {m0 : EReal} {s : ℕ → EReal} {V : Vec Ideal S2048x1024 .bf16} {h : ℕ} {c : Fin 256} {k : ℕ}
    (S : FVec Ideal S256x256 .f32) (hS : ∀ r : Fin 256, S (ix2 r c) = s (256 * k + r.val)) (hC : At C m0 s V h c k) :
    At (step S (blk V (256 * k) (128 * h)) C) m0 s V h c (k + 1) := by
  obtain ⟨h1, h2, h3⟩ := hC
  have hm : stM S C.1 (ix2 0 c) = Flash.mx m0 (fun k (r : Fin 256) => s (256 * k + r.val)) (k + 1) := by
    rw [stM_at, h1, Flash.mx]
    simp only [hS]
  refine ⟨hm, ?_, fun d => ?_⟩
  · show stL S C.1 C.2.1 (ix2 0 c) = _
    rw [stL_at, hm, h1, h2, Flash.ls]
    simp only [hS]
  · show stO S (blk V (256 * k) (128 * h)) C.1 C.2.2 (ix2 d c) = _
    rw [stO_at, hm, h1, h3, Flash.ac]
    simp only [hS, blk_at]

theorem fl_At (q : FVec Ideal S128x256 .bf16) (X V : Vec Ideal S2048x1024 .bf16) (h n : ℕ) (c : Fin 256) (C : Chain Ideal) (m0 : EReal)
    (hC : At C m0 (msk q X h n c) V h c 0) : ∀ k, k ≤ n → At (fl q X V h C k) m0 (msk q X h n c) V h c k
  | 0, _ => hC
  | k + 1, hk => by
    refine step_At _ (fun r => ?_) (fl_At q X V h n c C m0 hC k (by omega))
    rw [score_raw]
    unfold msk
    rw [if_pos (by omega)]

theorem last_At (x0 : Vec Ideal S256x1024 .f32) (X V : Vec Ideal S2048x1024 .bf16) (h n : ℕ) (e : Fin 2) (c : Fin 256) :
    At (lastStep (qv (qblk x0 (128 * h)) e) (blk X (256 * n) (128 * h)) (blk V (256 * n) (128 * h)) (before n x0 X V h e))
      (Ideal.ofBits .f32 0xF149F2CA#32) (msk (qv (qblk x0 (128 * h)) e) X h n c) V h c (n + 1) := by
  refine step_At _ (fun r => ?_) (fl_At _ X V h n c _ _ ⟨rfl, ?_, fun d => ?_⟩ n le_rfl)
  · rw [maskS_at, score_raw]
    unfold msk
    by_cases hl : r.val / 64 ≤ c.val / 64
    · rw [if_pos hl, if_pos (by omega)]
    · rw [if_neg hl, if_neg (by omega)]
  · exact Ideal.ofBits_zero_f32
  · exact Ideal.ofBits_zero_f32

/-- A finished chain's weighted mean. -/
theorem mean_at (x0 : Vec Ideal S256x1024 .f32) (X V : Vec Ideal S2048x1024 .bf16) (h n : ℕ) (hn : n < 8) (e : Fin 2) (c : Fin 256) (d : Fin 128)
    (s : ℕ → EReal) (hs : ∀ x, msk (qv (qblk x0 (128 * h)) e) X h n c x = s x) (m0 : EReal) (hm : Ideal.ofBits .f32 0xF149F2CA#32 = m0)
    (C : Chain Ideal) (hC : lastStep (qv (qblk x0 (128 * h)) e) (blk X (256 * n) (128 * h)) (blk V (256 * n) (128 * h)) (before n x0 X V h e) = C) :
    Ideal.div (C.2.2 (ix2 d c)) (C.2.1 (ix2 0 c))
      = Ideal.div (∑ x : Fin 2048, kv V x.val (128 * h + d.val) * Ideal.exp (s x.val - max m0 (Flash.top s)))
          (∑ x : Fin 2048, Ideal.exp (s x.val - max m0 (Flash.top s))) := by
  obtain ⟨-, h2, h3⟩ := last_At x0 X V h n e c
  rw [funext hs, hm, hC] at h2 h3
  have hz : ∀ x, 256 * (n + 1) ≤ x → s x = ⊥ := fun x hx => by
    rw [← hs]
    unfold msk
    rw [if_neg (by omega)]
  rw [h2, h3, Flash.ls_row _ _ (by omega) hz, Flash.ac_row _ _ (fun x => kv V x (128 * h + d.val)) (by omega) hz]

theorem raw0 (x0 : Vec Ideal S256x1024 .f32) (X : Vec Ideal S2048x1024 .bf16) (h : ℕ) (c : Fin 256) (x : ℕ) :
    raw (qv (qblk x0 (128 * h)) 0) X h c x
      = ∑ j : Fin 64, kv X x (128 * h + j.val) * x0 (ix2 c ⟨(128 * h + j.val) % 1024, Nat.mod_lt _ (by decide)⟩) := by
  unfold raw
  rw [Flash.sum_low]
  · refine Finset.sum_congr rfl fun j _ => ?_
    rw [qv0_at, if_pos j.isLt]
    unfold qblk
    congr 2
    exact congrArg (fun a => ix2 a _) (Fin.ext (Nat.mod_eq_of_lt c.isLt))
  · intro j
    rw [qv0_at, if_neg (by simp), mul_zero]

theorem raw1 (x0 : Vec Ideal S256x1024 .f32) (X : Vec Ideal S2048x1024 .bf16) (h : ℕ) (c : Fin 256) (x : ℕ) :
    raw (qv (qblk x0 (128 * h)) 1) X h c x
      = ∑ j : Fin 64, kv X x (128 * h + 64 + j.val) * x0 (ix2 c ⟨(128 * h + 64 + j.val) % 1024, Nat.mod_lt _ (by decide)⟩) := by
  unfold raw
  rw [Flash.sum_high]
  · refine Finset.sum_congr rfl fun j _ => ?_
    rw [qv1_at, if_neg (by simp)]
    unfold qblk
    rw [show 128 * h + (⟨64 + j.val, by omega⟩ : Fin 128).val = 128 * h + 64 + j.val from (Nat.add_assoc _ _ _).symm]
    congr 1
    refine congrArg x0 ?_
    funext a
    match a with
    | ⟨0, _⟩ => exact Fin.ext (Nat.mod_eq_of_lt c.isLt)
    | ⟨1, _⟩ => exact Fin.ext (congrArg (· % 1024) (Nat.add_assoc _ _ _).symm)
  · intro j
    rw [qv1_at, if_pos j.isLt, mul_zero]

end Cert.KernelIdeal.Attn
end
-- ==== Proof.Ref.lean ====
module
public import proofs.«01_k».proof.Proof.Gen.ReferenceIdeal.Read
public import proofs.«01_k».proof.Proof.Row
public import Idealize.ShloMosaic.Lib.Pointwise
@[expose] public section
set_option maxRecDepth 16384
noncomputable section

/-! The reference at an entry of its result: two softmax maps over the row of scores, subtracted, weighing the values,
    then the norm and the gate. -/

/-- Entry `(r, c)` of a matrix, the indices taken modulo its sizes. -/
def rd (n0 n1 : ℕ) [NeZero n0] [NeZero n1] (X : (⟨2, ![n0, n1]⟩ : Idealize.ShloMosaic.Shape).Idx → EReal) (r c : ℕ) : EReal :=
  X (Idealize.ShloMosaic.ix2 ⟨r % n0, Nat.mod_lt _ (Nat.pos_of_ne_zero (NeZero.ne n0))⟩ ⟨c % n1, Nat.mod_lt _ (Nat.pos_of_ne_zero (NeZero.ne n1))⟩)

theorem rd_of {n0 n1 : ℕ} [NeZero n0] [NeZero n1] (X : (⟨2, ![n0, n1]⟩ : Idealize.ShloMosaic.Shape).Idx → EReal)
    (i : (⟨2, ![n0, n1]⟩ : Idealize.ShloMosaic.Shape).Idx) {r c : ℕ} (h0 : (i 0).val = r) (h1 : (i 1).val = c) : X i = rd n0 n1 X r c := by
  subst h0 h1
  unfold rd
  refine congrArg X (funext fun a => Fin.ext ?_)
  match a with
  | ⟨0, _⟩ => exact (Nat.mod_eq_of_lt (i 0).isLt).symm
  | ⟨1, _⟩ => exact (Nat.mod_eq_of_lt (i 1).isLt).symm

namespace Cert.ReferenceIdeal.Attn
open Cert.ReferenceIdeal Cert.ReferenceIdeal.Gen Cert.ReferenceIdeal.Read Idealize.ShloMosaic Idealize.ShloMosaic.TcCoe Idealize.SL.Sem

/-- The masked score of key `x` for query `i` of sequence `b`, over the 64 lanes from `o`. -/
def sc (x0 : Vec Ideal S8704x2048 .f32) (x1 : Vec Ideal S8192x2048 .f32) (b i o x : ℕ) : EReal :=
  if x / 64 ≤ i / 64 then ∑ j : Fin 64, rd 8704 2048 x0 (2048 * b + i) (o + j.val) * rd 8192 2048 x1 (2048 * b + x) (o + j.val) else ⊥

theorem v30_at (x0 : Vec Ideal S8704x2048 .f32) (b : Fin 4) (i : Fin 2048) (H : Fin 16) (d : Fin 64) :
    val_main_v30 (F := Ideal) x0 (ix4 b i H d) = rd 8704 2048 x0 (2048 * b.val + i.val) (128 * H.val + d.val) := by
  rw [val_main_v30_apply, val_main_v29_apply, val_main_v1_apply, val_main_v0_apply]
  refine rd_of x0 _ ?_ ?_
  · have hH : H.val < 16 := H.isLt
    have hd : d.val < 64 := d.isLt
    dsimp only [ix4_0, ix4_1, ix4_2, ix4_3]
    omega
  · have hH : H.val < 16 := H.isLt
    have hd : d.val < 64 := d.isLt
    dsimp only [ix4_0, ix4_1, ix4_2, ix4_3]
    omega

theorem v47_at (x0 : Vec Ideal S8704x2048 .f32) (b : Fin 4) (i : Fin 2048) (H : Fin 16) (d : Fin 64) :
    val_main_v47 (F := Ideal) x0 (ix4 b i H d) = rd 8704 2048 x0 (2048 * b.val + i.val) (128 * H.val + 64 + d.val) := by
  rw [val_main_v47_apply, val_main_v46_apply, val_main_v1_apply, val_main_v0_apply]
  refine rd_of x0 _ ?_ ?_
  · have hH : H.val < 16 := H.isLt
    have hd : d.val < 64 := d.isLt
    dsimp only [ix4_0, ix4_1, ix4_2, ix4_3]
    omega
  · have hH : H.val < 16 := H.isLt
    have hd : d.val < 64 := d.isLt
    dsimp only [ix4_0, ix4_1, ix4_2, ix4_3]
    omega

theorem v32_at (x1 : Vec Ideal S8192x2048 .f32) (b : Fin 4) (i : Fin 2048) (H : Fin 16) (d : Fin 64) :
    val_main_v32 (F := Ideal) x1 (ix4 b i H d) = rd 8192 2048 x1 (2048 * b.val + i.val) (128 * H.val + d.val) := by
  rw [val_main_v32_apply, val_main_v31_apply, val_main_v2_apply]
  refine rd_of x1 _ ?_ ?_
  · have hH : H.val < 16 := H.isLt
    have hd : d.val < 64 := d.isLt
    dsimp only [ix4_0, ix4_1, ix4_2, ix4_3]
    omega
  · have hH : H.val < 16 := H.isLt
    have hd : d.val < 64 := d.isLt
    dsimp only [ix4_0, ix4_1, ix4_2, ix4_3]
    omega

theorem v49_at (x1 : Vec Ideal S8192x2048 .f32) (b : Fin 4) (i : Fin 2048) (H : Fin 16) (d : Fin 64) :
    val_main_v49 (F := Ideal) x1 (ix4 b i H d) = rd 8192 2048 x1 (2048 * b.val + i.val) (128 * H.val + 64 + d.val) := by
  rw [val_main_v49_apply, val_main_v48_apply, val_main_v2_apply]
  refine rd_of x1 _ ?_ ?_
  · have hH : H.val < 16 := H.isLt
    have hd : d.val < 64 := d.isLt
    dsimp only [ix4_0, ix4_1, ix4_2, ix4_3]
    omega
  · have hH : H.val < 16 := H.isLt
    have hd : d.val < 64 := d.isLt
    dsimp only [ix4_0, ix4_1, ix4_2, ix4_3]
    omega

theorem v3_at (x2 : Vec Ideal S8192x2048 .f32) (b : Fin 4) (i : Fin 2048) (H : Fin 16) (d : Fin 128) :
    val_main_v3 (F := Ideal) x2 (ix4 b i H d) = rd 8192 2048 x2 (2048 * b.val + i.val) (128 * H.val + d.val) := by
  rw [val_main_v3_apply]
  refine rd_of x2 _ ?_ ?_
  · have hH : H.val < 16 := H.isLt
    have hd : d.val < 128 := d.isLt
    dsimp only [ix4_0, ix4_1, ix4_2, ix4_3]
    omega
  · have hH : H.val < 16 := H.isLt
    have hd : d.val < 128 := d.isLt
    dsimp only [ix4_0, ix4_1, ix4_2, ix4_3]
    omega

/-- The chunk of a position. -/
theorem chunk6 : ∀ i : Fin 2048, val_main_v6 (F := Ideal) (ix1 i) = BitVec.ofNat 32 (i.val / 64) := by
  decide +kernel

theorem chunk8 : ∀ i : Fin 2048, val_main_v8 (F := Ideal) (ix1 i) = BitVec.ofNat 32 (i.val / 64) := by
  decide +kernel

theorem sle32 : ∀ a b : Fin 32, Scalar.cmpi .sle (BitVec.ofNat 32 a.val) (BitVec.ofNat 32 b.val) = if a.val ≤ b.val then 1#1 else 0#1 := by
  decide +kernel

theorem ninf : (FloatOps.ofBits (F := Ideal) .f32 0xFF800000#32 : EReal) = ⊥ := by
  show Ideal.ofBits .f32 0xFF800000#32 = ⊥
  simp [Ideal.ofBits, Ideal.ieee]

end Cert.ReferenceIdeal.Attn
end
-- ==== Proof.Point.lean ====
module
public import proofs.«01_k».proof.Proof.Chain
public import proofs.«01_k».proof.Proof.Ref
public import proofs.«01_k».proof.Proof.Gen.KernelIdeal.Value
@[expose] public section
set_option maxRecDepth 16384
noncomputable section

/-! What a grid point reads and stores, as entries of the arguments. -/

namespace Cert.KernelIdeal.Attn
open Cert.KernelIdeal Cert.KernelIdeal.Gen Idealize.ShloMosaic Idealize.ShloMosaic.TcCoe Idealize.SL.Sem

variable (m : (ℓ : Loc nD τ sig) → Buf (Elt Ideal) ℓ) (c : Dev nD)

abbrev a0 : Vec Ideal S8704x2048 .f32 := m ((c : Thread nD τ).loc main_arg0)
abbrev a1 : Vec Ideal S8192x2048 .f32 := m ((c : Thread nD τ).loc main_arg1)
abbrev a2 : Vec Ideal S8192x2048 .f32 := m ((c : Thread nD τ).loc main_arg2)
abbrev a3 : Vec Ideal S8704x8192 .f32 := m ((c : Thread nD τ).loc main_arg3)
abbrev a4 : Vec Ideal S4x64 .f32 := m ((c : Thread nD τ).loc main_arg4)
abbrev a5 : Vec Ideal S128 .f32 := m ((c : Thread nD τ).loc main_arg5)

theorem widx : ∀ t : Fin cfg0.N,
    (win0_0.index t 0 = t.val / 16 * 8 + t.val % 8 ∧ win0_0.index t 1 = t.val / 8 % 2)
    ∧ (win0_1.index t 0 = t.val / 16 ∧ win0_1.index t 1 = t.val / 8 % 2)
    ∧ (win0_2.index t 0 = t.val / 16 ∧ win0_2.index t 1 = t.val / 8 % 2)
    ∧ (win0_3.index t 0 = t.val / 16 * 8 + t.val % 8 ∧ win0_3.index t 1 = 6 + t.val / 8 % 2)
    ∧ (win0_4.index t 0 = 0 ∧ win0_4.index t 1 = 0) ∧ (win0_5.index t 0 = 0 ∧ win0_5.index t 1 = 0)
    ∧ (win0_6.index t 0 = t.val / 16 * 8 + t.val % 8 ∧ win0_6.index t 1 = t.val / 8 % 2) ∧ (grid0.coords t 2).val = t.val % 8 := by
  decide +kernel

theorem iblk0_at (t : Fin cfg0.N) (y : S256x1024.Idx) :
    (iblk m c 0 t : Vec Ideal S256x1024 .f32) y
      = rd 8704 2048 (a0 m c) (256 * (t.val / 16 * 8 + t.val % 8) + (y 0).val) (1024 * (t.val / 8 % 2) + (y 1).val) := by
  unfold iblk
  rw [View.read_apply]
  show V m c main_arg0 _ = _
  rw [V_main_arg0]
  refine rd_of (a0 m c) _ ?_ ?_
  · show win0_0.index t 0 * 256 + 1 * (y 0).val = _; rw [(widx t).1.1]; omega
  · show win0_0.index t 1 * 1024 + 1 * (y 1).val = _; rw [(widx t).1.2]; omega

theorem iblk1_at (t : Fin cfg0.N) (y : S2048x1024.Idx) :
    (iblk m c 1 t : Vec Ideal S2048x1024 .f32) y
      = rd 8192 2048 (a1 m c) (2048 * (t.val / 16) + (y 0).val) (1024 * (t.val / 8 % 2) + (y 1).val) := by
  unfold iblk
  rw [View.read_apply]
  show V m c main_arg1 _ = _
  rw [V_main_arg1]
  refine rd_of (a1 m c) _ ?_ ?_
  · show win0_1.index t 0 * 2048 + 1 * (y 0).val = _; rw [(widx t).2.1.1]; omega
  · show win0_1.index t 1 * 1024 + 1 * (y 1).val = _; rw [(widx t).2.1.2]; omega

theorem iblk2_at (t : Fin cfg0.N) (y : S2048x1024.Idx) :
    (iblk m c 2 t : Vec Ideal S2048x1024 .f32) y
      = rd 8192 2048 (a2 m c) (2048 * (t.val / 16) + (y 0).val) (1024 * (t.val / 8 % 2) + (y 1).val) := by
  unfold iblk
  rw [View.read_apply]
  show V m c main_arg2 _ = _
  rw [V_main_arg2]
  refine rd_of (a2 m c) _ ?_ ?_
  · show win0_2.index t 0 * 2048 + 1 * (y 0).val = _; rw [(widx t).2.2.1.1]; omega
  · show win0_2.index t 1 * 1024 + 1 * (y 1).val = _; rw [(widx t).2.2.1.2]; omega

theorem iblk3_at (t : Fin cfg0.N) (y : S256x1024.Idx) :
    (iblk m c 3 t : Vec Ideal S256x1024 .f32) y
      = rd 8704 8192 (a3 m c) (256 * (t.val / 16 * 8 + t.val % 8) + (y 0).val) (6144 + (1024 * (t.val / 8 % 2) + (y 1).val)) := by
  unfold iblk
  rw [View.read_apply]
  show V m c main_arg3 _ = _
  rw [V_main_arg3]
  refine rd_of (a3 m c) _ ?_ ?_
  · show win0_3.index t 0 * 256 + 1 * (y 0).val = _; rw [(widx t).2.2.2.1.1]; omega
  · show win0_3.index t 1 * 1024 + 1 * (y 1).val = _; rw [(widx t).2.2.2.1.2]; omega

theorem iblk4_at (t : Fin cfg0.N) : (iblk m c 4 t : Vec Ideal S4x64 .f32) = a4 m c := by
  funext y
  unfold iblk
  rw [View.read_apply]
  show V m c main_arg4 _ = _
  rw [V_main_arg4]
  refine congrArg (a4 m c) (funext fun a => Fin.ext ?_)
  match a with
  | ⟨0, _⟩ => show win0_4.index t 0 * 4 + 1 * (y 0).val = (y 0).val; rw [(widx t).2.2.2.2.1.1]; omega
  | ⟨1, _⟩ => show win0_4.index t 1 * 64 + 1 * (y 1).val = (y 1).val; rw [(widx t).2.2.2.2.1.2]; omega

theorem V_v0 : V m c main_v0 = shapeCast S1x128 (a5 m c) shapeCasts_S128_S1x128 := rfl

theorem iblk5_at (t : Fin cfg0.N) (d : Fin 128) : (iblk m c 5 t : Vec Ideal S1x128 .f32) (ix2 0 d) = a5 m c (ix1 d) := by
  unfold iblk
  rw [View.read_apply]
  show V m c main_v0 _ = _
  rw [V_v0]
  refine shapeCast_apply (a5 m c) shapeCasts_S128_S1x128 _ (ix1 d) ?_
  rw [Shape.rowMajor_val_two, Shape.rowMajor_val_one]
  show d.val = (win0_5.index t 0 * 1 + 1 * 0) * 128 + (win0_5.index t 1 * 128 + 1 * d.val)
  rw [(widx t).2.2.2.2.2.1.1, (widx t).2.2.2.2.2.1.2]
  omega

/-- The keys and the values as the scratch holds them at point `n`. -/
def keys (n : ℕ) : Vec Ideal S2048x1024 .bf16 := fun y => rd 8192 2048 (a1 m c) (2048 * (n / 16) + (y 0).val) (1024 * (n / 8 % 2) + (y 1).val)
def vals (n : ℕ) : Vec Ideal S2048x1024 .bf16 := fun y => rd 8192 2048 (a2 m c) (2048 * (n / 16) + (y 0).val) (1024 * (n / 8 % 2) + (y 1).val)

theorem cast1 (t : Fin cfg0.N) : k0_pay186 (F := Ideal) (iblk m c 1 t) = keys m c t.val := by
  funext y
  refine Eq.trans ?_ (iblk1_at m c t y)
  unfold k0_pay186
  exact shapeCast_apply (truncf (F := Ideal) .bf16 (iblk m c 1 t) bitsLt_bf16_f32) shapeCasts_S2048x1024_S2048x1024 y y rfl

theorem cast2 (t : Fin cfg0.N) : k0_pay187 (F := Ideal) (iblk m c 2 t) = vals m c t.val := by
  funext y
  refine Eq.trans ?_ (iblk2_at m c t y)
  unfold k0_pay187
  exact shapeCast_apply (truncf (F := Ideal) .bf16 (iblk m c 2 t) bitsLt_bf16_f32) shapeCasts_S2048x1024_S2048x1024 y y rfl

end Cert.KernelIdeal.Attn
end
-- ==== Proof.Outs.lean ====
module
public import proofs.«01_k».proof.Proof.RunA
public import proofs.«01_k».proof.Proof.Point
@[expose] public section
set_option maxRecDepth 16384
noncomputable section

/-! What each grid point leaves in its output block and in the scratch. -/

namespace Cert.KernelIdeal.Attn
open Cert.KernelIdeal Cert.KernelIdeal.Gen Idealize.ShloMosaic Idealize.ShloMosaic.TcCoe Idealize.SL.Sem

theorem outB (c : Dev nD) (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (hc0 : ¬cond0_0 i)
    (x0 : Vec Ideal S256x1024 .f32) (x1 : Vec Ideal S2048x1024 .f32) (x2 : Vec Ideal S2048x1024 .f32) (x3 : Vec Ideal S256x1024 .f32) (x4 : Vec Ideal S4x64 .f32) (x5 : Vec Ideal S1x128 .f32) (X V : Vec Ideal S2048x1024 .bf16) (y : S256x1024.Idx) :
    out0_B_6 c i arg3 harg3 arg4 harg4 arg5 harg5 arg6 harg6 arg7 harg7 arg8 harg8 arg9 harg9 arg10 harg10 arg11 harg11 hc0 x0 x1 x2 x3 x4 x5 X V y = outBlk (i 2).val x0 x3 x4 x5 X V y := by
  unfold out0_B_6
  rw [View.read_writes_junk_eq_canon]
  have hy := cover0_B_6 c i arg3 harg3 arg4 harg4 arg5 harg5 arg6 harg6 arg7 harg7 arg8 harg8 arg9 harg9 arg10 harg10 arg11 harg11 hc0 x0 x1 x2 x3 x4 x5 X V y
  rw [runB_eq] at hy ⊢
  exact pieces_eq c i arg3 harg3 arg4 harg4 arg5 harg5 arg6 harg6 arg7 harg7 arg8 harg8 arg9 harg9 arg10 harg10 arg11 harg11 x0 x3 x4 x5 X V y hy

theorem outA (c : Dev nD) (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (hc0 : cond0_0 i)
    (x0 : Vec Ideal S256x1024 .f32) (x1 : Vec Ideal S2048x1024 .f32) (x2 : Vec Ideal S2048x1024 .f32) (x3 : Vec Ideal S256x1024 .f32) (x4 : Vec Ideal S4x64 .f32) (x5 : Vec Ideal S1x128 .f32) (y : S256x1024.Idx) :
    out0_A_6 c i arg3 harg3 arg4 harg4 arg5 harg5 arg6 harg6 arg7 harg7 arg8 harg8 arg9 harg9 arg10 harg10 arg11 harg11 hc0 x0 x1 x2 x3 x4 x5 y = outBlk (i 2).val x0 x3 x4 x5 (k0_pay186 x1) (k0_pay187 x2) y := by
  unfold out0_A_6
  rw [View.read_writes_junk_eq_canon]
  have hy := cover0_A_6 c i arg3 harg3 arg4 harg4 arg5 harg5 arg6 harg6 arg7 harg7 arg8 harg8 arg9 harg9 arg10 harg10 arg11 harg11 hc0 x0 x1 x2 x3 x4 x5 y
  rw [runA_eq, ld_whole arg4 harg4 x1 (by decide) inb_S2048x1024_S2048x1024_0_0, ld_whole arg5 harg5 x2 (by decide) inb_S2048x1024_S2048x1024_0_0, writes_whole arg10 harg10, writes_whole arg11 harg11] at hy ⊢
  exact pieces_eq c i arg3 harg3 arg4 harg4 arg5 harg5 arg6 harg6 arg7 harg7 arg8 harg8 arg9 harg9 arg10 harg10 arg11 harg11 x0 x3 x4 x5 _ _ y hy

theorem soutA0 (c : Dev nD) (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (hc0 : cond0_0 i)
    (x0 : Vec Ideal S256x1024 .f32) (x1 : Vec Ideal S2048x1024 .f32) (x2 : Vec Ideal S2048x1024 .f32) (x3 : Vec Ideal S256x1024 .f32) (x4 : Vec Ideal S4x64 .f32) (x5 : Vec Ideal S1x128 .f32) : sout0_A_0 c i arg3 harg3 arg4 harg4 arg5 harg5 arg6 harg6 arg7 harg7 arg8 harg8 arg9 harg9 arg10 harg10 arg11 harg11 hc0 x0 x1 x2 x3 x4 x5 = k0_pay186 x1 := by
  unfold sout0_A_0
  rw [View.read_writes_junk_eq_canon]
  unfold kernelRun0_A
  refine (View.canon_unit_zero (by decide) inb_S2048x1024_S2048x1024_0_0 _).trans ?_
  exact congrArg k0_pay186 (ld_whole arg4 harg4 x1 (by decide) inb_S2048x1024_S2048x1024_0_0)

theorem soutA1 (c : Dev nD) (i : grid0.Coords) (arg3 : Memref sig .tc .vmem S256x1024 .f32) (harg3 : arg3.IsWhole) (arg4 : Memref sig .tc .vmem S2048x1024 .f32) (harg4 : arg4.IsWhole) (arg5 : Memref sig .tc .vmem S2048x1024 .f32) (harg5 : arg5.IsWhole) (arg6 : Memref sig .tc .vmem S256x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S256x1024 .bf16) (harg9 : arg9.IsWhole) (arg10 : Memref sig .tc .vmem S2048x1024 .bf16) (harg10 : arg10.IsWhole) (arg11 : Memref sig .tc .vmem S2048x1024 .bf16) (harg11 : arg11.IsWhole) (hc0 : cond0_0 i)
    (x0 : Vec Ideal S256x1024 .f32) (x1 : Vec Ideal S2048x1024 .f32) (x2 : Vec Ideal S2048x1024 .f32) (x3 : Vec Ideal S256x1024 .f32) (x4 : Vec Ideal S4x64 .f32) (x5 : Vec Ideal S1x128 .f32) : sout0_A_1 c i arg3 harg3 arg4 harg4 arg5 harg5 arg6 harg6 arg7 harg7 arg8 harg8 arg9 harg9 arg10 harg10 arg11 harg11 hc0 x0 x1 x2 x3 x4 x5 = k0_pay187 x2 := by
  unfold sout0_A_1
  rw [View.read_writes_junk_eq_canon]
  unfold kernelRun0_A
  refine (View.canon_unit_zero (by decide) inb_S2048x1024_S2048x1024_0_0 _).trans ?_
  exact congrArg k0_pay187 (ld_whole arg5 harg5 x2 (by decide) inb_S2048x1024_S2048x1024_0_0)

variable (m : (ℓ : Loc nD τ sig) → Buf (Elt Ideal) ℓ) (c : Dev nD)

theorem scratch (n : ℕ) : ∀ hn : n < cfg0.N, (outsAt0 m c n hn).2.1 = keys m c n ∧ (outsAt0 m c n hn).2.2 = vals m c n := by
  induction n using Nat.strong_induction_on with
  | _ n ih =>
    intro hn
    by_cases h0 : n % 8 = 0
    · rw [outsAt0_A m c ⟨n, hn⟩ h0]
      dsimp only
      rw [soutA0, soutA1, cast1, cast2]
      exact ⟨rfl, rfl⟩
    · rw [outsAt0_B m c ⟨n, hn⟩ h0]
      have h := ih (n - 1) (by omega) (Nat.lt_of_le_of_lt (Nat.sub_le _ _) hn)
      have e1 : (n - 1) / 16 = n / 16 := by omega
      have e2 : (n - 1) / 8 = n / 8 := by omega
      refine ⟨h.1.trans ?_, h.2.trans ?_⟩
      · unfold keys; rw [e1, e2]
      · unfold vals; rw [e1, e2]

theorem out_at (t : Fin cfg0.N) (y : S256x1024.Idx) :
    (outsAt0 m c t.val t.isLt).1 y
      = outBlk (t.val % 8) (iblk m c 0 t) (iblk m c 3 t) (iblk m c 4 t) (iblk m c 5 t) (keys m c t.val) (vals m c t.val) y := by
  by_cases h0 : t.val % 8 = 0
  · rw [outsAt0_A m c t h0]
    dsimp only
    rw [outA, cast1, cast2, (widx t).2.2.2.2.2.2.2]
  · have h := scratch m c (t.val - 1) (Nat.lt_of_le_of_lt (Nat.sub_le _ _) t.isLt)
    have e1 : (t.val - 1) / 16 = t.val / 16 := by omega
    have e2 : (t.val - 1) / 8 = t.val / 8 := by omega
    have k1 : keys m c (t.val - 1) = keys m c t.val := by unfold keys; rw [e1, e2]
    have k2 : vals m c (t.val - 1) = vals m c t.val := by unfold vals; rw [e1, e2]
    rw [outsAt0_B m c t h0]
    dsimp only
    rw [outB, h.1, h.2, k1, k2, (widx t).2.2.2.2.2.2.2]

end Cert.KernelIdeal.Attn
end
-- ==== Proof.RefVal.lean ====
module
public import proofs.«01_k».proof.Proof.Ref
@[expose] public section
set_option maxRecDepth 16384
noncomputable section

/-! The reference's result at an entry. -/

namespace Cert.ReferenceIdeal.Attn
open Cert.ReferenceIdeal Cert.ReferenceIdeal.Gen Cert.ReferenceIdeal.Read Idealize.ShloMosaic Idealize.ShloMosaic.TcCoe Idealize.SL.Sem

theorem v12_at (i x : Fin 2048) : val_main_v12 (F := Ideal) (ix2 i x) = if x.val / 64 ≤ i.val / 64 then 1#1 else 0#1 := by
  rw [val_main_v12_apply, val_main_v10_apply, val_main_v7_apply, val_main_v11_apply, val_main_v9_apply]
  rw [show idx_main_v7 (idx_main_v10 (ix2 i x)) = ix1 x from funext fun a => match a with | ⟨0, _⟩ => rfl,
    show idx_main_v9 (idx_main_v11 (ix2 i x)) = ix1 i from funext fun a => match a with | ⟨0, _⟩ => rfl, chunk6, chunk8]
  exact sle32 ⟨x.val / 64, by omega⟩ ⟨i.val / 64, by omega⟩

theorem sel1 (a b : EReal) : Scalar.select 1#1 a b = a := rfl

theorem v34_at (x0 : Vec Ideal S8704x2048 .f32) (x1 : Vec Ideal S8192x2048 .f32) (b : Fin 4) (H : Fin 16) (i x : Fin 2048) :
    val_main_v34 (F := Ideal) x0 x1 (ix4 b H i x) = sc x0 x1 b.val i.val (128 * H.val) x.val := by
  rw [val_main_v34_apply, val_main_call2_v1_apply, val_main_call2_v2_apply, val_main_call2_v0_apply, val_main_cst_3_apply, ninf, val_main_v33_apply]
  rw [show idx_main_call2_v1 (ix4 b H i x) = ix2 i x from funext fun a => match a with | ⟨0, _⟩ => rfl | ⟨1, _⟩ => rfl, v12_at]
  unfold sc
  by_cases h : x.val / 64 ≤ i.val / 64
  · rw [if_pos h, if_pos h, sel1]
    refine Finset.sum_congr rfl fun j _ => ?_
    rw [← v30_at x0 b i H j, ← v32_at x1 b x H j]
    congr 2
    · funext a; match a with | ⟨0, _⟩ => rfl | ⟨1, _⟩ => rfl | ⟨2, _⟩ => rfl | ⟨3, _⟩ => rfl
    · funext a; match a with | ⟨0, _⟩ => rfl | ⟨1, _⟩ => rfl | ⟨2, _⟩ => rfl | ⟨3, _⟩ => rfl
  · rw [if_neg h, if_neg h]; rfl

theorem v51_at (x0 : Vec Ideal S8704x2048 .f32) (x1 : Vec Ideal S8192x2048 .f32) (b : Fin 4) (H : Fin 16) (i x : Fin 2048) :
    val_main_v51 (F := Ideal) x0 x1 (ix4 b H i x) = sc x0 x1 b.val i.val (128 * H.val + 64) x.val := by
  rw [val_main_v51_apply, val_main_call3_v1_apply, val_main_call3_v2_apply, val_main_call3_v0_apply, val_main_cst_7_apply, ninf, val_main_v50_apply]
  rw [show idx_main_call3_v1 (ix4 b H i x) = ix2 i x from funext fun a => match a with | ⟨0, _⟩ => rfl | ⟨1, _⟩ => rfl, v12_at]
  unfold sc
  by_cases h : x.val / 64 ≤ i.val / 64
  · rw [if_pos h, if_pos h, sel1]
    refine Finset.sum_congr rfl fun j _ => ?_
    rw [← v47_at x0 b i H j, ← v49_at x1 b x H j]
    congr 2
    · funext a; match a with | ⟨0, _⟩ => rfl | ⟨1, _⟩ => rfl | ⟨2, _⟩ => rfl | ⟨3, _⟩ => rfl
    · funext a; match a with | ⟨0, _⟩ => rfl | ⟨1, _⟩ => rfl | ⟨2, _⟩ => rfl | ⟨3, _⟩ => rfl
  · rw [if_neg h, if_neg h]; rfl

/-- A maximum over the last axis, at an index. -/
theorem rowmax (y : Vec Ideal S4x16x2048x2048 .f32) (z : Vec Ideal S_ .f32) (hz : z (Shape.Idx.first h_S_) = (⊥ : EReal))
    (b : Fin 4) (H : Fin 16) (i : Fin 2048) (s : ℕ → EReal) (hs : ∀ x : Fin 2048, y (ix4 b H i x) = s x.val) :
    (Host.reduce (FloatOps.maximumf (F := Ideal) (φ := .f32)) y z reducesTo_S4x16x2048x2048_S4x16x2048_d3 h_S_ (ix3 b H i) : EReal) = Flash.top s := by
  refine (Host.reduce_eq_fold_single (α := EReal) max y z reducesTo_S4x16x2048x2048_S4x16x2048_d3 (by decide) h_S_ (ix3 b H i)).trans ?_
  rw [hz]
  unfold Flash.top
  refine congrArg (fun f => Finset.univ.fold max ⊥ f) (funext fun x : Fin 2048 => ?_)
  rw [← hs x]
  refine congrArg y (funext fun a => Fin.ext ?_)
  match a with | ⟨0, _⟩ => rfl | ⟨1, _⟩ => rfl | ⟨2, _⟩ => rfl | ⟨3, _⟩ => rfl

theorem v37_at (x0 : Vec Ideal S8704x2048 .f32) (x1 : Vec Ideal S8192x2048 .f32) (b : Fin 4) (H : Fin 16) (i : Fin 2048) :
    val_main_v37 (F := Ideal) x0 x1 (ix3 b H i) = Flash.top (sc x0 x1 b.val i.val (128 * H.val)) := by
  rw [val_main_v37_apply, val_main_v36_apply, val_main_cst_5_apply, ninf]
  unfold val_main_v35
  refine (max_eq_right bot_le).trans (rowmax _ _ ?_ b H i _ fun x => v34_at x0 x1 b H i x)
  rw [val_main_cst_4_apply, ninf]

theorem v54_at (x0 : Vec Ideal S8704x2048 .f32) (x1 : Vec Ideal S8192x2048 .f32) (b : Fin 4) (H : Fin 16) (i : Fin 2048) :
    val_main_v54 (F := Ideal) x0 x1 (ix3 b H i) = Flash.top (sc x0 x1 b.val i.val (128 * H.val + 64)) := by
  rw [val_main_v54_apply, val_main_v53_apply, val_main_cst_9_apply, ninf]
  unfold val_main_v52
  refine (max_eq_right bot_le).trans (rowmax _ _ ?_ b H i _ fun x => v51_at x0 x1 b H i x)
  rw [val_main_cst_8_apply, ninf]

/-- A softmax weight of a row of scores. -/
def wt (s : ℕ → EReal) (x : ℕ) : EReal :=
  Ideal.div (Ideal.exp (s x - Flash.top s)) (∑ y : Fin 2048, Ideal.exp (s y.val - Flash.top s))

theorem zf : (FloatOps.ofBits (F := Ideal) .f32 0x00000000#32 : EReal) = 0 := Ideal.ofBits_zero_f32

theorem v41_at (x0 : Vec Ideal S8704x2048 .f32) (x1 : Vec Ideal S8192x2048 .f32) (b : Fin 4) (H : Fin 16) (i x : Fin 2048) :
    val_main_v41 (F := Ideal) x0 x1 (ix4 b H i x) = Ideal.exp (sc x0 x1 b.val i.val (128 * H.val) x.val - Flash.top (sc x0 x1 b.val i.val (128 * H.val))) := by
  rw [val_main_v41_apply, val_main_v40_apply, val_main_v39_apply, val_main_v38_apply, v34_at]
  rw [show idx_main_v38 (idx_main_v39 (ix4 b H i x)) = ix3 b H i from funext fun a => match a with | ⟨0, _⟩ => rfl | ⟨1, _⟩ => rfl | ⟨2, _⟩ => rfl, v37_at]
  rfl

theorem v58_at (x0 : Vec Ideal S8704x2048 .f32) (x1 : Vec Ideal S8192x2048 .f32) (b : Fin 4) (H : Fin 16) (i x : Fin 2048) :
    val_main_v58 (F := Ideal) x0 x1 (ix4 b H i x) = Ideal.exp (sc x0 x1 b.val i.val (128 * H.val + 64) x.val - Flash.top (sc x0 x1 b.val i.val (128 * H.val + 64))) := by
  rw [val_main_v58_apply, val_main_v57_apply, val_main_v56_apply, val_main_v55_apply, v51_at]
  rw [show idx_main_v55 (idx_main_v56 (ix4 b H i x)) = ix3 b H i from funext fun a => match a with | ⟨0, _⟩ => rfl | ⟨1, _⟩ => rfl | ⟨2, _⟩ => rfl, v54_at]
  rfl

theorem v45_at (x0 : Vec Ideal S8704x2048 .f32) (x1 : Vec Ideal S8192x2048 .f32) (b : Fin 4) (H : Fin 16) (i x : Fin 2048) :
    val_main_v45 (F := Ideal) x0 x1 (ix4 b H i x) = wt (sc x0 x1 b.val i.val (128 * H.val)) x.val := by
  rw [val_main_v45_apply, val_main_v44_apply, val_main_v43_apply, val_main_v42_apply, val_main_cst_6_apply, zf, zero_add, v41_at]
  unfold wt
  refine congrArg (Ideal.div _) (Finset.sum_congr rfl fun y _ => ?_)
  rw [← v41_at x0 x1 b H i y]
  congr 1
  funext a; match a with | ⟨0, _⟩ => rfl | ⟨1, _⟩ => rfl | ⟨2, _⟩ => rfl | ⟨3, _⟩ => rfl

theorem v62_at (x0 : Vec Ideal S8704x2048 .f32) (x1 : Vec Ideal S8192x2048 .f32) (b : Fin 4) (H : Fin 16) (i x : Fin 2048) :
    val_main_v62 (F := Ideal) x0 x1 (ix4 b H i x) = wt (sc x0 x1 b.val i.val (128 * H.val + 64)) x.val := by
  rw [val_main_v62_apply, val_main_v61_apply, val_main_v60_apply, val_main_v59_apply, val_main_cst_10_apply, zf, zero_add, v58_at]
  unfold wt
  refine congrArg (Ideal.div _) (Finset.sum_congr rfl fun y _ => ?_)
  rw [← v58_at x0 x1 b H i y]
  congr 1
  funext a; match a with | ⟨0, _⟩ => rfl | ⟨1, _⟩ => rfl | ⟨2, _⟩ => rfl | ⟨3, _⟩ => rfl

/-- The weight of the second map. -/
def lam (l : Vec Ideal S4x64 .f32) : EReal :=
  Ideal.exp (∑ j : Fin 64, l (ix2 0 j) * l (ix2 1 j)) - Ideal.exp (∑ j : Fin 64, l (ix2 2 j) * l (ix2 3 j))
    + Ideal.ofBits .f32 0x3E4CCCCD#32

theorem l_at (l : Vec Ideal S4x64 .f32) (i : S4x64.Idx) (r : Fin 4) (j : Fin 64) (h0 : (i 0).val = r.val) (h1 : (i 1).val = j.val) : l i = l (ix2 r j) := by
  refine congrArg l (funext fun a => Fin.ext ?_)
  match a with | ⟨0, _⟩ => exact h0 | ⟨1, _⟩ => exact h1

theorem lam_at (l : Vec Ideal S4x64 .f32) (i : S_.Idx) : val_main_v28 (F := Ideal) l i = lam l := by
  rw [val_main_v28_apply, val_main_v27_apply, val_main_v19_apply, val_main_v26_apply, val_main_v18_apply, val_main_v25_apply,
    val_main_cst_apply, val_main_cst_1_apply, zf, zero_add, zero_add, val_main_cst_2_apply]
  unfold lam
  have h1 : (∑ j : S64.Idx, val_main_v17 (F := Ideal) l j) = ∑ j : Fin 64, l (ix2 0 j) * l (ix2 1 j) := by
    refine (sum_idx1 (n0 := 64) _).trans (Finset.sum_congr rfl fun j _ => ?_)
    rw [val_main_v17_apply, val_main_v14_apply, val_main_v16_apply, val_main_v13_apply, val_main_v15_apply]
    exact congrArg₂ (· * ·) (l_at l _ 0 j rfl (Nat.mod_eq_of_lt j.isLt)) (l_at l _ 1 j rfl (Nat.mod_eq_of_lt j.isLt))
  have h2 : (∑ j : S64.Idx, val_main_v24 (F := Ideal) l j) = ∑ j : Fin 64, l (ix2 2 j) * l (ix2 3 j) := by
    refine (sum_idx1 (n0 := 64) _).trans (Finset.sum_congr rfl fun j _ => ?_)
    rw [val_main_v24_apply, val_main_v21_apply, val_main_v23_apply, val_main_v20_apply, val_main_v22_apply]
    exact congrArg₂ (· * ·) (l_at l _ 2 j rfl (Nat.mod_eq_of_lt j.isLt)) (l_at l _ 3 j rfl (Nat.mod_eq_of_lt j.isLt))
  rw [h1, h2]
  rfl

/-- The attention's row before the norm: lane `e` of head `H` at query `i` of sequence `b`. -/
def att (x0 : Vec Ideal S8704x2048 .f32) (x1 x2 : Vec Ideal S8192x2048 .f32) (l : Vec Ideal S4x64 .f32) (b i H e : ℕ) : EReal :=
  ∑ x : Fin 2048, (wt (sc x0 x1 b i (128 * H)) x.val - lam l * wt (sc x0 x1 b i (128 * H + 64)) x.val)
    * rd 8192 2048 x2 (2048 * b + x.val) (128 * H + e)

theorem v67_at (x0 : Vec Ideal S8704x2048 .f32) (x1 x2 : Vec Ideal S8192x2048 .f32) (l : Vec Ideal S4x64 .f32) (b : Fin 4) (i : Fin 2048) (H : Fin 16) (e : Fin 128) :
    val_main_v67 (F := Ideal) x0 x1 x2 l (ix4 b i H e) = att x0 x1 x2 l b.val i.val H.val e.val := by
  rw [val_main_v67_apply, val_main_v66_apply]
  unfold att
  refine Finset.sum_congr rfl fun x _ => ?_
  rw [mul_comm]
  rw [show ridx_main_v66 (idx_main_v67 (ix4 b i H e)) x = ix4 b H i x from funext fun a => match a with | ⟨0, _⟩ => rfl | ⟨1, _⟩ => rfl | ⟨2, _⟩ => rfl | ⟨3, _⟩ => rfl,
    show lidx_main_v66 (idx_main_v67 (ix4 b i H e)) x = ix4 b x H e from funext fun a => match a with | ⟨0, _⟩ => rfl | ⟨1, _⟩ => rfl | ⟨2, _⟩ => rfl | ⟨3, _⟩ => rfl,
    v3_at, val_main_v65_apply, val_main_v64_apply, val_main_v63_apply, lam_at, v45_at, v62_at]
  rfl

/-- Normalise a row `o` of 128 numbers by its root mean square, scale it and gate it. -/
def fin (o : Fin 128 → EReal) (g gate : EReal) (d : Fin 128) : EReal :=
  o d * Ideal.rsqrt (Ideal.div (∑ k, o k * o k) (Ideal.ofBits .f32 0x43000000#32) + Ideal.ofBits .f32 0x3727C5AC#32) * g
    * Ideal.ofBits .f32 0x3F4CCCCD#32 * (gate * Ideal.div 1 (1 + Ideal.exp (-gate)))

theorem v82_at (x0 : Vec Ideal S8704x2048 .f32) (x1 x2 : Vec Ideal S8192x2048 .f32) (l : Vec Ideal S4x64 .f32) (g : Vec Ideal S128 .f32) (b : Fin 4) (i : Fin 2048) (H : Fin 16) (d : Fin 128)
    (o : Fin 128 → EReal) (ho : ∀ e, att x0 x1 x2 l b.val i.val H.val e.val = o e) :
    val_main_v82 (F := Ideal) x0 x1 x2 l g (ix4 b i H d)
      = o d * Ideal.rsqrt (Ideal.div (∑ k, o k * o k) (Ideal.ofBits .f32 0x43000000#32) + Ideal.ofBits .f32 0x3727C5AC#32) * g (ix1 d)
        * Ideal.ofBits .f32 0x3F4CCCCD#32 := by
  rw [val_main_v82_apply, val_main_v80_apply, val_main_v77_apply, val_main_v79_apply, val_main_v78_apply, val_main_v81_apply, val_main_cst_14_apply,
    val_main_v76_apply, val_main_v75_apply, val_main_v74_apply, val_main_v73_apply, val_main_cst_13_apply, val_main_v72_apply, val_main_v71_apply, val_main_cst_12_apply,
    val_main_v70_apply, val_main_v69_apply, val_main_cst_11_apply, zf, zero_add, v67_at, ho]
  have hs : (∑ k : Fin 128, val_main_v68 (F := Ideal) x0 x1 x2 l (idx_main_v69 (idx_main_v70 (idx_main_v76 (ix4 b i H d))) k)) = ∑ k, o k * o k := by
    refine Finset.sum_congr rfl fun k _ => ?_
    rw [show idx_main_v69 (idx_main_v70 (idx_main_v76 (ix4 b i H d))) k = ix4 b i H k from funext fun a => match a with | ⟨0, _⟩ => rfl | ⟨1, _⟩ => rfl | ⟨2, _⟩ => rfl | ⟨3, _⟩ => rfl,
      val_main_v68_apply, v67_at, ho]
    rfl
  rw [hs, show idx_main_v78 (idx_main_v79 (ix4 b i H d)) = ix1 d from funext fun a => match a with | ⟨0, _⟩ => rfl]
  rfl

theorem v84_at (x3 : Vec Ideal S8704x8192 .f32) (y : S8192x2048.Idx) :
    val_main_v84 (F := Ideal) x3 y = rd 8704 8192 x3 (y 0).val (6144 + (y 1).val) * Ideal.div 1 (1 + Ideal.exp (-rd 8704 8192 x3 (y 0).val (6144 + (y 1).val))) := by
  have h4 : val_main_v4 (F := Ideal) x3 y = rd 8704 8192 x3 (y 0).val (6144 + (y 1).val) := by
    rw [val_main_v4_apply]
    exact rd_of x3 _ rfl rfl
  have h1 : (FloatOps.ofBits (F := Ideal) .f32 0x3F800000#32 : EReal) = 1 := Ideal.ofBits_one_f32
  rw [val_main_v84_apply, val_main_call4_v5_apply, val_main_call4_v4_apply, val_main_call4_cst_0_apply, val_main_call4_v3_apply, val_main_call4_v2_apply,
    val_main_call4_cst_apply, val_main_call4_v1_apply, val_main_call4_v0_apply, h4, h1]
  rfl

theorem result_at (x0 : Vec Ideal S8704x2048 .f32) (x1 x2 : Vec Ideal S8192x2048 .f32) (x3 : Vec Ideal S8704x8192 .f32) (l : Vec Ideal S4x64 .f32) (g : Vec Ideal S128 .f32)
    (y : S8192x2048.Idx) (b : Fin 4) (i : Fin 2048) (H : Fin 16) (d : Fin 128) (h0 : (y 0).val = 2048 * b.val + i.val) (h1 : (y 1).val = 128 * H.val + d.val) :
    val_main_v86 (F := Ideal) x0 x1 x2 x3 l g y
      = fin (fun e => att x0 x1 x2 l b.val i.val H.val e.val) (g (ix1 d)) (rd 8704 8192 x3 (2048 * b.val + i.val) (6144 + (128 * H.val + d.val))) d := by
  rw [val_main_v86_apply, val_main_v85_apply, val_main_v83_apply, v84_at, h0, h1]
  rw [show idx_main_v83 y = ix4 b i H d from ?_, v82_at x0 x1 x2 l g b i H d _ fun _ => rfl]
  · rfl
  · have hi : i.val < 2048 := i.isLt
    have hb : b.val < 4 := b.isLt
    have hH : H.val < 16 := H.isLt
    have hd : d.val < 128 := d.isLt
    funext a
    apply Fin.ext
    match a with
    | ⟨0, _⟩ => show ((y 0).val * 2048 + (y 1).val) / 4194304 = b.val; omega
    | ⟨1, _⟩ => show ((y 0).val * 2048 + (y 1).val) / 2048 % 2048 = i.val; omega
    | ⟨2, _⟩ => show ((y 0).val * 2048 + (y 1).val) / 128 % 16 = H.val; omega
    | ⟨3, _⟩ => show ((y 0).val * 2048 + (y 1).val) % 128 = d.val; omega

end Cert.ReferenceIdeal.Attn
end
-- ==== Proof.Mix.lean ====
module
public import proofs.«01_k».proof.Proof.Head
public import proofs.«01_k».proof.Proof.RefVal
@[expose] public section
set_option maxRecDepth 16384
noncomputable section

/-! One output entry: the two softmax means, subtracted and normalised, against the subtracted maps applied to the values. -/

namespace Cert.KernelIdeal.Attn
open Cert.KernelIdeal Idealize.ShloMosaic Idealize.SL.Sem
open Cert.ReferenceIdeal.Attn (wt)

theorem width_real : ∃ r : ℝ, 0 < r ∧ Ideal.ofBits .f32 0x43000000#32 = (r : EReal) := by
  unfold Ideal.ofBits Ideal.ieee
  dsimp only
  rw [if_neg (by decide), if_neg (by decide)]
  refine ⟨_, ?_, rfl⟩
  exact mul_pos (mul_pos one_pos (Nat.cast_pos.2 (by decide))) (zpow_pos two_pos _)

theorem eps_real : ∃ r : ℝ, Ideal.ofBits .f32 0x3727C5AC#32 = (r : EReal) := by
  unfold Ideal.ofBits Ideal.ieee
  dsimp only
  rw [if_neg (by decide), if_neg (by decide)]
  exact ⟨_, rfl⟩

theorem lam0_real : ∃ r : ℝ, Ideal.ofBits .f32 0x3E4CCCCD#32 = (r : EReal) := by
  unfold Ideal.ofBits Ideal.ieee
  dsimp only
  rw [if_neg (by decide), if_neg (by decide)]
  exact ⟨_, rfl⟩

theorem tail_edge (o : Fin 128 → EReal) (h : ∀ e, Flash.Edge (o e)) (g gate : EReal) (d : Fin 128) :
    tail o g gate d = 0 * g * Ideal.ofBits .f32 0x3F4CCCCD#32 * (gate * Ideal.div 1 (1 + Ideal.exp (-gate))) := by
  obtain ⟨n, hn, en⟩ := width_real
  obtain ⟨r, er⟩ := eps_real
  unfold tail
  rw [en, er, Flash.edge_row o h hn]

theorem mix (s s' : ℕ → EReal) (m0 lam : ℝ) (V : Fin 128 → Fin 2048 → ℝ) (g gate : EReal) (d : Fin 128) :
    tail (fun k => Ideal.div (∑ x : Fin 2048, (V k x : EReal) * Ideal.exp (s x.val - max (m0 : EReal) (Flash.top s)))
          (∑ x : Fin 2048, Ideal.exp (s x.val - max (m0 : EReal) (Flash.top s)))
        - (lam : EReal) * Ideal.div (∑ x : Fin 2048, (V k x : EReal) * Ideal.exp (s' x.val - max (m0 : EReal) (Flash.top s')))
          (∑ x : Fin 2048, Ideal.exp (s' x.val - max (m0 : EReal) (Flash.top s')))) g gate d
      = tail (fun k => ∑ x : Fin 2048, (wt s x.val - (lam : EReal) * wt s' x.val) * (V k x : EReal)) g gate d := by
  have h1 := Flash.weights (s := fun x : Fin 2048 => s x.val) (M := Flash.top s) (Flash.le_top' s) (Flash.top_attained s) m0
  have h2 := Flash.weights (s := fun x : Fin 2048 => s' x.val) (M := Flash.top s') (Flash.le_top' s') (Flash.top_attained s') m0
  rcases Flash.diff_maps V lam h1 h2 with h | ⟨h, h'⟩
  · exact congrArg (fun o => tail o g gate d) (funext h)
  · exact (tail_edge _ h g gate d).trans (tail_edge _ h' g gate d).symm

theorem exp_real {x : EReal} (h : ∃ r : ℝ, x = (r : EReal)) : ∃ r : ℝ, Ideal.exp x = (r : EReal) := by
  obtain ⟨r, rfl⟩ := h
  exact ⟨_, rfl⟩

theorem dot_real {ι : Type} [Fintype ι] (f h : ι → EReal) (hf : ∀ i, ∃ r : ℝ, f i = (r : EReal)) (hh : ∀ i, ∃ r : ℝ, h i = (r : EReal)) :
    ∃ r : ℝ, ∑ i, f i * h i = (r : EReal) := by
  choose a ha using hf
  choose b hb using hh
  refine ⟨∑ i, a i * b i, ?_⟩
  rw [Flash.coe_sum]
  exact Finset.sum_congr rfl fun i _ => by rw [ha, hb, EReal.coe_mul]

theorem lamv_real (l : Vec Ideal S4x64 .f32) (h : ∀ i, ∃ r : ℝ, (l i : EReal) = (r : EReal)) : ∃ r : ℝ, lamv l = (r : EReal) := by
  obtain ⟨a, ha⟩ := exp_real (dot_real (fun j : Fin 64 => l (ix2 0 j)) (fun j => l (ix2 1 j)) (fun _ => h _) fun _ => h _)
  obtain ⟨b, hb⟩ := exp_real (dot_real (fun j : Fin 64 => l (ix2 2 j)) (fun j => l (ix2 3 j)) (fun _ => h _) fun _ => h _)
  obtain ⟨e, he⟩ := lam0_real
  refine ⟨a - b + e, ?_⟩
  unfold lamv
  rw [ha, hb, he, EReal.coe_add, EReal.coe_sub]

end Cert.KernelIdeal.Attn
end
-- ==== Proof.Final.lean ====
module
public import proofs.«01_k».proof.Proof.Outs
public import proofs.«01_k».proof.Proof.Mix
@[expose] public section
set_option maxRecDepth 16384
noncomputable section

/-! The array the kernel leaves is the reference's result. -/

namespace Cert.KernelIdeal.Attn
open Cert.KernelIdeal Cert.KernelIdeal.Gen Idealize.ShloMosaic Idealize.ShloMosaic.TcCoe Idealize.SL.Sem
open Cert.ReferenceIdeal.Attn (sc wt att result_at)
open Cert.ReferenceIdeal.Read (val_main_v86)

variable (m : (ℓ : Loc nD τ sig) → Buf (Elt Ideal) ℓ) (c : Dev nD)

theorem t_lt (t : Fin cfg0.N) : t.val < 64 := lt_of_lt_of_eq t.isLt (show cfg0.N = 64 from N_0)

/-- Of head `h`, an entry of the keys, of the values and of the queries, at their places in the arguments. -/
theorem key_at (t : Fin cfg0.N) (x o : ℕ) (hx : x < 2048) (ho : o < 1024) :
    kv (keys m c t.val) x o = rd 8192 2048 (a1 m c) (2048 * (t.val / 16) + x) (1024 * (t.val / 8 % 2) + o) := by
  show rd 8192 2048 (a1 m c) (2048 * (t.val / 16) + x % 2048) (1024 * (t.val / 8 % 2) + o % 1024) = _
  rw [Nat.mod_eq_of_lt hx, Nat.mod_eq_of_lt ho]

theorem val_at (t : Fin cfg0.N) (x o : ℕ) (hx : x < 2048) (ho : o < 1024) :
    kv (vals m c t.val) x o = rd 8192 2048 (a2 m c) (2048 * (t.val / 16) + x) (1024 * (t.val / 8 % 2) + o) := by
  show rd 8192 2048 (a2 m c) (2048 * (t.val / 16) + x % 2048) (1024 * (t.val / 8 % 2) + o % 1024) = _
  rw [Nat.mod_eq_of_lt hx, Nat.mod_eq_of_lt ho]

theorem qry_at (t : Fin cfg0.N) (r : Fin 256) (o : ℕ) (ho : o < 1024) :
    (iblk m c 0 t : Vec Ideal S256x1024 .f32) (ix2 r ⟨o % 1024, Nat.mod_lt _ (by decide)⟩)
      = rd 8704 2048 (a0 m c) (2048 * (t.val / 16) + (256 * (t.val % 8) + r.val)) (1024 * (t.val / 8 % 2) + o) := by
  rw [iblk0_at]
  show rd 8704 2048 (a0 m c) (256 * (t.val / 16 * 8 + t.val % 8) + r.val) (1024 * (t.val / 8 % 2) + o % 1024) = _
  rw [Nat.mod_eq_of_lt ho]
  congr 1
  omega

theorem score0 (t : Fin cfg0.N) (h : ℕ) (hh : h < 8) (r : Fin 256) (x : ℕ) :
    msk (qv (qblk (iblk m c 0 t : Vec Ideal S256x1024 .f32) (128 * h)) 0) (keys m c t.val) h (t.val % 8) r x
      = sc (a0 m c) (a1 m c) (t.val / 16) (256 * (t.val % 8) + r.val) (128 * (8 * (t.val / 8 % 2) + h)) x := by
  unfold msk sc
  by_cases hx : x / 64 ≤ (256 * (t.val % 8) + r.val) / 64
  · rw [if_pos hx, if_pos hx, raw0]
    refine Finset.sum_congr rfl fun j _ => ?_
    have hr := r.isLt
    have hj := j.isLt
    rw [key_at m c t x _ (by omega) (by omega), qry_at m c t r _ (by omega), mul_comm]
    rw [show 1024 * (t.val / 8 % 2) + (128 * h + j.val) = 128 * (8 * (t.val / 8 % 2) + h) + j.val by omega]
  · rw [if_neg hx, if_neg hx]

theorem score1 (t : Fin cfg0.N) (h : ℕ) (hh : h < 8) (r : Fin 256) (x : ℕ) :
    msk (qv (qblk (iblk m c 0 t : Vec Ideal S256x1024 .f32) (128 * h)) 1) (keys m c t.val) h (t.val % 8) r x
      = sc (a0 m c) (a1 m c) (t.val / 16) (256 * (t.val % 8) + r.val) (128 * (8 * (t.val / 8 % 2) + h) + 64) x := by
  unfold msk sc
  by_cases hx : x / 64 ≤ (256 * (t.val % 8) + r.val) / 64
  · rw [if_pos hx, if_pos hx, raw1]
    refine Finset.sum_congr rfl fun j _ => ?_
    have hr := r.isLt
    have hj := j.isLt
    rw [key_at m c t x _ (by omega) (by omega), qry_at m c t r _ (by omega), mul_comm]
    rw [show 1024 * (t.val / 8 % 2) + (128 * h + 64 + j.val) = 128 * (8 * (t.val / 8 % 2) + h) + 64 + j.val by omega]
  · rw [if_neg hx, if_neg hx]

/-- What a point stores, over finite values and a finite lambda table. -/
theorem point_eq (hv : ∀ i, ∃ r : ℝ, (a2 m c i : EReal) = (r : EReal)) (hl : ∀ i, ∃ r : ℝ, (a4 m c i : EReal) = (r : EReal))
    (t : Fin cfg0.N) (y : S256x1024.Idx) (i : S8192x2048.Idx)
    (h0 : (i 0).val = 256 * (t.val / 16 * 8 + t.val % 8) + (y 0).val) (h1 : (i 1).val = 1024 * (t.val / 8 % 2) + (y 1).val) :
    outBlk (t.val % 8) (iblk m c 0 t) (iblk m c 3 t) (iblk m c 4 t) (iblk m c 5 t) (keys m c t.val) (vals m c t.val) y
      = val_main_v86 (F := Ideal) (a0 m c) (a1 m c) (a2 m c) (a3 m c) (a4 m c) (a5 m c) i := by
  have ht := t_lt t
  have y0 : (y 0).val < 256 := (y 0).isLt
  have y1 : (y 1).val < 1024 := (y 1).isLt
  have hh : (y 1).val / 128 < 8 := by omega
  obtain ⟨m0, hm⟩ := m0_real
  obtain ⟨lm, hlm⟩ := lamv_real (a4 m c) hl
  choose vr hvr using hv
  rw [result_at (a0 m c) (a1 m c) (a2 m c) (a3 m c) (a4 m c) (a5 m c) i ⟨t.val / 16, by omega⟩
    ⟨256 * (t.val % 8) + (y 0).val, by omega⟩ ⟨8 * (t.val / 8 % 2) + (y 1).val / 128, by omega⟩
    ⟨(y 1).val % 128, Nat.mod_lt _ (by decide)⟩ (by dsimp only; omega) (by dsimp only; omega)]
  unfold outBlk hd
  rw [headOut_at]
  have er : (⟨(y 0).val % 256, Nat.mod_lt _ (by decide)⟩ : Fin 256) = ⟨(y 0).val, y0⟩ := Fin.ext (Nat.mod_eq_of_lt y0)
  rw [er]
  have e0 := fun k : Fin 128 => mean_at (iblk m c 0 t) (keys m c t.val) (vals m c t.val) ((y 1).val / 128) (t.val % 8) (Nat.mod_lt _ (by decide)) 0
    ⟨(y 0).val, y0⟩ k _ (score0 m c t _ hh ⟨(y 0).val, y0⟩) m0 hm _ rfl
  have e1 := fun k : Fin 128 => mean_at (iblk m c 0 t) (keys m c t.val) (vals m c t.val) ((y 1).val / 128) (t.val % 8) (Nat.mod_lt _ (by decide)) 1
    ⟨(y 0).val, y0⟩ k _ (score1 m c t _ hh ⟨(y 0).val, y0⟩) m0 hm _ rfl
  simp only [e0, e1]
  rw [iblk4_at, iblk5_at, hlm]
  have ev : ∀ (k : Fin 128) (x : Fin 2048), kv (vals m c t.val) x.val (128 * ((y 1).val / 128) + k.val)
      = ((vr (ix2 ⟨(2048 * (t.val / 16) + x.val) % 8192, Nat.mod_lt _ (by decide)⟩
          ⟨(128 * (8 * (t.val / 8 % 2) + (y 1).val / 128) + k.val) % 2048, Nat.mod_lt _ (by decide)⟩) : ℝ) : EReal) := fun k x => by
    have hk := k.isLt
    rw [val_at m c t _ _ x.isLt (by omega), ← hvr]
    rw [show 1024 * (t.val / 8 % 2) + (128 * ((y 1).val / 128) + k.val) = 128 * (8 * (t.val / 8 % 2) + (y 1).val / 128) + k.val by omega]
    rfl
  simp only [ev]
  rw [mix]
  unfold att
  have hlm' : Cert.ReferenceIdeal.Attn.lam (a4 m c) = (lm : EReal) := hlm
  simp only [hlm', rd, hvr]
  have eg : qblk (iblk m c 3 t : Vec Ideal S256x1024 .f32) (128 * ((y 1).val / 128)) (ix2 ⟨(y 0).val, y0⟩ ⟨(y 1).val % 128, Nat.mod_lt _ (by decide)⟩)
      = rd 8704 8192 (a3 m c) (2048 * (t.val / 16) + (256 * (t.val % 8) + (y 0).val))
          (6144 + (128 * (8 * (t.val / 8 % 2) + (y 1).val / 128) + (y 1).val % 128)) := by
    unfold qblk
    rw [iblk3_at]
    show rd 8704 8192 (a3 m c) (256 * (t.val / 16 * 8 + t.val % 8) + (y 0).val % 256)
      (6144 + (1024 * (t.val / 8 % 2) + (128 * ((y 1).val / 128) + (y 1).val % 128) % 1024)) = _
    rw [show 256 * (t.val / 16 * 8 + t.val % 8) + (y 0).val % 256 = 2048 * (t.val / 16) + (256 * (t.val % 8) + (y 0).val) by omega,
      show 1024 * (t.val / 8 % 2) + (128 * ((y 1).val / 128) + (y 1).val % 128) % 1024
        = 128 * (8 * (t.val / 8 % 2) + (y 1).val / 128) + (y 1).val % 128 by omega]
  rw [eg]
  rfl

end Cert.KernelIdeal.Attn
end
-- ==== Proof.Whole.lean ====
module
public import proofs.«01_k».proof.Proof.Final
@[expose] public section
set_option maxRecDepth 16384
noncomputable section

/-! The blocks of the grid points tile the result. -/

namespace Cert.KernelIdeal.Attn
open Cert.KernelIdeal Cert.KernelIdeal.Gen Idealize.ShloMosaic Idealize.ShloMosaic.TcCoe Idealize.SL.Sem
open Cert.ReferenceIdeal.Read (val_main_v86)

variable (m : (ℓ : Loc nD τ sig) → Buf (Elt Ideal) ℓ) (c : Dev nD)

/-- The result on device `c`: the reference's, of the kernel's arguments. -/
def res : Buf (Elt Ideal) ((c : Thread nD τ).loc main_v1) :=
  val_main_v86 (F := Ideal) (a0 m c) (a1 m c) (a2 m c) (a3 m c) (a4 m c) (a5 m c)

theorem osize : ∀ t : Fin cfg0.N, win0_6.xsize (grid0.coords t) 0 = 256 ∧ win0_6.xsize (grid0.coords t) 1 = 1024 := by decide +kernel

theorem cover (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  have hN : cfg0.N = 64 := N_0
  have ht : 16 * ((i 0 : Nat) / 2048) + 8 * ((i 1 : Nat) / 1024) + (i 0 : Nat) / 256 % 8 < cfg0.N := by omega
  refine ⟨⟨_, ht⟩, flush0_6 _, ?_⟩
  show i ∈ ((View.whole main_v1).slice (win0_6.rect ⟨_, ht⟩)).set
  rw [View.set_slice_whole, Rect.mem_set_unit]
  obtain ⟨-, -, -, -, -, -, ⟨e0, e1⟩, -⟩ := widx ⟨_, ht⟩
  obtain ⟨s0, s1⟩ := osize ⟨_, ht⟩
  dsimp only at e0 e1
  intro a
  match a with
  | ⟨0, _⟩ =>
    show win0_6.index ⟨_, ht⟩ 0 * 256 ≤ (i 0 : Nat) ∧ (i 0 : Nat) < win0_6.index ⟨_, ht⟩ 0 * 256 + win0_6.xsize (grid0.coords ⟨_, ht⟩) 0
    rw [e0, s0]; omega
  | ⟨1, _⟩ =>
    show win0_6.index ⟨_, ht⟩ 1 * 1024 ≤ (i 1 : Nat) ∧ (i 1 : Nat) < win0_6.index ⟨_, ht⟩ 1 * 1024 + win0_6.xsize (grid0.coords ⟨_, ht⟩) 1
    rw [e1, s1]; omega

theorem final (hv : ∀ i, ∃ r : ℝ, (a2 m c i : EReal) = (r : EReal)) (hl : ∀ i, ∃ r : ℝ, (a4 m c i : EReal) = (r : EReal)) :
    (dats m 0 c).arrAt 6 cfg0.N = res m c := by
  refine (dats m 0 c).arrAt_eq_of_cover 6 (res m c) (fun t _ => ?_) cover
  rw [Cert.KernelIdeal.Value.flushed6]
  funext y
  rw [View.read_apply]
  refine (out_at m c t _).trans ((point_eq m c hv hl t _ (((cfg0.win 6).blk t).view.emb y) ?_ ?_).trans rfl)
  · show win0_6.index t 0 * 256 + 1 * (y 0).val = _
    rw [(widx t).2.2.2.2.2.2.1.1]
    show _ = 256 * (t.val / 16 * 8 + t.val % 8) + (y 0).val
    omega
  · show win0_6.index t 1 * 1024 + 1 * (y 1).val = _
    rw [(widx t).2.2.2.2.2.2.1.2]
    show _ = 1024 * (t.val / 8 % 2) + (y 1).val
    omega

end Cert.KernelIdeal.Attn
end
-- ==== Proof.Mem.lean ====
module
public import proofs.«01_k».proof.Proof.Gen.OutIdeal.Value
public import Idealize.ShloMosaic.Lib.WholeRead
@[expose] public section
noncomputable section

/-! Loads and stores of whole buffers. -/

namespace Cert.Mem
open Idealize.ShloMosaic

variable {sig : RefSig} {F : FTy → Type} [FloatOps F] {s : Shape} {t : EltTy}

/-- Loading all of a buffer gives what it holds. -/
theorem ld_all (a : Memref sig .tc .vmem s t) (ha : a.IsWhole) (X : Vec F s t)
    {off : Fin s.rank → ℕ} (h : off = fun _ => 0) (inb : ∀ a, off a + s.size a ≤ s.size a) :
    View.readAt (Elt F) a.view (Rect.unit (s := s) off s.size inb).toLoadRect (ha.unread X) = X := by
  funext y
  rw [ha.readAt_unread]
  exact congrFun (View.ld_unit_zero h inb X) y

/-- Storing over all of a buffer leaves what was stored. -/
theorem st_all (a : Memref sig .tc .vmem s t) (ha : a.IsWhole) (X : Vec F s t)
    {off : Fin s.rank → ℕ} (h : off = fun _ => 0) (inb : ∀ a, off a + s.size a ≤ s.size a) :
    a.view.writes (Elt F) a.view.junk [⟨Rect.unit (s := s) off s.size inb, X⟩] = ha.unread X :=
  ha.eq_unread ((View.read_writes_junk_eq_canon _ _).trans (View.canon_unit_zero h inb X))

end Cert.Mem
end
-- ==== Proof.Norm.lean ====
module
public import proofs.«01_k».proof.Proof.Mem
public import Idealize.ShloMosaic.Lib.Pointwise
public import proofs.«01_k».proof.Proof.Ref
@[expose] public section
noncomputable section

/-! A row divided by its root mean square and scaled. -/

namespace Cert.Norm
open Idealize.ShloMosaic

/-- Entry `k` of the row `x` divided by its root mean square and scaled by `g`. -/
def normed (x g : Fin 2048 → EReal) (k : Fin 2048) : EReal :=
  x k * Ideal.rsqrt (Ideal.div (∑ j, x j * x j) (Ideal.ofBits .f32 0x45000000#32) + Ideal.ofBits .f32 0x358637BD#32) * g k

theorem idx2 {d : Fin 2 → ℕ} (i j : (⟨2, d⟩ : Shape).Idx) (h0 : (i 0).val = (j 0).val) (h1 : (i 1).val = (j 1).val) : i = j :=
  funext fun a => match a with
    | ⟨0, _⟩ => Fin.ext h0
    | ⟨1, _⟩ => Fin.ext h1

theorem idx3 {d : Fin 3 → ℕ} (i j : (⟨3, d⟩ : Shape).Idx) (h0 : (i 0).val = (j 0).val) (h1 : (i 1).val = (j 1).val)
    (h2 : (i 2).val = (j 2).val) : i = j :=
  funext fun a => match a with
    | ⟨0, _⟩ => Fin.ext h0
    | ⟨1, _⟩ => Fin.ext h1
    | ⟨2, _⟩ => Fin.ext h2

end Cert.Norm
end
-- ==== Proof.ProjA.lean ====
module
public import proofs.«01_k».proof.Proof.Norm
public import proofs.«01_k».proof.Proof.Gen.ProjA.Frame
public import proofs.«01_k».proof.Proof.Gen.ProjAIdeal.Value
public import proofs.«01_k».proof.Proof.Gen.ProjARefIdeal.Run
public import proofs.«01_k».proof.Proof.Gen.ProjARefIdeal.Read
public import proofs.«01_k».proof.Defs
public import Idealize.ShloMosaic.Adequacy
@[expose] public section
set_option maxRecDepth 16384
noncomputable section

/-! The first mixer's input product: the rows of both groups, normed once per block of rows, times a block of columns. -/

namespace Cert.ProjAIdeal.Prod
open Cert.ProjAIdeal Cert.ProjAIdeal.Gen Idealize.ShloMosaic Idealize.ShloMosaic.TcCoe Idealize.SL.Sem Cert.Mem Cert.Norm
open Cert.ProjARefIdeal.Read

variable (m : (ℓ : Loc nD τ sig) → Buf (Elt Ideal) ℓ) (c : Dev nD)

abbrev a0 : Vec Ideal S4x2048x2048 .f32 := m ((c : Thread nD τ).loc main_arg0)
abbrev a1 : Vec Ideal S8x64x2048 .f32 := m ((c : Thread nD τ).loc main_arg1)
abbrev a2 : Vec Ideal S2048 .f32 := m ((c : Thread nD τ).loc main_arg2)
abbrev a3 : Vec Ideal S4096x8192 .bf16 := m ((c : Thread nD τ).loc main_arg3)

/-- The result on device `c`: the reference's, of the kernel's arguments. -/
def res : Buf (Elt Ideal) ((c : Thread nD τ).loc main_v4) := val_main_v32 (F := Ideal) (a0 m c) (a1 m c) (a2 m c) (a3 m c)

theorem pay1_at (x : Vec Ideal S1088x2048 .f32) (g : Vec Ideal S1x2048 .f32) (y : S1088x2048.Idx) :
    k0_pay1 (F := Ideal) x g y = normed (fun j => x (ix2 (y 0) j)) (fun j => g (ix2 0 j)) (y 1) := by
  unfold normed
  pointwise [k0_pay1]

theorem pay2_at (h : Vec Ideal S1088x2048 .bf16) (w : Vec Ideal S2048x1024 .bf16) (y : S1088x1024.Idx) :
    k0_pay2 (F := Ideal) h w y = ∑ k : Fin 2048, h (ix2 (y 0) k) * w (ix2 k (y 1)) := by
  pointwise [k0_pay2]

theorem widx : ∀ t : Fin cfg0.N,
    (win0_0.index t 0 = t.val / 8 ∧ win0_0.index t 1 = 0) ∧ (win0_1.index t 0 = 0 ∧ win0_1.index t 1 = 0)
    ∧ (win0_2.index t 0 = 0 ∧ win0_2.index t 1 = t.val % 8) ∧ (win0_3.index t 0 = t.val / 8 ∧ win0_3.index t 1 = t.val % 8) := by
  decide +kernel

theorem osize : ∀ t : Fin cfg0.N, win0_3.xsize (grid0.coords t) 0 = 1088 ∧ win0_3.xsize (grid0.coords t) 1 = 1024 := by
  decide +kernel

theorem cover (i : S8704x8192.Idx) : ∃ t : Fin cfg0.N, (cfg0.win 3).flush t = true ∧ i ∈ ((cfg0.win 3).blk t).view.set := by
  have h0 : (i 0 : Nat) < 8704 := (i 0).isLt
  have h1 : (i 1 : Nat) < 8192 := (i 1).isLt
  have hN : cfg0.N = 64 := N_0
  have ht : 8 * ((i 0 : Nat) / 1088) + (i 1 : Nat) / 1024 < cfg0.N := by omega
  refine ⟨⟨_, ht⟩, flush0_3 _, ?_⟩
  show i ∈ ((View.whole main_v4).slice (win0_3.rect ⟨_, ht⟩)).set
  rw [View.set_slice_whole, Rect.mem_set_unit]
  obtain ⟨-, -, -, e0, e1⟩ := widx ⟨_, ht⟩
  obtain ⟨s0, s1⟩ := osize ⟨_, ht⟩
  dsimp only at e0 e1
  intro a
  match a with
  | ⟨0, _⟩ =>
    show win0_3.index ⟨_, ht⟩ 0 * 1088 ≤ (i 0 : Nat) ∧ (i 0 : Nat) < win0_3.index ⟨_, ht⟩ 0 * 1088 + win0_3.xsize (grid0.coords ⟨_, ht⟩) 0
    rw [e0, s0]; omega
  | ⟨1, _⟩ =>
    show win0_3.index ⟨_, ht⟩ 1 * 1024 ≤ (i 1 : Nat) ∧ (i 1 : Nat) < win0_3.index ⟨_, ht⟩ 1 * 1024 + win0_3.xsize (grid0.coords ⟨_, ht⟩) 1
    rw [e1, s1]; omega

/-- The rows of both groups, and the scale. -/
abbrev xs : Vec Ideal S8704x2048 .f32 := V m c main_v2
abbrev gs : Vec Ideal S1x2048 .f32 := V m c main_v3

theorem blk0_at (t : Fin cfg0.N) (y : S1088x2048.Idx) :
    (iblk m c 0 t : Vec Ideal S1088x2048 .f32) y = rd 8704 2048 (xs m c) (1088 * (t.val / 8) + (y 0).val) (y 1).val := by
  unfold iblk
  rw [View.read_apply]
  show V m c main_v2 _ = _
  obtain ⟨⟨p0, p1⟩, -⟩ := widx t
  refine rd_of (xs m c) _ ?_ ?_
  · show win0_0.index t 0 * 1088 + 1 * (y 0).val = _; rw [p0]; omega
  · show win0_0.index t 1 * 2048 + 1 * (y 1).val = _; rw [p1]; omega

theorem blk1_at (t : Fin cfg0.N) (y : S1x2048.Idx) : (iblk m c 1 t : Vec Ideal S1x2048 .f32) y = gs m c y := by
  unfold iblk
  rw [View.read_apply]
  show V m c main_v3 _ = _
  obtain ⟨-, ⟨p0, p1⟩, -⟩ := widx t
  refine congrArg (gs m c) (funext fun a => Fin.ext ?_)
  match a with
  | ⟨0, _⟩ => show win0_1.index t 0 * 1 + 1 * (y 0).val = (y 0).val; rw [p0]; omega
  | ⟨1, _⟩ => show win0_1.index t 1 * 2048 + 1 * (y 1).val = (y 1).val; rw [p1]; omega

/-- The normed rows a point multiplies. -/
def rows (n : ℕ) : Vec Ideal S1088x2048 .bf16 := fun y =>
  normed (fun j => rd 8704 2048 (xs m c) (1088 * (n / 8) + (y 0).val) j.val) (fun j => gs m c (ix2 0 j)) (y 1)

theorem pay_rows (t : Fin cfg0.N) : k0_pay1 (F := Ideal) (iblk m c 0 t) (iblk m c 1 t) = rows m c t.val := by
  funext y
  rw [pay1_at]
  unfold rows
  exact congrArg₂ (fun x g => normed x g (y 1)) (funext fun j => blk0_at m c t _) (funext fun j => blk1_at m c t _)

theorem scratch (n : ℕ) : ∀ hn : n < cfg0.N, (outsAt0 m c n hn).2 = rows m c n := by
  induction n using Nat.strong_induction_on with
  | _ n ih =>
    intro hn
    by_cases h0 : n % 8 = 0
    · rw [outsAt0_A m c ⟨n, hn⟩ h0]
      dsimp only
      unfold sout0_A_0
      rw [View.read_writes_junk_eq_canon]
      unfold kernelRun0_A
      refine (View.canon_unit_zero (by decide) inb_S1088x2048_S1088x2048_0_0 _).trans ?_
      rw [ld_all _ _ _ (by decide), ld_all _ _ _ (by decide)]
      exact pay_rows m c ⟨n, hn⟩
    · rw [outsAt0_B m c ⟨n, hn⟩ h0]
      have e : (n - 1) / 8 = n / 8 := by omega
      have h := ih (n - 1) (by omega) (Nat.lt_of_le_of_lt (Nat.sub_le _ _) hn)
      have k : rows m c (n - 1) = rows m c n := by unfold rows; rw [e]
      dsimp only
      unfold sout0_B_0
      exact h.trans k

theorem out_at (t : Fin cfg0.N) : (outsAt0 m c t.val t.isLt).1 = k0_pay2 (rows m c t.val) (iblk m c 2 t) := by
  by_cases h0 : t.val % 8 = 0
  · rw [outsAt0_A m c t h0]
    dsimp only
    unfold out0_A_3
    rw [View.read_writes_junk_eq_canon]
    unfold kernelRun0_A
    refine (View.canon_unit_zero (by decide) inb_S1088x1024_S1088x1024_0_0 _).trans ?_
    unfold kernelRun0_A.sl.v3 View.readCov kernelRun0_A.sl.HS0_1
    rw [ld_all (ms0_0 t) _ _ (by decide), ld_all (ms0_1 t) _ _ (by decide), st_all _ (Memref.isWhole_whole _) _ (by decide), ld_all (ms0_2 t) _ _ (by decide),
      ld_all scM0_0 _ _ (by decide), pay_rows]
  · have e : (t.val - 1) / 8 = t.val / 8 := by omega
    have h := scratch m c (t.val - 1) (Nat.lt_of_le_of_lt (Nat.sub_le _ _) t.isLt)
    have k : rows m c (t.val - 1) = rows m c t.val := by unfold rows; rw [e]
    rw [outsAt0_B m c t h0]
    dsimp only
    unfold out0_B_3
    rw [View.read_writes_junk_eq_canon]
    unfold kernelRun0_B
    refine (View.canon_unit_zero (by decide) inb_S1088x1024_S1088x1024_0_0 _).trans ?_
    rw [ld_all _ _ _ (by decide), ld_all _ _ _ (by decide), h, k]

/-! The joined rows, and the reference's normed rows. -/

theorem V_v2 : V m c main_v2 = concatenate S8704x2048 0
    [⟨S8192x2048, shapeCast S8192x2048 (a0 m c) shapeCasts_S4x2048x2048_S8192x2048⟩, ⟨S512x2048, shapeCast S512x2048 (a1 m c) shapeCasts_S8x64x2048_S512x2048⟩]
    concatenates_S8192x2048_S512x2048_S8704x2048_d0 := rfl

theorem V_v3 : V m c main_v3 = shapeCast S1x2048 (a2 m c) shapeCasts_S2048_S1x2048 := rfl

theorem gs_at (k : Fin 2048) : gs m c (ix2 0 k) = a2 m c (ix1 k) := by
  show V m c main_v3 _ = _
  rw [V_v3]
  refine shapeCast_apply (a2 m c) shapeCasts_S2048_S1x2048 _ (ix1 k) ?_
  rw [Shape.rowMajor_val_one, Shape.rowMajor_val_two]
  show k.val = 0 * 2048 + k.val
  omega

theorem xs_lo (b : Fin 4) (p j : Fin 2048) : rd 8704 2048 (xs m c) (2048 * b.val + p.val) j.val = a0 m c (ix3 b p j) := by
  have hb := b.isLt
  have hp := p.isLt
  refine (rd_of (xs m c) (ix2 ⟨2048 * b.val + p.val, by omega⟩ j) rfl rfl).symm.trans ?_
  show V m c main_v2 _ = _
  rw [V_v2]
  refine (concatenate_pair_apply_left (t := S8704x2048) (s₁ := S8192x2048) (s₂ := S512x2048) (0 : Fin 2) _ _ _ _ rfl
    (ix2 ⟨2048 * b.val + p.val, by omega⟩ j) fun a => ?_).trans ?_
  · match a with
    | ⟨0, _⟩ => rfl
    | ⟨1, _⟩ => rfl
  · refine shapeCast_apply (a0 m c) shapeCasts_S4x2048x2048_S8192x2048 _ (ix3 b p j) ?_
    rw [Shape.rowMajor_val_three, Shape.rowMajor_val_two]
    show (b.val * 2048 + p.val) * 2048 + j.val = (2048 * b.val + p.val) * 2048 + j.val
    omega

theorem xs_hi (b : Fin 8) (p : Fin 64) (j : Fin 2048) : rd 8704 2048 (xs m c) (8192 + (64 * b.val + p.val)) j.val = a1 m c (ix3 b p j) := by
  have hb := b.isLt
  have hp := p.isLt
  refine (rd_of (xs m c) (ix2 ⟨8192 + (64 * b.val + p.val), by omega⟩ j) rfl rfl).symm.trans ?_
  show V m c main_v2 _ = _
  rw [V_v2]
  refine (concatenate_pair_apply_right (t := S8704x2048) (s₁ := S8192x2048) (s₂ := S512x2048) (0 : Fin 2) _ _ _ _ rfl rfl
    (ix2 ⟨64 * b.val + p.val, by omega⟩ j) (fun a ha => ?_) ?_).trans ?_
  · match a, ha with
    | ⟨0, _⟩, ha => exact absurd rfl ha
    | ⟨1, _⟩, _ => rfl
  · show (64 * b.val + p.val) + 8192 = 8192 + (64 * b.val + p.val)
    omega
  · refine shapeCast_apply (a1 m c) shapeCasts_S8x64x2048_S512x2048 _ (ix3 b p j) ?_
    rw [Shape.rowMajor_val_three, Shape.rowMajor_val_two]
    show (b.val * 64 + p.val) * 2048 + j.val = (64 * b.val + p.val) * 2048 + j.val
    omega

theorem v14_at (x0 : Vec Ideal S4x2048x2048 .f32) (x2 : Vec Ideal S2048 .f32) (b : Fin 4) (p k : Fin 2048) :
    val_main_v14 (F := Ideal) x0 x2 (ix3 b p k) = normed (fun j => x0 (ix3 b p j)) (fun j => x2 (ix1 j)) k := by
  unfold normed
  pointwise [val_main_v14, val_main_v13, val_main_v12, val_main_v11, val_main_v10, val_main_v9, val_main_v8, val_main_v7, val_main_v6, val_main_v5,
    val_main_v4, val_main_v3, val_main_v2, val_main_cst, val_main_cst_0, val_main_cst_1]

theorem v28_at (x1 : Vec Ideal S8x64x2048 .f32) (x2 : Vec Ideal S2048 .f32) (b : Fin 8) (p : Fin 64) (k : Fin 2048) :
    val_main_v28 (F := Ideal) x1 x2 (ix3 b p k) = normed (fun j => x1 (ix3 b p j)) (fun j => x2 (ix1 j)) k := by
  unfold normed
  pointwise [val_main_v28, val_main_v27, val_main_v26, val_main_v25, val_main_v24, val_main_v23, val_main_v22, val_main_v21, val_main_v20, val_main_v19,
    val_main_v18, val_main_v17, val_main_v16, val_main_cst_2, val_main_cst_3, val_main_cst_4]

/-- The weight's entry in the first 2048 rows. -/
abbrev wt (x3 : Vec Ideal S4096x8192 .bf16) (k : Fin 2048) (q : Fin 8192) : EReal := x3 (ix2 (Fin.castLE (by omega) k) q)

theorem v1_at (x3 : Vec Ideal S4096x8192 .bf16) (i : Cert.ProjARefIdeal.S2048x8192.Idx) : val_main_v1 (F := Ideal) x3 i = wt x3 (i 0) (i 1) := by
  rw [val_main_v1_apply, val_main_v0_apply]
  show x3 _ = x3 _
  refine congrArg x3 (idx2 _ _ ?_ ?_)
  · show (i 0).val = _; rfl
  · show (i 1).val = _; rfl

theorem v32_lo (x0 : Vec Ideal S4x2048x2048 .f32) (x1 : Vec Ideal S8x64x2048 .f32) (x2 : Vec Ideal S2048 .f32) (x3 : Vec Ideal S4096x8192 .bf16)
    (i : S8704x8192.Idx) (b : Fin 4) (p : Fin 2048) (h : (i 0).val = 2048 * b.val + p.val) :
    val_main_v32 (F := Ideal) x0 x1 x2 x3 i
      = ∑ k : Fin 2048, normed (fun j => x0 (ix3 b p j)) (fun j => x2 (ix1 j)) k * wt x3 k (i 1) := by
  have hb := b.isLt
  have hp := p.isLt
  unfold val_main_v32
  refine (concatenate_pair_apply_left (t := S8704x8192) (s₁ := Cert.ProjARefIdeal.S8192x8192) (s₂ := Cert.ProjARefIdeal.S512x8192) (0 : Fin 2) _ _ _ i rfl
    (ix2 ⟨2048 * b.val + p.val, by omega⟩ (i 1)) fun a => ?_).trans ?_
  · match a with
    | ⟨0, _⟩ => exact h.symm
    | ⟨1, _⟩ => rfl
  · unfold val_main_v30
    refine (shapeCast_apply (val_main_v15 (F := Ideal) x0 x2 x3) _ _ (ix3 b p (i 1)) ?_).trans ?_
    · rw [Shape.rowMajor_val_three, Shape.rowMajor_val_two]
      show (b.val * 2048 + p.val) * 8192 + (i 1).val = (2048 * b.val + p.val) * 8192 + (i 1).val
      omega
    · rw [val_main_v15_apply]
      refine Finset.sum_congr rfl fun k _ => congrArg₂ (· * ·) ?_ ?_
      · exact (congrArg (val_main_v14 (F := Ideal) x0 x2) (idx3 (lidx_main_v15 (ix3 b p (i 1)) k) (ix3 b p k) rfl rfl rfl)).trans (v14_at x0 x2 b p k)
      · exact v1_at x3 _

theorem v32_hi (x0 : Vec Ideal S4x2048x2048 .f32) (x1 : Vec Ideal S8x64x2048 .f32) (x2 : Vec Ideal S2048 .f32) (x3 : Vec Ideal S4096x8192 .bf16)
    (i : S8704x8192.Idx) (b : Fin 8) (p : Fin 64) (h : (i 0).val = 8192 + (64 * b.val + p.val)) :
    val_main_v32 (F := Ideal) x0 x1 x2 x3 i
      = ∑ k : Fin 2048, normed (fun j => x1 (ix3 b p j)) (fun j => x2 (ix1 j)) k * wt x3 k (i 1) := by
  have hb := b.isLt
  have hp := p.isLt
  unfold val_main_v32
  refine (concatenate_pair_apply_right (t := S8704x8192) (s₁ := Cert.ProjARefIdeal.S8192x8192) (s₂ := Cert.ProjARefIdeal.S512x8192) (0 : Fin 2) _ _ _ i rfl rfl
    (ix2 ⟨64 * b.val + p.val, by omega⟩ (i 1)) (fun a ha => ?_) ?_).trans ?_
  · match a, ha with
    | ⟨0, _⟩, ha => exact absurd rfl ha
    | ⟨1, _⟩, _ => rfl
  · show (64 * b.val + p.val) + 8192 = (i 0).val
    omega
  · unfold val_main_v31
    refine (shapeCast_apply (val_main_v29 (F := Ideal) x1 x2 x3) _ _ (ix3 b p (i 1)) ?_).trans ?_
    · rw [Shape.rowMajor_val_three, Shape.rowMajor_val_two]
      show (b.val * 64 + p.val) * 8192 + (i 1).val = (64 * b.val + p.val) * 8192 + (i 1).val
      omega
    · rw [val_main_v29_apply]
      refine Finset.sum_congr rfl fun k _ => congrArg₂ (· * ·) ?_ ?_
      · exact (congrArg (val_main_v28 (F := Ideal) x1 x2) (idx3 (lidx_main_v29 (ix3 b p (i 1)) k) (ix3 b p k) rfl rfl rfl)).trans (v28_at x1 x2 b p k)
      · exact v1_at x3 _

theorem blk2_at (t : Fin cfg0.N) (y : S2048x1024.Idx) (q : Fin 8192) (hq : q.val = 1024 * (t.val % 8) + (y 1).val) :
    (iblk m c 2 t : Vec Ideal S2048x1024 .bf16) y = wt (a3 m c) (y 0) q := by
  unfold iblk
  rw [View.read_apply]
  show V m c main_arg3 _ = _
  rw [V_main_arg3]
  obtain ⟨-, -, ⟨p0, p1⟩, -⟩ := widx t
  refine congrArg (a3 m c) (idx2 _ _ ?_ ?_)
  · show win0_2.index t 0 * 2048 + 1 * (y 0).val = (y 0).val; rw [p0]; omega
  · show win0_2.index t 1 * 1024 + 1 * (y 1).val = q.val; rw [p1]; omega

/-- Every entry of the output array, after the last point, is the reference's. -/
theorem final : (dats m 0 c).arrAt 3 cfg0.N = res m c := by
  refine (dats m 0 c).arrAt_eq_of_cover 3 (res m c) (fun t _ => ?_) cover
  rw [Cert.ProjAIdeal.Value.flushed3]
  funext y
  rw [View.read_apply]
  have ht : t.val < 64 := Nat.lt_of_lt_of_eq t.isLt N_0
  have l0 : (y 0).val < 1088 := (y 0).isLt
  obtain ⟨-, -, -, ⟨r0, r1⟩⟩ := widx t
  have e0 : ((((cfg0.win 3).blk t).view.emb y) 0).val = 1088 * (t.val / 8) + (y 0).val := by
    show win0_3.index t 0 * 1088 + 1 * (y 0).val = _; rw [r0]; omega
  have e1 : ((((cfg0.win 3).blk t).view.emb y) 1).val = 1024 * (t.val % 8) + (y 1).val := by
    show win0_3.index t 1 * 1024 + 1 * (y 1).val = _; rw [r1]; omega
  refine (congrFun (out_at m c t) y).trans ((pay2_at _ _ y).trans ?_)
  unfold res
  generalize ((cfg0.win 3).blk t).view.emb y = i at e0 e1 ⊢
  have hg : (fun j : Fin 2048 => gs m c (ix2 0 j)) = fun j => a2 m c (ix1 j) := funext fun j => gs_at m c j
  by_cases h : 1088 * (t.val / 8) + (y 0).val < 8192
  · have d := Nat.div_add_mod (1088 * (t.val / 8) + (y 0).val) 2048
    rw [v32_lo _ _ _ _ i ⟨(1088 * (t.val / 8) + (y 0).val) / 2048, by omega⟩ ⟨(1088 * (t.val / 8) + (y 0).val) % 2048, by omega⟩ (e0.trans d.symm)]
    refine Finset.sum_congr rfl fun k _ => congrArg₂ (· * ·) ?_ (blk2_at m c t (ix2 k (y 1)) (i 1) e1)
    unfold rows
    rw [hg]
    refine congrArg (fun x => normed x _ k) (funext fun j => ?_)
    refine Eq.trans ?_ (xs_lo m c _ _ j)
    exact congrArg (fun r => rd 8704 2048 (xs m c) r j.val) d.symm
  · have d := Nat.div_add_mod (1088 * (t.val / 8) + (y 0).val - 8192) 64
    have e : 1088 * (t.val / 8) + (y 0).val = 8192 + (64 * ((1088 * (t.val / 8) + (y 0).val - 8192) / 64) + (1088 * (t.val / 8) + (y 0).val - 8192) % 64) := by omega
    rw [v32_hi _ _ _ _ i ⟨(1088 * (t.val / 8) + (y 0).val - 8192) / 64, by omega⟩ ⟨(1088 * (t.val / 8) + (y 0).val - 8192) % 64, by omega⟩ (e0.trans e)]
    refine Finset.sum_congr rfl fun k _ => congrArg₂ (· * ·) ?_ (blk2_at m c t (ix2 k (y 1)) (i 1) e1)
    unfold rows
    rw [hg]
    refine congrArg (fun x => normed x _ k) (funext fun j => ?_)
    refine Eq.trans ?_ (xs_hi m c _ _ j)
    exact congrArg (fun r => rd 8704 2048 (xs m c) r j.val) e

/-- The reference runs to its end, keeps its arguments and leaves every counter at zero. -/
theorem frame_ref : Cert.quiescent_ProjARefIdeal := fun m g _ =>
  (θ_run Cert.ProjARefIdeal.defs _ _).mono (fun r h => ⟨fun c => (h c).2, Idealize.ShloMosaic.sem_eq_zero_of_no_sems (by decide) r.2⟩)
    (Cert.ProjARefIdeal.Value.run (F := Ideal) m g)

/-- Kernel and reference return the same array. -/
theorem value : Cert.algebraic_ProjAIdeal_ProjARefIdeal := by
  intro m ρ m' ρ' _ hag
  refine ⟨fun c => res m c,
    (θ_run _ _ _).mono (fun _ h c => ⟨(h c).1.trans (final m c), (h c).2⟩) (Cert.ProjAIdeal.Value.run_blocks m ρ),
    (θ_run _ _ _).mono (fun _ h c => ⟨(h c).1.trans ?_, (h c).2⟩) (Cert.ProjARefIdeal.Value.run m' ρ')⟩
  obtain ⟨g0, g1, g2, g3⟩ := hag c
  rw [val_main_v32_eq, g0, g1, g2, g3]
  rfl

theorem frames : Cert.quiescent_ProjA ∧ Cert.quiescent_ProjAIdeal :=
  ⟨fun m ρ _ => Cert.ProjA.Gen.frame m ρ, fun m ρ _ => Cert.ProjAIdeal.Gen.frame m ρ⟩

end Cert.ProjAIdeal.Prod
end
-- ==== Proof.ProjB.lean ====
module
public import proofs.«01_k».proof.Proof.Norm
public import proofs.«01_k».proof.Proof.Gen.ProjB.Frame
public import proofs.«01_k».proof.Proof.Gen.ProjBIdeal.Value
public import proofs.«01_k».proof.Proof.Gen.ProjBRefIdeal.Run
public import proofs.«01_k».proof.Proof.Gen.ProjBRefIdeal.Read
public import proofs.«01_k».proof.Defs
public import Idealize.ShloMosaic.Adequacy
@[expose] public section
set_option maxRecDepth 16384
noncomputable section

/-! The second mixer's input product: the rows normed once per block of rows, times a block of columns. -/

namespace Cert.ProjBIdeal.Prod
open Cert.ProjBIdeal Cert.ProjBIdeal.Gen Idealize.ShloMosaic Idealize.ShloMosaic.TcCoe Idealize.SL.Sem Cert.Mem Cert.Norm
open Cert.ProjBRefIdeal.Read

variable (m : (ℓ : Loc nD τ sig) → Buf (Elt Ideal) ℓ) (c : Dev nD)

abbrev a0 : Vec Ideal S8704x2048 .f32 := m ((c : Thread nD τ).loc main_arg0)
abbrev a1 : Vec Ideal S2048 .f32 := m ((c : Thread nD τ).loc main_arg1)
abbrev a2 : Vec Ideal S1x2048x6224 .f32 := m ((c : Thread nD τ).loc main_arg2)

/-- The result on device `c`: the reference's, of the kernel's arguments. -/
def res : Buf (Elt Ideal) ((c : Thread nD τ).loc main_v8) := val_main_v19 (F := Ideal) (a0 m c) (a1 m c) (a2 m c)

theorem pay1_at (x : Vec Ideal S1088x2048 .f32) (g : Vec Ideal S1x2048 .f32) (y : S1088x2048.Idx) :
    k0_pay1 (F := Ideal) x g y = normed (fun j => x (ix2 (y 0) j)) (fun j => g (ix2 0 j)) (y 1) := by
  unfold normed
  pointwise [k0_pay1]

theorem pay2_at (h : Vec Ideal S1088x2048 .bf16) (w : Vec Ideal S2048x896 .bf16) (y : S1088x896.Idx) :
    k0_pay2 (F := Ideal) h w y = ∑ k : Fin 2048, h (ix2 (y 0) k) * w (ix2 k (y 1)) := by
  pointwise [k0_pay2]

theorem widx : ∀ t : Fin cfg0.N,
    (win0_0.index t 0 = t.val / 7 ∧ win0_0.index t 1 = 0) ∧ (win0_1.index t 0 = 0 ∧ win0_1.index t 1 = 0)
    ∧ (win0_2.index t 0 = 0 ∧ win0_2.index t 1 = t.val % 7) ∧ (win0_3.index t 0 = t.val / 7 ∧ win0_3.index t 1 = t.val % 7) := by
  decide +kernel

theorem osize : ∀ t : Fin cfg0.N, win0_3.xsize (grid0.coords t) 0 = 1088 ∧ win0_3.xsize (grid0.coords t) 1 = 896 := by
  decide +kernel

theorem cover (i : S8704x6272.Idx) : ∃ t : Fin cfg0.N, (cfg0.win 3).flush t = true ∧ i ∈ ((cfg0.win 3).blk t).view.set := by
  have h0 : (i 0 : Nat) < 8704 := (i 0).isLt
  have h1 : (i 1 : Nat) < 6272 := (i 1).isLt
  have hN : cfg0.N = 56 := N_0
  have ht : 7 * ((i 0 : Nat) / 1088) + (i 1 : Nat) / 896 < cfg0.N := by omega
  refine ⟨⟨_, ht⟩, flush0_3 _, ?_⟩
  show i ∈ ((View.whole main_v8).slice (win0_3.rect ⟨_, ht⟩)).set
  rw [View.set_slice_whole, Rect.mem_set_unit]
  obtain ⟨-, -, -, e0, e1⟩ := widx ⟨_, ht⟩
  obtain ⟨s0, s1⟩ := osize ⟨_, ht⟩
  dsimp only at e0 e1
  intro a
  match a with
  | ⟨0, _⟩ =>
    show win0_3.index ⟨_, ht⟩ 0 * 1088 ≤ (i 0 : Nat) ∧ (i 0 : Nat) < win0_3.index ⟨_, ht⟩ 0 * 1088 + win0_3.xsize (grid0.coords ⟨_, ht⟩) 0
    rw [e0, s0]; omega
  | ⟨1, _⟩ =>
    show win0_3.index ⟨_, ht⟩ 1 * 896 ≤ (i 1 : Nat) ∧ (i 1 : Nat) < win0_3.index ⟨_, ht⟩ 1 * 896 + win0_3.xsize (grid0.coords ⟨_, ht⟩) 1
    rw [e1, s1]; omega

/-- The rows, and the scale. -/
abbrev gs : Vec Ideal S1x2048 .f32 := V m c main_v7

theorem blk0_at (t : Fin cfg0.N) (y : S1088x2048.Idx) :
    (iblk m c 0 t : Vec Ideal S1088x2048 .f32) y = rd 8704 2048 (a0 m c) (1088 * (t.val / 7) + (y 0).val) (y 1).val := by
  unfold iblk
  rw [View.read_apply]
  show V m c main_arg0 _ = _
  rw [V_main_arg0]
  obtain ⟨⟨p0, p1⟩, -⟩ := widx t
  refine rd_of (a0 m c) _ ?_ ?_
  · show win0_0.index t 0 * 1088 + 1 * (y 0).val = _; rw [p0]; omega
  · show win0_0.index t 1 * 2048 + 1 * (y 1).val = _; rw [p1]; omega

theorem blk1_at (t : Fin cfg0.N) (y : S1x2048.Idx) : (iblk m c 1 t : Vec Ideal S1x2048 .f32) y = gs m c y := by
  unfold iblk
  rw [View.read_apply]
  show V m c main_v7 _ = _
  obtain ⟨-, ⟨p0, p1⟩, -⟩ := widx t
  refine congrArg (gs m c) (funext fun a => Fin.ext ?_)
  match a with
  | ⟨0, _⟩ => show win0_1.index t 0 * 1 + 1 * (y 0).val = (y 0).val; rw [p0]; omega
  | ⟨1, _⟩ => show win0_1.index t 1 * 2048 + 1 * (y 1).val = (y 1).val; rw [p1]; omega

/-- The normed rows a point multiplies. -/
def rows (n : ℕ) : Vec Ideal S1088x2048 .bf16 := fun y =>
  normed (fun j => rd 8704 2048 (a0 m c) (1088 * (n / 7) + (y 0).val) j.val) (fun j => gs m c (ix2 0 j)) (y 1)

theorem pay_rows (t : Fin cfg0.N) : k0_pay1 (F := Ideal) (iblk m c 0 t) (iblk m c 1 t) = rows m c t.val := by
  funext y
  rw [pay1_at]
  unfold rows
  exact congrArg₂ (fun x g => normed x g (y 1)) (funext fun j => blk0_at m c t _) (funext fun j => blk1_at m c t _)

theorem scratch (n : ℕ) : ∀ hn : n < cfg0.N, (outsAt0 m c n hn).2 = rows m c n := by
  induction n using Nat.strong_induction_on with
  | _ n ih =>
    intro hn
    by_cases h0 : n % 7 = 0
    · rw [outsAt0_A m c ⟨n, hn⟩ h0]
      dsimp only
      unfold sout0_A_0
      rw [View.read_writes_junk_eq_canon]
      unfold kernelRun0_A
      refine (View.canon_unit_zero (by decide) inb_S1088x2048_S1088x2048_0_0 _).trans ?_
      rw [ld_all _ _ _ (by decide), ld_all _ _ _ (by decide)]
      exact pay_rows m c ⟨n, hn⟩
    · rw [outsAt0_B m c ⟨n, hn⟩ h0]
      have e : (n - 1) / 7 = n / 7 := by omega
      have h := ih (n - 1) (by omega) (Nat.lt_of_le_of_lt (Nat.sub_le _ _) hn)
      have k : rows m c (n - 1) = rows m c n := by unfold rows; rw [e]
      dsimp only
      unfold sout0_B_0
      exact h.trans k

theorem out_at (t : Fin cfg0.N) : (outsAt0 m c t.val t.isLt).1 = k0_pay2 (rows m c t.val) (iblk m c 2 t) := by
  by_cases h0 : t.val % 7 = 0
  · rw [outsAt0_A m c t h0]
    dsimp only
    unfold out0_A_3
    rw [View.read_writes_junk_eq_canon]
    unfold kernelRun0_A
    refine (View.canon_unit_zero (by decide) inb_S1088x896_S1088x896_0_0 _).trans ?_
    unfold kernelRun0_A.sl.v3 View.readCov kernelRun0_A.sl.HS0_1
    rw [ld_all (ms0_0 t) _ _ (by decide), ld_all (ms0_1 t) _ _ (by decide), st_all _ (Memref.isWhole_whole _) _ (by decide), ld_all (ms0_2 t) _ _ (by decide),
      ld_all scM0_0 _ _ (by decide), pay_rows]
  · have e : (t.val - 1) / 7 = t.val / 7 := by omega
    have h := scratch m c (t.val - 1) (Nat.lt_of_le_of_lt (Nat.sub_le _ _) t.isLt)
    have k : rows m c (t.val - 1) = rows m c t.val := by unfold rows; rw [e]
    rw [outsAt0_B m c t h0]
    dsimp only
    unfold out0_B_3
    rw [View.read_writes_junk_eq_canon]
    unfold kernelRun0_B
    refine (View.canon_unit_zero (by decide) inb_S1088x896_S1088x896_0_0 _).trans ?_
    rw [ld_all _ _ _ (by decide), ld_all _ _ _ (by decide), h, k]

/-! The rearranged weight, and the reference. -/

theorem gs_at (k : Fin 2048) : gs m c (ix2 0 k) = a1 m c (ix1 k) := by
  show V m c main_v7 _ = _
  refine shapeCast_apply (a1 m c) shapeCasts_S2048_S1x2048 _ (ix1 k) ?_
  rw [Shape.rowMajor_val_one, Shape.rowMajor_val_two]
  show k.val = 0 * 2048 + k.val
  omega

/-- The weight by row and column. -/
abbrev wt (x2 : Vec Ideal S1x2048x6224 .f32) (k : Fin 2048) (q : Fin 6224) : EReal := x2 (ix3 0 k q)

abbrev pieces (w : Vec Ideal S2048x6224 .f32) : List ((s : Shape) × (s.Idx → EReal)) :=
  [⟨S2048x4096, extractStridedSlice S2048x4096 ![0, 0] w slices_S2048x6224_S2048x4096_0_0⟩,
   ⟨S2048x2048, extractStridedSlice S2048x2048 ![0, 4176] w slices_S2048x6224_S2048x2048_0_4176⟩,
   ⟨S2048x80, extractStridedSlice S2048x80 ![0, 4096] w slices_S2048x6224_S2048x80_0_4096⟩,
   ⟨S2048x48, broadcastInDim S2048x48 ![] bcast_S_S2048x48 (constant (F := Ideal) S_ .f32 0x00000000#32)⟩]

theorem V_v6 : V m c main_v6 = concatenate S2048x6272 1 (pieces (shapeCast S2048x6224 (a2 m c) shapeCasts_S1x2048x6224_S2048x6224))
    concatenates_S2048x4096_S2048x2048_S2048x80_S2048x48_S2048x6272_d1 :=
  rfl

theorem w_at (k : Fin 2048) (q : Fin 6224) : shapeCast S2048x6224 (a2 m c) shapeCasts_S1x2048x6224_S2048x6224 (ix2 k q) = wt (a2 m c) k q := by
  refine shapeCast_apply (a2 m c) shapeCasts_S1x2048x6224_S2048x6224 _ (ix3 0 k q) ?_
  rw [Shape.rowMajor_val_three, Shape.rowMajor_val_two]
  show (0 * 2048 + k.val) * 6224 + q.val = k.val * 6224 + q.val
  omega

theorem ws_0 (k : Fin 2048) (q : Fin 6272) (h : q.val < 4096) :
    (V m c main_v6 : Vec Ideal S2048x6272 .bf16) (ix2 k q) = wt (a2 m c) k ⟨q.val, by omega⟩ := by
  rw [V_v6]
  refine (concatenate_apply_piece (t := S2048x6272) (1 : Fin 2) (pieces _) _ _ 0 (by show 0 < 4; decide) S2048x4096 _ rfl rfl 0 rfl (ix2 k ⟨q.val, h⟩) (fun b hb => ?_) ?_).trans ?_
  · match b, hb with
    | ⟨0, _⟩, _ => rfl
    | ⟨1, _⟩, hb => exact absurd rfl hb
  · show 0 + q.val = q.val
    omega
  · refine Eq.trans ?_ (w_at m c k _)
    unfold extractStridedSlice
    exact congrArg _ (idx2 _ _ (Nat.zero_add _) (Nat.zero_add _))

theorem ws_1 (k : Fin 2048) (q : Fin 6272) (h : 4096 ≤ q.val) (h' : q.val < 6144) :
    (V m c main_v6 : Vec Ideal S2048x6272 .bf16) (ix2 k q) = wt (a2 m c) k ⟨q.val + 80, by omega⟩ := by
  rw [V_v6]
  refine (concatenate_apply_piece (t := S2048x6272) (1 : Fin 2) (pieces _) _ _ 1 (by show 1 < 4; decide) S2048x2048 _ rfl rfl 4096 rfl (ix2 k ⟨q.val - 4096, by omega⟩) (fun b hb => ?_) ?_).trans ?_
  · match b, hb with
    | ⟨0, _⟩, _ => rfl
    | ⟨1, _⟩, hb => exact absurd rfl hb
  · show 4096 + (q.val - 4096) = q.val
    omega
  · refine Eq.trans ?_ (w_at m c k _)
    unfold extractStridedSlice
    refine congrArg (shapeCast S2048x6224 (a2 m c) shapeCasts_S1x2048x6224_S2048x6224) (idx2 _ _ ?_ ?_)
    · show 0 + k.val = k.val
      omega
    show 4176 + (q.val - 4096) = q.val + 80
    omega

theorem ws_2 (k : Fin 2048) (q : Fin 6272) (h : 6144 ≤ q.val) (h' : q.val < 6224) :
    (V m c main_v6 : Vec Ideal S2048x6272 .bf16) (ix2 k q) = wt (a2 m c) k ⟨q.val - 2048, by omega⟩ := by
  rw [V_v6]
  refine (concatenate_apply_piece (t := S2048x6272) (1 : Fin 2) (pieces _) _ _ 2 (by show 2 < 4; decide) S2048x80 _ rfl rfl 6144 rfl (ix2 k ⟨q.val - 6144, by omega⟩) (fun b hb => ?_) ?_).trans ?_
  · match b, hb with
    | ⟨0, _⟩, _ => rfl
    | ⟨1, _⟩, hb => exact absurd rfl hb
  · show 6144 + (q.val - 6144) = q.val
    omega
  · refine Eq.trans ?_ (w_at m c k _)
    unfold extractStridedSlice
    refine congrArg (shapeCast S2048x6224 (a2 m c) shapeCasts_S1x2048x6224_S2048x6224) (idx2 _ _ ?_ ?_)
    · show 0 + k.val = k.val
      omega
    show 4096 + (q.val - 6144) = q.val - 2048
    omega

theorem ws_3 (k : Fin 2048) (q : Fin 6272) (h : 6224 ≤ q.val) :
    (V m c main_v6 : Vec Ideal S2048x6272 .bf16) (ix2 k q) = (0 : EReal) := by
  have hq := q.isLt
  rw [V_v6]
  refine (concatenate_apply_piece (t := S2048x6272) (1 : Fin 2) (pieces _) _ _ 3 (by show 3 < 4; decide) S2048x48 _ rfl rfl 6224 rfl (ix2 k ⟨q.val - 6224, by omega⟩) (fun b hb => ?_) ?_).trans ?_
  · match b, hb with
    | ⟨0, _⟩, _ => rfl
    | ⟨1, _⟩, hb => exact absurd rfl hb
  · show 6224 + (q.val - 6224) = q.val
    omega
  · pointwise []

theorem v12_at (x0 : Vec Ideal S8704x2048 .f32) (x1 : Vec Ideal S2048 .f32) (r : Fin 8704) (k : Fin 2048) :
    val_main_v12 (F := Ideal) x0 x1 (ix2 r k) = normed (fun j => x0 (ix2 r j)) (fun j => x1 (ix1 j)) k := by
  unfold normed
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

/-- One entry of the product. -/
abbrev ent (x0 : Vec Ideal S8704x2048 .f32) (x1 : Vec Ideal S2048 .f32) (x2 : Vec Ideal S1x2048x6224 .f32) (r : Fin 8704) (q : Fin 6224) : EReal :=
  ∑ k : Fin 2048, normed (fun j => x0 (ix2 r j)) (fun j => x1 (ix1 j)) k * wt x2 k q

theorem v14_at (x0 : Vec Ideal S8704x2048 .f32) (x1 : Vec Ideal S2048 .f32) (x2 : Vec Ideal S1x2048x6224 .f32) (r : Fin 8704) (q : Fin 6224) :
    val_main_v14 (F := Ideal) x0 x1 x2 (ix2 r q) = ent x0 x1 x2 r q := by
  rw [val_main_v14_apply]
  refine Finset.sum_congr rfl fun k _ => congrArg₂ (· * ·) ?_ ?_
  · exact (congrArg (val_main_v12 (F := Ideal) x0 x1) (idx2 (lidx_main_v14 (ix2 r q) k) (ix2 r k) rfl rfl)).trans (v12_at x0 x1 r k)
  · unfold val_main_v13
    refine shapeCast_apply x2 _ _ (ix3 0 k q) ?_
    rw [Shape.rowMajor_val_three, Shape.rowMajor_val_two]
    show (0 * 2048 + k.val) * 6224 + q.val = k.val * 6224 + q.val
    omega

section
variable (x0 : Vec Ideal S8704x2048 .f32) (x1 : Vec Ideal S2048 .f32) (x2 : Vec Ideal S1x2048x6224 .f32) (i : S8704x6272.Idx)

theorem v19_0 (h : (i 1).val < 4096) : val_main_v19 (F := Ideal) x0 x1 x2 i = ent x0 x1 x2 (i 0) ⟨(i 1).val, by omega⟩ := by
  unfold val_main_v19
  refine (concatenate_apply_piece (t := S8704x6272) (1 : Fin 2) _ _ i 0 (by show 0 < 4; decide) Cert.ProjBRefIdeal.S8704x4096 _ rfl rfl 0 rfl (ix2 (i 0) ⟨(i 1).val, h⟩) (fun b hb => ?_) ?_).trans ?_
  · match b, hb with
    | ⟨0, _⟩, _ => rfl
    | ⟨1, _⟩, hb => exact absurd rfl hb
  · show 0 + (i 1).val = (i 1).val
    omega
  · rw [val_main_v15_apply]
    refine Eq.trans ?_ (v14_at x0 x1 x2 (i 0) _)
    exact congrArg _ (idx2 _ _ rfl rfl)

theorem v19_1 (h : 4096 ≤ (i 1).val) (h' : (i 1).val < 6144) :
    val_main_v19 (F := Ideal) x0 x1 x2 i = ent x0 x1 x2 (i 0) ⟨(i 1).val + 80, by omega⟩ := by
  unfold val_main_v19
  refine (concatenate_apply_piece (t := S8704x6272) (1 : Fin 2) _ _ i 1 (by show 1 < 4; decide) S8704x2048 _ rfl rfl 4096 rfl (ix2 (i 0) ⟨(i 1).val - 4096, by omega⟩) (fun b hb => ?_) ?_).trans ?_
  · match b, hb with
    | ⟨0, _⟩, _ => rfl
    | ⟨1, _⟩, hb => exact absurd rfl hb
  · show 4096 + ((i 1).val - 4096) = (i 1).val
    omega
  · rw [val_main_v16_apply]
    refine Eq.trans ?_ (v14_at x0 x1 x2 (i 0) _)
    refine congrArg (val_main_v14 (F := Ideal) x0 x1 x2) (idx2 _ _ ?_ ?_)
    · show (i 0).val = (i 0).val
      rfl
    show 4176 + ((i 1).val - 4096) = (i 1).val + 80
    omega

theorem v19_2 (h : 6144 ≤ (i 1).val) (h' : (i 1).val < 6224) :
    val_main_v19 (F := Ideal) x0 x1 x2 i = ent x0 x1 x2 (i 0) ⟨(i 1).val - 2048, by omega⟩ := by
  unfold val_main_v19
  refine (concatenate_apply_piece (t := S8704x6272) (1 : Fin 2) _ _ i 2 (by show 2 < 4; decide) Cert.ProjBRefIdeal.S8704x80 _ rfl rfl 6144 rfl (ix2 (i 0) ⟨(i 1).val - 6144, by omega⟩) (fun b hb => ?_) ?_).trans ?_
  · match b, hb with
    | ⟨0, _⟩, _ => rfl
    | ⟨1, _⟩, hb => exact absurd rfl hb
  · show 6144 + ((i 1).val - 6144) = (i 1).val
    omega
  · rw [val_main_v17_apply]
    refine Eq.trans ?_ (v14_at x0 x1 x2 (i 0) _)
    refine congrArg (val_main_v14 (F := Ideal) x0 x1 x2) (idx2 _ _ ?_ ?_)
    · show (i 0).val = (i 0).val
      rfl
    show 4096 + ((i 1).val - 6144) = (i 1).val - 2048
    omega

theorem v19_3 (h : 6224 ≤ (i 1).val) : val_main_v19 (F := Ideal) x0 x1 x2 i = 0 := by
  have hq : (i 1).val < 6272 := (i 1).isLt
  unfold val_main_v19
  refine (concatenate_apply_piece (t := S8704x6272) (1 : Fin 2) _ _ i 3 (by show 3 < 4; decide) Cert.ProjBRefIdeal.S8704x48 _ rfl rfl 6224 rfl (ix2 (i 0) ⟨(i 1).val - 6224, by omega⟩) (fun b hb => ?_) ?_).trans ?_
  · match b, hb with
    | ⟨0, _⟩, _ => rfl
    | ⟨1, _⟩, hb => exact absurd rfl hb
  · show 6224 + ((i 1).val - 6224) = (i 1).val
    omega
  · pointwise [val_main_v18, val_main_cst_2]

end

theorem blk2_at (t : Fin cfg0.N) (y : S2048x896.Idx) (q : Fin 6272) (hq : q.val = 896 * (t.val % 7) + (y 1).val) :
    (iblk m c 2 t : Vec Ideal S2048x896 .bf16) y = (V m c main_v6 : Vec Ideal S2048x6272 .bf16) (ix2 (y 0) q) := by
  unfold iblk
  rw [View.read_apply]
  show V m c main_v6 _ = _
  obtain ⟨-, -, ⟨p0, p1⟩, -⟩ := widx t
  refine congrArg (V m c main_v6) (idx2 _ _ ?_ ?_)
  · show win0_2.index t 0 * 2048 + 1 * (y 0).val = (y 0).val; rw [p0]; omega
  · show win0_2.index t 1 * 896 + 1 * (y 1).val = q.val; rw [p1]; omega

/-- Every entry of the output array, after the last point, is the reference's. -/
theorem final : (dats m 0 c).arrAt 3 cfg0.N = res m c := by
  refine (dats m 0 c).arrAt_eq_of_cover 3 (res m c) (fun t _ => ?_) cover
  rw [Cert.ProjBIdeal.Value.flushed3]
  funext y
  rw [View.read_apply]
  have ht : t.val < 56 := Nat.lt_of_lt_of_eq t.isLt N_0
  have l0 : (y 0).val < 1088 := (y 0).isLt
  obtain ⟨-, -, -, ⟨r0, r1⟩⟩ := widx t
  have e0 : ((((cfg0.win 3).blk t).view.emb y) 0).val = 1088 * (t.val / 7) + (y 0).val := by
    show win0_3.index t 0 * 1088 + 1 * (y 0).val = _; rw [r0]; omega
  have e1 : ((((cfg0.win 3).blk t).view.emb y) 1).val = 896 * (t.val % 7) + (y 1).val := by
    show win0_3.index t 1 * 896 + 1 * (y 1).val = _; rw [r1]; omega
  refine (congrFun (out_at m c t) y).trans ((pay2_at _ _ y).trans ?_)
  unfold res
  generalize ((cfg0.win 3).blk t).view.emb y = i at e0 e1 ⊢
  have hq : (i 1).val < 6272 := (i 1).isLt
  have hr : ∀ k : Fin 2048, rows m c t.val (ix2 (y 0) k) = normed (fun j => a0 m c (ix2 (i 0) j)) (fun j => a1 m c (ix1 j)) k := fun k => by
    unfold rows
    refine congrArg₂ (fun x g => normed x g k) (funext fun j => ?_) (funext fun j => gs_at m c j)
    exact (rd_of (a0 m c) (ix2 (i 0) j) e0 rfl).symm
  by_cases h0 : (i 1).val < 4096
  · rw [v19_0 _ _ _ i h0]
    refine Finset.sum_congr rfl fun k _ => congrArg₂ (· * ·) (hr k) ?_
    exact (blk2_at m c t (ix2 k (y 1)) (i 1) e1).trans (ws_0 m c k (i 1) h0)
  · by_cases h1 : (i 1).val < 6144
    · rw [v19_1 _ _ _ i (by omega) h1]
      refine Finset.sum_congr rfl fun k _ => congrArg₂ (· * ·) (hr k) ?_
      exact (blk2_at m c t (ix2 k (y 1)) (i 1) e1).trans (ws_1 m c k (i 1) (by omega) h1)
    · by_cases h2 : (i 1).val < 6224
      · rw [v19_2 _ _ _ i (by omega) h2]
        refine Finset.sum_congr rfl fun k _ => congrArg₂ (· * ·) (hr k) ?_
        exact (blk2_at m c t (ix2 k (y 1)) (i 1) e1).trans (ws_2 m c k (i 1) (by omega) h2)
      · rw [v19_3 _ _ _ i (by omega)]
        refine Finset.sum_eq_zero fun k _ => ?_
        rw [blk2_at m c t (ix2 k (y 1)) (i 1) e1]
        exact (congrArg _ (ws_3 m c k (i 1) (by omega))).trans (mul_zero _)

/-- The reference runs to its end, keeps its arguments and leaves every counter at zero. -/
theorem frame_ref : Cert.quiescent_ProjBRefIdeal := fun m g _ =>
  (θ_run Cert.ProjBRefIdeal.defs _ _).mono (fun r h => ⟨fun c => (h c).2, Idealize.ShloMosaic.sem_eq_zero_of_no_sems (by decide) r.2⟩)
    (Cert.ProjBRefIdeal.Value.run (F := Ideal) m g)

/-- Kernel and reference return the same array. -/
theorem value : Cert.algebraic_ProjBIdeal_ProjBRefIdeal := by
  intro m ρ m' ρ' _ hag
  refine ⟨fun c => res m c,
    (θ_run _ _ _).mono (fun _ h c => ⟨(h c).1.trans (final m c), (h c).2⟩) (Cert.ProjBIdeal.Value.run_blocks m ρ),
    (θ_run _ _ _).mono (fun _ h c => ⟨(h c).1.trans ?_, (h c).2⟩) (Cert.ProjBRefIdeal.Value.run m' ρ')⟩
  obtain ⟨g0, g1, g2⟩ := hag c
  rw [val_main_v19_eq, g0, g1, g2]
  rfl

theorem frames : Cert.quiescent_ProjB ∧ Cert.quiescent_ProjBIdeal :=
  ⟨fun m ρ _ => Cert.ProjB.Gen.frame m ρ, fun m ρ _ => Cert.ProjBIdeal.Gen.frame m ρ⟩

end Cert.ProjBIdeal.Prod
-- ==== Proof.Rkvg.lean ====
module
public import proofs.«01_k».proof.Proof.Gen.Rkvg.Frame
public import proofs.«01_k».proof.Proof.Gen.RkvgIdeal.Value
public import proofs.«01_k».proof.Proof.Gen.RkvgRefIdeal.Run
public import proofs.«01_k».proof.Proof.Gen.RkvgRefIdeal.Read
public import proofs.«01_k».proof.Proof.Ref
public import proofs.«01_k».proof.Defs
public import Idealize.ShloMosaic.Adequacy
@[expose] public section
set_option maxRecDepth 16384
noncomputable section

/-! The four products of the gated mixer: each block of the result is a block of rows times a block of columns. -/

namespace Cert.RkvgIdeal.Prod
open Cert.RkvgIdeal Cert.RkvgIdeal.Gen Idealize.ShloMosaic Idealize.ShloMosaic.TcCoe Idealize.SL.Sem
open Cert.RkvgRefIdeal.Read (val_main_v3 val_main_v3_apply val_main_v2_apply val_main_v1_apply val_main_v0_apply)

variable (m : (ℓ : Loc nD τ sig) → Buf (Elt Ideal) ℓ) (c : Dev nD)

abbrev a0 : Vec Ideal S6x8704x2048 .bf16 := m ((c : Thread nD τ).loc main_arg0)
abbrev a1 : Vec Ideal S4x2048x2048 .bf16 := m ((c : Thread nD τ).loc main_arg1)

/-- The result on device `c`: the reference's, of the kernel's arguments. -/
def res : Buf (Elt Ideal) ((c : Thread nD τ).loc main_v0) := val_main_v3 (F := Ideal) (a0 m c) (a1 m c)

theorem pay_at (x : Vec Ideal S1x1088x2048 .bf16) (w : Vec Ideal S1x2048x1024 .bf16) (y : S1x1088x1024.Idx) :
    k0_pay1 (F := Ideal) x w y = ∑ k : Fin 2048, x (ix3 0 (y 1) k) * w (ix3 0 k (y 2)) := by
  pointwise [k0_pay1]

theorem widx : ∀ t : Fin cfg0.N,
    (win0_0.index t 0 = t.val / 16 ∧ win0_0.index t 1 = t.val / 2 % 8 ∧ win0_0.index t 2 = 0)
    ∧ (win0_1.index t 0 = t.val / 16 ∧ win0_1.index t 1 = 0 ∧ win0_1.index t 2 = t.val % 2)
    ∧ (win0_2.index t 0 = t.val / 16 ∧ win0_2.index t 1 = t.val / 2 % 8 ∧ win0_2.index t 2 = t.val % 2) := by
  decide +kernel

theorem osize : ∀ t : Fin cfg0.N, win0_2.xsize (grid0.coords t) 0 = 1 ∧ win0_2.xsize (grid0.coords t) 1 = 1088 ∧ win0_2.xsize (grid0.coords t) 2 = 1024 := by
  decide +kernel

theorem cover (i : S4x8704x2048.Idx) : ∃ t : Fin cfg0.N, (cfg0.win 2).flush t = true ∧ i ∈ ((cfg0.win 2).blk t).view.set := by
  have h0 : (i 0 : Nat) < 4 := (i 0).isLt
  have h1 : (i 1 : Nat) < 8704 := (i 1).isLt
  have h2 : (i 2 : Nat) < 2048 := (i 2).isLt
  have hN : cfg0.N = 64 := N_0
  have ht : 16 * (i 0 : Nat) + 2 * ((i 1 : Nat) / 1088) + (i 2 : Nat) / 1024 < cfg0.N := by omega
  refine ⟨⟨_, ht⟩, flush0_2 _, ?_⟩
  show i ∈ ((View.whole main_v0).slice (win0_2.rect ⟨_, ht⟩)).set
  rw [View.set_slice_whole, Rect.mem_set_unit]
  obtain ⟨-, -, e0, e1, e2⟩ := widx ⟨_, ht⟩
  obtain ⟨s0, s1, s2⟩ := osize ⟨_, ht⟩
  dsimp only at e0 e1 e2
  intro a
  match a with
  | ⟨0, _⟩ =>
    show win0_2.index ⟨_, ht⟩ 0 * 1 ≤ (i 0 : Nat) ∧ (i 0 : Nat) < win0_2.index ⟨_, ht⟩ 0 * 1 + win0_2.xsize (grid0.coords ⟨_, ht⟩) 0
    rw [e0, s0]; omega
  | ⟨1, _⟩ =>
    show win0_2.index ⟨_, ht⟩ 1 * 1088 ≤ (i 1 : Nat) ∧ (i 1 : Nat) < win0_2.index ⟨_, ht⟩ 1 * 1088 + win0_2.xsize (grid0.coords ⟨_, ht⟩) 1
    rw [e1, s1]; omega
  | ⟨2, _⟩ =>
    show win0_2.index ⟨_, ht⟩ 2 * 1024 ≤ (i 2 : Nat) ∧ (i 2 : Nat) < win0_2.index ⟨_, ht⟩ 2 * 1024 + win0_2.xsize (grid0.coords ⟨_, ht⟩) 2
    rw [e2, s2]; omega

theorem out_at (x : Vec Ideal S1x1088x2048 .bf16) (w : Vec Ideal S1x2048x1024 .bf16) : out0_2 (F := Ideal) x w = k0_pay1 x w := by
  unfold out0_2
  rw [View.canon_unit_zero (by decide), View.ld_unit_zero (by decide), View.ld_unit_zero (by decide)]

theorem final : (dats m 0 c).arrAt 2 cfg0.N = res m c := by
  refine (dats m 0 c).arrAt_eq_of_cover 2 (res m c) (fun t _ => ?_) cover
  rw [Cert.RkvgIdeal.Value.flushed2]
  funext y
  rw [View.read_apply]
  have z0 : (y 0).val = 0 := Nat.lt_one_iff.1 (y 0).isLt
  obtain ⟨⟨p0, p1, p2⟩, ⟨q0, q1, q2⟩, ⟨r0, r1, r2⟩⟩ := widx t
  show out0_2 (iblk m c 0 t) (iblk m c 1 t) _ = _
  rw [out_at, pay_at]
  unfold res
  refine Eq.trans ?_ (val_main_v3_apply _ _ _).symm
  refine Finset.sum_congr rfl fun k _ => ?_
  rw [val_main_v1_apply, val_main_v0_apply, val_main_v2_apply]
  refine congrArg₂ (· * ·) ?_ ?_
  · unfold iblk
    rw [View.read_apply]
    show V m c main_arg0 _ = _
    rw [V_main_arg0]
    refine congrArg (a0 m c) (funext fun a => Fin.ext ?_)
    match a with
    | ⟨0, _⟩ => show win0_0.index t 0 * 1 + 1 * 0 = win0_2.index t 0 * 1 + 1 * (y 0).val; rw [p0, r0, z0]
    | ⟨1, _⟩ => show win0_0.index t 1 * 1088 + 1 * (y 1).val = win0_2.index t 1 * 1088 + 1 * (y 1).val; rw [p1, r1]
    | ⟨2, _⟩ => show win0_0.index t 2 * 2048 + 1 * k.val = k.val; rw [p2]; omega
  · unfold iblk
    rw [View.read_apply]
    show V m c main_arg1 _ = _
    rw [V_main_arg1]
    refine congrArg (a1 m c) (funext fun a => Fin.ext ?_)
    match a with
    | ⟨0, _⟩ => show win0_1.index t 0 * 1 + 1 * 0 = win0_2.index t 0 * 1 + 1 * (y 0).val; rw [q0, r0, z0]
    | ⟨1, _⟩ => show win0_1.index t 1 * 2048 + 1 * k.val = k.val; rw [q1]; omega
    | ⟨2, _⟩ => show win0_1.index t 2 * 1024 + 1 * (y 2).val = win0_2.index t 2 * 1024 + 1 * (y 2).val; rw [q2, r2]

/-- The reference runs to its end, keeps its arguments and leaves every counter at zero. -/
theorem frame_ref : Cert.quiescent_RkvgRefIdeal := fun m g _ =>
  (θ_run Cert.RkvgRefIdeal.defs _ _).mono (fun r h => ⟨fun c => (h c).2, Idealize.ShloMosaic.sem_eq_zero_of_no_sems (by decide) r.2⟩)
    (Cert.RkvgRefIdeal.Value.run (F := Ideal) m g)

/-- The value claim. -/
theorem value : Cert.algebraic_RkvgIdeal_RkvgRefIdeal := by
  intro m ρ m' ρ' _ hag
  refine ⟨fun c => res m c,
    (θ_run _ _ _).mono (fun _ h c => ⟨(h c).1.trans (final m c), (h c).2⟩) (Cert.RkvgIdeal.Value.run_blocks m ρ),
    (θ_run _ _ _).mono (fun _ h c => ⟨(h c).1.trans ?_, (h c).2⟩) (Cert.RkvgRefIdeal.Value.run m' ρ')⟩
  obtain ⟨g0, g1⟩ := hag c
  rw [Cert.RkvgRefIdeal.Read.val_main_v3_eq, g0, g1]
  rfl

theorem frames : Cert.quiescent_Rkvg ∧ Cert.quiescent_RkvgIdeal :=
  ⟨fun m ρ _ => Cert.Rkvg.Gen.frame m ρ, fun m ρ _ => Cert.RkvgIdeal.Gen.frame m ρ⟩

end Cert.RkvgIdeal.Prod
end
-- ==== Proof.PrepRef.lean ====
module
public import proofs.«01_k».proof.Proof.Norm
public import proofs.«01_k».proof.Proof.Gen.PrepRefIdeal.Run
public import proofs.«01_k».proof.Proof.Gen.PrepRefIdeal.Read
@[expose] public section
set_option maxRecDepth 16384
noncomputable section

/-! The token shift by rows of the joined array, and the reference's arrays read that way. -/

namespace Cert.Shift
open Cert.PrepRefIdeal Idealize.ShloMosaic Cert.Norm
open Cert.PrepRefIdeal.Read

/-- The normed row `r` of the rows of both groups. -/
def nr (x : Vec Ideal S8704x2048 .f32) (g : Vec Ideal S2048 .f32) (r : ℕ) (k : Fin 2048) : EReal :=
  normed (fun j => rd 8704 2048 x r j.val) (fun j => g (ix1 j)) k

/-- The row before the first one of sequence `s`: zero for a prompt, the given row for a sample. -/
def start (z : Vec Ideal S8x2048 .f32) (s : ℕ) (k : Fin 2048) : EReal := if s < 4 then 0 else rd 8 2048 z (s - 4) k.val

/-- The row before row `r`. -/
def prev (x : Vec Ideal S8704x2048 .f32) (g : Vec Ideal S2048 .f32) (z : Vec Ideal S8x2048 .f32) (r : ℕ) (k : Fin 2048) : EReal :=
  if r < 8192 then (if r % 2048 = 0 then start z (r / 2048) k else nr x g (r - 1) k)
  else (if r % 64 = 0 then start z (4 + (r - 8192) / 64) k else nr x g (r - 1) k)

/-- Row `r` moved toward the row before it by the weights' row `n`. -/
def shifted (x : Vec Ideal S8704x2048 .f32) (g : Vec Ideal S2048 .f32) (w : Vec Ideal S6x2048 .f32) (z : Vec Ideal S8x2048 .f32)
    (n : Fin 6) (r : ℕ) (k : Fin 2048) : EReal :=
  nr x g r k + (prev x g z r k - nr x g r k) * w (ix2 n k)

/-- The last row of sequence `s`. -/
def lastRow (s : ℕ) : ℕ := if s < 4 then 2048 * s + 2047 else 8192 + (64 * (s - 4) + 63)

variable (x : Vec Ideal S8704x2048 .f32) (g : Vec Ideal S2048 .f32) (w : Vec Ideal S6x2048 .f32) (z : Vec Ideal S8x2048 .f32)

theorem v1_at (b : Fin 4) (p j : Fin 2048) : val_main_v1 (F := Ideal) x (ix3 b p j) = rd 8704 2048 x (2048 * b.val + p.val) j.val := by
  have hb := b.isLt
  have hp := p.isLt
  unfold val_main_v1
  refine (shapeCast_apply (val_main_v0 (F := Ideal) x) _ _ (ix2 ⟨2048 * b.val + p.val, by omega⟩ j) ?_).trans ?_
  · rw [Shape.rowMajor_val_three, Shape.rowMajor_val_two]
    show (2048 * b.val + p.val) * 2048 + j.val = (b.val * 2048 + p.val) * 2048 + j.val
    omega
  · rw [val_main_v0_apply]
    exact rd_of x _ rfl rfl

theorem v32_at (b : Fin 8) (p : Fin 64) (j : Fin 2048) : val_main_v32 (F := Ideal) x (ix3 b p j) = rd 8704 2048 x (8192 + (64 * b.val + p.val)) j.val := by
  have hb := b.isLt
  have hp := p.isLt
  unfold val_main_v32
  refine (shapeCast_apply (val_main_v31 (F := Ideal) x) _ _ (ix2 ⟨64 * b.val + p.val, by omega⟩ j) ?_).trans ?_
  · rw [Shape.rowMajor_val_three, Shape.rowMajor_val_two]
    show (64 * b.val + p.val) * 2048 + j.val = (b.val * 64 + p.val) * 2048 + j.val
    omega
  · rw [val_main_v31_apply]
    exact rd_of x _ rfl rfl

theorem v15_at (b : Fin 4) (p k : Fin 2048) : val_main_v15 (F := Ideal) x g (ix3 b p k) = nr x g (2048 * b.val + p.val) k := by
  unfold nr
  rw [show (fun j : Fin 2048 => rd 8704 2048 x (2048 * b.val + p.val) j.val) = fun j => val_main_v1 (F := Ideal) x (ix3 b p j) from
    funext fun j => (v1_at x b p j).symm]
  unfold normed val_main_v15 val_main_v12 val_main_v11 val_main_v10 val_main_v9 val_main_v7 val_main_v5 val_main_v4 val_main_v3
  generalize val_main_v1 (F := Ideal) x = u
  pointwise [val_main_v14, val_main_v13, val_main_v8, val_main_v6, val_main_cst_0, val_main_cst_1, val_main_cst_2]

theorem v45_at (b : Fin 8) (p : Fin 64) (k : Fin 2048) : val_main_v45 (F := Ideal) x g (ix3 b p k) = nr x g (8192 + (64 * b.val + p.val)) k := by
  unfold nr
  rw [show (fun j : Fin 2048 => rd 8704 2048 x (8192 + (64 * b.val + p.val)) j.val) = fun j => val_main_v32 (F := Ideal) x (ix3 b p j) from
    funext fun j => (v32_at x b p j).symm]
  unfold normed val_main_v45 val_main_v42 val_main_v41 val_main_v40 val_main_v39 val_main_v37 val_main_v35 val_main_v34 val_main_v33
  generalize val_main_v32 (F := Ideal) x = u
  pointwise [val_main_v44, val_main_v43, val_main_v38, val_main_v36, val_main_cst_3, val_main_cst_4, val_main_cst_5]

theorem v18_at (b : Fin 4) (p k : Fin 2048) : val_main_v18 (F := Ideal) x g (ix3 b p k) = prev x g z (2048 * b.val + p.val) k := by
  have hb := b.isLt
  have hp := p.isLt
  unfold prev
  rw [if_pos (show 2048 * b.val + p.val < 8192 by omega)]
  unfold val_main_v18
  by_cases h : p.val = 0
  · rw [if_pos (show (2048 * b.val + p.val) % 2048 = 0 by omega)]
    unfold start
    rw [if_pos (show (2048 * b.val + p.val) / 2048 < 4 by omega)]
    refine (concatenate_pair_apply_left (t := S4x2048x2048) (s₁ := S4x1x2048) (s₂ := S4x2047x2048) (1 : Fin 3) _ _ _ (ix3 b p k) rfl (ix3 b 0 k) fun a => ?_).trans ?_
    · match a with
      | ⟨0, _⟩ => rfl
      | ⟨1, _⟩ => exact h.symm
      | ⟨2, _⟩ => rfl
    · pointwise [val_main_v16, val_main_v2, val_main_cst]
  · rw [if_neg (show ¬(2048 * b.val + p.val) % 2048 = 0 by omega)]
    refine (concatenate_pair_apply_right (t := S4x2048x2048) (s₁ := S4x1x2048) (s₂ := S4x2047x2048) (1 : Fin 3) _ _ _ (ix3 b p k) rfl rfl
      (ix3 b ⟨p.val - 1, by omega⟩ k) (fun a ha => ?_) ?_).trans ?_
    · match a, ha with
      | ⟨0, _⟩, _ => rfl
      | ⟨1, _⟩, ha => exact absurd rfl ha
      | ⟨2, _⟩, _ => rfl
    · show p.val - 1 + 1 = p.val
      omega
    · rw [val_main_v17_apply]
      refine (congrArg (val_main_v15 (F := Ideal) x g) (idx3 _ (ix3 b ⟨p.val - 1, by omega⟩ k) ?_ ?_ ?_)).trans ((v15_at x g b _ k).trans ?_)
      · show b.val = b.val; rfl
      · show p.val - 1 = p.val - 1; rfl
      · show k.val = k.val; rfl
      · exact congrArg (fun r => nr x g r k) (by show 2048 * b.val + (p.val - 1) = _; omega)

theorem v48_at (b : Fin 8) (p : Fin 64) (k : Fin 2048) : val_main_v48 (F := Ideal) x g z (ix3 b p k) = prev x g z (8192 + (64 * b.val + p.val)) k := by
  have hb := b.isLt
  have hp := p.isLt
  unfold prev
  rw [if_neg (show ¬8192 + (64 * b.val + p.val) < 8192 by omega)]
  unfold val_main_v48
  by_cases h : p.val = 0
  · rw [if_pos (show (8192 + (64 * b.val + p.val)) % 64 = 0 by omega)]
    unfold start
    rw [if_neg (show ¬4 + (8192 + (64 * b.val + p.val) - 8192) / 64 < 4 by omega)]
    refine (concatenate_pair_apply_left (t := S8x64x2048) (s₁ := S8x1x2048) (s₂ := S8x63x2048) (1 : Fin 3) _ _ _ (ix3 b p k) rfl (ix3 b 0 k) fun a => ?_).trans ?_
    · match a with
      | ⟨0, _⟩ => rfl
      | ⟨1, _⟩ => exact h.symm
      | ⟨2, _⟩ => rfl
    · rw [val_main_v46_apply]
      refine rd_of z _ ?_ ?_
      · show b.val = 4 + (8192 + (64 * b.val + p.val) - 8192) / 64 - 4; omega
      · show k.val = k.val; rfl
  · rw [if_neg (show ¬(8192 + (64 * b.val + p.val)) % 64 = 0 by omega)]
    refine (concatenate_pair_apply_right (t := S8x64x2048) (s₁ := S8x1x2048) (s₂ := S8x63x2048) (1 : Fin 3) _ _ _ (ix3 b p k) rfl rfl
      (ix3 b ⟨p.val - 1, by omega⟩ k) (fun a ha => ?_) ?_).trans ?_
    · match a, ha with
      | ⟨0, _⟩, _ => rfl
      | ⟨1, _⟩, ha => exact absurd rfl ha
      | ⟨2, _⟩, _ => rfl
    · show p.val - 1 + 1 = p.val
      omega
    · rw [val_main_v47_apply]
      refine (congrArg (val_main_v45 (F := Ideal) x g) (idx3 _ (ix3 b ⟨p.val - 1, by omega⟩ k) ?_ ?_ ?_)).trans ((v45_at x g b _ k).trans ?_)
      · show b.val = b.val; rfl
      · show p.val - 1 = p.val - 1; rfl
      · show k.val = k.val; rfl
      · exact congrArg (fun r => nr x g r k) (by show 8192 + (64 * b.val + (p.val - 1)) = _; omega)

theorem v27_at (n : Fin 6) (b : Fin 4) (p k : Fin 2048) :
    val_main_v27 (F := Ideal) x g w (ix4 n b p k) = shifted x g w z n (2048 * b.val + p.val) k := by
  unfold shifted
  rw [← v15_at x g b p k, ← v18_at x g z b p k]
  unfold val_main_v27 val_main_v26 val_main_v25 val_main_v23 val_main_v21 val_main_v20 val_main_v19
  generalize val_main_v15 (F := Ideal) x g = u
  generalize val_main_v18 (F := Ideal) x g = v
  pointwise [val_main_v24, val_main_v22]

theorem v57_at (n : Fin 6) (b : Fin 8) (p : Fin 64) (k : Fin 2048) :
    val_main_v57 (F := Ideal) x g w z (ix4 n b p k) = shifted x g w z n (8192 + (64 * b.val + p.val)) k := by
  unfold shifted
  rw [← v45_at x g b p k, ← v48_at x g z b p k]
  unfold val_main_v57 val_main_v56 val_main_v55 val_main_v53 val_main_v51 val_main_v50 val_main_v49
  generalize val_main_v45 (F := Ideal) x g = u
  generalize val_main_v48 (F := Ideal) x g z = v
  pointwise [val_main_v54, val_main_v52]

theorem v62_at (i : S6x8704x2048.Idx) : val_main_v62 (F := Ideal) x g w z i = shifted x g w z (i 0) (i 1).val (i 2) := by
  have h1 : (i 1).val < 8704 := (i 1).isLt
  rw [val_main_v62_apply]
  show val_main_v61 (F := Ideal) x g w z i = _
  unfold val_main_v61
  by_cases h : (i 1).val < 8192
  · have d := Nat.div_add_mod (i 1).val 2048
    refine (concatenate_pair_apply_left (t := S6x8704x2048) (s₁ := S6x8192x2048) (s₂ := S6x512x2048) (1 : Fin 3) _ _ _ i rfl
      (ix3 (i 0) ⟨(i 1).val, h⟩ (i 2)) fun a => ?_).trans ?_
    · match a with
      | ⟨0, _⟩ => rfl
      | ⟨1, _⟩ => rfl
      | ⟨2, _⟩ => rfl
    · unfold val_main_v28
      refine (shapeCast_apply (val_main_v27 (F := Ideal) x g w) _ _ (ix4 (i 0) ⟨(i 1).val / 2048, by omega⟩ ⟨(i 1).val % 2048, by omega⟩ (i 2)) ?_).trans ?_
      · rw [Shape.rowMajor_val_four, Shape.rowMajor_val_three]
        show (((i 0).val * 4 + (i 1).val / 2048) * 2048 + (i 1).val % 2048) * 2048 + (i 2).val = ((i 0).val * 8192 + (i 1).val) * 2048 + (i 2).val
        omega
      · exact (v27_at x g w z _ _ _ _).trans (congrArg (fun r => shifted x g w z (i 0) r (i 2)) d)
  · have d := Nat.div_add_mod ((i 1).val - 8192) 64
    refine (concatenate_pair_apply_right (t := S6x8704x2048) (s₁ := S6x8192x2048) (s₂ := S6x512x2048) (1 : Fin 3) _ _ _ i rfl rfl
      (ix3 (i 0) ⟨(i 1).val - 8192, by omega⟩ (i 2)) (fun a ha => ?_) ?_).trans ?_
    · match a, ha with
      | ⟨0, _⟩, _ => rfl
      | ⟨1, _⟩, ha => exact absurd rfl ha
      | ⟨2, _⟩, _ => rfl
    · show (i 1).val - 8192 + 8192 = (i 1).val
      omega
    · unfold val_main_v58
      refine (shapeCast_apply (val_main_v57 (F := Ideal) x g w z) _ _ (ix4 (i 0) ⟨((i 1).val - 8192) / 64, by omega⟩ ⟨((i 1).val - 8192) % 64, by omega⟩ (i 2)) ?_).trans ?_
      · rw [Shape.rowMajor_val_four, Shape.rowMajor_val_three]
        show (((i 0).val * 8 + ((i 1).val - 8192) / 64) * 64 + ((i 1).val - 8192) % 64) * 2048 + (i 2).val = ((i 0).val * 512 + ((i 1).val - 8192)) * 2048 + (i 2).val
        omega
      · exact (v57_at x g w z _ _ _ _).trans (congrArg (fun r => shifted x g w z (i 0) r (i 2))
          (show 8192 + (64 * (((i 1).val - 8192) / 64) + ((i 1).val - 8192) % 64) = (i 1).val by omega))

theorem v30_at (b : Fin 4) (k : Fin 2048) : val_main_v30 (F := Ideal) x g (ix2 b k) = nr x g (2048 * b.val + 2047) k := by
  refine Eq.trans ?_ (v15_at x g b ⟨2047, by decide⟩ k)
  unfold val_main_v30 val_main_v29
  generalize val_main_v15 (F := Ideal) x g = u
  pointwise

theorem v60_at (b : Fin 8) (k : Fin 2048) : val_main_v60 (F := Ideal) x g (ix2 b k) = nr x g (8192 + (64 * b.val + 63)) k := by
  refine Eq.trans ?_ (v45_at x g b ⟨63, by decide⟩ k)
  unfold val_main_v60 val_main_v59
  generalize val_main_v45 (F := Ideal) x g = u
  pointwise

theorem v64_at (i : S12x1x2048.Idx) : val_main_v64 (F := Ideal) x g i = nr x g (lastRow (i 0).val) (i 2) := by
  have h0 : (i 0).val < 12 := (i 0).isLt
  rw [val_main_v64_apply]
  unfold val_main_v63 lastRow
  by_cases h : (i 0).val < 4
  · rw [if_pos h]
    refine (concatenate_pair_apply_left (t := S12x2048) (s₁ := S4x2048) (s₂ := S8x2048) (0 : Fin 2) _ _ _ _ rfl (ix2 ⟨(i 0).val, h⟩ (i 2)) fun a => ?_).trans
      (v30_at x g _ _)
    match a with
    | ⟨0, _⟩ => rfl
    | ⟨1, _⟩ => rfl
  · rw [if_neg h]
    refine (concatenate_pair_apply_right (t := S12x2048) (s₁ := S4x2048) (s₂ := S8x2048) (0 : Fin 2) _ _ _ _ rfl rfl
      (ix2 ⟨(i 0).val - 4, by omega⟩ (i 2)) (fun a ha => ?_) ?_).trans (v60_at x g _ _)
    · match a, ha with
      | ⟨0, _⟩, ha => exact absurd rfl ha
      | ⟨1, _⟩, _ => rfl
    · show (i 0).val - 4 + 4 = (i 0).val
      omega

end Cert.Shift
end
-- ==== Proof.Prep.lean ====
module
public import proofs.«01_k».proof.Proof.PrepRef
public import proofs.«01_k».proof.Proof.Gen.Prep.Frame
public import proofs.«01_k».proof.Proof.Gen.PrepIdeal.Value
public import proofs.«01_k».proof.Defs
public import Idealize.ShloMosaic.Adequacy
public import Idealize.ShloMosaic.Lib.KernelVsHost
@[expose] public section
set_option maxRecDepth 16384
noncomputable section

/-! The second mixer's token shift: each normed row moved toward the row before it, and the last normed row of each sequence. -/

namespace Cert.PrepIdeal.Prod
open Cert.PrepIdeal Cert.PrepIdeal.Gen Idealize.ShloMosaic Idealize.ShloMosaic.TcCoe Idealize.SL.Sem Cert.Mem Cert.Norm Cert.Shift
open Cert.PrepRefIdeal.Read

theorem pay6_at (x : Vec Ideal S64x2048 .f32) (g : Vec Ideal S1x2048 .f32) (y : S64x2048.Idx) :
    k0_pay6 (F := Ideal) x g y = normed (fun j => x (ix2 (y 0) j)) (fun j => g (ix2 0 j)) (y 1) := by
  unfold normed
  pointwise [k0_pay6]

theorem pay9_at (h : Vec Ideal S64x2048 .f32) (y : S1x2048.Idx) : k0_pay9 (F := Ideal) h y = h (ix2 63 (y 1)) := by
  pointwise [k0_pay9, k0_pay8]

theorem pay10_at (h : Vec Ideal S64x2048 .f32) (y : S1x1x2048.Idx) : k0_pay10 (F := Ideal) h y = h (ix2 63 (y 2)) := by
  pointwise [k0_pay10, k0_pay8]

/-- Whether a sequence starts at the block. -/
def first (n : ℕ) : Prop := 128 ≤ n ∨ n % 32 = 0

instance (n : ℕ) : Decidable (first n) := inferInstanceAs (Decidable (_ ∨ _))

theorem start_eq : ∀ t : Fin cfg0.N,
    Scalar.ori (Scalar.cmpi .sge (BitVec.ofNat 32 ((grid0.coords t) 0).val) 128#32)
      (Scalar.cmpi .eq (Scalar.select (Scalar.andi (Scalar.xori (Scalar.cmpi .slt (Scalar.remsi (BitVec.ofNat 32 ((grid0.coords t) 0).val) (Scalar.select (Scalar.cmpi .eq 32#32 0#32) 1#32 32#32)) 0#32)
            (Scalar.cmpi .slt (Scalar.select (Scalar.cmpi .eq 32#32 0#32) 1#32 32#32) 0#32))
          (Scalar.cmpi .ne (Scalar.remsi (BitVec.ofNat 32 ((grid0.coords t) 0).val) (Scalar.select (Scalar.cmpi .eq 32#32 0#32) 1#32 32#32)) 0#32))
        (Scalar.addi (Scalar.remsi (BitVec.ofNat 32 ((grid0.coords t) 0).val) (Scalar.select (Scalar.cmpi .eq 32#32 0#32) 1#32 32#32)) (Scalar.select (Scalar.cmpi .eq 32#32 0#32) 1#32 32#32))
        (Scalar.remsi (BitVec.ofNat 32 ((grid0.coords t) 0).val) (Scalar.select (Scalar.cmpi .eq 32#32 0#32) 1#32 32#32))) 0#32)
      = if first t.val then 1#1 else 0#1 := by
  decide +kernel

theorem pay7_at (t : Fin cfg0.N) (s : Vec Ideal S1x1x2048 .f32) (x : Vec Ideal S1x2048 .f32) (y : S1x2048.Idx) :
    k0_pay7 (F := Ideal) (grid0.coords t) s x y = if first t.val then s (ix3 0 0 (y 1)) else x y := by
  unfold k0_pay7
  dsimp only
  rw [start_eq t]
  by_cases h : first t.val
  · rw [if_pos h, if_pos h]
    show shapeCast S1x2048 s shapeCasts_S1x1x2048_S1x2048 y = _
    refine shapeCast_apply s _ _ (ix3 0 0 (y 1)) ?_
    rw [Shape.rowMajor_val_three, Shape.rowMajor_val_two]
    have h0 : (y 0).val < 1 := (y 0).isLt
    show (0 * 1 + 0) * 2048 + (y 1).val = (y 0).val * 2048 + (y 1).val
    omega
  · rw [if_neg h, if_neg h]; rfl

/-- The row before each row of a block, the first row's being `p`. -/
def before (h : Vec Ideal S64x2048 .f32) (p : Vec Ideal S1x2048 .f32) (r : Fin 64) (k : Fin 2048) : EReal :=
  if r.val = 0 then p (ix2 0 k) else h (ix2 ⟨r.val - 1, by omega⟩ k)

theorem mask : ∀ r : Fin 64, IntOp.cmpi .eq (BitVec.ofNat 32 r.val) 0#32 = if r.val = 0 then 1#1 else 0#1 := by decide +kernel

/-- The number of each row. -/
abbrev rowNum : IVec S64x2048 32 := iota .tc S64x2048 32 [0] iota_S64x2048_d0_w32

theorem rowNum_at (y : S64x2048.Idx) : rowNum y = BitVec.ofNat 32 (y 0).val := by
  show BitVec.ofNat 32 (0 * 64 + (y 0).val) = _
  rw [Nat.zero_mul, Nat.zero_add]

theorem pay11_at (h : Vec Ideal S64x2048 .f32) (p : Vec Ideal S1x2048 .f32) (y : S64x2048.Idx) :
    k0_pay11 (F := Ideal) h p rowNum y = before h p (y 0) (y 1) - h y := by
  have l0 : (y 0).val < 64 := (y 0).isLt
  unfold k0_pay11 before
  show (if IntOp.cmpi .eq (rowNum y) 0#32 = 1#1 then broadcastTo S64x2048 (shapeCast S1x2048 p shapeCasts_S1x2048_S1x2048) broadcasts_S1x2048_S64x2048 y
    else dynamicRotate 0 1#32 none h rotates_S64x2048_d0 y) - h y = _
  rw [rowNum_at, mask (y 0)]
  by_cases hz : (y 0).val = 0
  · rw [if_pos hz, if_pos rfl, if_pos hz]
    refine congrArg (· - h y) ?_
    pointwise
  · rw [if_neg hz, if_neg (by decide), if_neg hz]
    refine congrArg (· - h y) (dynamicRotate_apply (s := S64x2048) 0 1#32 h _ y (ix2 ⟨(y 0).val - 1, by omega⟩ (y 1)) fun b => ?_)
    match b with
    | ⟨0, _⟩ =>
      show (y 0).val - 1 = ((y 0).val + 64 - 1 % 64) % 64
      omega
    | ⟨1, _⟩ => rfl

/-- A row moved toward the row before it by the weights `w`. -/
def moved (h : Vec Ideal S64x2048 .f32) (p : Vec Ideal S1x2048 .f32) (w : Fin 2048 → EReal) (r : Fin 64) (k : Fin 2048) : EReal :=
  h (ix2 r k) + (before h p r k - h (ix2 r k)) * w k

theorem pay12_at (h : Vec Ideal S64x2048 .f32) (p : Vec Ideal S1x2048 .f32) (w : Vec Ideal S1x2048 .f32) (y : S1x64x2048.Idx) :
    k0_pay12 (F := Ideal) h p rowNum w y = moved h p (fun k => w (ix2 0 k)) (y 1) (y 2) := by
  unfold k0_pay12 moved
  rw [show before h p (y 1) (y 2) - h (ix2 (y 1) (y 2)) = k0_pay11 (F := Ideal) h p rowNum (ix2 (y 1) (y 2)) from (pay11_at h p (ix2 (y 1) (y 2))).symm]
  generalize k0_pay11 (F := Ideal) h p rowNum = d
  pointwise

theorem pay13_at (h : Vec Ideal S64x2048 .f32) (p : Vec Ideal S1x2048 .f32) (w : Vec Ideal S1x2048 .f32) (y : S1x64x2048.Idx) :
    k0_pay13 (F := Ideal) h p rowNum w y = moved h p (fun k => w (ix2 0 k)) (y 1) (y 2) := by
  unfold k0_pay13 moved
  rw [show before h p (y 1) (y 2) - h (ix2 (y 1) (y 2)) = k0_pay11 (F := Ideal) h p rowNum (ix2 (y 1) (y 2)) from (pay11_at h p (ix2 (y 1) (y 2))).symm]
  generalize k0_pay11 (F := Ideal) h p rowNum = d
  pointwise

theorem pay14_at (h : Vec Ideal S64x2048 .f32) (p : Vec Ideal S1x2048 .f32) (w : Vec Ideal S1x2048 .f32) (y : S1x64x2048.Idx) :
    k0_pay1 (F := Ideal) (k0_pay14 (F := Ideal) h p rowNum w) y = moved h p (fun k => w (ix2 0 k)) (y 1) (y 2) := by
  unfold k0_pay14 moved
  rw [show before h p (y 1) (y 2) - h (ix2 (y 1) (y 2)) = k0_pay11 (F := Ideal) h p rowNum (ix2 (y 1) (y 2)) from (pay11_at h p (ix2 (y 1) (y 2))).symm]
  generalize k0_pay11 (F := Ideal) h p rowNum = d
  pointwise [k0_pay1]

theorem pay2_at (h : Vec Ideal S64x2048 .f32) (p : Vec Ideal S1x2048 .f32) (w : Vec Ideal S1x2048 .f32) (y : S1x64x2048.Idx) :
    k0_pay2 (F := Ideal) h (k0_pay11 (F := Ideal) h p rowNum) w y = moved h p (fun k => w (ix2 0 k)) (y 1) (y 2) := by
  unfold moved
  rw [show before h p (y 1) (y 2) - h (ix2 (y 1) (y 2)) = k0_pay11 (F := Ideal) h p rowNum (ix2 (y 1) (y 2)) from (pay11_at h p (ix2 (y 1) (y 2))).symm]
  generalize k0_pay11 (F := Ideal) h p rowNum = d
  pointwise [k0_pay2]

theorem pay3_at (h : Vec Ideal S64x2048 .f32) (p : Vec Ideal S1x2048 .f32) (w : Vec Ideal S1x2048 .f32) (y : S1x64x2048.Idx) :
    k0_pay3 (F := Ideal) h (k0_pay11 (F := Ideal) h p rowNum) w y = moved h p (fun k => w (ix2 0 k)) (y 1) (y 2) := by
  unfold moved
  rw [show before h p (y 1) (y 2) - h (ix2 (y 1) (y 2)) = k0_pay11 (F := Ideal) h p rowNum (ix2 (y 1) (y 2)) from (pay11_at h p (ix2 (y 1) (y 2))).symm]
  generalize k0_pay11 (F := Ideal) h p rowNum = d
  pointwise [k0_pay3]

theorem pay4_at (h : Vec Ideal S64x2048 .f32) (p : Vec Ideal S1x2048 .f32) (w : Vec Ideal S1x2048 .f32) (y : S1x64x2048.Idx) :
    k0_pay4 (F := Ideal) h (k0_pay11 (F := Ideal) h p rowNum) w y = moved h p (fun k => w (ix2 0 k)) (y 1) (y 2) := by
  unfold moved
  rw [show before h p (y 1) (y 2) - h (ix2 (y 1) (y 2)) = k0_pay11 (F := Ideal) h p rowNum (ix2 (y 1) (y 2)) from (pay11_at h p (ix2 (y 1) (y 2))).symm]
  generalize k0_pay11 (F := Ideal) h p rowNum = d
  pointwise [k0_pay4]

/-- All of a block's slabs, one for each row of the weights. -/
def slabs (h : Vec Ideal S64x2048 .f32) (p : Vec Ideal S1x2048 .f32) (w : Vec Ideal S6x2048 .f32) : Vec Ideal S6x64x2048 .bf16 :=
  fun y => moved h p (fun k => w (ix2 (y 0) k)) (y 1) (y 2)

theorem slab_eq (a : Memref sig .tc .vmem S6x2048 .f32) (ha : a.IsWhole) (h : Vec Ideal S64x2048 .f32) (p : Vec Ideal S1x2048 .f32) (w : Vec Ideal S6x2048 .f32)
    (n : Fin 6) (inb : ∀ b, (![n.val, 0] : Fin 2 → ℕ) b + (![1, 2048] : Fin 2 → ℕ) b ≤ S6x2048.size b)
    (inb' : ∀ b, (![n.val, 0, 0] : Fin 3 → ℕ) b + (![1, 64, 2048] : Fin 3 → ℕ) b ≤ S6x64x2048.size b) (x : S1x64x2048.Idx) :
    moved h p (fun k => View.readAt (Elt Ideal) a.view (Rect.unit (s := S6x2048) ![n.val, 0] ![1, 2048] inb).toLoadRect (ha.unread w) (ix2 0 k)) (x 1) (x 2)
      = slabs h p w ((Rect.unit (s := S6x64x2048) ![n.val, 0, 0] ![1, 64, 2048] inb').emb x) := by
  have hx : (x 0).val < 1 := (x 0).isLt
  have e0 : (((Rect.unit (s := S6x64x2048) ![n.val, 0, 0] ![1, 64, 2048] inb').emb x) 0 : Fin 6) = n := Fin.ext (by
    show n.val + 1 * (x 0).val = n.val; omega)
  have e1 : (((Rect.unit (s := S6x64x2048) ![n.val, 0, 0] ![1, 64, 2048] inb').emb x) 1 : Fin 64) = x 1 := Fin.ext (by
    show 0 + 1 * (x 1).val = (x 1).val; omega)
  have e2 : (((Rect.unit (s := S6x64x2048) ![n.val, 0, 0] ![1, 64, 2048] inb').emb x) 2 : Fin 2048) = x 2 := Fin.ext (by
    show 0 + 1 * (x 2).val = (x 2).val; omega)
  unfold slabs
  rw [e0, e1, e2]
  refine congrArg (fun u => moved h p u (x 1) (x 2)) (funext fun k => ?_)
  rw [ha.readAt_unread]
  refine congrArg w (idx2 _ _ ?_ ?_)
  · show n.val + 1 * 0 = n.val; omega
  · show 0 + 1 * k.val = k.val; omega

theorem pieces_eq (a : Memref sig .tc .vmem S6x2048 .f32) (ha : a.IsWhole) (h : Vec Ideal S64x2048 .f32) (p : Vec Ideal S1x2048 .f32) (w : Vec Ideal S6x2048 .f32)
    (L : List (View.Piece (Elt Ideal) S6x64x2048 .bf16))
    (hL : L = [⟨Rect.unit ![5, 0, 0] ![1, 64, 2048] inb_S6x64x2048_S1x64x2048_5_0_0,
          k0_pay4 h (k0_pay11 h p rowNum) (View.readAt (Elt Ideal) a.view (Rect.unit ![5, 0] ![1, 2048] inb_S6x2048_S1x2048_5_0).toLoadRect (ha.unread w))⟩,
        ⟨Rect.unit ![4, 0, 0] ![1, 64, 2048] inb_S6x64x2048_S1x64x2048_4_0_0,
          k0_pay3 h (k0_pay11 h p rowNum) (View.readAt (Elt Ideal) a.view (Rect.unit ![4, 0] ![1, 2048] inb_S6x2048_S1x2048_4_0).toLoadRect (ha.unread w))⟩,
        ⟨Rect.unit ![3, 0, 0] ![1, 64, 2048] inb_S6x64x2048_S1x64x2048_3_0_0,
          k0_pay2 h (k0_pay11 h p rowNum) (View.readAt (Elt Ideal) a.view (Rect.unit ![3, 0] ![1, 2048] inb_S6x2048_S1x2048_3_0).toLoadRect (ha.unread w))⟩,
        ⟨Rect.unit ![2, 0, 0] ![1, 64, 2048] inb_S6x64x2048_S1x64x2048_2_0_0,
          k0_pay1 (k0_pay14 h p rowNum (View.readAt (Elt Ideal) a.view (Rect.unit ![2, 0] ![1, 2048] inb_S6x2048_S1x2048_2_0).toLoadRect (ha.unread w)))⟩,
        ⟨Rect.unit ![1, 0, 0] ![1, 64, 2048] inb_S6x64x2048_S1x64x2048_1_0_0,
          k0_pay13 h p rowNum (View.readAt (Elt Ideal) a.view (Rect.unit ![1, 0] ![1, 2048] inb_S6x2048_S1x2048_1_0).toLoadRect (ha.unread w))⟩,
        ⟨Rect.unit ![0, 0, 0] ![1, 64, 2048] inb_S6x64x2048_S1x64x2048_0_0_0,
          k0_pay12 h p rowNum (View.readAt (Elt Ideal) a.view (Rect.unit ![0, 0] ![1, 2048] inb_S6x2048_S1x2048_0_0).toLoadRect (ha.unread w))⟩])
    (y : S6x64x2048.Idx) (hy : ∃ q ∈ L, y ∈ q.1.set) : View.canon L y = slabs h p w y := by
  refine View.canon_apply_of_pieces (slabs h p w) L ?_ y hy
  subst hL
  intro q hq
  simp only [List.mem_cons, List.not_mem_nil, or_false] at hq
  rcases hq with rfl | rfl | rfl | rfl | rfl | rfl
  · exact fun x => (pay4_at h p _ x).trans (slab_eq a ha h p w 5 inb_S6x2048_S1x2048_5_0 inb_S6x64x2048_S1x64x2048_5_0_0 x)
  · exact fun x => (pay3_at h p _ x).trans (slab_eq a ha h p w 4 inb_S6x2048_S1x2048_4_0 inb_S6x64x2048_S1x64x2048_4_0_0 x)
  · exact fun x => (pay2_at h p _ x).trans (slab_eq a ha h p w 3 inb_S6x2048_S1x2048_3_0 inb_S6x64x2048_S1x64x2048_3_0_0 x)
  · exact fun x => (pay14_at h p _ x).trans (slab_eq a ha h p w 2 inb_S6x2048_S1x2048_2_0 inb_S6x64x2048_S1x64x2048_2_0_0 x)
  · exact fun x => (pay13_at h p _ x).trans (slab_eq a ha h p w 1 inb_S6x2048_S1x2048_1_0 inb_S6x64x2048_S1x64x2048_1_0_0 x)
  · exact fun x => (pay12_at h p _ x).trans (slab_eq a ha h p w 0 inb_S6x2048_S1x2048_0_0 inb_S6x64x2048_S1x64x2048_0_0_0 x)

variable (m : (ℓ : Loc nD τ sig) → Buf (Elt Ideal) ℓ) (c : Dev nD)

/-- The normed rows of a block. -/
abbrev rows (t : Fin cfg0.N) : Vec Ideal S64x2048 .f32 := k0_pay6 (F := Ideal) (iblk m c 0 t) (iblk m c 1 t)

theorem carried (t : Fin cfg0.N) : (outsAt0 m c t.val t.isLt).2 = (k0_pay10 (F := Ideal) (rows m c t), k0_pay9 (F := Ideal) (rows m c t)) := by
  by_cases h0 : t.val % 136 = 0
  · rw [outsAt0_A m c t h0]
    dsimp only
    refine Prod.ext ?_ ?_
    · dsimp only
      unfold out0_A_5
      rw [View.read_writes_junk_eq_canon]
      unfold kernelRun0_A
      refine (View.canon_unit_zero (by decide) inb_S1x1x2048_S1x1x2048_0_0_0 _).trans ?_
      unfold kernelRun0_A.sl.r
      rw [ld_all _ _ _ (by decide), ld_all _ _ _ (by decide)]
    · dsimp only
      unfold sout0_A_0
      rw [View.read_writes_junk_eq_canon]
      unfold kernelRun0_A
      refine (View.canon_cons_unit_zero (by decide) inb_S1x2048_S1x2048_0_0 _ _).trans ?_
      unfold kernelRun0_A.sl.r
      rw [ld_all _ _ _ (by decide), ld_all _ _ _ (by decide)]
  · rw [outsAt0_B m c t h0]
    dsimp only
    refine Prod.ext ?_ ?_
    · dsimp only
      unfold out0_B_5
      rw [View.read_writes_junk_eq_canon]
      unfold kernelRun0_B
      refine (View.canon_unit_zero (by decide) inb_S1x1x2048_S1x1x2048_0_0_0 _).trans ?_
      unfold kernelRun0_B.sl.r
      rw [ld_all _ _ _ (by decide), ld_all _ _ _ (by decide)]
    · dsimp only
      unfold sout0_B_0
      rw [View.read_writes_junk_eq_canon]
      unfold kernelRun0_B
      refine (View.canon_cons_unit_zero (by decide) inb_S1x2048_S1x2048_0_0 _ _).trans ?_
      unfold kernelRun0_B.sl.r
      rw [ld_all _ _ _ (by decide), ld_all _ _ _ (by decide)]

/-- The row a block finds before its first: the given one, or the last of the block before. -/
def carry (t : Fin cfg0.N) : Vec Ideal S1x2048 .f32 := fun y =>
  if first t.val then (iblk m c 3 t : Vec Ideal S1x1x2048 .f32) (ix3 0 0 (y 1))
  else rows m c ⟨t.val - 1, Nat.lt_of_le_of_lt (Nat.sub_le _ _) t.isLt⟩ (ix2 63 (y 1))

theorem out_at (t : Fin cfg0.N) : (outsAt0 m c t.val t.isLt).1 = slabs (rows m c t) (carry m c t) (iblk m c 2 t) := by
  funext y
  have ht : t.val < 136 := Nat.lt_of_lt_of_eq t.isLt N_0
  by_cases h0 : t.val % 136 = 0
  · rw [outsAt0_A m c t h0]
    dsimp only
    unfold out0_A_4
    rw [View.read_writes_junk_eq_canon]
    have hy := cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) y
    have hp : ∀ v, k0_pay7 (F := Ideal) (grid0.coords t) (iblk m c 3 t) v = carry m c t := fun v => funext fun j => by
      have hf : first t.val := Or.inr (by omega)
      rw [pay7_at]
      unfold carry
      rw [if_pos hf, if_pos hf]
    refine pieces_eq (ms0_2 t) (hs0_2 t) (rows m c t) (carry m c t) (iblk m c 2 t) _ ?_ y hy
    unfold kernelRun0_A
    dsimp only
    unfold kernelRun0_A.sl.r_3 kernelRun0_A.sl.r_2 kernelRun0_A.sl.r_1 kernelRun0_A.sl.r kernelRun0_A.sl.v35
    rw [ld_all (ms0_0 t) _ _ (by decide), ld_all (ms0_1 t) _ _ (by decide), ld_all (ms0_3 t) _ _ (by decide), hp]
  · rw [outsAt0_B m c t h0]
    dsimp only
    unfold out0_B_4
    rw [View.read_writes_junk_eq_canon]
    have hy := cover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2 y
    have hs := congrArg Prod.snd (carried m c ⟨t.val - 1, Nat.lt_of_le_of_lt (Nat.sub_le _ _) t.isLt⟩)
    dsimp only at hs
    have hp : k0_pay7 (F := Ideal) (grid0.coords t) (iblk m c 3 t) (k0_pay9 (F := Ideal) (rows m c ⟨t.val - 1, Nat.lt_of_le_of_lt (Nat.sub_le _ _) t.isLt⟩)) = carry m c t := funext fun j => by
      rw [pay7_at, pay9_at]
      rfl
    refine pieces_eq (ms0_2 t) (hs0_2 t) (rows m c t) (carry m c t) (iblk m c 2 t) _ ?_ y hy
    unfold kernelRun0_B
    dsimp only
    unfold kernelRun0_B.sl.r_3 kernelRun0_B.sl.r_2 kernelRun0_B.sl.r_1 kernelRun0_B.sl.r kernelRun0_B.sl.v35
    rw [ld_all (ms0_0 t) _ _ (by decide), ld_all (ms0_1 t) _ _ (by decide), ld_all (ms0_3 t) _ _ (by decide), ld_all scM0_0 _ _ (by decide), hs, hp]

abbrev a0 : Vec Ideal S8704x2048 .f32 := m ((c : Thread nD τ).loc main_arg0)
abbrev a1 : Vec Ideal S2048 .f32 := m ((c : Thread nD τ).loc main_arg1)
abbrev a2 : Vec Ideal S6x2048 .f32 := m ((c : Thread nD τ).loc main_arg2)
abbrev a3 : Vec Ideal S8x2048 .f32 := m ((c : Thread nD τ).loc main_arg3)

/-- The sequence of a block. -/
def seq (n : ℕ) : ℕ := if n < 128 then n / 32 else n - 124

theorem widx : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = seq t.val ∧ win0_3.index t 1 = 0 ∧ win0_3.index t 2 = 0)
    ∧ (win0_4.index t 0 = 0 ∧ win0_4.index t 1 = t.val ∧ win0_4.index t 2 = 0)
    ∧ (win0_5.index t 0 = seq t.val ∧ win0_5.index t 1 = 0 ∧ win0_5.index t 2 = 0) := by
  decide +kernel

theorem osize : ∀ t : Fin cfg0.N,
    (win0_4.xsize (grid0.coords t) 0 = 6 ∧ win0_4.xsize (grid0.coords t) 1 = 64 ∧ win0_4.xsize (grid0.coords t) 2 = 2048)
    ∧ (win0_5.xsize (grid0.coords t) 0 = 1 ∧ win0_5.xsize (grid0.coords t) 1 = 1 ∧ win0_5.xsize (grid0.coords t) 2 = 2048) := by
  decide +kernel

theorem last_of : ∀ t : Fin cfg0.N, win0_5.flush t = true → 64 * t.val + 63 = lastRow (seq t.val) := by
  decide +kernel

theorem last_at : ∀ s : Fin 12, ∃ t : Fin cfg0.N, win0_5.flush t = true ∧ seq t.val = s.val := by
  decide +kernel

theorem V_v2 : V m c main_v2 = shapeCast S1x2048 (a1 m c) shapeCasts_S2048_S1x2048 := rfl

theorem V_v3 : V m c main_v3 = shapeCast S12x1x2048 (concatenate S12x2048 0
    [⟨S4x2048, broadcastInDim S4x2048 ![] bcast_S_S4x2048 (constant (F := Ideal) S_ .f32 0x00000000#32)⟩, ⟨S8x2048, a3 m c⟩]
    concatenates_S4x2048_S8x2048_S12x2048_d0) shapeCasts_S12x2048_S12x1x2048 := rfl

theorem blk0_at (t : Fin cfg0.N) (y : S64x2048.Idx) :
    (iblk m c 0 t : Vec Ideal S64x2048 .f32) y = rd 8704 2048 (a0 m c) (64 * t.val + (y 0).val) (y 1).val := by
  unfold iblk
  rw [View.read_apply]
  show V m c main_arg0 _ = _
  rw [V_main_arg0]
  obtain ⟨⟨p0, p1⟩, -⟩ := widx t
  refine rd_of (a0 m c) _ ?_ ?_
  · show win0_0.index t 0 * 64 + 1 * (y 0).val = _; rw [p0]; omega
  · show win0_0.index t 1 * 2048 + 1 * (y 1).val = _; rw [p1]; omega

theorem blk1_at (t : Fin cfg0.N) (k : Fin 2048) : (iblk m c 1 t : Vec Ideal S1x2048 .f32) (ix2 0 k) = a1 m c (ix1 k) := by
  unfold iblk
  rw [View.read_apply]
  show V m c main_v2 _ = _
  rw [V_v2]
  obtain ⟨-, ⟨p0, p1⟩, -⟩ := widx t
  refine shapeCast_apply (a1 m c) shapeCasts_S2048_S1x2048 _ (ix1 k) ?_
  rw [Shape.rowMajor_val_one, Shape.rowMajor_val_two]
  show k.val = (win0_1.index t 0 * 1 + 1 * 0) * 2048 + (win0_1.index t 1 * 2048 + 1 * k.val)
  rw [p0, p1]
  omega

theorem blk2_at (t : Fin cfg0.N) (n : Fin 6) (k : Fin 2048) : (iblk m c 2 t : Vec Ideal S6x2048 .f32) (ix2 n k) = a2 m c (ix2 n k) := by
  unfold iblk
  rw [View.read_apply]
  show V m c main_arg2 _ = _
  rw [V_main_arg2]
  obtain ⟨-, -, ⟨p0, p1⟩, -⟩ := widx t
  refine congrArg (a2 m c) (idx2 _ _ ?_ ?_)
  · show win0_2.index t 0 * 6 + 1 * n.val = n.val; rw [p0]; omega
  · show win0_2.index t 1 * 2048 + 1 * k.val = k.val; rw [p1]; omega

theorem starts_at (s : Fin 12) (k : Fin 2048) : (concatenate S12x2048 0
    [⟨S4x2048, broadcastInDim S4x2048 ![] bcast_S_S4x2048 (constant (F := Ideal) S_ .f32 0x00000000#32)⟩, ⟨S8x2048, a3 m c⟩]
    concatenates_S4x2048_S8x2048_S12x2048_d0 : Vec Ideal S12x2048 .f32) (ix2 s k) = start (a3 m c) s.val k := by
  have hs := s.isLt
  unfold start
  by_cases h : s.val < 4
  · rw [if_pos h]
    refine (concatenate_pair_apply_left (t := S12x2048) (s₁ := S4x2048) (s₂ := S8x2048) (0 : Fin 2) _ _ _ (ix2 s k) rfl (ix2 ⟨s.val, h⟩ k) fun a => ?_).trans ?_
    · match a with
      | ⟨0, _⟩ => rfl
      | ⟨1, _⟩ => rfl
    · pointwise
  · rw [if_neg h]
    refine (concatenate_pair_apply_right (t := S12x2048) (s₁ := S4x2048) (s₂ := S8x2048) (0 : Fin 2) _ _ _ (ix2 s k) rfl rfl
      (ix2 ⟨s.val - 4, by omega⟩ k) (fun a ha => ?_) ?_).trans ?_
    · match a, ha with
      | ⟨0, _⟩, ha => exact absurd rfl ha
      | ⟨1, _⟩, _ => rfl
    · show s.val - 4 + 4 = s.val
      omega
    · exact rd_of (a3 m c) _ rfl rfl

theorem seq_lt (t : Fin cfg0.N) : seq t.val < 12 := by
  have ht : t.val < 136 := Nat.lt_of_lt_of_eq t.isLt N_0
  unfold seq
  split <;> omega

theorem blk3_at (t : Fin cfg0.N) (k : Fin 2048) : (iblk m c 3 t : Vec Ideal S1x1x2048 .f32) (ix3 0 0 k) = start (a3 m c) (seq t.val) k := by
  refine Eq.trans ?_ (starts_at m c ⟨seq t.val, seq_lt t⟩ k)
  unfold iblk
  rw [View.read_apply]
  show V m c main_v3 _ = _
  rw [V_v3]
  obtain ⟨-, -, -, ⟨p0, p1, p2⟩, -⟩ := widx t
  refine shapeCast_apply _ shapeCasts_S12x2048_S12x1x2048 _ (ix2 ⟨seq t.val, seq_lt t⟩ k) ?_
  rw [Shape.rowMajor_val_two, Shape.rowMajor_val_three]
  show seq t.val * 2048 + k.val = ((win0_3.index t 0 * 1 + 1 * 0) * 1 + (win0_3.index t 1 * 1 + 1 * 0)) * 2048 + (win0_3.index t 2 * 2048 + 1 * k.val)
  rw [p0, p1, p2]
  omega

theorem rows_at (t : Fin cfg0.N) (y : S64x2048.Idx) : rows m c t y = nr (a0 m c) (a1 m c) (64 * t.val + (y 0).val) (y 1) := by
  refine (pay6_at _ _ y).trans ?_
  unfold nr
  exact congrArg₂ (fun x g => normed x g (y 1)) (funext fun j => blk0_at m c t _) (funext fun j => blk1_at m c t j)

theorem before_at (t : Fin cfg0.N) (r : Fin 64) (k : Fin 2048) :
    before (rows m c t) (carry m c t) r k = prev (a0 m c) (a1 m c) (a3 m c) (64 * t.val + r.val) k := by
  have ht : t.val < 136 := Nat.lt_of_lt_of_eq t.isLt N_0
  have hr := r.isLt
  unfold before prev
  by_cases hz : r.val = 0
  · rw [if_pos hz]
    unfold carry
    by_cases hf : first t.val
    · rw [if_pos hf]
      refine (blk3_at m c t k).trans ?_
      unfold seq
      unfold first at hf
      by_cases h : t.val < 128
      · rw [if_pos h, if_pos (show 64 * t.val + r.val < 8192 by omega), if_pos (show (64 * t.val + r.val) % 2048 = 0 by omega)]
        exact congrArg (fun s => start (a3 m c) s k) (by omega)
      · rw [if_neg h, if_neg (show ¬64 * t.val + r.val < 8192 by omega), if_pos (show (64 * t.val + r.val) % 64 = 0 by omega)]
        exact congrArg (fun s => start (a3 m c) s k) (by omega)
    · rw [if_neg hf]
      refine (rows_at m c _ _).trans ?_
      unfold first at hf
      rw [if_pos (show 64 * t.val + r.val < 8192 by omega), if_neg (show ¬(64 * t.val + r.val) % 2048 = 0 by omega)]
      exact congrArg (fun q => nr (a0 m c) (a1 m c) q k) (by show 64 * (t.val - 1) + 63 = _; omega)
  · rw [if_neg hz]
    refine (rows_at m c _ _).trans ?_
    have e : 64 * t.val + (r.val - 1) = 64 * t.val + r.val - 1 := by omega
    show nr (a0 m c) (a1 m c) (64 * t.val + (r.val - 1)) k = _
    rw [e, if_neg (show ¬(64 * t.val + r.val) % 2048 = 0 by omega), if_neg (show ¬(64 * t.val + r.val) % 64 = 0 by omega), ite_self]

/-- The results on device `c`: the reference's, of the kernel's arguments. -/
def res0 : Buf (Elt Ideal) ((c : Thread nD τ).loc main_v4_0) := val_main_v62 (F := Ideal) (a0 m c) (a1 m c) (a2 m c) (a3 m c)

def res1 : Buf (Elt Ideal) ((c : Thread nD τ).loc main_v4_1) := val_main_v64 (F := Ideal) (a0 m c) (a1 m c)

theorem cover0 (i : S6x8704x2048.Idx) : ∃ t : Fin cfg0.N, (cfg0.win 4).flush t = true ∧ i ∈ ((cfg0.win 4).blk t).view.set := by
  have h0 : (i 0 : Nat) < 6 := (i 0).isLt
  have h1 : (i 1 : Nat) < 8704 := (i 1).isLt
  have h2 : (i 2 : Nat) < 2048 := (i 2).isLt
  have hN : cfg0.N = 136 := N_0
  have ht : (i 1 : Nat) / 64 < cfg0.N := by omega
  refine ⟨⟨_, ht⟩, flush0_4 _, ?_⟩
  show i ∈ ((View.whole main_v4_0).slice (win0_4.rect ⟨_, ht⟩)).set
  rw [View.set_slice_whole, Rect.mem_set_unit]
  obtain ⟨-, -, -, -, ⟨e0, e1, e2⟩, -⟩ := widx ⟨_, ht⟩
  obtain ⟨⟨s0, s1, s2⟩, -⟩ := osize ⟨_, ht⟩
  dsimp only at e0 e1 e2
  intro a
  match a with
  | ⟨0, _⟩ =>
    show win0_4.index ⟨_, ht⟩ 0 * 6 ≤ (i 0 : Nat) ∧ (i 0 : Nat) < win0_4.index ⟨_, ht⟩ 0 * 6 + win0_4.xsize (grid0.coords ⟨_, ht⟩) 0
    rw [e0, s0]; omega
  | ⟨1, _⟩ =>
    show win0_4.index ⟨_, ht⟩ 1 * 64 ≤ (i 1 : Nat) ∧ (i 1 : Nat) < win0_4.index ⟨_, ht⟩ 1 * 64 + win0_4.xsize (grid0.coords ⟨_, ht⟩) 1
    rw [e1, s1]; omega
  | ⟨2, _⟩ =>
    show win0_4.index ⟨_, ht⟩ 2 * 2048 ≤ (i 2 : Nat) ∧ (i 2 : Nat) < win0_4.index ⟨_, ht⟩ 2 * 2048 + win0_4.xsize (grid0.coords ⟨_, ht⟩) 2
    rw [e2, s2]; omega

theorem cover1 (i : S12x1x2048.Idx) : ∃ t : Fin cfg0.N, (cfg0.win 5).flush t = true ∧ i ∈ ((cfg0.win 5).blk t).view.set := by
  have h1 : (i 1 : Nat) < 1 := (i 1).isLt
  have h2 : (i 2 : Nat) < 2048 := (i 2).isLt
  obtain ⟨t, hf, hs⟩ := last_at ⟨(i 0).val, (i 0).isLt⟩
  refine ⟨t, hf, ?_⟩
  show i ∈ ((View.whole main_v4_1).slice (win0_5.rect t)).set
  rw [View.set_slice_whole, Rect.mem_set_unit]
  obtain ⟨-, -, -, -, -, ⟨e0, e1, e2⟩⟩ := widx t
  obtain ⟨-, ⟨s0, s1, s2⟩⟩ := osize t
  dsimp only at hs
  intro a
  match a with
  | ⟨0, _⟩ =>
    show win0_5.index t 0 * 1 ≤ (i 0 : Nat) ∧ (i 0 : Nat) < win0_5.index t 0 * 1 + win0_5.xsize (grid0.coords t) 0
    rw [e0, s0, hs]; omega
  | ⟨1, _⟩ =>
    show win0_5.index t 1 * 1 ≤ (i 1 : Nat) ∧ (i 1 : Nat) < win0_5.index t 1 * 1 + win0_5.xsize (grid0.coords t) 1
    rw [e1, s1]; omega
  | ⟨2, _⟩ =>
    show win0_5.index t 2 * 2048 ≤ (i 2 : Nat) ∧ (i 2 : Nat) < win0_5.index t 2 * 2048 + win0_5.xsize (grid0.coords t) 2
    rw [e2, s2]; omega

/-- Every entry of the shifted rows, after the last point, is the reference's. -/
theorem final0 : (dats m 0 c).arrAt 4 cfg0.N = res0 m c := by
  refine (dats m 0 c).arrAt_eq_of_cover 4 (res0 m c) (fun t _ => ?_) cover0
  rw [Cert.PrepIdeal.Value.flushed4]
  funext y
  rw [View.read_apply]
  obtain ⟨-, -, -, -, ⟨r0, r1, r2⟩, -⟩ := widx t
  have e0 : (((((cfg0.win 4).blk t).view.emb y) 0 : Fin 6)) = y 0 := Fin.ext (by
    show win0_4.index t 0 * 6 + 1 * (y 0).val = (y 0).val; rw [r0]; omega)
  have e1 : ((((cfg0.win 4).blk t).view.emb y) 1).val = 64 * t.val + (y 1).val := by
    show win0_4.index t 1 * 64 + 1 * (y 1).val = _; rw [r1]; omega
  have e2 : (((((cfg0.win 4).blk t).view.emb y) 2 : Fin 2048)) = y 2 := Fin.ext (by
    show win0_4.index t 2 * 2048 + 1 * (y 2).val = (y 2).val; rw [r2]; omega)
  refine (congrFun (out_at m c t) y).trans ?_
  unfold res0
  refine Eq.trans ?_ (v62_at (a0 m c) (a1 m c) (a2 m c) (a3 m c) _).symm
  rw [e0, e1, e2]
  unfold slabs moved shifted
  have er : rows m c t (ix2 (y 1) (y 2)) = nr (a0 m c) (a1 m c) (64 * t.val + (y 1).val) (y 2) := rows_at m c t (ix2 (y 1) (y 2))
  rw [er, before_at m c t (y 1) (y 2)]
  exact congrArg (fun u => nr (a0 m c) (a1 m c) (64 * t.val + (y 1).val) (y 2)
    + (prev (a0 m c) (a1 m c) (a3 m c) (64 * t.val + (y 1).val) (y 2) - nr (a0 m c) (a1 m c) (64 * t.val + (y 1).val) (y 2)) * u) (blk2_at m c t (y 0) (y 2))

/-- Every last normed row, after the last point, is the reference's. -/
theorem final1 : (dats m 0 c).arrAt 5 cfg0.N = res1 m c := by
  refine (dats m 0 c).arrAt_eq_of_cover 5 (res1 m c) (fun t hf => ?_) cover1
  rw [Cert.PrepIdeal.Value.flushed5]
  funext y
  rw [View.read_apply]
  obtain ⟨-, -, -, -, -, ⟨r0, r1, r2⟩⟩ := widx t
  have h0 : (y 0).val < 1 := (y 0).isLt
  have e0 : ((((cfg0.win 5).blk t).view.emb y) 0).val = seq t.val := by
    show win0_5.index t 0 * 1 + 1 * (y 0).val = _; rw [r0]; omega
  have e2 : (((((cfg0.win 5).blk t).view.emb y) 2 : Fin 2048)) = y 2 := Fin.ext (by
    show win0_5.index t 2 * 2048 + 1 * (y 2).val = (y 2).val; rw [r2]; omega)
  refine (congrFun (congrArg Prod.fst (carried m c t)) y).trans ((pay10_at _ y).trans ((rows_at m c t _).trans ?_))
  unfold res1
  refine Eq.trans ?_ (v64_at (a0 m c) (a1 m c) _).symm
  rw [e0, e2, ← last_of t hf]
  rfl

/-- The reference runs to its end, keeps its arguments and leaves every counter at zero. -/
theorem frame_ref : Cert.quiescent_PrepRefIdeal := fun m g _ =>
  (θ_run Cert.PrepRefIdeal.defs _ _).mono (fun r h => ⟨fun c => (h c).2.2, Idealize.ShloMosaic.sem_eq_zero_of_no_sems (by decide) r.2⟩)
    (Cert.PrepRefIdeal.Value.run (F := Ideal) m g)

/-- Kernel and reference return the same arrays. -/
theorem value : Cert.algebraic_PrepIdeal_PrepRefIdeal := by
  intro m ρ m' ρ' _ hag
  refine ⟨fun c => res0 m c, fun c => res1 m c,
    (θ_run _ _ _).mono (fun _ h c => ⟨(h c).1.trans (final0 m c), (h c).2.1.trans (final1 m c), (h c).2.2⟩) (Cert.PrepIdeal.Value.run_blocks m ρ),
    (θ_run _ _ _).mono (fun _ h c => ⟨(h c).1.trans ?_, (h c).2.1.trans ?_, (h c).2.2⟩) (Cert.PrepRefIdeal.Value.run m' ρ')⟩
  · obtain ⟨g0, g1, g2, g3⟩ := hag c
    rw [val_main_v62_eq, g0, g1, g2, g3]
    rfl
  · obtain ⟨g0, g1, g2, g3⟩ := hag c
    rw [val_main_v64_eq, g0, g1]
    rfl

theorem frames : Cert.quiescent_Prep ∧ Cert.quiescent_PrepIdeal :=
  ⟨fun m ρ _ => Cert.Prep.Gen.frame m ρ, fun m ρ _ => Cert.PrepIdeal.Gen.frame m ρ⟩

end Cert.PrepIdeal.Prod
end
-- ==== Proof.Lora.lean ====
module
public import proofs.«01_k».proof.Proof.Norm
public import proofs.«01_k».proof.Proof.Gen.Lora.Frame
public import proofs.«01_k».proof.Proof.Gen.LoraIdeal.Value
public import proofs.«01_k».proof.Proof.Gen.LoraRefIdeal.Run
public import proofs.«01_k».proof.Proof.Gen.LoraRefIdeal.Read
public import proofs.«01_k».proof.Defs
public import Idealize.ShloMosaic.Lib.KernelVsHost
public import Idealize.ShloMosaic.Adequacy
@[expose] public section
set_option maxRecDepth 16384
noncomputable section

/-! The two low-rank maps: a row times a narrow weight, an entrywise function, a second weight, and a bias. The kernel widens
    the 96 middle columns to 128 with zeros. -/

namespace Cert.LoraIdeal.Prod
open Cert.LoraIdeal Cert.LoraIdeal.Gen Idealize.ShloMosaic Idealize.ShloMosaic.TcCoe Idealize.SL.Sem Cert.Norm
open Cert.LoraRefIdeal.Read

variable (m : (ℓ : Loc nD τ sig) → Buf (Elt Ideal) ℓ) (c : Dev nD)

abbrev a0 : Vec Ideal S6x8704x2048 .bf16 := m ((c : Thread nD τ).loc main_arg0)
abbrev a1 : Vec Ideal S2048x96 .f32 := m ((c : Thread nD τ).loc main_arg1)
abbrev a2 : Vec Ideal S96x2048 .f32 := m ((c : Thread nD τ).loc main_arg2)
abbrev a3 : Vec Ideal S2048x96 .f32 := m ((c : Thread nD τ).loc main_arg3)
abbrev a4 : Vec Ideal S96x2048 .f32 := m ((c : Thread nD τ).loc main_arg4)
abbrev a5 : Vec Ideal S2048 .f32 := m ((c : Thread nD τ).loc main_arg5)
abbrev a6 : Vec Ideal S2048 .f32 := m ((c : Thread nD τ).loc main_arg6)

/-- The two results on device `c`: the reference's, of the kernel's arguments. -/
def res0 : Buf (Elt Ideal) ((c : Thread nD τ).loc main_v10_0) := val_main_v8 (F := Ideal) (a0 m c) (a1 m c) (a2 m c) (a5 m c)
def res1 : Buf (Elt Ideal) ((c : Thread nD τ).loc main_v10_1) := val_main_v15 (F := Ideal) (a0 m c) (a3 m c) (a4 m c) (a6 m c)

/-- One entry of a low-rank map with `n` middle columns: of the row `x`, the weight `w`, the column `u` and the bias `b`. -/
def low {n : ℕ} (f : EReal → EReal) (x : Fin 2048 → EReal) (w : Fin 2048 → Fin n → EReal) (u : Fin n → EReal) (b : EReal) : EReal :=
  b + ∑ j : Fin n, f (∑ k : Fin 2048, x k * w k j) * u j

/-- Middle columns whose second weight is zero can be left out. -/
theorem low_wide (f : EReal → EReal) (x : Fin 2048 → EReal) (w : Fin 2048 → Fin 128 → EReal) (u : Fin 128 → EReal) (b : EReal)
    (w' : Fin 2048 → Fin 96 → EReal) (u' : Fin 96 → EReal) (hw : ∀ k (j : Fin 96), w k ⟨j.val, by omega⟩ = w' k j)
    (hu : ∀ j : Fin 96, u ⟨j.val, by omega⟩ = u' j) (hz : ∀ j : Fin 32, u ⟨96 + j.val, by omega⟩ = 0) :
    low f x w u b = low f x w' u' b := by
  unfold low
  refine congrArg (b + ·) ?_
  refine (Fin.sum_univ_add (a := 96) (b := 32) (fun j : Fin 128 => f (∑ k : Fin 2048, x k * w k j) * u j)).trans ?_
  rw [Finset.sum_eq_zero (s := (Finset.univ : Finset (Fin 32))) fun j _ => ?_, add_zero]
  · refine Finset.sum_congr rfl fun j _ => ?_
    refine congrArg₂ (· * ·) (congrArg f (Finset.sum_congr rfl fun k _ => congrArg (x k * ·) (hw k j))) (hu j)
  · have e : u (Fin.natAdd 96 j) = 0 := hz j
    rw [e, mul_zero]

theorem pay1_at (x : Vec Ideal S1x512x2048 .bf16) (w : Vec Ideal S2048x128 .bf16) (b : Vec Ideal S1x2048 .f32) (u : Vec Ideal S128x2048 .bf16)
    (y : S512x2048.Idx) :
    k0_pay1 (F := Ideal) x w b u y
      = low Ideal.tanh (fun k => x (ix3 0 (y 0) k)) (fun k j => w (ix2 k j)) (fun j => u (ix2 j (y 1))) (b (ix2 0 (y 1))) := by
  unfold low
  pointwise [k0_pay1]

theorem pay2_at (x : Vec Ideal S1x512x2048 .bf16) (w : Vec Ideal S2048x128 .bf16) (b : Vec Ideal S1x2048 .f32) (u : Vec Ideal S128x2048 .bf16)
    (y : S512x2048.Idx) :
    k0_pay2 (F := Ideal) x w b u y
      = low id (fun k => x (ix3 0 (y 0) k)) (fun k j => w (ix2 k j)) (fun j => u (ix2 j (y 1))) (b (ix2 0 (y 1))) := by
  unfold low id
  pointwise [k0_pay2]

/-- The reference's rows of the fifth and the sixth mixture. -/
theorem v2_at (x0 : Vec Ideal S6x8704x2048 .bf16) (i : S8704x2048.Idx) : val_main_v2 (F := Ideal) x0 i = x0 (ix3 4 (i 0) (i 1)) := by
  rw [val_main_v2_apply, val_main_v1_apply, val_main_v0_apply]
  have h0 : (i 0).val < 8704 := (i 0).isLt
  have h1 : (i 1).val < 2048 := (i 1).isLt
  refine congrArg x0 (idx3 _ _ rfl ?_ ?_)
  · show ((i 0).val * 2048 + (i 1).val) / 2048 % 8704 = (i 0).val; omega
  · show ((i 0).val * 2048 + (i 1).val) % 2048 = (i 1).val; omega

theorem v10_at (x0 : Vec Ideal S6x8704x2048 .bf16) (i : S8704x2048.Idx) : val_main_v10 (F := Ideal) x0 i = x0 (ix3 5 (i 0) (i 1)) := by
  rw [val_main_v10_apply, val_main_v9_apply, val_main_v0_apply]
  have h0 : (i 0).val < 8704 := (i 0).isLt
  have h1 : (i 1).val < 2048 := (i 1).isLt
  refine congrArg x0 (idx3 _ _ rfl ?_ ?_)
  · show ((i 0).val * 2048 + (i 1).val) / 2048 % 8704 = (i 0).val; omega
  · show ((i 0).val * 2048 + (i 1).val) % 2048 = (i 1).val; omega

theorem v8_at (x0 : Vec Ideal S6x8704x2048 .bf16) (x1 : Vec Ideal S2048x96 .f32) (x2 : Vec Ideal S96x2048 .f32) (x5 : Vec Ideal S2048 .f32)
    (i : S8704x2048.Idx) :
    val_main_v8 (F := Ideal) x0 x1 x2 x5 i
      = low Ideal.tanh (fun k => x0 (ix3 4 (i 0) k)) (fun k j => x1 (ix2 k j)) (fun j => x2 (ix2 j (i 1))) (x5 (ix1 (i 1))) := by
  rw [val_main_v8_apply, val_main_v7_apply, val_main_v6_apply]
  unfold low
  refine congrArg₂ (· + ·) (congrArg x5 (funext fun a => match a with | ⟨0, _⟩ => rfl)) ?_
  rw [val_main_v5_apply]
  refine Finset.sum_congr rfl fun j _ => ?_
  rw [val_main_v4_apply]
  refine congrArg₂ (· * ·) (congrArg Ideal.tanh ?_) (congrArg x2 (idx2 _ _ rfl rfl))
  rw [val_main_v3_apply]
  refine Finset.sum_congr rfl fun k _ => ?_
  rw [v2_at]
  exact congrArg₂ (· * ·) rfl (congrArg x1 (idx2 _ _ rfl rfl))

theorem v15_at (x0 : Vec Ideal S6x8704x2048 .bf16) (x3 : Vec Ideal S2048x96 .f32) (x4 : Vec Ideal S96x2048 .f32) (x6 : Vec Ideal S2048 .f32)
    (i : S8704x2048.Idx) :
    val_main_v15 (F := Ideal) x0 x3 x4 x6 i
      = low id (fun k => x0 (ix3 5 (i 0) k)) (fun k j => x3 (ix2 k j)) (fun j => x4 (ix2 j (i 1))) (x6 (ix1 (i 1))) := by
  rw [val_main_v15_apply, val_main_v14_apply, val_main_v13_apply]
  unfold low
  refine congrArg₂ (· + ·) (congrArg x6 (funext fun a => match a with | ⟨0, _⟩ => rfl)) ?_
  rw [val_main_v12_apply]
  refine Finset.sum_congr rfl fun j _ => ?_
  refine congrArg₂ (· * ·) ?_ (congrArg x4 (idx2 _ _ rfl rfl))
  rw [val_main_v11_apply]
  refine Finset.sum_congr rfl fun k _ => ?_
  rw [v10_at]
  exact congrArg₂ (· * ·) rfl (congrArg x3 (idx2 _ _ rfl rfl))

/-- The filling value of the widened weights. -/
abbrev fill : FVec Ideal S_ .f32 := sitofp (F := Ideal) .f32 (constantI S_ 32 0#32)

theorem fill_at (i : S_.Idx) : fill i = (0 : EReal) := by
  show (((((0#32 : BitVec 32).toInt : ℤ) : ℝ)) : EReal) = 0
  simp

/-- The widened weights: columns, or rows, of zeros after the 96 given. -/
abbrev wideC (w : Vec Ideal S2048x96 .f32) : Vec Ideal S2048x128 .f32 :=
  pad S2048x128 ![0, 0] ![0, 32] ![0, 0] w fill pads_S2048x96_S2048x128_000_0320 h_S_
abbrev wideR (w : Vec Ideal S96x2048 .f32) : Vec Ideal S128x2048 .f32 :=
  pad S128x2048 ![0, 0] ![32, 0] ![0, 0] w fill pads_S96x2048_S128x2048_0320_000 h_S_

theorem V_v1 : V m c main_v1 = wideC (a1 m c) := rfl
theorem V_v3 : V m c main_v3 = wideR (a2 m c) := rfl
theorem V_v5 : V m c main_v5 = wideC (a3 m c) := rfl
theorem V_v7 : V m c main_v7 = wideR (a4 m c) := rfl

theorem wideC_at (w : Vec Ideal S2048x96 .f32) (k : Fin 2048) (j : Fin 96) : wideC w (ix2 k ⟨j.val, by omega⟩) = w (ix2 k j) := by
  refine pad_apply_of_inside _ _ _ _ _ _ _ _ (ix2 k j) fun a => ?_
  match a with
  | ⟨0, _⟩ => show k.val = 0 + k.val * (0 + 1); omega
  | ⟨1, _⟩ => show j.val = 0 + j.val * (0 + 1); omega

theorem wideR_at (w : Vec Ideal S96x2048 .f32) (j : Fin 96) (q : Fin 2048) : wideR w (ix2 ⟨j.val, by omega⟩ q) = w (ix2 j q) := by
  refine pad_apply_of_inside _ _ _ _ _ _ _ _ (ix2 j q) fun a => ?_
  match a with
  | ⟨0, _⟩ => show j.val = 0 + j.val * (0 + 1); omega
  | ⟨1, _⟩ => show q.val = 0 + q.val * (0 + 1); omega

theorem wideR_zero (w : Vec Ideal S96x2048 .f32) (j : Fin 32) (q : Fin 2048) : wideR w (ix2 ⟨96 + j.val, by omega⟩ q) = (0 : EReal) := by
  refine (pad_apply_of_not_inside _ _ _ _ _ _ _ _ (0 : Fin 2) ?_).trans (fill_at _)
  show ¬(0 ≤ 96 + j.val ∧ (96 + j.val - 0) % (0 + 1) = 0 ∧ (96 + j.val - 0) / (0 + 1) < 96)
  omega

theorem widx : ∀ t : Fin cfg0.N,
    (win0_0.index t 0 = 4 ∧ win0_0.index t 1 = t.val ∧ win0_0.index t 2 = 0)
    ∧ (win0_1.index t 0 = 5 ∧ win0_1.index t 1 = t.val ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0) ∧ (win0_9.index t 0 = t.val ∧ win0_9.index t 1 = 0) := by
  decide +kernel

theorem osize : ∀ t : Fin cfg0.N, (win0_8.xsize (grid0.coords t) 0 = 512 ∧ win0_8.xsize (grid0.coords t) 1 = 2048)
    ∧ win0_9.xsize (grid0.coords t) 0 = 512 ∧ win0_9.xsize (grid0.coords t) 1 = 2048 := by
  decide +kernel

theorem cover8 (i : S8704x2048.Idx) : ∃ t : Fin cfg0.N, (cfg0.win 8).flush t = true ∧ i ∈ ((cfg0.win 8).blk t).view.set := by
  have h0 : (i 0 : Nat) < 8704 := (i 0).isLt
  have h1 : (i 1 : Nat) < 2048 := (i 1).isLt
  have hN : cfg0.N = 17 := N_0
  have ht : (i 0 : Nat) / 512 < cfg0.N := by omega
  refine ⟨⟨_, ht⟩, flush0_8 _, ?_⟩
  show i ∈ ((View.whole main_v10_0).slice (win0_8.rect ⟨_, ht⟩)).set
  rw [View.set_slice_whole, Rect.mem_set_unit]
  obtain ⟨-, -, -, -, -, -, -, -, ⟨e0, e1⟩, -⟩ := widx ⟨_, ht⟩
  obtain ⟨⟨s0, s1⟩, -⟩ := osize ⟨_, ht⟩
  dsimp only at e0 e1
  intro a
  match a with
  | ⟨0, _⟩ =>
    show win0_8.index ⟨_, ht⟩ 0 * 512 ≤ (i 0 : Nat) ∧ (i 0 : Nat) < win0_8.index ⟨_, ht⟩ 0 * 512 + win0_8.xsize (grid0.coords ⟨_, ht⟩) 0
    rw [e0, s0]; omega
  | ⟨1, _⟩ =>
    show win0_8.index ⟨_, ht⟩ 1 * 2048 ≤ (i 1 : Nat) ∧ (i 1 : Nat) < win0_8.index ⟨_, ht⟩ 1 * 2048 + win0_8.xsize (grid0.coords ⟨_, ht⟩) 1
    rw [e1, s1]; omega

theorem cover9 (i : S8704x2048.Idx) : ∃ t : Fin cfg0.N, (cfg0.win 9).flush t = true ∧ i ∈ ((cfg0.win 9).blk t).view.set := by
  have h0 : (i 0 : Nat) < 8704 := (i 0).isLt
  have h1 : (i 1 : Nat) < 2048 := (i 1).isLt
  have hN : cfg0.N = 17 := N_0
  have ht : (i 0 : Nat) / 512 < cfg0.N := by omega
  refine ⟨⟨_, ht⟩, flush0_9 _, ?_⟩
  show i ∈ ((View.whole main_v10_1).slice (win0_9.rect ⟨_, ht⟩)).set
  rw [View.set_slice_whole, Rect.mem_set_unit]
  obtain ⟨-, -, -, -, -, -, -, -, -, ⟨e0, e1⟩⟩ := widx ⟨_, ht⟩
  obtain ⟨-, s0, s1⟩ := osize ⟨_, ht⟩
  dsimp only at e0 e1
  intro a
  match a with
  | ⟨0, _⟩ =>
    show win0_9.index ⟨_, ht⟩ 0 * 512 ≤ (i 0 : Nat) ∧ (i 0 : Nat) < win0_9.index ⟨_, ht⟩ 0 * 512 + win0_9.xsize (grid0.coords ⟨_, ht⟩) 0
    rw [e0, s0]; omega
  | ⟨1, _⟩ =>
    show win0_9.index ⟨_, ht⟩ 1 * 2048 ≤ (i 1 : Nat) ∧ (i 1 : Nat) < win0_9.index ⟨_, ht⟩ 1 * 2048 + win0_9.xsize (grid0.coords ⟨_, ht⟩) 1
    rw [e1, s1]; omega

theorem blk0_at (t : Fin cfg0.N) (r : Fin 512) (k : Fin 2048) (i : Fin 8704) (hi : i.val = t.val * 512 + r.val) :
    (iblk m c 0 t : Vec Ideal S1x512x2048 .bf16) (ix3 0 r k) = a0 m c (ix3 4 i k) := by
  unfold iblk
  rw [View.read_apply]
  show V m c main_arg0 _ = _
  rw [V_main_arg0]
  obtain ⟨⟨p0, p1, p2⟩, -⟩ := widx t
  refine congrArg (a0 m c) (idx3 _ _ ?_ ?_ ?_)
  · show win0_0.index t 0 * 1 + 1 * 0 = 4; rw [p0]
  · show win0_0.index t 1 * 512 + 1 * r.val = i.val; rw [p1, hi]; omega
  · show win0_0.index t 2 * 2048 + 1 * k.val = k.val; rw [p2]; omega

theorem blk1_at (t : Fin cfg0.N) (r : Fin 512) (k : Fin 2048) (i : Fin 8704) (hi : i.val = t.val * 512 + r.val) :
    (iblk m c 1 t : Vec Ideal S1x512x2048 .bf16) (ix3 0 r k) = a0 m c (ix3 5 i k) := by
  unfold iblk
  rw [View.read_apply]
  show V m c main_arg0 _ = _
  rw [V_main_arg0]
  obtain ⟨-, ⟨p0, p1, p2⟩, -⟩ := widx t
  refine congrArg (a0 m c) (idx3 _ _ ?_ ?_ ?_)
  · show win0_1.index t 0 * 1 + 1 * 0 = 5; rw [p0]
  · show win0_1.index t 1 * 512 + 1 * r.val = i.val; rw [p1, hi]; omega
  · show win0_1.index t 2 * 2048 + 1 * k.val = k.val; rw [p2]; omega

theorem blk2_at (t : Fin cfg0.N) (y : S2048x128.Idx) : (iblk m c 2 t : Vec Ideal S2048x128 .bf16) y = wideC (a1 m c) y := by
  unfold iblk
  rw [View.read_apply]
  show V m c main_v1 _ = _
  rw [V_v1]
  obtain ⟨-, -, ⟨p0, p1⟩, -⟩ := widx t
  refine congrArg (wideC (a1 m c)) (idx2 _ _ ?_ ?_)
  · show win0_2.index t 0 * 2048 + 1 * (y 0).val = (y 0).val; rw [p0]; omega
  · show win0_2.index t 1 * 128 + 1 * (y 1).val = (y 1).val; rw [p1]; omega

theorem blk3_at (t : Fin cfg0.N) (y : S128x2048.Idx) : (iblk m c 3 t : Vec Ideal S128x2048 .bf16) y = wideR (a2 m c) y := by
  unfold iblk
  rw [View.read_apply]
  show V m c main_v3 _ = _
  rw [V_v3]
  obtain ⟨-, -, -, ⟨p0, p1⟩, -⟩ := widx t
  refine congrArg (wideR (a2 m c)) (idx2 _ _ ?_ ?_)
  · show win0_3.index t 0 * 128 + 1 * (y 0).val = (y 0).val; rw [p0]; omega
  · show win0_3.index t 1 * 2048 + 1 * (y 1).val = (y 1).val; rw [p1]; omega

theorem blk4_at (t : Fin cfg0.N) (y : S2048x128.Idx) : (iblk m c 4 t : Vec Ideal S2048x128 .bf16) y = wideC (a3 m c) y := by
  unfold iblk
  rw [View.read_apply]
  show V m c main_v5 _ = _
  rw [V_v5]
  obtain ⟨-, -, -, -, ⟨p0, p1⟩, -⟩ := widx t
  refine congrArg (wideC (a3 m c)) (idx2 _ _ ?_ ?_)
  · show win0_4.index t 0 * 2048 + 1 * (y 0).val = (y 0).val; rw [p0]; omega
  · show win0_4.index t 1 * 128 + 1 * (y 1).val = (y 1).val; rw [p1]; omega

theorem blk5_at (t : Fin cfg0.N) (y : S128x2048.Idx) : (iblk m c 5 t : Vec Ideal S128x2048 .bf16) y = wideR (a4 m c) y := by
  unfold iblk
  rw [View.read_apply]
  show V m c main_v7 _ = _
  rw [V_v7]
  obtain ⟨-, -, -, -, -, ⟨p0, p1⟩, -⟩ := widx t
  refine congrArg (wideR (a4 m c)) (idx2 _ _ ?_ ?_)
  · show win0_5.index t 0 * 128 + 1 * (y 0).val = (y 0).val; rw [p0]; omega
  · show win0_5.index t 1 * 2048 + 1 * (y 1).val = (y 1).val; rw [p1]; omega

theorem blk6_at (t : Fin cfg0.N) (q : Fin 2048) : (iblk m c 6 t : Vec Ideal S1x2048 .f32) (ix2 0 q) = a5 m c (ix1 q) := by
  unfold iblk
  rw [View.read_apply]
  show V m c main_v8 _ = _
  obtain ⟨-, -, -, -, -, -, ⟨p0, p1⟩, -⟩ := widx t
  refine (congrArg (V m c main_v8) (idx2 _ (ix2 0 q) ?_ ?_)).trans ?_
  · show win0_6.index t 0 * 1 + 1 * 0 = 0; rw [p0]
  · show win0_6.index t 1 * 2048 + 1 * q.val = q.val; rw [p1]; omega
  refine shapeCast_apply (a5 m c) shapeCasts_S2048_S1x2048 _ (ix1 q) ?_
  rw [Shape.rowMajor_val_one, Shape.rowMajor_val_two]
  show q.val = 0 * 2048 + q.val
  omega

theorem blk7_at (t : Fin cfg0.N) (q : Fin 2048) : (iblk m c 7 t : Vec Ideal S1x2048 .f32) (ix2 0 q) = a6 m c (ix1 q) := by
  unfold iblk
  rw [View.read_apply]
  show V m c main_v9 _ = _
  obtain ⟨-, -, -, -, -, -, -, ⟨p0, p1⟩, -⟩ := widx t
  refine (congrArg (V m c main_v9) (idx2 _ (ix2 0 q) ?_ ?_)).trans ?_
  · show win0_7.index t 0 * 1 + 1 * 0 = 0; rw [p0]
  · show win0_7.index t 1 * 2048 + 1 * q.val = q.val; rw [p1]; omega
  refine shapeCast_apply (a6 m c) shapeCasts_S2048_S1x2048 _ (ix1 q) ?_
  rw [Shape.rowMajor_val_one, Shape.rowMajor_val_two]
  show q.val = 0 * 2048 + q.val
  omega

/-- What a point stores, by the arguments. -/
theorem point0 (t : Fin cfg0.N) (y : S512x2048.Idx) (i : Fin 8704) (hi : i.val = t.val * 512 + (y 0).val) :
    k0_pay1 (F := Ideal) (iblk m c 0 t) (iblk m c 2 t) (iblk m c 6 t) (iblk m c 3 t) y
      = low Ideal.tanh (fun k => a0 m c (ix3 4 i k)) (fun k j => a1 m c (ix2 k j)) (fun j => a2 m c (ix2 j (y 1))) (a5 m c (ix1 (y 1))) := by
  refine (pay1_at _ _ _ _ y).trans ?_
  rw [show (fun k : Fin 2048 => (iblk m c 0 t : Vec Ideal S1x512x2048 .bf16) (ix3 0 (y 0) k)) = fun k : Fin 2048 => a0 m c (ix3 4 i k)
    from funext fun k => blk0_at m c t (y 0) k i hi]
  refine (congrArg (low _ _ _ _) (blk6_at m c t (y 1))).trans ?_
  exact low_wide _ _ _ _ _ _ _ (fun k j => (blk2_at m c t _).trans (wideC_at (a1 m c) k j)) (fun j => (blk3_at m c t _).trans (wideR_at (a2 m c) j (y 1)))
    (fun j => (blk3_at m c t _).trans (wideR_zero (a2 m c) j (y 1)))

theorem final0 : (dats m 0 c).arrAt 8 cfg0.N = res0 m c := by
  refine (dats m 0 c).arrAt_eq_of_cover 8 (res0 m c) (fun t _ => ?_) cover8
  rw [Cert.LoraIdeal.Value.flushed8]
  funext y
  rw [View.read_apply]
  obtain ⟨-, -, -, -, -, -, -, -, ⟨e0, e1⟩, -⟩ := widx t
  show out0_8 (iblk m c 0 t) (iblk m c 1 t) (iblk m c 2 t) (iblk m c 3 t) (iblk m c 4 t) (iblk m c 5 t) (iblk m c 6 t) (iblk m c 7 t) y = _
  unfold out0_8
  rw [View.canon_unit_zero (by decide), View.ld_unit_zero (by decide), View.ld_unit_zero (by decide), View.ld_unit_zero (by decide),
    View.ld_unit_zero (by decide)]
  unfold res0
  refine Eq.trans ?_ (v8_at _ _ _ _ _).symm
  have i0 : ((((cfg0.win 8).blk t).view.emb y) 0).val = t.val * 512 + (y 0).val := by
    show win0_8.index t 0 * 512 + 1 * (y 0).val = _; rw [e0]; omega
  have i1 : (((((cfg0.win 8).blk t).view.emb y) 1 : Fin 2048)) = y 1 := Fin.ext (by
    show win0_8.index t 1 * 2048 + 1 * (y 1).val = (y 1).val; rw [e1]; omega)
  rw [i1]
  exact point0 m c t y _ i0

/-- What a point stores, by the arguments. -/
theorem point1 (t : Fin cfg0.N) (y : S512x2048.Idx) (i : Fin 8704) (hi : i.val = t.val * 512 + (y 0).val) :
    k0_pay2 (F := Ideal) (iblk m c 1 t) (iblk m c 4 t) (iblk m c 7 t) (iblk m c 5 t) y
      = low id (fun k => a0 m c (ix3 5 i k)) (fun k j => a3 m c (ix2 k j)) (fun j => a4 m c (ix2 j (y 1))) (a6 m c (ix1 (y 1))) := by
  refine (pay2_at _ _ _ _ y).trans ?_
  rw [show (fun k : Fin 2048 => (iblk m c 1 t : Vec Ideal S1x512x2048 .bf16) (ix3 0 (y 0) k)) = fun k : Fin 2048 => a0 m c (ix3 5 i k)
    from funext fun k => blk1_at m c t (y 0) k i hi]
  refine (congrArg (low _ _ _ _) (blk7_at m c t (y 1))).trans ?_
  exact low_wide _ _ _ _ _ _ _ (fun k j => (blk4_at m c t _).trans (wideC_at (a3 m c) k j)) (fun j => (blk5_at m c t _).trans (wideR_at (a4 m c) j (y 1)))
    (fun j => (blk5_at m c t _).trans (wideR_zero (a4 m c) j (y 1)))

theorem final1 : (dats m 0 c).arrAt 9 cfg0.N = res1 m c := by
  refine (dats m 0 c).arrAt_eq_of_cover 9 (res1 m c) (fun t _ => ?_) cover9
  rw [Cert.LoraIdeal.Value.flushed9]
  funext y
  rw [View.read_apply]
  obtain ⟨-, -, -, -, -, -, -, -, -, ⟨e0, e1⟩⟩ := widx t
  show out0_9 (iblk m c 0 t) (iblk m c 1 t) (iblk m c 2 t) (iblk m c 3 t) (iblk m c 4 t) (iblk m c 5 t) (iblk m c 6 t) (iblk m c 7 t) y = _
  unfold out0_9
  rw [View.canon_unit_zero (by decide), View.ld_unit_zero (by decide), View.ld_unit_zero (by decide), View.ld_unit_zero (by decide),
    View.ld_unit_zero (by decide)]
  unfold res1
  refine Eq.trans ?_ (v15_at _ _ _ _ _).symm
  have i0 : ((((cfg0.win 9).blk t).view.emb y) 0).val = t.val * 512 + (y 0).val := by
    show win0_9.index t 0 * 512 + 1 * (y 0).val = _; rw [e0]; omega
  have i1 : (((((cfg0.win 9).blk t).view.emb y) 1 : Fin 2048)) = y 1 := Fin.ext (by
    show win0_9.index t 1 * 2048 + 1 * (y 1).val = (y 1).val; rw [e1]; omega)
  rw [i1]
  exact point1 m c t y _ i0

/-- The reference runs to its end, keeps its arguments and leaves every counter at zero. -/
theorem frame_ref : Cert.quiescent_LoraRefIdeal := fun m g _ =>
  (θ_run Cert.LoraRefIdeal.defs _ _).mono (fun r h => ⟨fun c => (h c).2.2, Idealize.ShloMosaic.sem_eq_zero_of_no_sems (by decide) r.2⟩)
    (Cert.LoraRefIdeal.Value.run (F := Ideal) m g)

/-- Kernel and reference return the same arrays. -/
theorem value : Cert.algebraic_LoraIdeal_LoraRefIdeal := by
  intro m ρ m' ρ' _ hag
  refine ⟨fun c => res0 m c, fun c => res1 m c,
    (θ_run _ _ _).mono (fun _ h c => ⟨(h c).1.trans (final0 m c), (h c).2.1.trans (final1 m c), (h c).2.2⟩) (Cert.LoraIdeal.Value.run_blocks m ρ),
    (θ_run _ _ _).mono (fun _ h c => ⟨(h c).1.trans ?_, (h c).2.1.trans ?_, (h c).2.2⟩) (Cert.LoraRefIdeal.Value.run m' ρ')⟩
  · obtain ⟨g0, g1, g2, g3, g4, g5, g6⟩ := hag c
    rw [val_main_v8_eq, g0, g1, g2, g5]
    rfl
  · obtain ⟨g0, g1, g2, g3, g4, g5, g6⟩ := hag c
    rw [val_main_v15_eq, g0, g3, g4, g6]
    rfl

theorem frames : Cert.quiescent_Lora ∧ Cert.quiescent_LoraIdeal :=
  ⟨fun m ρ _ => Cert.Lora.Gen.frame m ρ, fun m ρ _ => Cert.LoraIdeal.Gen.frame m ρ⟩

end Cert.LoraIdeal.Prod
end
-- ==== Proof.RopeBase.lean ====
module
public import proofs.«01_k».proof.Proof.Gen.RopeIdeal.Frame
public import proofs.«01_k».proof.Proof.Gen.RopeIdeal.Skeleton
public import Idealize.ShloMosaic.Lib.Pipeline.ReadBack
public import Idealize.ShloMosaic.Lib.WholeRead
public import Idealize.ShloMosaic.Lib.ValueIdxCore
public import Idealize.ShloMosaic.Lib.Pointwise
@[expose] public section
set_option maxRecDepth 16384
noncomputable section

/-! The rotary step on one block of rows: each head's 128 columns are turned by the rows' tables. -/

namespace Cert.RopeIdeal.Turn
open Cert.RopeIdeal Cert.RopeIdeal.Gen Idealize.ShloMosaic Idealize.ShloMosaic.TcCoe Idealize.SL.Sem
variable {F : FTy → Type} [FloatOps F]

/-- A list of stores into a block. -/
abbrev Stores (F : FTy → Type) [FloatOps F] := List (View.Piece (Elt F) S256x2048 .f32)

/-- The columns of one head. -/
def head (X : Vec F S256x2048 .f32) (h : ℕ) : Vec F S256x128 .f32 :=
  fun z => X (ix2 (z 0) ⟨(128 * h + (z 1).val) % 2048, Nat.mod_lt _ (by decide)⟩)

/-- Every head's columns turned. -/
def turn (cs sn : FVec F S256x128 .f32) (X : Vec F S256x2048 .f32) : Vec F S256x2048 .f32 :=
  fun y => k0_pay1 cs sn (head X ((y 1).val / 128)) (ix2 (y 0) ⟨(y 1).val % 128, Nat.mod_lt _ (by decide)⟩)

/-- Every head's columns turned and scaled. -/
def turnQ (cs sn : FVec F S256x128 .f32) (X : Vec F S256x2048 .f32) : Vec F S256x2048 .f32 :=
  fun y => k0_pay49 cs sn (head X ((y 1).val / 128)) (ix2 (y 0) ⟨(y 1).val % 128, Nat.mod_lt _ (by decide)⟩)

end Cert.RopeIdeal.Turn
end
-- ==== Proof.RopeSpin.lean ====
module
public import proofs.«01_k».proof.Proof.Norm
public import proofs.«01_k».proof.Proof.RopeBase
public import proofs.«01_k».proof.Proof.Gen.RopeRefIdeal.Read
public import Idealize.ShloMosaic.Lib.KernelVsHost
@[expose] public section
set_option maxRecDepth 16384
noncomputable section

/-! One entry of a turned row, as the reference computes it and as the kernel does. -/

namespace Cert.RopeIdeal.Turn
open Cert.RopeIdeal Cert.RopeIdeal.Gen Idealize.ShloMosaic Idealize.ShloMosaic.TcCoe Idealize.SL.Sem Cert.Norm
open Cert.RopeRefIdeal.Read

/-- Entry `j` of the row `x` turned by the angles with cosines `co` and sines `si`: each head has 64 columns, and column `l` of
    its first half is turned with column `l` of its second half. -/
def spin (x : Fin 2048 → EReal) (co si : Fin 32 → EReal) (j : Fin 2048) : EReal :=
  if j.val % 64 < 32 then
    x j * co ⟨j.val % 32, Nat.mod_lt _ (by decide)⟩ - x ⟨(j.val + 32) % 2048, Nat.mod_lt _ (by decide)⟩ * si ⟨j.val % 32, Nat.mod_lt _ (by decide)⟩
  else
    x j * co ⟨j.val % 32, Nat.mod_lt _ (by decide)⟩ + x ⟨(j.val + 2016) % 2048, Nat.mod_lt _ (by decide)⟩ * si ⟨j.val % 32, Nat.mod_lt _ (by decide)⟩

/-! ## The reference -/

/-- The cosines and the sines of row `i`. -/
def co (i : Fin 8704) (l : Fin 32) : EReal := val_main_v27 (F := Ideal) (ix2 i l)
def si (i : Fin 8704) (l : Fin 32) : EReal := val_main_v29 (F := Ideal) (ix2 i l)

theorem v45_at (x0 : Vec Ideal S8704x8192 .f32) (i : S8704x2048.Idx) :
    val_main_v45 (F := Ideal) x0 i
      = spin (fun k => x0 (ix2 (i 0) ⟨2048 + k.val, by omega⟩)) (co (i 0)) (si (i 0)) (i 1) := by
  rw [val_main_v45_apply]
  have h0 : (i 0).val < 8704 := (i 0).isLt
  have h1 : (i 1).val < 2048 := (i 1).isLt
  unfold val_main_v44 spin co si
  by_cases h : (i 1).val % 64 < 32
  · rw [if_pos h]
    refine (concatenate_pair_apply_left (t := Cert.RopeRefIdeal.S8704x32x64) (s₁ := Cert.RopeRefIdeal.S8704x32x32) (s₂ := Cert.RopeRefIdeal.S8704x32x32) (2 : Fin 3) _ _ _ _ rfl
      (ix3 (i 0) ⟨(i 1).val / 64, by omega⟩ ⟨(i 1).val % 32, by omega⟩) fun a => ?_).trans ?_
    · match a with
      | ⟨0, _⟩ => show (i 0).val = ((i 0).val * 2048 + (i 1).val) / 2048; omega
      | ⟨1, _⟩ => show (i 1).val / 64 = ((i 0).val * 2048 + (i 1).val) / 64 % 32; omega
      | ⟨2, _⟩ => show (i 1).val % 32 = ((i 0).val * 2048 + (i 1).val) % 64; omega
    rw [val_main_v38_apply, val_main_v35_apply, val_main_v37_apply, val_main_v32_apply, val_main_v33_apply, val_main_v34_apply, val_main_v36_apply,
      val_main_v28_apply, val_main_v30_apply, val_main_v31_apply, val_main_v31_apply, val_main_v1_apply, val_main_v1_apply]
    refine congrArg₂ (· - ·) (congrArg₂ (· * ·) (congrArg x0 (idx2 _ _ ?_ ?_)) (congrArg _ (idx2 _ _ rfl rfl)))
      (congrArg₂ (· * ·) (congrArg x0 (idx2 _ _ ?_ ?_)) (congrArg _ (idx2 _ _ rfl rfl)))
    · show (((i 0).val * 32 + (i 1).val / 64) * 64 + (i 1).val % 32) / 2048 = (i 0).val; omega
    · show 2048 + (((i 0).val * 32 + (i 1).val / 64) * 64 + (i 1).val % 32) % 2048 = 2048 + (i 1).val; omega
    · show (((i 0).val * 32 + (i 1).val / 64) * 64 + (32 + (i 1).val % 32)) / 2048 = (i 0).val; omega
    · show 2048 + (((i 0).val * 32 + (i 1).val / 64) * 64 + (32 + (i 1).val % 32)) % 2048 = 2048 + ((i 1).val + 32) % 2048; omega
  · rw [if_neg h]
    refine (concatenate_pair_apply_right (t := Cert.RopeRefIdeal.S8704x32x64) (s₁ := Cert.RopeRefIdeal.S8704x32x32) (s₂ := Cert.RopeRefIdeal.S8704x32x32) (2 : Fin 3) _ _ _ _ rfl rfl
      (ix3 (i 0) ⟨(i 1).val / 64, by omega⟩ ⟨(i 1).val % 32, by omega⟩) (fun a ha => ?_) ?_).trans ?_
    · match a with
      | ⟨0, _⟩ => show (i 0).val = ((i 0).val * 2048 + (i 1).val) / 2048; omega
      | ⟨1, _⟩ => show (i 1).val / 64 = ((i 0).val * 2048 + (i 1).val) / 64 % 32; omega
      | ⟨2, _⟩ => exact absurd rfl ha
    · show (i 1).val % 32 + 32 = ((i 0).val * 2048 + (i 1).val) % 64; omega
    rw [val_main_v43_apply, val_main_v40_apply, val_main_v42_apply, val_main_v33_apply, val_main_v32_apply, val_main_v39_apply, val_main_v41_apply,
      val_main_v28_apply, val_main_v30_apply, val_main_v31_apply, val_main_v31_apply, val_main_v1_apply, val_main_v1_apply]
    refine congrArg₂ (· + ·) (congrArg₂ (· * ·) (congrArg x0 (idx2 _ _ ?_ ?_)) (congrArg _ (idx2 _ _ rfl rfl)))
      (congrArg₂ (· * ·) (congrArg x0 (idx2 _ _ ?_ ?_)) (congrArg _ (idx2 _ _ rfl rfl)))
    · show (((i 0).val * 32 + (i 1).val / 64) * 64 + (32 + (i 1).val % 32)) / 2048 = (i 0).val; omega
    · show 2048 + (((i 0).val * 32 + (i 1).val / 64) * 64 + (32 + (i 1).val % 32)) % 2048 = 2048 + (i 1).val; omega
    · show (((i 0).val * 32 + (i 1).val / 64) * 64 + (i 1).val % 32) / 2048 = (i 0).val; omega
    · show 2048 + (((i 0).val * 32 + (i 1).val / 64) * 64 + (i 1).val % 32) % 2048 = 2048 + ((i 1).val + 2016) % 2048; omega

theorem v60_at (x0 : Vec Ideal S8704x8192 .f32) (i : S8704x2048.Idx) :
    val_main_v60 (F := Ideal) x0 i
      = spin (fun k => x0 (ix2 (i 0) ⟨k.val, by omega⟩)) (co (i 0)) (si (i 0)) (i 1) := by
  rw [val_main_v60_apply]
  have h0 : (i 0).val < 8704 := (i 0).isLt
  have h1 : (i 1).val < 2048 := (i 1).isLt
  unfold val_main_v59 spin co si
  by_cases h : (i 1).val % 64 < 32
  · rw [if_pos h]
    refine (concatenate_pair_apply_left (t := Cert.RopeRefIdeal.S8704x32x64) (s₁ := Cert.RopeRefIdeal.S8704x32x32) (s₂ := Cert.RopeRefIdeal.S8704x32x32) (2 : Fin 3) _ _ _ _ rfl
      (ix3 (i 0) ⟨(i 1).val / 64, by omega⟩ ⟨(i 1).val % 32, by omega⟩) fun a => ?_).trans ?_
    · match a with
      | ⟨0, _⟩ => show (i 0).val = ((i 0).val * 2048 + (i 1).val) / 2048; omega
      | ⟨1, _⟩ => show (i 1).val / 64 = ((i 0).val * 2048 + (i 1).val) / 64 % 32; omega
      | ⟨2, _⟩ => show (i 1).val % 32 = ((i 0).val * 2048 + (i 1).val) % 64; omega
    rw [val_main_v53_apply, val_main_v50_apply, val_main_v52_apply, val_main_v47_apply, val_main_v48_apply, val_main_v49_apply, val_main_v51_apply,
      val_main_v28_apply, val_main_v30_apply, val_main_v46_apply, val_main_v46_apply, val_main_v0_apply, val_main_v0_apply]
    refine congrArg₂ (· - ·) (congrArg₂ (· * ·) (congrArg x0 (idx2 _ _ ?_ ?_)) (congrArg _ (idx2 _ _ rfl rfl)))
      (congrArg₂ (· * ·) (congrArg x0 (idx2 _ _ ?_ ?_)) (congrArg _ (idx2 _ _ rfl rfl)))
    · show (((i 0).val * 32 + (i 1).val / 64) * 64 + (i 1).val % 32) / 2048 = (i 0).val; omega
    · show (((i 0).val * 32 + (i 1).val / 64) * 64 + (i 1).val % 32) % 2048 = (i 1).val; omega
    · show (((i 0).val * 32 + (i 1).val / 64) * 64 + (32 + (i 1).val % 32)) / 2048 = (i 0).val; omega
    · show (((i 0).val * 32 + (i 1).val / 64) * 64 + (32 + (i 1).val % 32)) % 2048 = ((i 1).val + 32) % 2048; omega
  · rw [if_neg h]
    refine (concatenate_pair_apply_right (t := Cert.RopeRefIdeal.S8704x32x64) (s₁ := Cert.RopeRefIdeal.S8704x32x32) (s₂ := Cert.RopeRefIdeal.S8704x32x32) (2 : Fin 3) _ _ _ _ rfl rfl
      (ix3 (i 0) ⟨(i 1).val / 64, by omega⟩ ⟨(i 1).val % 32, by omega⟩) (fun a ha => ?_) ?_).trans ?_
    · match a with
      | ⟨0, _⟩ => show (i 0).val = ((i 0).val * 2048 + (i 1).val) / 2048; omega
      | ⟨1, _⟩ => show (i 1).val / 64 = ((i 0).val * 2048 + (i 1).val) / 64 % 32; omega
      | ⟨2, _⟩ => exact absurd rfl ha
    · show (i 1).val % 32 + 32 = ((i 0).val * 2048 + (i 1).val) % 64; omega
    rw [val_main_v58_apply, val_main_v55_apply, val_main_v57_apply, val_main_v48_apply, val_main_v47_apply, val_main_v54_apply, val_main_v56_apply,
      val_main_v28_apply, val_main_v30_apply, val_main_v46_apply, val_main_v46_apply, val_main_v0_apply, val_main_v0_apply]
    refine congrArg₂ (· + ·) (congrArg₂ (· * ·) (congrArg x0 (idx2 _ _ ?_ ?_)) (congrArg _ (idx2 _ _ rfl rfl)))
      (congrArg₂ (· * ·) (congrArg x0 (idx2 _ _ ?_ ?_)) (congrArg _ (idx2 _ _ rfl rfl)))
    · show (((i 0).val * 32 + (i 1).val / 64) * 64 + (32 + (i 1).val % 32)) / 2048 = (i 0).val; omega
    · show (((i 0).val * 32 + (i 1).val / 64) * 64 + (32 + (i 1).val % 32)) % 2048 = (i 1).val; omega
    · show (((i 0).val * 32 + (i 1).val / 64) * 64 + (i 1).val % 32) / 2048 = (i 0).val; omega
    · show (((i 0).val * 32 + (i 1).val / 64) * 64 + (i 1).val % 32) % 2048 = ((i 1).val + 2016) % 2048; omega

/-- The head size's factor. -/
abbrev eighth : EReal := Ideal.ofBits .f32 0x3E000000#32

theorem v62_at (x0 : Vec Ideal S8704x8192 .f32) (i : S8704x2048.Idx) :
    val_main_v62 (F := Ideal) x0 i
      = spin (fun k => x0 (ix2 (i 0) ⟨k.val, by omega⟩)) (co (i 0)) (si (i 0)) (i 1) * eighth := by
  rw [val_main_v62_apply, v60_at, val_main_v61_apply, val_main_cst_1_apply]
  rfl

/-! ## The kernel -/

/-- Which of the two rotations a column takes. -/
theorem first_half : ∀ j : Fin 128, IntOp.cmpi .slt (IntOp.andi (BitVec.ofNat 32 (0 * 128 + j.val)) 63#32) 32#32 = BitVec.ofBool (decide (j.val % 64 < 32)) := by
  decide +kernel

/-- The column a column is turned with. -/
def mate (j : Fin 128) : Fin 128 := if j.val % 64 < 32 then ⟨(j.val + 32) % 128, Nat.mod_lt _ (by decide)⟩ else ⟨(j.val + 96) % 128, Nat.mod_lt _ (by decide)⟩

theorem mates (X : Vec Ideal S256x128 .f32) (z : S256x128.Idx) :
    (select (cmpi .slt (andi (iota .tc S256x128 32 [1] iota_S256x128_d1_w32) (broadcast S256x128 63#32)) (broadcast S256x128 32#32))
      (dynamicRotate 1 96#32 none X rotates_S256x128_d1) (dynamicRotate 1 32#32 none X rotates_S256x128_d1) : FVec Ideal S256x128 .f32) z
      = X (ix2 (z 0) (mate (z 1))) := by
  have h1 : (z 1).val < 128 := (z 1).isLt
  have e : (cmpi .slt (andi (iota .tc S256x128 32 [1] iota_S256x128_d1_w32) (broadcast S256x128 63#32)) (broadcast S256x128 32#32)) z
      = BitVec.ofBool (decide ((z 1).val % 64 < 32)) := first_half (z 1)
  unfold mate
  by_cases h : (z 1).val % 64 < 32
  · rw [decide_eq_true h] at e
    rw [if_pos h]
    refine (if_pos e).trans (dynamicRotate_apply (1 : Fin 2) 96#32 X rotates_S256x128_d1 z _ fun b => ?_)
    match b with
    | ⟨0, _⟩ => rfl
    | ⟨1, _⟩ => show ((z 1).val + 32) % 128 = ((z 1).val + 128 - 96 % 128) % 128; omega
  · rw [decide_eq_false h] at e
    rw [if_neg h]
    refine (if_neg (by rw [e]; decide)).trans (dynamicRotate_apply (1 : Fin 2) 32#32 X rotates_S256x128_d1 z _ fun b => ?_)
    match b with
    | ⟨0, _⟩ => rfl
    | ⟨1, _⟩ => show ((z 1).val + 96) % 128 = ((z 1).val + 128 - 32 % 128) % 128; omega

theorem pay1_at (cs sn : FVec Ideal S256x128 .f32) (X : Vec Ideal S256x128 .f32) (z : S256x128.Idx) :
    k0_pay1 (F := Ideal) cs sn X z = (X z : EReal) * cs z + X (ix2 (z 0) (mate (z 1))) * sn z := by
  rw [← mates X z]
  rfl

theorem pay49_at (cs sn : FVec Ideal S256x128 .f32) (X : Vec Ideal S256x128 .f32) (z : S256x128.Idx) :
    k0_pay49 (F := Ideal) cs sn X z = ((X z : EReal) * cs z + X (ix2 (z 0) (mate (z 1))) * sn z) * eighth := by
  rw [← mates X z]
  rfl

/-- A row turned by tables that hold the angles' cosines, and their sines with the sign of the half. -/
theorem turned (x : Fin 2048 → EReal) (co si : Fin 32 → EReal) (j : Fin 2048) (a b d e : EReal)
    (ha : a = x j) (hb : b = co ⟨j.val % 32, Nat.mod_lt _ (by decide)⟩)
    (hd : d = x (if j.val % 64 < 32 then ⟨(j.val + 32) % 2048, Nat.mod_lt _ (by decide)⟩ else ⟨(j.val + 2016) % 2048, Nat.mod_lt _ (by decide)⟩))
    (he : e = if j.val % 64 < 32 then -si ⟨j.val % 32, Nat.mod_lt _ (by decide)⟩ else si ⟨j.val % 32, Nat.mod_lt _ (by decide)⟩) :
    a * b + d * e = spin x co si j := by
  subst ha hb hd he
  unfold spin
  by_cases h : j.val % 64 < 32
  · rw [if_pos h, if_pos h, if_pos h, mul_neg]
    rfl
  · rw [if_neg h, if_neg h, if_neg h]

theorem head_at (X : Vec Ideal S256x2048 .f32) (y : S256x2048.Idx) (l : Fin 128) (j : Fin 2048) (h : j.val = 128 * ((y 1).val / 128) + l.val) :
    head X ((y 1).val / 128) (ix2 (y 0) l) = X (ix2 (y 0) j) := by
  refine congrArg X (idx2 _ _ rfl ?_)
  show (128 * ((y 1).val / 128) + l.val) % 2048 = j.val
  omega

theorem mate_at (j : Fin 2048) : (if j.val % 64 < 32 then (⟨(j.val + 32) % 2048, Nat.mod_lt _ (by decide)⟩ : Fin 2048) else ⟨(j.val + 2016) % 2048, Nat.mod_lt _ (by decide)⟩).val
    = 128 * (j.val / 128) + (mate ⟨j.val % 128, Nat.mod_lt _ (by decide)⟩).val := by
  unfold mate
  have hj := j.isLt
  dsimp only
  by_cases h : j.val % 64 < 32
  · rw [if_pos h, if_pos (by omega)]; dsimp only; omega
  · rw [if_neg h, if_neg (by omega)]; dsimp only; omega

/-- One entry of a turned block. -/
theorem turn_at (cs sn : FVec Ideal S256x128 .f32) (X : Vec Ideal S256x2048 .f32) (y : S256x2048.Idx) (co si : Fin 32 → EReal)
    (hc : ∀ l : Fin 128, (cs (ix2 (y 0) l) : EReal) = co ⟨l.val % 32, Nat.mod_lt _ (by decide)⟩)
    (hs : ∀ l : Fin 128, (sn (ix2 (y 0) l) : EReal) = if l.val % 64 < 32 then -si ⟨l.val % 32, Nat.mod_lt _ (by decide)⟩ else si ⟨l.val % 32, Nat.mod_lt _ (by decide)⟩) :
    turn cs sn X y = spin (fun k => X (ix2 (y 0) k)) co si (y 1)
      ∧ turnQ cs sn X y = spin (fun k => X (ix2 (y 0) k)) co si (y 1) * eighth := by
  have hj : (y 1).val < 2048 := (y 1).isLt
  have key : (head X ((y 1).val / 128) (ix2 (y 0) ⟨(y 1).val % 128, Nat.mod_lt _ (by decide)⟩) : EReal) * cs (ix2 (y 0) ⟨(y 1).val % 128, Nat.mod_lt _ (by decide)⟩)
      + head X ((y 1).val / 128) (ix2 (y 0) (mate ⟨(y 1).val % 128, Nat.mod_lt _ (by decide)⟩)) * sn (ix2 (y 0) ⟨(y 1).val % 128, Nat.mod_lt _ (by decide)⟩)
      = spin (fun k => X (ix2 (y 0) k)) co si (y 1) := by
    refine turned _ co si (y 1) _ _ _ _ (head_at X y _ (y 1) ?_) ((hc _).trans (congrArg co (Fin.ext ?_))) (head_at X y _ _ (mate_at (y 1))) ((hs _).trans ?_)
    · show (y 1).val = 128 * ((y 1).val / 128) + (y 1).val % 128; omega
    · show (y 1).val % 128 % 32 = (y 1).val % 32; omega
    · have e : (⟨(y 1).val % 128 % 32, Nat.mod_lt _ (by decide)⟩ : Fin 32) = ⟨(y 1).val % 32, Nat.mod_lt _ (by decide)⟩ := Fin.ext (by show (y 1).val % 128 % 32 = (y 1).val % 32; omega)
      by_cases h : (y 1).val % 64 < 32
      · rw [if_pos h]
        exact (if_pos (by show (y 1).val % 128 % 64 < 32; omega)).trans (congrArg (fun l => -si l) e)
      · rw [if_neg h]
        exact (if_neg (by show ¬(y 1).val % 128 % 64 < 32; omega)).trans (congrArg si e)
  constructor
  · exact (pay1_at cs sn _ _).trans key
  · exact (pay49_at cs sn _ _).trans (congrArg (· * eighth) key)

end Cert.RopeIdeal.Turn
end
-- ==== Proof.RopeRunP.lean ====
module
public import proofs.«01_k».proof.Proof.RopeBase
@[expose] public section
set_option maxRecDepth 16384
noncomputable section

/-! The body at a point of the prompt group: what it stores, found by running it. -/

namespace Cert.RopeIdeal.Turn
open Cert.RopeIdeal Cert.RopeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The stores into the queries' block and into the blocks of keys and values of the prompt group. -/
noncomputable def runP (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : k0_cond1 i = 1#1) (hs : ¬k0_cond2 i = 1#1)
    (x1 x2 x3 : Vec F S256x2048 .f32) (x4 x5 : Vec F S256x128 .f32) :
    { L : Stores F × Stores F × Stores F //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ (∃ d, owns (c : Thread nD τ) a6 fullShare d) ∗ (∃ d, owns (c : Thread nD τ) a7 fullShare d) ∗ (∃ d, owns (c : Thread nD τ) a9 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
                ∗ (∃ f, a6.view.loc (c : Thread nD τ) ↦[a6.view.set]{fullShare} a6.view.writes (Elt F) f L.1) ∗ (∃ f, a7.view.loc (c : Thread nD τ) ↦[a7.view.set]{fullShare} a7.view.writes (Elt F) f L.2.1) ∗ (∃ f, a9.view.loc (c : Thread nD τ) ↦[a9.view.set]{fullShare} a9.view.writes (Elt F) f L.2.2)) -∗ K ⟨⟩))
          ⊢ wp frame (wpE (defs₀ (F := F)) Variants.none c none) E (cc0_rope_a i a1 h1 a2 h2 a3 h3 a4 h4 a5 h5 a6 h6 a7 h7 a8 h8 a9 h9 a10 h10) K } := by
  refine ⟨⟨?_, ?_, ?_⟩, fun E K => ?run⟩
  case run =>
    simp only [cc0_rope_a_eq_skeleton]; unfold cc0_rope_a_skel
    simp only [k0_part13_eq_skeleton, k0_part14_eq_skeleton, k0_part15_eq_skeleton, k0_part16_eq_skeleton, k0_part17_eq_skeleton, k0_part18_eq_skeleton, k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %g1, H1⟩, ⟨%f2, %g2, H2⟩, ⟨%f3, %g3, H3⟩, ⟨%f4, %g4, H4⟩, ⟨%f5, %g5, H5⟩, ⟨%d6, %f6, -, H6⟩, ⟨%d7, %f7, -, H7⟩, ⟨%d8, %f8, -, H8⟩, Hk⟩
    obtain rfl := h1.eq_unread g1; obtain rfl := h2.eq_unread g2; obtain rfl := h3.eq_unread g3; obtain rfl := h4.eq_unread g4; obtain rfl := h5.eq_unread g5
    sl_exec (disch := first | sl_exact hp | sl_exact hs)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.RopeIdeal.Turn
end
-- ==== Proof.RopeRunS.lean ====
module
public import proofs.«01_k».proof.Proof.RopeRunP
@[expose] public section
set_option maxRecDepth 16384
noncomputable section

/-! The body at a point of the sample group: what it stores, found by running it. -/

namespace Cert.RopeIdeal.Turn
open Cert.RopeIdeal Cert.RopeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The stores into the queries' block and into the blocks of keys and values of the sample group. -/
noncomputable def runS (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : ¬k0_cond1 i = 1#1) (hs : k0_cond2 i = 1#1)
    (x1 x2 x3 : Vec F S256x2048 .f32) (x4 x5 : Vec F S256x128 .f32) :
    { L : Stores F × Stores F × Stores F //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ (∃ d, owns (c : Thread nD τ) a6 fullShare d) ∗ (∃ d, owns (c : Thread nD τ) a8 fullShare d) ∗ (∃ d, owns (c : Thread nD τ) a10 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
                ∗ (∃ f, a6.view.loc (c : Thread nD τ) ↦[a6.view.set]{fullShare} a6.view.writes (Elt F) f L.1) ∗ (∃ f, a8.view.loc (c : Thread nD τ) ↦[a8.view.set]{fullShare} a8.view.writes (Elt F) f L.2.1) ∗ (∃ f, a10.view.loc (c : Thread nD τ) ↦[a10.view.set]{fullShare} a10.view.writes (Elt F) f L.2.2)) -∗ K ⟨⟩))
          ⊢ wp frame (wpE (defs₀ (F := F)) Variants.none c none) E (cc0_rope_a i a1 h1 a2 h2 a3 h3 a4 h4 a5 h5 a6 h6 a7 h7 a8 h8 a9 h9 a10 h10) K } := by
  refine ⟨⟨?_, ?_, ?_⟩, fun E K => ?run⟩
  case run =>
    simp only [cc0_rope_a_eq_skeleton]; unfold cc0_rope_a_skel
    simp only [k0_part13_eq_skeleton, k0_part14_eq_skeleton, k0_part15_eq_skeleton, k0_part16_eq_skeleton, k0_part17_eq_skeleton, k0_part18_eq_skeleton, k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %g1, H1⟩, ⟨%f2, %g2, H2⟩, ⟨%f3, %g3, H3⟩, ⟨%f4, %g4, H4⟩, ⟨%f5, %g5, H5⟩, ⟨%d6, %f6, -, H6⟩, ⟨%d7, %f7, -, H7⟩, ⟨%d8, %f8, -, H8⟩, Hk⟩
    obtain rfl := h1.eq_unread g1; obtain rfl := h2.eq_unread g2; obtain rfl := h3.eq_unread g3; obtain rfl := h4.eq_unread g4; obtain rfl := h5.eq_unread g5
    sl_exec (disch := first | sl_exact hp | sl_exact hs)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.RopeIdeal.Turn
end
-- ==== Proof.RopeParts.lean ====
module
public import proofs.«01_k».proof.Proof.RopeRunS
public import proofs.«01_k».proof.Proof.Mem
@[expose] public section
set_option maxRecDepth 16384
noncomputable section

/-! Every store of the body is a part of the turned block. -/

namespace Cert.RopeIdeal.Turn
open Cert.RopeIdeal Cert.RopeIdeal.Gen Idealize.ShloMosaic Idealize.ShloMosaic.TcCoe Idealize.ShloMosaic.Tactic Idealize.SL.Sem
variable {F : FTy → Type} [FloatOps F]

/-- A load of one head's columns. -/
theorem ld_head (a : Memref sig .tc .vmem S256x2048 .f32) (ha : a.IsWhole) (X : Vec F S256x2048 .f32) (h o : ℕ) (hh : h < 16) (ho : o = 128 * h)
    (inb : ∀ a, (![0, o] : Fin 2 → ℕ) a + S256x128.size a ≤ S256x2048.size a) :
    View.readAt (Elt F) a.view (Rect.unit (s := S256x2048) ![0, o] S256x128.size inb).toLoadRect (ha.unread X) = head X h := by
  funext z
  rw [ha.readAt_unread]
  have hz : (z 1).val < 128 := (z 1).isLt
  refine congrArg X (funext fun b => Fin.ext ?_)
  match b with
  | ⟨0, _⟩ => show 0 + 1 * (z 0).val = (z 0).val; omega
  | ⟨1, _⟩ => show o + 1 * (z 1).val = (128 * h + (z 1).val) % 2048; omega

/-- A load of a whole table, as the body keeps it. -/
theorem ld_tab (a : Memref sig .tc .vmem S256x128 .f32) (ha : a.IsWhole) (X : Vec F S256x128 .f32)
    (inb : ∀ a, (![0, 0] : Fin 2 → ℕ) a + S256x128.size a ≤ S256x128.size a) :
    k0_pay45 (View.readAt (Elt F) a.view (Rect.unit (s := S256x128) ![0, 0] S256x128.size inb).toLoadRect (ha.unread X)) = X := by
  rw [Cert.Mem.ld_all a ha X (by decide) inb]
  funext z
  exact shapeCast_apply X shapeCasts_S256x128_S256x128 z z rfl

theorem in_head (h o : ℕ) (hh : h < 16) (ho : o = 128 * h) (inb : ∀ a, (![0, o] : Fin 2 → ℕ) a + S256x128.size a ≤ S256x2048.size a)
    (z : S256x128.Idx) (P : ℕ → FVec F S256x128 .f32) :
    P h z = P (((Rect.unit (s := S256x2048) ![0, o] S256x128.size inb).emb z 1).val / 128)
      (ix2 ((Rect.unit (s := S256x2048) ![0, o] S256x128.size inb).emb z 0) ⟨((Rect.unit (s := S256x2048) ![0, o] S256x128.size inb).emb z 1).val % 128, Nat.mod_lt _ (by decide)⟩) := by
  have hz : (z 1).val < 128 := (z 1).isLt
  have e : ((Rect.unit (s := S256x2048) ![0, o] S256x128.size inb).emb z 1).val = o + 1 * (z 1).val := rfl
  have e0 : ((Rect.unit (s := S256x2048) ![0, o] S256x128.size inb).emb z 0).val = 0 + 1 * (z 0).val := rfl
  have e1 : ((Rect.unit (s := S256x2048) ![0, o] S256x128.size inb).emb z 1).val / 128 = h := by omega
  rw [e1]
  refine congrArg (P h) (funext fun b => Fin.ext ?_)
  match b with
  | ⟨0, _⟩ => show (z 0).val = ((Rect.unit (s := S256x2048) ![0, o] S256x128.size inb).emb z 0).val; omega
  | ⟨1, _⟩ => show (z 1).val = ((Rect.unit (s := S256x2048) ![0, o] S256x128.size inb).emb z 1).val % 128; omega

theorem turn_piece (a : Memref sig .tc .vmem S256x2048 .f32) (ha : a.IsWhole) (X : Vec F S256x2048 .f32) (cs sn : FVec F S256x128 .f32) (h o : ℕ) (hh : h < 16) (ho : o = 128 * h)
    (inb : ∀ a, (![0, o] : Fin 2 → ℕ) a + S256x128.size a ≤ S256x2048.size a) (z : S256x128.Idx) :
    k0_pay1 cs sn (View.readAt (Elt F) a.view (Rect.unit (s := S256x2048) ![0, o] S256x128.size inb).toLoadRect (ha.unread X)) z
      = turn cs sn X ((Rect.unit (s := S256x2048) ![0, o] S256x128.size inb).emb z) := by
  rw [ld_head a ha X h o hh ho inb]
  exact in_head h o hh ho inb z (fun h => k0_pay1 cs sn (head X h))

theorem turnQ_piece (a : Memref sig .tc .vmem S256x2048 .f32) (ha : a.IsWhole) (X : Vec F S256x2048 .f32) (cs sn : FVec F S256x128 .f32) (h o : ℕ) (hh : h < 16) (ho : o = 128 * h)
    (inb : ∀ a, (![0, o] : Fin 2 → ℕ) a + S256x128.size a ≤ S256x2048.size a) (z : S256x128.Idx) :
    k0_pay49 cs sn (View.readAt (Elt F) a.view (Rect.unit (s := S256x2048) ![0, o] S256x128.size inb).toLoadRect (ha.unread X)) z
      = turnQ cs sn X ((Rect.unit (s := S256x2048) ![0, o] S256x128.size inb).emb z) := by
  rw [ld_head a ha X h o hh ho inb]
  exact in_head h o hh ho inb z (fun h => k0_pay49 cs sn (head X h))

theorem partsPQ (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : k0_cond1 i = 1#1) (hs : ¬k0_cond2 i = 1#1)
    (x1 x2 x3 : Vec F S256x2048 .f32) (x4 x5 : Vec F S256x128 .f32) :
    View.PiecesOf (turnQ x4 x5 x1) (runP c i a1 h1 a2 h2 a3 h3 a4 h4 a5 h5 a6 h6 a7 h7 a8 h8 a9 h9 a10 h10 hp hs x1 x2 x3 x4 x5).1.1 := by
  have e4 := ld_tab a4 h4 x4 inb_S256x128_S256x128_0_0
  have e5 := ld_tab a5 h5 x5 inb_S256x128_S256x128_0_0
  have e := (show View.PiecesOf (turnQ (k0_pay45 (View.readAt (Elt F) a4.view (Rect.unit (s := S256x128) ![0, 0] S256x128.size inb_S256x128_S256x128_0_0).toLoadRect (h4.unread x4))) (k0_pay45 (View.readAt (Elt F) a5.view (Rect.unit (s := S256x128) ![0, 0] S256x128.size inb_S256x128_S256x128_0_0).toLoadRect (h5.unread x5))) x1) (runP c i a1 h1 a2 h2 a3 h3 a4 h4 a5 h5 a6 h6 a7 h7 a8 h8 a9 h9 a10 h10 hp hs x1 x2 x3 x4 x5).1.1 from ⟨fun z => turnQ_piece a1 h1 x1 _ _ 15 1920 (by decide) rfl inb_S256x2048_S256x128_0_1920 z, fun z => turnQ_piece a1 h1 x1 _ _ 14 1792 (by decide) rfl inb_S256x2048_S256x128_0_1792 z, fun z => turnQ_piece a1 h1 x1 _ _ 13 1664 (by decide) rfl inb_S256x2048_S256x128_0_1664 z, fun z => turnQ_piece a1 h1 x1 _ _ 12 1536 (by decide) rfl inb_S256x2048_S256x128_0_1536 z, fun z => turnQ_piece a1 h1 x1 _ _ 11 1408 (by decide) rfl inb_S256x2048_S256x128_0_1408 z, fun z => turnQ_piece a1 h1 x1 _ _ 10 1280 (by decide) rfl inb_S256x2048_S256x128_0_1280 z, fun z => turnQ_piece a1 h1 x1 _ _ 9 1152 (by decide) rfl inb_S256x2048_S256x128_0_1152 z, fun z => turnQ_piece a1 h1 x1 _ _ 8 1024 (by decide) rfl inb_S256x2048_S256x128_0_1024 z, fun z => turnQ_piece a1 h1 x1 _ _ 7 896 (by decide) rfl inb_S256x2048_S256x128_0_896 z, fun z => turnQ_piece a1 h1 x1 _ _ 6 768 (by decide) rfl inb_S256x2048_S256x128_0_768 z, fun z => turnQ_piece a1 h1 x1 _ _ 5 640 (by decide) rfl inb_S256x2048_S256x128_0_640 z, fun z => turnQ_piece a1 h1 x1 _ _ 4 512 (by decide) rfl inb_S256x2048_S256x128_0_512 z, fun z => turnQ_piece a1 h1 x1 _ _ 3 384 (by decide) rfl inb_S256x2048_S256x128_0_384 z, fun z => turnQ_piece a1 h1 x1 _ _ 2 256 (by decide) rfl inb_S256x2048_S256x128_0_256 z, fun z => turnQ_piece a1 h1 x1 _ _ 1 128 (by decide) rfl inb_S256x2048_S256x128_0_128 z, fun z => turnQ_piece a1 h1 x1 _ _ 0 0 (by decide) rfl inb_S256x2048_S256x128_0_0 z, trivial⟩)
  rwa [e4, e5] at e

theorem coverPQ (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : k0_cond1 i = 1#1) (hs : ¬k0_cond2 i = 1#1)
    (x1 x2 x3 : Vec F S256x2048 .f32) (x4 x5 : Vec F S256x128 .f32) (y : S256x2048.Idx) :
    ∃ pc ∈ (runP c i a1 h1 a2 h2 a3 h3 a4 h4 a5 h5 a6 h6 a7 h7 a8 h8 a9 h9 a10 h10 hp hs x1 x2 x3 x4 x5).1.1, y ∈ pc.1.set :=
  View.cover_of_tiledL (runP c i a1 h1 a2 h2 a3 h3 a4 h4 a5 h5 a6 h6 a7 h7 a8 h8 a9 h9 a10 h10 hp hs x1 x2 x3 x4 x5).1.1 S256x128.size (by sl_kernel_rfl) y

theorem partsPK (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : k0_cond1 i = 1#1) (hs : ¬k0_cond2 i = 1#1)
    (x1 x2 x3 : Vec F S256x2048 .f32) (x4 x5 : Vec F S256x128 .f32) :
    View.PiecesOf (turn x4 x5 x2) (runP c i a1 h1 a2 h2 a3 h3 a4 h4 a5 h5 a6 h6 a7 h7 a8 h8 a9 h9 a10 h10 hp hs x1 x2 x3 x4 x5).1.2.1 := by
  have e4 := ld_tab a4 h4 x4 inb_S256x128_S256x128_0_0
  have e5 := ld_tab a5 h5 x5 inb_S256x128_S256x128_0_0
  have e := (show View.PiecesOf (turn (k0_pay45 (View.readAt (Elt F) a4.view (Rect.unit (s := S256x128) ![0, 0] S256x128.size inb_S256x128_S256x128_0_0).toLoadRect (h4.unread x4))) (k0_pay45 (View.readAt (Elt F) a5.view (Rect.unit (s := S256x128) ![0, 0] S256x128.size inb_S256x128_S256x128_0_0).toLoadRect (h5.unread x5))) x2) (runP c i a1 h1 a2 h2 a3 h3 a4 h4 a5 h5 a6 h6 a7 h7 a8 h8 a9 h9 a10 h10 hp hs x1 x2 x3 x4 x5).1.2.1 from ⟨fun z => turn_piece a2 h2 x2 _ _ 15 1920 (by decide) rfl inb_S256x2048_S256x128_0_1920 z, fun z => turn_piece a2 h2 x2 _ _ 14 1792 (by decide) rfl inb_S256x2048_S256x128_0_1792 z, fun z => turn_piece a2 h2 x2 _ _ 13 1664 (by decide) rfl inb_S256x2048_S256x128_0_1664 z, fun z => turn_piece a2 h2 x2 _ _ 12 1536 (by decide) rfl inb_S256x2048_S256x128_0_1536 z, fun z => turn_piece a2 h2 x2 _ _ 11 1408 (by decide) rfl inb_S256x2048_S256x128_0_1408 z, fun z => turn_piece a2 h2 x2 _ _ 10 1280 (by decide) rfl inb_S256x2048_S256x128_0_1280 z, fun z => turn_piece a2 h2 x2 _ _ 9 1152 (by decide) rfl inb_S256x2048_S256x128_0_1152 z, fun z => turn_piece a2 h2 x2 _ _ 8 1024 (by decide) rfl inb_S256x2048_S256x128_0_1024 z, fun z => turn_piece a2 h2 x2 _ _ 7 896 (by decide) rfl inb_S256x2048_S256x128_0_896 z, fun z => turn_piece a2 h2 x2 _ _ 6 768 (by decide) rfl inb_S256x2048_S256x128_0_768 z, fun z => turn_piece a2 h2 x2 _ _ 5 640 (by decide) rfl inb_S256x2048_S256x128_0_640 z, fun z => turn_piece a2 h2 x2 _ _ 4 512 (by decide) rfl inb_S256x2048_S256x128_0_512 z, fun z => turn_piece a2 h2 x2 _ _ 3 384 (by decide) rfl inb_S256x2048_S256x128_0_384 z, fun z => turn_piece a2 h2 x2 _ _ 2 256 (by decide) rfl inb_S256x2048_S256x128_0_256 z, fun z => turn_piece a2 h2 x2 _ _ 1 128 (by decide) rfl inb_S256x2048_S256x128_0_128 z, fun z => turn_piece a2 h2 x2 _ _ 0 0 (by decide) rfl inb_S256x2048_S256x128_0_0 z, trivial⟩)
  rwa [e4, e5] at e

theorem coverPK (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : k0_cond1 i = 1#1) (hs : ¬k0_cond2 i = 1#1)
    (x1 x2 x3 : Vec F S256x2048 .f32) (x4 x5 : Vec F S256x128 .f32) (y : S256x2048.Idx) :
    ∃ pc ∈ (runP c i a1 h1 a2 h2 a3 h3 a4 h4 a5 h5 a6 h6 a7 h7 a8 h8 a9 h9 a10 h10 hp hs x1 x2 x3 x4 x5).1.2.1, y ∈ pc.1.set :=
  View.cover_of_tiledL (runP c i a1 h1 a2 h2 a3 h3 a4 h4 a5 h5 a6 h6 a7 h7 a8 h8 a9 h9 a10 h10 hp hs x1 x2 x3 x4 x5).1.2.1 S256x128.size (by sl_kernel_rfl) y

theorem coverPV (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : k0_cond1 i = 1#1) (hs : ¬k0_cond2 i = 1#1)
    (x1 x2 x3 : Vec F S256x2048 .f32) (x4 x5 : Vec F S256x128 .f32) (y : S256x2048.Idx) :
    ∃ pc ∈ (runP c i a1 h1 a2 h2 a3 h3 a4 h4 a5 h5 a6 h6 a7 h7 a8 h8 a9 h9 a10 h10 hp hs x1 x2 x3 x4 x5).1.2.2, y ∈ pc.1.set :=
  View.cover_of_tiledL (runP c i a1 h1 a2 h2 a3 h3 a4 h4 a5 h5 a6 h6 a7 h7 a8 h8 a9 h9 a10 h10 hp hs x1 x2 x3 x4 x5).1.2.2 S256x2048.size (by sl_kernel_rfl) y

theorem partsSQ (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : ¬k0_cond1 i = 1#1) (hs : k0_cond2 i = 1#1)
    (x1 x2 x3 : Vec F S256x2048 .f32) (x4 x5 : Vec F S256x128 .f32) :
    View.PiecesOf (turnQ x4 x5 x1) (runS c i a1 h1 a2 h2 a3 h3 a4 h4 a5 h5 a6 h6 a7 h7 a8 h8 a9 h9 a10 h10 hp hs x1 x2 x3 x4 x5).1.1 := by
  have e4 := ld_tab a4 h4 x4 inb_S256x128_S256x128_0_0
  have e5 := ld_tab a5 h5 x5 inb_S256x128_S256x128_0_0
  have e := (show View.PiecesOf (turnQ (k0_pay45 (View.readAt (Elt F) a4.view (Rect.unit (s := S256x128) ![0, 0] S256x128.size inb_S256x128_S256x128_0_0).toLoadRect (h4.unread x4))) (k0_pay45 (View.readAt (Elt F) a5.view (Rect.unit (s := S256x128) ![0, 0] S256x128.size inb_S256x128_S256x128_0_0).toLoadRect (h5.unread x5))) x1) (runS c i a1 h1 a2 h2 a3 h3 a4 h4 a5 h5 a6 h6 a7 h7 a8 h8 a9 h9 a10 h10 hp hs x1 x2 x3 x4 x5).1.1 from ⟨fun z => turnQ_piece a1 h1 x1 _ _ 15 1920 (by decide) rfl inb_S256x2048_S256x128_0_1920 z, fun z => turnQ_piece a1 h1 x1 _ _ 14 1792 (by decide) rfl inb_S256x2048_S256x128_0_1792 z, fun z => turnQ_piece a1 h1 x1 _ _ 13 1664 (by decide) rfl inb_S256x2048_S256x128_0_1664 z, fun z => turnQ_piece a1 h1 x1 _ _ 12 1536 (by decide) rfl inb_S256x2048_S256x128_0_1536 z, fun z => turnQ_piece a1 h1 x1 _ _ 11 1408 (by decide) rfl inb_S256x2048_S256x128_0_1408 z, fun z => turnQ_piece a1 h1 x1 _ _ 10 1280 (by decide) rfl inb_S256x2048_S256x128_0_1280 z, fun z => turnQ_piece a1 h1 x1 _ _ 9 1152 (by decide) rfl inb_S256x2048_S256x128_0_1152 z, fun z => turnQ_piece a1 h1 x1 _ _ 8 1024 (by decide) rfl inb_S256x2048_S256x128_0_1024 z, fun z => turnQ_piece a1 h1 x1 _ _ 7 896 (by decide) rfl inb_S256x2048_S256x128_0_896 z, fun z => turnQ_piece a1 h1 x1 _ _ 6 768 (by decide) rfl inb_S256x2048_S256x128_0_768 z, fun z => turnQ_piece a1 h1 x1 _ _ 5 640 (by decide) rfl inb_S256x2048_S256x128_0_640 z, fun z => turnQ_piece a1 h1 x1 _ _ 4 512 (by decide) rfl inb_S256x2048_S256x128_0_512 z, fun z => turnQ_piece a1 h1 x1 _ _ 3 384 (by decide) rfl inb_S256x2048_S256x128_0_384 z, fun z => turnQ_piece a1 h1 x1 _ _ 2 256 (by decide) rfl inb_S256x2048_S256x128_0_256 z, fun z => turnQ_piece a1 h1 x1 _ _ 1 128 (by decide) rfl inb_S256x2048_S256x128_0_128 z, fun z => turnQ_piece a1 h1 x1 _ _ 0 0 (by decide) rfl inb_S256x2048_S256x128_0_0 z, trivial⟩)
  rwa [e4, e5] at e

theorem coverSQ (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : ¬k0_cond1 i = 1#1) (hs : k0_cond2 i = 1#1)
    (x1 x2 x3 : Vec F S256x2048 .f32) (x4 x5 : Vec F S256x128 .f32) (y : S256x2048.Idx) :
    ∃ pc ∈ (runS c i a1 h1 a2 h2 a3 h3 a4 h4 a5 h5 a6 h6 a7 h7 a8 h8 a9 h9 a10 h10 hp hs x1 x2 x3 x4 x5).1.1, y ∈ pc.1.set :=
  View.cover_of_tiledL (runS c i a1 h1 a2 h2 a3 h3 a4 h4 a5 h5 a6 h6 a7 h7 a8 h8 a9 h9 a10 h10 hp hs x1 x2 x3 x4 x5).1.1 S256x128.size (by sl_kernel_rfl) y

theorem partsSK (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : ¬k0_cond1 i = 1#1) (hs : k0_cond2 i = 1#1)
    (x1 x2 x3 : Vec F S256x2048 .f32) (x4 x5 : Vec F S256x128 .f32) :
    View.PiecesOf (turn x4 x5 x2) (runS c i a1 h1 a2 h2 a3 h3 a4 h4 a5 h5 a6 h6 a7 h7 a8 h8 a9 h9 a10 h10 hp hs x1 x2 x3 x4 x5).1.2.1 := by
  have e4 := ld_tab a4 h4 x4 inb_S256x128_S256x128_0_0
  have e5 := ld_tab a5 h5 x5 inb_S256x128_S256x128_0_0
  have e := (show View.PiecesOf (turn (k0_pay45 (View.readAt (Elt F) a4.view (Rect.unit (s := S256x128) ![0, 0] S256x128.size inb_S256x128_S256x128_0_0).toLoadRect (h4.unread x4))) (k0_pay45 (View.readAt (Elt F) a5.view (Rect.unit (s := S256x128) ![0, 0] S256x128.size inb_S256x128_S256x128_0_0).toLoadRect (h5.unread x5))) x2) (runS c i a1 h1 a2 h2 a3 h3 a4 h4 a5 h5 a6 h6 a7 h7 a8 h8 a9 h9 a10 h10 hp hs x1 x2 x3 x4 x5).1.2.1 from ⟨fun z => turn_piece a2 h2 x2 _ _ 15 1920 (by decide) rfl inb_S256x2048_S256x128_0_1920 z, fun z => turn_piece a2 h2 x2 _ _ 14 1792 (by decide) rfl inb_S256x2048_S256x128_0_1792 z, fun z => turn_piece a2 h2 x2 _ _ 13 1664 (by decide) rfl inb_S256x2048_S256x128_0_1664 z, fun z => turn_piece a2 h2 x2 _ _ 12 1536 (by decide) rfl inb_S256x2048_S256x128_0_1536 z, fun z => turn_piece a2 h2 x2 _ _ 11 1408 (by decide) rfl inb_S256x2048_S256x128_0_1408 z, fun z => turn_piece a2 h2 x2 _ _ 10 1280 (by decide) rfl inb_S256x2048_S256x128_0_1280 z, fun z => turn_piece a2 h2 x2 _ _ 9 1152 (by decide) rfl inb_S256x2048_S256x128_0_1152 z, fun z => turn_piece a2 h2 x2 _ _ 8 1024 (by decide) rfl inb_S256x2048_S256x128_0_1024 z, fun z => turn_piece a2 h2 x2 _ _ 7 896 (by decide) rfl inb_S256x2048_S256x128_0_896 z, fun z => turn_piece a2 h2 x2 _ _ 6 768 (by decide) rfl inb_S256x2048_S256x128_0_768 z, fun z => turn_piece a2 h2 x2 _ _ 5 640 (by decide) rfl inb_S256x2048_S256x128_0_640 z, fun z => turn_piece a2 h2 x2 _ _ 4 512 (by decide) rfl inb_S256x2048_S256x128_0_512 z, fun z => turn_piece a2 h2 x2 _ _ 3 384 (by decide) rfl inb_S256x2048_S256x128_0_384 z, fun z => turn_piece a2 h2 x2 _ _ 2 256 (by decide) rfl inb_S256x2048_S256x128_0_256 z, fun z => turn_piece a2 h2 x2 _ _ 1 128 (by decide) rfl inb_S256x2048_S256x128_0_128 z, fun z => turn_piece a2 h2 x2 _ _ 0 0 (by decide) rfl inb_S256x2048_S256x128_0_0 z, trivial⟩)
  rwa [e4, e5] at e

theorem coverSK (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : ¬k0_cond1 i = 1#1) (hs : k0_cond2 i = 1#1)
    (x1 x2 x3 : Vec F S256x2048 .f32) (x4 x5 : Vec F S256x128 .f32) (y : S256x2048.Idx) :
    ∃ pc ∈ (runS c i a1 h1 a2 h2 a3 h3 a4 h4 a5 h5 a6 h6 a7 h7 a8 h8 a9 h9 a10 h10 hp hs x1 x2 x3 x4 x5).1.2.1, y ∈ pc.1.set :=
  View.cover_of_tiledL (runS c i a1 h1 a2 h2 a3 h3 a4 h4 a5 h5 a6 h6 a7 h7 a8 h8 a9 h9 a10 h10 hp hs x1 x2 x3 x4 x5).1.2.1 S256x128.size (by sl_kernel_rfl) y

theorem coverSV (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : ¬k0_cond1 i = 1#1) (hs : k0_cond2 i = 1#1)
    (x1 x2 x3 : Vec F S256x2048 .f32) (x4 x5 : Vec F S256x128 .f32) (y : S256x2048.Idx) :
    ∃ pc ∈ (runS c i a1 h1 a2 h2 a3 h3 a4 h4 a5 h5 a6 h6 a7 h7 a8 h8 a9 h9 a10 h10 hp hs x1 x2 x3 x4 x5).1.2.2, y ∈ pc.1.set :=
  View.cover_of_tiledL (runS c i a1 h1 a2 h2 a3 h3 a4 h4 a5 h5 a6 h6 a7 h7 a8 h8 a9 h9 a10 h10 hp hs x1 x2 x3 x4 x5).1.2.2 S256x2048.size (by sl_kernel_rfl) y

end Cert.RopeIdeal.Turn
end
-- ==== Proof.RopeOut.lean ====
module
public import proofs.«01_k».proof.Proof.RopeParts
@[expose] public section
set_option maxRecDepth 16384
noncomputable section

/-! The body on one block of rows: the queries turned and scaled, the keys turned, the values as they are. -/

namespace Cert.RopeIdeal.Turn
open Cert.RopeIdeal Cert.RopeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]

local notation "𝕄" => MT nD τ sig Unit (Elt F) ℕ (UR sig nD τ) ℕ

theorem readPQ (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : k0_cond1 i = 1#1) (hs : ¬k0_cond2 i = 1#1)
    (x1 x2 x3 : Vec F S256x2048 .f32) (x4 x5 : Vec F S256x128 .f32)
    (v : View sig .tc .vmem S256x2048 .f32) (f : v.ty.Contents (Elt F)) :
    v.read (Elt F) (v.writes (Elt F) f (runP c i a1 h1 a2 h2 a3 h3 a4 h4 a5 h5 a6 h6 a7 h7 a8 h8 a9 h9 a10 h10 hp hs x1 x2 x3 x4 x5).1.1) = turnQ x4 x5 x1 := by
  rw [View.read_writes_eq_canon v f (runP c i a1 h1 a2 h2 a3 h3 a4 h4 a5 h5 a6 h6 a7 h7 a8 h8 a9 h9 a10 h10 hp hs x1 x2 x3 x4 x5).1.1 (coverPQ c i a1 h1 a2 h2 a3 h3 a4 h4 a5 h5 a6 h6 a7 h7 a8 h8 a9 h9 a10 h10 hp hs x1 x2 x3 x4 x5)]
  funext y
  rw [← List.append_nil (runP c i a1 h1 a2 h2 a3 h3 a4 h4 a5 h5 a6 h6 a7 h7 a8 h8 a9 h9 a10 h10 hp hs x1 x2 x3 x4 x5).1.1]
  exact View.canon_append_of_piecesOf (turnQ x4 x5 x1) [] (runP c i a1 h1 a2 h2 a3 h3 a4 h4 a5 h5 a6 h6 a7 h7 a8 h8 a9 h9 a10 h10 hp hs x1 x2 x3 x4 x5).1.1 (partsPQ c i a1 h1 a2 h2 a3 h3 a4 h4 a5 h5 a6 h6 a7 h7 a8 h8 a9 h9 a10 h10 hp hs x1 x2 x3 x4 x5) y (coverPQ c i a1 h1 a2 h2 a3 h3 a4 h4 a5 h5 a6 h6 a7 h7 a8 h8 a9 h9 a10 h10 hp hs x1 x2 x3 x4 x5 y)

theorem readPK (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : k0_cond1 i = 1#1) (hs : ¬k0_cond2 i = 1#1)
    (x1 x2 x3 : Vec F S256x2048 .f32) (x4 x5 : Vec F S256x128 .f32)
    (v : View sig .tc .vmem S256x2048 .f32) (f : v.ty.Contents (Elt F)) :
    v.read (Elt F) (v.writes (Elt F) f (runP c i a1 h1 a2 h2 a3 h3 a4 h4 a5 h5 a6 h6 a7 h7 a8 h8 a9 h9 a10 h10 hp hs x1 x2 x3 x4 x5).1.2.1) = turn x4 x5 x2 := by
  rw [View.read_writes_eq_canon v f (runP c i a1 h1 a2 h2 a3 h3 a4 h4 a5 h5 a6 h6 a7 h7 a8 h8 a9 h9 a10 h10 hp hs x1 x2 x3 x4 x5).1.2.1 (coverPK c i a1 h1 a2 h2 a3 h3 a4 h4 a5 h5 a6 h6 a7 h7 a8 h8 a9 h9 a10 h10 hp hs x1 x2 x3 x4 x5)]
  funext y
  rw [← List.append_nil (runP c i a1 h1 a2 h2 a3 h3 a4 h4 a5 h5 a6 h6 a7 h7 a8 h8 a9 h9 a10 h10 hp hs x1 x2 x3 x4 x5).1.2.1]
  exact View.canon_append_of_piecesOf (turn x4 x5 x2) [] (runP c i a1 h1 a2 h2 a3 h3 a4 h4 a5 h5 a6 h6 a7 h7 a8 h8 a9 h9 a10 h10 hp hs x1 x2 x3 x4 x5).1.2.1 (partsPK c i a1 h1 a2 h2 a3 h3 a4 h4 a5 h5 a6 h6 a7 h7 a8 h8 a9 h9 a10 h10 hp hs x1 x2 x3 x4 x5) y (coverPK c i a1 h1 a2 h2 a3 h3 a4 h4 a5 h5 a6 h6 a7 h7 a8 h8 a9 h9 a10 h10 hp hs x1 x2 x3 x4 x5 y)

theorem readPV (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : k0_cond1 i = 1#1) (hs : ¬k0_cond2 i = 1#1)
    (x1 x2 x3 : Vec F S256x2048 .f32) (x4 x5 : Vec F S256x128 .f32)
    (v : View sig .tc .vmem S256x2048 .f32) (f : v.ty.Contents (Elt F)) :
    v.read (Elt F) (v.writes (Elt F) f (runP c i a1 h1 a2 h2 a3 h3 a4 h4 a5 h5 a6 h6 a7 h7 a8 h8 a9 h9 a10 h10 hp hs x1 x2 x3 x4 x5).1.2.2) = x3 := by
  rw [View.read_writes_eq_canon v f (runP c i a1 h1 a2 h2 a3 h3 a4 h4 a5 h5 a6 h6 a7 h7 a8 h8 a9 h9 a10 h10 hp hs x1 x2 x3 x4 x5).1.2.2 (coverPV c i a1 h1 a2 h2 a3 h3 a4 h4 a5 h5 a6 h6 a7 h7 a8 h8 a9 h9 a10 h10 hp hs x1 x2 x3 x4 x5)]
  exact (View.canon_unit_zero (by decide) inb_S256x2048_S256x2048_0_0 _).trans (Cert.Mem.ld_all a3 h3 x3 (by decide) inb_S256x2048_S256x2048_0_0)

/-- The body at a point of the prompt group. -/
theorem soundP (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : k0_cond1 i = 1#1) (hs : ¬k0_cond2 i = 1#1)
    (x1 x2 x3 : Vec F S256x2048 .f32) (x4 x5 : Vec F S256x128 .f32) (E : Set ℕ) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d) ∗ (∃ d, owns (c : Thread nD τ) a9 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (turnQ x4 x5 x1) ∗ owns (c : Thread nD τ) a7 fullShare (turn x4 x5 x2) ∗ owns (c : Thread nD τ) a9 fullShare x3) -∗ K ⟨⟩))
      ⊢ wp frame (wpE (defs₀ (F := F)) Variants.none c none) E (cc0_rope_a i a1 h1 a2 h2 a3 h3 a4 h4 a5 h5 a6 h6 a7 h7 a8 h8 a9 h9 a10 h10) K := by
  have hq := readPQ c i a1 h1 a2 h2 a3 h3 a4 h4 a5 h5 a6 h6 a7 h7 a8 h8 a9 h9 a10 h10 hp hs x1 x2 x3 x4 x5
  have hk := readPK c i a1 h1 a2 h2 a3 h3 a4 h4 a5 h5 a6 h6 a7 h7 a8 h8 a9 h9 a10 h10 hp hs x1 x2 x3 x4 x5
  have hv := readPV c i a1 h1 a2 h2 a3 h3 a4 h4 a5 h5 a6 h6 a7 h7 a8 h8 a9 h9 a10 h10 hp hs x1 x2 x3 x4 x5
  generalize runP c i a1 h1 a2 h2 a3 h3 a4 h4 a5 h5 a6 h6 a7 h7 a8 h8 a9 h9 a10 h10 hp hs x1 x2 x3 x4 x5 = r at hq hk hv
  iintro ⟨H1, H2, H3, H4, H5, H6, H7, H8, Hk⟩
  iapply (r.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, ⟨%e6, H6⟩, ⟨%e7, H7⟩, ⟨%e8, H8⟩⟩
  iapply Hk
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact hq _ _
  isplitl [H7]
  · unfold owns; iexists _; isplitr
    swap; · iexact H7
    ipureintro; exact hk _ _
  unfold owns; iexists _; isplitr
  swap; · iexact H8
  ipureintro; exact hv _ _

theorem readSQ (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : ¬k0_cond1 i = 1#1) (hs : k0_cond2 i = 1#1)
    (x1 x2 x3 : Vec F S256x2048 .f32) (x4 x5 : Vec F S256x128 .f32)
    (v : View sig .tc .vmem S256x2048 .f32) (f : v.ty.Contents (Elt F)) :
    v.read (Elt F) (v.writes (Elt F) f (runS c i a1 h1 a2 h2 a3 h3 a4 h4 a5 h5 a6 h6 a7 h7 a8 h8 a9 h9 a10 h10 hp hs x1 x2 x3 x4 x5).1.1) = turnQ x4 x5 x1 := by
  rw [View.read_writes_eq_canon v f (runS c i a1 h1 a2 h2 a3 h3 a4 h4 a5 h5 a6 h6 a7 h7 a8 h8 a9 h9 a10 h10 hp hs x1 x2 x3 x4 x5).1.1 (coverSQ c i a1 h1 a2 h2 a3 h3 a4 h4 a5 h5 a6 h6 a7 h7 a8 h8 a9 h9 a10 h10 hp hs x1 x2 x3 x4 x5)]
  funext y
  rw [← List.append_nil (runS c i a1 h1 a2 h2 a3 h3 a4 h4 a5 h5 a6 h6 a7 h7 a8 h8 a9 h9 a10 h10 hp hs x1 x2 x3 x4 x5).1.1]
  exact View.canon_append_of_piecesOf (turnQ x4 x5 x1) [] (runS c i a1 h1 a2 h2 a3 h3 a4 h4 a5 h5 a6 h6 a7 h7 a8 h8 a9 h9 a10 h10 hp hs x1 x2 x3 x4 x5).1.1 (partsSQ c i a1 h1 a2 h2 a3 h3 a4 h4 a5 h5 a6 h6 a7 h7 a8 h8 a9 h9 a10 h10 hp hs x1 x2 x3 x4 x5) y (coverSQ c i a1 h1 a2 h2 a3 h3 a4 h4 a5 h5 a6 h6 a7 h7 a8 h8 a9 h9 a10 h10 hp hs x1 x2 x3 x4 x5 y)

theorem readSK (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : ¬k0_cond1 i = 1#1) (hs : k0_cond2 i = 1#1)
    (x1 x2 x3 : Vec F S256x2048 .f32) (x4 x5 : Vec F S256x128 .f32)
    (v : View sig .tc .vmem S256x2048 .f32) (f : v.ty.Contents (Elt F)) :
    v.read (Elt F) (v.writes (Elt F) f (runS c i a1 h1 a2 h2 a3 h3 a4 h4 a5 h5 a6 h6 a7 h7 a8 h8 a9 h9 a10 h10 hp hs x1 x2 x3 x4 x5).1.2.1) = turn x4 x5 x2 := by
  rw [View.read_writes_eq_canon v f (runS c i a1 h1 a2 h2 a3 h3 a4 h4 a5 h5 a6 h6 a7 h7 a8 h8 a9 h9 a10 h10 hp hs x1 x2 x3 x4 x5).1.2.1 (coverSK c i a1 h1 a2 h2 a3 h3 a4 h4 a5 h5 a6 h6 a7 h7 a8 h8 a9 h9 a10 h10 hp hs x1 x2 x3 x4 x5)]
  funext y
  rw [← List.append_nil (runS c i a1 h1 a2 h2 a3 h3 a4 h4 a5 h5 a6 h6 a7 h7 a8 h8 a9 h9 a10 h10 hp hs x1 x2 x3 x4 x5).1.2.1]
  exact View.canon_append_of_piecesOf (turn x4 x5 x2) [] (runS c i a1 h1 a2 h2 a3 h3 a4 h4 a5 h5 a6 h6 a7 h7 a8 h8 a9 h9 a10 h10 hp hs x1 x2 x3 x4 x5).1.2.1 (partsSK c i a1 h1 a2 h2 a3 h3 a4 h4 a5 h5 a6 h6 a7 h7 a8 h8 a9 h9 a10 h10 hp hs x1 x2 x3 x4 x5) y (coverSK c i a1 h1 a2 h2 a3 h3 a4 h4 a5 h5 a6 h6 a7 h7 a8 h8 a9 h9 a10 h10 hp hs x1 x2 x3 x4 x5 y)

theorem readSV (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : ¬k0_cond1 i = 1#1) (hs : k0_cond2 i = 1#1)
    (x1 x2 x3 : Vec F S256x2048 .f32) (x4 x5 : Vec F S256x128 .f32)
    (v : View sig .tc .vmem S256x2048 .f32) (f : v.ty.Contents (Elt F)) :
    v.read (Elt F) (v.writes (Elt F) f (runS c i a1 h1 a2 h2 a3 h3 a4 h4 a5 h5 a6 h6 a7 h7 a8 h8 a9 h9 a10 h10 hp hs x1 x2 x3 x4 x5).1.2.2) = x3 := by
  rw [View.read_writes_eq_canon v f (runS c i a1 h1 a2 h2 a3 h3 a4 h4 a5 h5 a6 h6 a7 h7 a8 h8 a9 h9 a10 h10 hp hs x1 x2 x3 x4 x5).1.2.2 (coverSV c i a1 h1 a2 h2 a3 h3 a4 h4 a5 h5 a6 h6 a7 h7 a8 h8 a9 h9 a10 h10 hp hs x1 x2 x3 x4 x5)]
  exact (View.canon_unit_zero (by decide) inb_S256x2048_S256x2048_0_0 _).trans (Cert.Mem.ld_all a3 h3 x3 (by decide) inb_S256x2048_S256x2048_0_0)

/-- The body at a point of the sample group. -/
theorem soundS (c : Dev nD) (i : grid0.Coords) (a1 : Memref sig .tc .vmem S256x2048 .f32) (h1 : a1.IsWhole) (a2 : Memref sig .tc .vmem S256x2048 .f32) (h2 : a2.IsWhole) (a3 : Memref sig .tc .vmem S256x2048 .f32) (h3 : a3.IsWhole) (a4 : Memref sig .tc .vmem S256x128 .f32) (h4 : a4.IsWhole) (a5 : Memref sig .tc .vmem S256x128 .f32) (h5 : a5.IsWhole) (a6 : Memref sig .tc .vmem S256x2048 .f32) (h6 : a6.IsWhole) (a7 : Memref sig .tc .vmem S256x2048 .f32) (h7 : a7.IsWhole) (a8 : Memref sig .tc .vmem S256x2048 .f32) (h8 : a8.IsWhole) (a9 : Memref sig .tc .vmem S256x2048 .f32) (h9 : a9.IsWhole) (a10 : Memref sig .tc .vmem S256x2048 .f32) (h10 : a10.IsWhole) (hp : ¬k0_cond1 i = 1#1) (hs : k0_cond2 i = 1#1)
    (x1 x2 x3 : Vec F S256x2048 .f32) (x4 x5 : Vec F S256x128 .f32) (E : Set ℕ) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a8 fullShare d) ∗ (∃ d, owns (c : Thread nD τ) a10 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (turnQ x4 x5 x1) ∗ owns (c : Thread nD τ) a8 fullShare (turn x4 x5 x2) ∗ owns (c : Thread nD τ) a10 fullShare x3) -∗ K ⟨⟩))
      ⊢ wp frame (wpE (defs₀ (F := F)) Variants.none c none) E (cc0_rope_a i a1 h1 a2 h2 a3 h3 a4 h4 a5 h5 a6 h6 a7 h7 a8 h8 a9 h9 a10 h10) K := by
  have hq := readSQ c i a1 h1 a2 h2 a3 h3 a4 h4 a5 h5 a6 h6 a7 h7 a8 h8 a9 h9 a10 h10 hp hs x1 x2 x3 x4 x5
  have hk := readSK c i a1 h1 a2 h2 a3 h3 a4 h4 a5 h5 a6 h6 a7 h7 a8 h8 a9 h9 a10 h10 hp hs x1 x2 x3 x4 x5
  have hv := readSV c i a1 h1 a2 h2 a3 h3 a4 h4 a5 h5 a6 h6 a7 h7 a8 h8 a9 h9 a10 h10 hp hs x1 x2 x3 x4 x5
  generalize runS c i a1 h1 a2 h2 a3 h3 a4 h4 a5 h5 a6 h6 a7 h7 a8 h8 a9 h9 a10 h10 hp hs x1 x2 x3 x4 x5 = r at hq hk hv
  iintro ⟨H1, H2, H3, H4, H5, H6, H7, H8, Hk⟩
  iapply (r.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, ⟨%e6, H6⟩, ⟨%e7, H7⟩, ⟨%e8, H8⟩⟩
  iapply Hk
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact hq _ _
  isplitl [H7]
  · unfold owns; iexists _; isplitr
    swap; · iexact H7
    ipureintro; exact hk _ _
  unfold owns; iexists _; isplitr
  swap; · iexact H8
  ipureintro; exact hv _ _

end Cert.RopeIdeal.Turn
end
-- ==== Proof.RopeFrame.lean ====
module
public import proofs.«01_k».proof.Proof.RopeOut
public import Idealize.ShloMosaic.Lib.Pipeline.TableIdle
public import Idealize.ShloMosaic.Lib.Claim
@[expose] public section
set_option maxRecDepth 16384
noncomputable section

/-! The whole call. The first 32 points belong to the prompt, the last two to the samples. A group's blocks of keys and
values are left alone at the other group's points; the prompt's last blocks are written back after the samples' last
point, where they still hold what point 31 left. -/

namespace Cert.RopeIdeal.Turn
open Cert.RopeIdeal Cert.RopeIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points belong to which group -/

theorem prompt_iff : ∀ t : Fin cfg0.N, k0_cond1 (grid0.coords t) = 1#1 ↔ t.val < 32 :=
  (by decide +kernel : ∀ t : Fin grid0.N, k0_cond1 (grid0.coords t) = 1#1 ↔ t.val < 32)
theorem sample_iff : ∀ t : Fin cfg0.N, k0_cond2 (grid0.coords t) = 1#1 ↔ ¬t.val < 32 :=
  (by decide +kernel : ∀ t : Fin grid0.N, k0_cond2 (grid0.coords t) = 1#1 ↔ ¬t.val < 32)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, t.val < 32 → cfg0.idle 6 (grid0.coords t) = false := by decide +kernel
theorem idle6 : ∀ t : Fin cfg0.N, ¬t.val < 32 → cfg0.idle 6 (grid0.coords t) = true := by decide +kernel
theorem busy6 : ∀ t : Fin cfg0.N, cfg0.idle 6 (grid0.coords t) = true → ¬t.val < 32 := by decide +kernel
theorem flush6 : ∀ t : Fin cfg0.N, ¬t.val < 32 → ((cfg0.win 6).flush t = true ↔ t.val = 33) :=
  (by decide +kernel : ∀ t : Fin grid0.N, ¬t.val < 32 → (win0_6.flush t = true ↔ t.val = 33))
theorem fresh6 : ∀ t : Fin cfg0.N, t.val = 33 → cfg0.fresh 6 t.val = false := by decide +kernel
theorem live8 : ∀ t : Fin cfg0.N, t.val < 32 → cfg0.idle 8 (grid0.coords t) = false := by decide +kernel
theorem idle8 : ∀ t : Fin cfg0.N, ¬t.val < 32 → cfg0.idle 8 (grid0.coords t) = true := by decide +kernel
theorem busy8 : ∀ t : Fin cfg0.N, cfg0.idle 8 (grid0.coords t) = true → ¬t.val < 32 := by decide +kernel
theorem flush8 : ∀ t : Fin cfg0.N, ¬t.val < 32 → ((cfg0.win 8).flush t = true ↔ t.val = 33) :=
  (by decide +kernel : ∀ t : Fin grid0.N, ¬t.val < 32 → (win0_8.flush t = true ↔ t.val = 33))
theorem fresh8 : ∀ t : Fin cfg0.N, t.val = 33 → cfg0.fresh 8 t.val = false := by decide +kernel
theorem live7 : ∀ t : Fin cfg0.N, ¬t.val < 32 → cfg0.idle 7 (grid0.coords t) = false := by decide +kernel
theorem idle7 : ∀ t : Fin cfg0.N, t.val < 32 → cfg0.idle 7 (grid0.coords t) = true := by decide +kernel
theorem flush7 : ∀ t : Fin cfg0.N, t.val < 32 → (cfg0.win 7).flush t = false :=
  (by decide +kernel : ∀ t : Fin grid0.N, t.val < 32 → win0_7.flush t = false)
theorem live9 : ∀ t : Fin cfg0.N, ¬t.val < 32 → cfg0.idle 9 (grid0.coords t) = false := by decide +kernel
theorem idle9 : ∀ t : Fin cfg0.N, t.val < 32 → cfg0.idle 9 (grid0.coords t) = true := by decide +kernel
theorem flush9 : ∀ t : Fin cfg0.N, t.val < 32 → (cfg0.win 9).flush t = false :=
  (by decide +kernel : ∀ t : Fin grid0.N, t.val < 32 → win0_9.flush t = false)

/-! ## What every block holds after each point -/

/-- The latest point of the prompt up to a point. -/
def lastP (t : Fin cfg0.N) : Fin cfg0.N := ⟨min t.val 31, lt_of_le_of_lt (min_le_left _ _) t.isLt⟩

theorem lastP_of_lt (t : Fin cfg0.N) (h : t.val < 32) : lastP t = t := Fin.ext (by show min t.val 31 = t.val; omega)
theorem lastP_pred (t : Fin cfg0.N) (h : ¬t.val < 32) (hh : t.val - 1 < cfg0.N) : lastP t = lastP ⟨t.val - 1, hh⟩ :=
  Fin.ext (by show min t.val 31 = min (t.val - 1) 31; omega)

def qAt (c : Dev nD) (t : Fin cfg0.N) : Vec F S256x2048 .f32 := turnQ (iblk m c 3 t) (iblk m c 4 t) (iblk m c 0 t)
def kAt (c : Dev nD) (t : Fin cfg0.N) : Vec F S256x2048 .f32 := turn (iblk m c 3 t) (iblk m c 4 t) (iblk m c 1 t)
def vAt (c : Dev nD) (t : Fin cfg0.N) : Vec F S256x2048 .f32 := iblk m c 2 t

/-- The contents the proof keeps for every window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qAt m c t
    | ⟨6, _⟩ => kAt m c (lastP t)
    | ⟨7, _⟩ => kAt m c t
    | ⟨8, _⟩ => vAt m c (lastP t)
    | ⟨9, _⟩ => vAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = qAt m c t := by dsimp only [dats]
theorem after6 (c : Dev nD) (t : Fin cfg0.N) : (dats m 0 c).after 6 t = kAt m c (lastP t) := by dsimp only [dats]
theorem after7 (c : Dev nD) (t : Fin cfg0.N) : (dats m 0 c).after 7 t = kAt m c t := by dsimp only [dats]
theorem after8 (c : Dev nD) (t : Fin cfg0.N) : (dats m 0 c).after 8 t = vAt m c (lastP t) := by dsimp only [dats]
theorem after9 (c : Dev nD) (t : Fin cfg0.N) : (dats m 0 c).after 9 t = vAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- At the last point the block still holds what point 31 left. -/
theorem kept6 (c : Dev nD) (t : Fin cfg0.N) (h : t.val = 33) (d) : (dats m 0 c).before 6 t d = (dats m 0 c).after 6 t := by
  have ht : ¬t.val < 32 := by omega
  have e := (dats m 0 c).before_out_traj 6 rfl (fun _ _ => rfl)
    (fun s _ hi _ => by rw [after6, after6, lastP_pred s (busy6 s hi)]) t.val t rfl d
  rw [e, fresh6 t h, after6, after6, lastP_pred t ht]
  rfl

/-- At the last point the block still holds what point 31 left. -/
theorem kept8 (c : Dev nD) (t : Fin cfg0.N) (h : t.val = 33) (d) : (dats m 0 c).before 8 t d = (dats m 0 c).after 8 t := by
  have ht : ¬t.val < 32 := by omega
  have e := (dats m 0 c).before_out_traj 8 rfl (fun _ _ => rfl)
    (fun s _ hi _ => by rw [after8, after8, lastP_pred s (busy8 s hi)]) t.val t rfl d
  rw [e, fresh8 t h, after8, after8, lastP_pred t ht]
  rfl

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) : (dats m 0 c).leavesExact 0 t = owns (c : Thread nD τ) (st0_0 t) fullShare (iblk m c 0 t) := by
  rw [show (dats m 0 c).leavesExact 0 t = owns (c : Thread nD τ) (st0_0 t) fullShare ((dats m 0 c).after 0 t) from by
    unfold Dat.leavesExact; rw [live0 t], after0]
theorem leaves1 (c : Dev nD) (t : Fin cfg0.N) : (dats m 0 c).leavesExact 1 t = owns (c : Thread nD τ) (st0_1 t) fullShare (iblk m c 1 t) := by
  rw [show (dats m 0 c).leavesExact 1 t = owns (c : Thread nD τ) (st0_1 t) fullShare ((dats m 0 c).after 1 t) from by
    unfold Dat.leavesExact; rw [live1 t], after1]
theorem leaves2 (c : Dev nD) (t : Fin cfg0.N) : (dats m 0 c).leavesExact 2 t = owns (c : Thread nD τ) (st0_2 t) fullShare (iblk m c 2 t) := by
  rw [show (dats m 0 c).leavesExact 2 t = owns (c : Thread nD τ) (st0_2 t) fullShare ((dats m 0 c).after 2 t) from by
    unfold Dat.leavesExact; rw [live2 t], after2]
theorem leaves3 (c : Dev nD) (t : Fin cfg0.N) : (dats m 0 c).leavesExact 3 t = owns (c : Thread nD τ) (st0_3 t) fullShare (iblk m c 3 t) := by
  rw [show (dats m 0 c).leavesExact 3 t = owns (c : Thread nD τ) (st0_3 t) fullShare ((dats m 0 c).after 3 t) from by
    unfold Dat.leavesExact; rw [live3 t], after3]
theorem leaves4 (c : Dev nD) (t : Fin cfg0.N) : (dats m 0 c).leavesExact 4 t = owns (c : Thread nD τ) (st0_4 t) fullShare (iblk m c 4 t) := by
  rw [show (dats m 0 c).leavesExact 4 t = owns (c : Thread nD τ) (st0_4 t) fullShare ((dats m 0 c).after 4 t) from by
    unfold Dat.leavesExact; rw [live4 t], after4]
theorem leaves5 (c : Dev nD) (t : Fin cfg0.N) : (dats m 0 c).leavesExact 5 t = owns (c : Thread nD τ) (st0_5 t) fullShare (qAt m c t) := by
  rw [show (dats m 0 c).leavesExact 5 t = owns (c : Thread nD τ) (st0_5 t) fullShare ((dats m 0 c).after 5 t) from by
    unfold Dat.leavesExact; rw [live5 t], after5]
theorem leaves6 (c : Dev nD) (t : Fin cfg0.N) (h : t.val < 32) : (dats m 0 c).leavesExact 6 t = owns (c : Thread nD τ) (st0_6 t) fullShare (kAt m c t) := by
  rw [show (dats m 0 c).leavesExact 6 t = owns (c : Thread nD τ) (st0_6 t) fullShare ((dats m 0 c).after 6 t) from by
    unfold Dat.leavesExact; rw [live6 t h], after6, lastP_of_lt t h]
theorem pass6 (c : Dev nD) (t : Fin cfg0.N) (h : ¬t.val < 32) :
    (iprop(∃ d, owns (c : Thread nD τ) (st0_6 t) fullShare ((dats m 0 c).before 6 t d)) : sProp 𝕄) ⊢ (dats m 0 c).leavesExact 6 t := by
  by_cases h3 : t.val = 33
  · rw [show (dats m 0 c).leavesExact 6 t = owns (c : Thread nD τ) (st0_6 t) fullShare ((dats m 0 c).after 6 t) from by
      unfold Dat.leavesExact; rw [idle6 t h, (flush6 t h).mpr h3]]
    iintro ⟨%d, H⟩
    rw [kept6 m c t h3 d]
    iexact H
  · rw [(dats m 0 c).leavesExact_idle 6 t (idle6 t h) (by
      cases hf : (cfg0.win 6).flush t
      · rfl
      · exact absurd ((flush6 t h).mp hf) h3)]
theorem leaves8 (c : Dev nD) (t : Fin cfg0.N) (h : t.val < 32) : (dats m 0 c).leavesExact 8 t = owns (c : Thread nD τ) (st0_8 t) fullShare (vAt m c t) := by
  rw [show (dats m 0 c).leavesExact 8 t = owns (c : Thread nD τ) (st0_8 t) fullShare ((dats m 0 c).after 8 t) from by
    unfold Dat.leavesExact; rw [live8 t h], after8, lastP_of_lt t h]
theorem pass8 (c : Dev nD) (t : Fin cfg0.N) (h : ¬t.val < 32) :
    (iprop(∃ d, owns (c : Thread nD τ) (st0_8 t) fullShare ((dats m 0 c).before 8 t d)) : sProp 𝕄) ⊢ (dats m 0 c).leavesExact 8 t := by
  by_cases h3 : t.val = 33
  · rw [show (dats m 0 c).leavesExact 8 t = owns (c : Thread nD τ) (st0_8 t) fullShare ((dats m 0 c).after 8 t) from by
      unfold Dat.leavesExact; rw [idle8 t h, (flush8 t h).mpr h3]]
    iintro ⟨%d, H⟩
    rw [kept8 m c t h3 d]
    iexact H
  · rw [(dats m 0 c).leavesExact_idle 8 t (idle8 t h) (by
      cases hf : (cfg0.win 8).flush t
      · rfl
      · exact absurd ((flush8 t h).mp hf) h3)]
theorem leaves7 (c : Dev nD) (t : Fin cfg0.N) (h : ¬t.val < 32) : (dats m 0 c).leavesExact 7 t = owns (c : Thread nD τ) (st0_7 t) fullShare (kAt m c t) := by
  rw [show (dats m 0 c).leavesExact 7 t = owns (c : Thread nD τ) (st0_7 t) fullShare ((dats m 0 c).after 7 t) from by
    unfold Dat.leavesExact; rw [live7 t h], after7]
theorem pass7 (c : Dev nD) (t : Fin cfg0.N) (h : t.val < 32) :
    (iprop(∃ d, owns (c : Thread nD τ) (st0_7 t) fullShare ((dats m 0 c).before 7 t d)) : sProp 𝕄) ⊢ (dats m 0 c).leavesExact 7 t := by
  rw [(dats m 0 c).leavesExact_idle 7 t (idle7 t h) (flush7 t h)]
theorem leaves9 (c : Dev nD) (t : Fin cfg0.N) (h : ¬t.val < 32) : (dats m 0 c).leavesExact 9 t = owns (c : Thread nD τ) (st0_9 t) fullShare (vAt m c t) := by
  rw [show (dats m 0 c).leavesExact 9 t = owns (c : Thread nD τ) (st0_9 t) fullShare ((dats m 0 c).after 9 t) from by
    unfold Dat.leavesExact; rw [live9 t h], after9]
theorem pass9 (c : Dev nD) (t : Fin cfg0.N) (h : t.val < 32) :
    (iprop(∃ d, owns (c : Thread nD τ) (st0_9 t) fullShare ((dats m 0 c).before 9 t d)) : sProp 𝕄) ⊢ (dats m 0 c).leavesExact 9 t := by
  rw [(dats m 0 c).leavesExact_idle 9 t (idle9 t h) (flush9 t h)]

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    leaves0, leaves1, leaves2, leaves3, leaves4, leaves5]
  by_cases h : t.val < 32
  · rw [leaves6 m c t h, leaves8 m c t h]
    iintro ⟨HΦ, Ho, ⟨%d0, H0⟩, ⟨%d1, H1⟩, ⟨%d2, H2⟩, ⟨%d3, H3⟩, ⟨%d4, H4⟩, ⟨%d5, H5⟩, H6, H7, H8, H9⟩
    ihave H7 := pass7 m c t h $$ H7
    ihave H9 := pass9 m c t h $$ H9
    icases H6 with ⟨%d6, H6⟩
    icases H8 with ⟨%d8, H8⟩
    iapply (soundP c (grid0.coords t) _ _ _ _ _ _ _ _ _ _ _ _ _ _ _ _ _ _ _ _ ((prompt_iff t).mpr h) (fun e => (sample_iff t).mp e h) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H8]; · iexists _; iexact H8
    iintro ⟨H0, H1, H2, H3, H4, H5, H6, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [leaves7 m c t h, leaves9 m c t h]
    iintro ⟨HΦ, Ho, ⟨%d0, H0⟩, ⟨%d1, H1⟩, ⟨%d2, H2⟩, ⟨%d3, H3⟩, ⟨%d4, H4⟩, ⟨%d5, H5⟩, H6, H7, H8, H9⟩
    ihave H6 := pass6 m c t h $$ H6
    ihave H8 := pass8 m c t h $$ H8
    icases H7 with ⟨%d7, H7⟩
    icases H9 with ⟨%d9, H9⟩
    iapply (soundS c (grid0.coords t) _ _ _ _ _ _ _ _ _ _ _ _ _ _ _ _ _ _ _ _ (fun e => h ((prompt_iff t).mp e)) ((sample_iff t).mpr h) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H7]; · iexists _; iexact H7
    isplitl [H9]; · iexists _; iexact H9
    iintro ⟨H0, H1, H2, H3, H4, H5, H7, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The call -/

set_option backward.isDefEq.respectTransparency.types false in
/-- Every run ends, every array holding what its blocks were left at, and every counter at zero. -/
theorem run_all : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_all m ρ)

theorem run_sem : θ_run defs (onTc (τ := τ) (main (F := F))) (s₀ m ρ) (fun r => r.2.sem = fun _ => 0) :=
  (θ_run defs _ _).mono (fun _ h => h.2) (run_all m ρ)

end Cert.RopeIdeal.Turn
end
-- ==== Proof.RopeTab.lean ====
module
public import proofs.«01_k».proof.Proof.RopeSpin
public import proofs.«01_k».proof.Proof.RopeFrame
@[expose] public section
set_option maxRecDepth 16384
noncomputable section

/-! The tables of the angles, and the blocks the launch brings in. -/

namespace Cert.RopeIdeal.Turn
open Cert.RopeIdeal Cert.RopeIdeal.Gen Idealize.ShloMosaic Idealize.ShloMosaic.TcCoe Idealize.SL.Sem Cert.Norm
open Cert.RopeRefIdeal.Read

variable (m : (ℓ : Loc nD τ sig) → Buf (Elt Ideal) ℓ) (c : Dev nD)

/-- A table for two heads, of the columns of the halves of one. -/
abbrev table (a b : Vec Ideal S8704x32 .f32) : Vec Ideal S8704x128 .f32 :=
  shapeCast S8704x128 (broadcastInDim S1x8704x2x64 ![0, 1, 2, 3] bcast_S1x8704x1x64_S1x8704x2x64_0_1_2_3
    (shapeCast S1x8704x1x64 (concatenate S8704x64 1 [⟨S8704x32, a⟩, ⟨S8704x32, b⟩] concatenates_S8704x32_S8704x32_S8704x64_d1)
      shapeCasts_S8704x64_S1x8704x1x64)) shapeCasts_S1x8704x2x64_S8704x128

theorem table_at (a b : Vec Ideal S8704x32 .f32) (i : Fin 8704) (l : Fin 128) :
    table a b (ix2 i l) = if l.val % 64 < 32 then a (ix2 i ⟨l.val % 32, Nat.mod_lt _ (by decide)⟩) else b (ix2 i ⟨l.val % 32, Nat.mod_lt _ (by decide)⟩) := by
  have hi := i.isLt
  have hl := l.isLt
  refine (shapeCast_apply _ shapeCasts_S1x8704x2x64_S8704x128 _
    (ix4 (0 : Fin 1) i (⟨l.val / 64, by omega⟩ : Fin 2) (⟨l.val % 64, Nat.mod_lt _ (by decide)⟩ : Fin 64)) ?_).trans ?_
  · rw [Shape.rowMajor_val_two, Shape.rowMajor_val_four]
    show ((0 * 8704 + i.val) * 2 + l.val / 64) * 64 + l.val % 64 = i.val * 128 + l.val
    omega
  refine (broadcastInDim_apply _ bcast_S1x8704x1x64_S1x8704x2x64_0_1_2_3 _ _
    (ix4 (0 : Fin 1) i (0 : Fin 1) (⟨l.val % 64, Nat.mod_lt _ (by decide)⟩ : Fin 64)) (fun a => match a with
      | ⟨0, _⟩ => by show 0 = if (1 : Nat) = 1 then 0 else _; rw [if_pos rfl]
      | ⟨1, _⟩ => by show _ = if (8704 : Nat) = 1 then 0 else _; rw [if_neg (by decide)]; rfl
      | ⟨2, _⟩ => by show 0 = if (1 : Nat) = 1 then 0 else _; rw [if_pos rfl]
      | ⟨3, _⟩ => by show _ = if (64 : Nat) = 1 then 0 else _; rw [if_neg (by decide)]; rfl)).trans ?_
  refine (shapeCast_apply _ shapeCasts_S8704x64_S1x8704x1x64 _ (ix2 i (⟨l.val % 64, Nat.mod_lt _ (by decide)⟩ : Fin 64)) ?_).trans ?_
  · rw [Shape.rowMajor_val_two, Shape.rowMajor_val_four]
    show i.val * 64 + l.val % 64 = ((0 * 8704 + i.val) * 1 + 0) * 64 + l.val % 64
    omega
  by_cases h : l.val % 64 < 32
  · rw [if_pos h]
    refine concatenate_pair_apply_left (t := S8704x64) (s₁ := S8704x32) (s₂ := S8704x32) (1 : Fin 2) _ _ _ _ rfl _ fun a => ?_
    match a with
    | ⟨0, _⟩ => rfl
    | ⟨1, _⟩ => show l.val % 32 = l.val % 64; omega
  · rw [if_neg h]
    refine concatenate_pair_apply_right (t := S8704x64) (s₁ := S8704x32) (s₂ := S8704x32) (1 : Fin 2) _ _ _ _ rfl rfl _ (fun a ha => ?_) ?_
    · match a with
      | ⟨0, _⟩ => rfl
      | ⟨1, _⟩ => exact absurd rfl ha
    · show l.val % 32 + 32 = l.val % 64; omega

abbrev a0 : Vec Ideal S8704x8192 .f32 := m ((c : Thread nD τ).loc main_arg0)

theorem V_v28 : V m c main_v28 = table (val_main_v27 (F := Ideal)) (val_main_v27 (F := Ideal)) := rfl
theorem V_v33 : V m c main_v33 = table (Host.negf (F := Ideal) (φ := .f32) (val_main_v29 (F := Ideal))) (val_main_v29 (F := Ideal)) := rfl

theorem widx : ∀ t : Fin cfg0.N,
    (win0_0.index t 0 = t.val ∧ win0_0.index t 1 = 0) ∧ (win0_1.index t 0 = t.val ∧ win0_1.index t 1 = 1)
    ∧ (win0_2.index t 0 = t.val ∧ win0_2.index t 1 = 2) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = min t.val 31 ∧ win0_6.index t 1 = 0) ∧ (win0_7.index t 0 = t.val - 32 ∧ win0_7.index t 1 = 0)
    ∧ (win0_8.index t 0 = min t.val 31 ∧ win0_8.index t 1 = 0) ∧ (win0_9.index t 0 = t.val - 32 ∧ win0_9.index t 1 = 0) := by
  decide +kernel

theorem osize : ∀ t : Fin cfg0.N, (win0_5.xsize (grid0.coords t) 0 = 256 ∧ win0_5.xsize (grid0.coords t) 1 = 2048)
    ∧ (win0_6.xsize (grid0.coords t) 0 = 256 ∧ win0_6.xsize (grid0.coords t) 1 = 2048)
    ∧ (win0_7.xsize (grid0.coords t) 0 = 256 ∧ win0_7.xsize (grid0.coords t) 1 = 2048)
    ∧ (win0_8.xsize (grid0.coords t) 0 = 256 ∧ win0_8.xsize (grid0.coords t) 1 = 2048)
    ∧ (win0_9.xsize (grid0.coords t) 0 = 256 ∧ win0_9.xsize (grid0.coords t) 1 = 2048) := by
  decide +kernel

theorem blk0_at (t : Fin cfg0.N) (r : Fin 256) (k : Fin 2048) (i : Fin 8704) (hi : i.val = t.val * 256 + r.val) :
    (iblk m c 0 t : Vec Ideal S256x2048 .f32) (ix2 r k) = a0 m c (ix2 i ⟨k.val, by omega⟩) := by
  unfold iblk
  rw [View.read_apply]
  show V m c main_arg0 _ = _
  rw [V_main_arg0]
  obtain ⟨⟨p0, p1⟩, -⟩ := widx t
  refine congrArg (a0 m c) (idx2 _ _ ?_ ?_)
  · show win0_0.index t 0 * 256 + 1 * r.val = i.val; rw [p0, hi]; omega
  · show win0_0.index t 1 * 2048 + 1 * k.val = k.val; rw [p1]; omega

theorem blk1_at (t : Fin cfg0.N) (r : Fin 256) (k : Fin 2048) (i : Fin 8704) (hi : i.val = t.val * 256 + r.val) :
    (iblk m c 1 t : Vec Ideal S256x2048 .f32) (ix2 r k) = a0 m c (ix2 i ⟨2048 + k.val, by omega⟩) := by
  unfold iblk
  rw [View.read_apply]
  show V m c main_arg0 _ = _
  rw [V_main_arg0]
  obtain ⟨-, ⟨p0, p1⟩, -⟩ := widx t
  refine congrArg (a0 m c) (idx2 _ _ ?_ ?_)
  · show win0_1.index t 0 * 256 + 1 * r.val = i.val; rw [p0, hi]; omega
  · show win0_1.index t 1 * 2048 + 1 * k.val = 2048 + k.val; rw [p1]; omega

theorem blk2_at (t : Fin cfg0.N) (r : Fin 256) (k : Fin 2048) (i : Fin 8704) (hi : i.val = t.val * 256 + r.val) :
    (iblk m c 2 t : Vec Ideal S256x2048 .f32) (ix2 r k) = a0 m c (ix2 i ⟨4096 + k.val, by omega⟩) := by
  unfold iblk
  rw [View.read_apply]
  show V m c main_arg0 _ = _
  rw [V_main_arg0]
  obtain ⟨-, -, ⟨p0, p1⟩, -⟩ := widx t
  refine congrArg (a0 m c) (idx2 _ _ ?_ ?_)
  · show win0_2.index t 0 * 256 + 1 * r.val = i.val; rw [p0, hi]; omega
  · show win0_2.index t 1 * 2048 + 1 * k.val = 4096 + k.val; rw [p1]; omega

theorem blk3_at (t : Fin cfg0.N) (r : Fin 256) (l : Fin 128) (i : Fin 8704) (hi : i.val = t.val * 256 + r.val) :
    (iblk m c 3 t : Vec Ideal S256x128 .f32) (ix2 r l) = co i ⟨l.val % 32, Nat.mod_lt _ (by decide)⟩ := by
  unfold iblk
  rw [View.read_apply]
  show V m c main_v28 _ = _
  rw [V_v28]
  obtain ⟨-, -, -, ⟨p0, p1⟩, -⟩ := widx t
  refine (congrArg (table _ _) (idx2 _ (ix2 i l) ?_ ?_)).trans ((table_at _ _ i l).trans (ite_self _))
  · show win0_3.index t 0 * 256 + 1 * r.val = i.val; rw [p0, hi]; omega
  · show win0_3.index t 1 * 128 + 1 * l.val = l.val; rw [p1]; omega

theorem blk4_at (t : Fin cfg0.N) (r : Fin 256) (l : Fin 128) (i : Fin 8704) (hi : i.val = t.val * 256 + r.val) :
    ((iblk m c 4 t : Vec Ideal S256x128 .f32) (ix2 r l) : EReal)
      = if l.val % 64 < 32 then -si i ⟨l.val % 32, Nat.mod_lt _ (by decide)⟩ else si i ⟨l.val % 32, Nat.mod_lt _ (by decide)⟩ := by
  unfold iblk
  rw [View.read_apply]
  show V m c main_v33 _ = _
  rw [V_v33]
  obtain ⟨-, -, -, -, ⟨p0, p1⟩, -⟩ := widx t
  refine (congrArg (table _ _) (idx2 _ (ix2 i l) ?_ ?_)).trans (table_at _ _ i l)
  · show win0_4.index t 0 * 256 + 1 * r.val = i.val; rw [p0, hi]; omega
  · show win0_4.index t 1 * 128 + 1 * l.val = l.val; rw [p1]; omega

/-- What a point stores, by the argument. -/
theorem q_at (t : Fin cfg0.N) (y : S256x2048.Idx) (i : Fin 8704) (hi : i.val = t.val * 256 + (y 0).val) :
    qAt m c t y = spin (fun k => a0 m c (ix2 i ⟨k.val, by omega⟩)) (co i) (si i) (y 1) * eighth := by
  refine (turn_at (iblk m c 3 t) (iblk m c 4 t) (iblk m c 0 t) y (co i) (si i) (fun l => blk3_at m c t _ l i hi) (fun l => blk4_at m c t _ l i hi)).2.trans ?_
  rw [show (fun k : Fin 2048 => (iblk m c 0 t : Vec Ideal S256x2048 .f32) (ix2 (y 0) k)) = fun k : Fin 2048 => a0 m c (ix2 i ⟨k.val, by omega⟩)
    from funext fun k => blk0_at m c t (y 0) k i hi]

theorem k_at (t : Fin cfg0.N) (y : S256x2048.Idx) (i : Fin 8704) (hi : i.val = t.val * 256 + (y 0).val) :
    kAt m c t y = spin (fun k => a0 m c (ix2 i ⟨2048 + k.val, by omega⟩)) (co i) (si i) (y 1) := by
  refine (turn_at (iblk m c 3 t) (iblk m c 4 t) (iblk m c 1 t) y (co i) (si i) (fun l => blk3_at m c t _ l i hi) (fun l => blk4_at m c t _ l i hi)).1.trans ?_
  rw [show (fun k : Fin 2048 => (iblk m c 1 t : Vec Ideal S256x2048 .f32) (ix2 (y 0) k)) = fun k : Fin 2048 => a0 m c (ix2 i ⟨2048 + k.val, by omega⟩)
    from funext fun k => blk1_at m c t (y 0) k i hi]

theorem v_at (t : Fin cfg0.N) (y : S256x2048.Idx) (i : Fin 8704) (hi : i.val = t.val * 256 + (y 0).val) :
    vAt m c t y = a0 m c (ix2 i ⟨4096 + (y 1).val, by have : (y 1).val < 2048 := (y 1).isLt; omega⟩) := by
  refine Eq.trans ?_ (blk2_at m c t (y 0) (y 1) i hi)
  exact congrArg (iblk m c 2 t : Vec Ideal S256x2048 .f32) (idx2 _ _ rfl rfl)

end Cert.RopeIdeal.Turn
end
-- ==== Proof.RopeVal.lean ====
module
public import proofs.«01_k».proof.Defs
public import proofs.«01_k».proof.Proof.RopeTab
public import proofs.«01_k».proof.Proof.Gen.Rope
public import proofs.«01_k».proof.Proof.Gen.RopeIdeal.Frame
public import proofs.«01_k».proof.Proof.Gen.RopeRefIdeal.Run
public import Idealize.ShloMosaic.Adequacy
@[expose] public section
set_option maxRecDepth 16384
noncomputable section

/-! The five arrays the launch leaves, against the reference's. -/

namespace Cert.RopeIdeal.Turn
open Cert.RopeIdeal Cert.RopeIdeal.Gen Idealize.ShloMosaic Idealize.ShloMosaic.TcCoe Idealize.SL.Sem Cert.Norm
open Cert.RopeRefIdeal.Read

variable (m : (ℓ : Loc nD τ sig) → Buf (Elt Ideal) ℓ) (c : Dev nD)

/-! The reference's results, an entry at a time. -/

theorem v63_at (x0 : Vec Ideal S8704x8192 .f32) (i : S8192x2048.Idx) (p : Fin 8704) (hp : p.val = (i 0).val) :
    val_main_v63 (F := Ideal) x0 i = spin (fun k => x0 (ix2 p ⟨2048 + k.val, by omega⟩)) (co p) (si p) (i 1) := by
  rw [val_main_v63_apply, show idx_main_v63 i = ix2 p (i 1) from idx2 _ _ (by exact hp.symm) rfl]
  exact v45_at x0 _

theorem v64_at (x0 : Vec Ideal S8704x8192 .f32) (i : S512x2048.Idx) (p : Fin 8704) (hp : p.val = 8192 + (i 0).val) :
    val_main_v64 (F := Ideal) x0 i = spin (fun k => x0 (ix2 p ⟨2048 + k.val, by omega⟩)) (co p) (si p) (i 1) := by
  rw [val_main_v64_apply, show idx_main_v64 i = ix2 p (i 1) from idx2 _ _ (by exact hp.symm) rfl]
  exact v45_at x0 _

theorem v65_at (x0 : Vec Ideal S8704x8192 .f32) (i : S8192x2048.Idx) (p : Fin 8704) (hp : p.val = (i 0).val) :
    val_main_v65 (F := Ideal) x0 i = x0 (ix2 p ⟨4096 + (i 1).val, by have : (i 1).val < 2048 := (i 1).isLt; omega⟩) := by
  rw [val_main_v65_apply, val_main_v2_apply]
  exact congrArg x0 (idx2 _ _ (by exact hp.symm) rfl)

theorem v66_at (x0 : Vec Ideal S8704x8192 .f32) (i : S512x2048.Idx) (p : Fin 8704) (hp : p.val = 8192 + (i 0).val) :
    val_main_v66 (F := Ideal) x0 i = x0 (ix2 p ⟨4096 + (i 1).val, by have : (i 1).val < 2048 := (i 1).isLt; omega⟩) := by
  rw [val_main_v66_apply, val_main_v2_apply]
  exact congrArg x0 (idx2 _ _ (by exact hp.symm) rfl)

/-! The results on device `c`: the reference's, of the kernel's argument. -/

def res5 : Buf (Elt Ideal) ((c : Thread nD τ).loc main_v56_0) := val_main_v62 (F := Ideal) (a0 m c)
def res6 : Buf (Elt Ideal) ((c : Thread nD τ).loc main_v56_1) := val_main_v63 (F := Ideal) (a0 m c)
def res7 : Buf (Elt Ideal) ((c : Thread nD τ).loc main_v56_2) := val_main_v64 (F := Ideal) (a0 m c)
def res8 : Buf (Elt Ideal) ((c : Thread nD τ).loc main_v56_3) := val_main_v65 (F := Ideal) (a0 m c)
def res9 : Buf (Elt Ideal) ((c : Thread nD τ).loc main_v56_4) := val_main_v66 (F := Ideal) (a0 m c)

/-! Every row is written back: a row of the first 8192 at its own point, or, in the last of those blocks, at the last point. -/

theorem back6 : ∀ t : Fin cfg0.N, (t.val < 31 ∨ t.val = 33) → (cfg0.win 6).flush t = true :=
  (by decide +kernel : ∀ t : Fin grid0.N, (t.val < 31 ∨ t.val = 33) → win0_6.flush t = true)
theorem back8 : ∀ t : Fin cfg0.N, (t.val < 31 ∨ t.val = 33) → (cfg0.win 8).flush t = true :=
  (by decide +kernel : ∀ t : Fin grid0.N, (t.val < 31 ∨ t.val = 33) → win0_8.flush t = true)
theorem back7 : ∀ t : Fin cfg0.N, 32 ≤ t.val → (cfg0.win 7).flush t = true :=
  (by decide +kernel : ∀ t : Fin grid0.N, 32 ≤ t.val → win0_7.flush t = true)
theorem back9 : ∀ t : Fin cfg0.N, 32 ≤ t.val → (cfg0.win 9).flush t = true :=
  (by decide +kernel : ∀ t : Fin grid0.N, 32 ≤ t.val → win0_9.flush t = true)
theorem late7 : ∀ t : Fin cfg0.N, (cfg0.win 7).flush t = true → 32 ≤ t.val :=
  (by decide +kernel : ∀ t : Fin grid0.N, win0_7.flush t = true → 32 ≤ t.val)
theorem late9 : ∀ t : Fin cfg0.N, (cfg0.win 9).flush t = true → 32 ≤ t.val :=
  (by decide +kernel : ∀ t : Fin grid0.N, win0_9.flush t = true → 32 ≤ t.val)

theorem cover5 (i : S8704x2048.Idx) : ∃ t : Fin cfg0.N, (cfg0.win 5).flush t = true ∧ i ∈ ((cfg0.win 5).blk t).view.set := by
  have h0 : (i 0 : Nat) < 8704 := (i 0).isLt
  have h1 : (i 1 : Nat) < 2048 := (i 1).isLt
  have hN : cfg0.N = 34 := N_0
  obtain ⟨t, ht, hq⟩ : ∃ t : Fin cfg0.N, t.val * 256 ≤ (i 0 : Nat) ∧ (i 0 : Nat) < t.val * 256 + 256 :=
    ⟨⟨(i 0 : Nat) / 256, by omega⟩, by dsimp only; omega⟩
  refine ⟨t, flush0_5 _, ?_⟩
  show i ∈ ((View.whole main_v56_0).slice (win0_5.rect t)).set
  rw [View.set_slice_whole, Rect.mem_set_unit]
  obtain ⟨-, -, -, -, -, ⟨e0, e1⟩, -⟩ := widx t
  obtain ⟨⟨s0, s1⟩, -⟩ := osize t
  intro a
  match a with
  | ⟨0, _⟩ =>
    show win0_5.index t 0 * 256 ≤ (i 0 : Nat) ∧ (i 0 : Nat) < win0_5.index t 0 * 256 + win0_5.xsize (grid0.coords t) 0
    rw [e0, s0]; exact ⟨ht, hq⟩
  | ⟨1, _⟩ =>
    show win0_5.index t 1 * 2048 ≤ (i 1 : Nat) ∧ (i 1 : Nat) < win0_5.index t 1 * 2048 + win0_5.xsize (grid0.coords t) 1
    rw [e1, s1]; omega

theorem cover6 (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  have hN : cfg0.N = 34 := N_0
  obtain ⟨t, hq, ht⟩ : ∃ t : Fin cfg0.N, (t.val < 31 ∨ t.val = 33) ∧ min t.val 31 = (i 0 : Nat) / 256 := by
    by_cases h : (i 0 : Nat) / 256 < 31
    · exact ⟨⟨(i 0 : Nat) / 256, by omega⟩, .inl h, by dsimp only; omega⟩
    · exact ⟨⟨33, by omega⟩, .inr rfl, by dsimp only; omega⟩
  refine ⟨t, back6 t hq, ?_⟩
  show i ∈ ((View.whole main_v56_1).slice (win0_6.rect t)).set
  rw [View.set_slice_whole, Rect.mem_set_unit]
  obtain ⟨-, -, -, -, -, -, ⟨e0, e1⟩, -⟩ := widx t
  obtain ⟨-, ⟨s0, s1⟩, -⟩ := osize t
  intro a
  match a with
  | ⟨0, _⟩ =>
    show win0_6.index t 0 * 256 ≤ (i 0 : Nat) ∧ (i 0 : Nat) < win0_6.index t 0 * 256 + win0_6.xsize (grid0.coords t) 0
    rw [e0, s0]; rw [ht]; omega
  | ⟨1, _⟩ =>
    show win0_6.index t 1 * 2048 ≤ (i 1 : Nat) ∧ (i 1 : Nat) < win0_6.index t 1 * 2048 + win0_6.xsize (grid0.coords t) 1
    rw [e1, s1]; omega

theorem cover7 (i : S512x2048.Idx) : ∃ t : Fin cfg0.N, (cfg0.win 7).flush t = true ∧ i ∈ ((cfg0.win 7).blk t).view.set := by
  have h0 : (i 0 : Nat) < 512 := (i 0).isLt
  have h1 : (i 1 : Nat) < 2048 := (i 1).isLt
  have hN : cfg0.N = 34 := N_0
  obtain ⟨t, hq, ht⟩ : ∃ t : Fin cfg0.N, 32 ≤ t.val ∧ t.val - 32 = (i 0 : Nat) / 256 :=
    ⟨⟨32 + (i 0 : Nat) / 256, by omega⟩, by dsimp only; omega, by dsimp only; omega⟩
  refine ⟨t, back7 t hq, ?_⟩
  show i ∈ ((View.whole main_v56_2).slice (win0_7.rect t)).set
  rw [View.set_slice_whole, Rect.mem_set_unit]
  obtain ⟨-, -, -, -, -, -, -, ⟨e0, e1⟩, -⟩ := widx t
  obtain ⟨-, -, ⟨s0, s1⟩, -⟩ := osize t
  intro a
  match a with
  | ⟨0, _⟩ =>
    show win0_7.index t 0 * 256 ≤ (i 0 : Nat) ∧ (i 0 : Nat) < win0_7.index t 0 * 256 + win0_7.xsize (grid0.coords t) 0
    rw [e0, s0]; rw [ht]; omega
  | ⟨1, _⟩ =>
    show win0_7.index t 1 * 2048 ≤ (i 1 : Nat) ∧ (i 1 : Nat) < win0_7.index t 1 * 2048 + win0_7.xsize (grid0.coords t) 1
    rw [e1, s1]; omega

theorem cover8 (i : S8192x2048.Idx) : ∃ t : Fin cfg0.N, (cfg0.win 8).flush t = true ∧ i ∈ ((cfg0.win 8).blk t).view.set := by
  have h0 : (i 0 : Nat) < 8192 := (i 0).isLt
  have h1 : (i 1 : Nat) < 2048 := (i 1).isLt
  have hN : cfg0.N = 34 := N_0
  obtain ⟨t, hq, ht⟩ : ∃ t : Fin cfg0.N, (t.val < 31 ∨ t.val = 33) ∧ min t.val 31 = (i 0 : Nat) / 256 := by
    by_cases h : (i 0 : Nat) / 256 < 31
    · exact ⟨⟨(i 0 : Nat) / 256, by omega⟩, .inl h, by dsimp only; omega⟩
    · exact ⟨⟨33, by omega⟩, .inr rfl, by dsimp only; omega⟩
  refine ⟨t, back8 t hq, ?_⟩
  show i ∈ ((View.whole main_v56_3).slice (win0_8.rect t)).set
  rw [View.set_slice_whole, Rect.mem_set_unit]
  obtain ⟨-, -, -, -, -, -, -, -, ⟨e0, e1⟩, -⟩ := widx t
  obtain ⟨-, -, -, ⟨s0, s1⟩, -⟩ := osize t
  intro a
  match a with
  | ⟨0, _⟩ =>
    show win0_8.index t 0 * 256 ≤ (i 0 : Nat) ∧ (i 0 : Nat) < win0_8.index t 0 * 256 + win0_8.xsize (grid0.coords t) 0
    rw [e0, s0]; rw [ht]; omega
  | ⟨1, _⟩ =>
    show win0_8.index t 1 * 2048 ≤ (i 1 : Nat) ∧ (i 1 : Nat) < win0_8.index t 1 * 2048 + win0_8.xsize (grid0.coords t) 1
    rw [e1, s1]; omega

theorem cover9 (i : S512x2048.Idx) : ∃ t : Fin cfg0.N, (cfg0.win 9).flush t = true ∧ i ∈ ((cfg0.win 9).blk t).view.set := by
  have h0 : (i 0 : Nat) < 512 := (i 0).isLt
  have h1 : (i 1 : Nat) < 2048 := (i 1).isLt
  have hN : cfg0.N = 34 := N_0
  obtain ⟨t, hq, ht⟩ : ∃ t : Fin cfg0.N, 32 ≤ t.val ∧ t.val - 32 = (i 0 : Nat) / 256 :=
    ⟨⟨32 + (i 0 : Nat) / 256, by omega⟩, by dsimp only; omega, by dsimp only; omega⟩
  refine ⟨t, back9 t hq, ?_⟩
  show i ∈ ((View.whole main_v56_4).slice (win0_9.rect t)).set
  rw [View.set_slice_whole, Rect.mem_set_unit]
  obtain ⟨-, -, -, -, -, -, -, -, -, e0, e1⟩ := widx t
  obtain ⟨-, -, -, -, s0, s1⟩ := osize t
  intro a
  match a with
  | ⟨0, _⟩ =>
    show win0_9.index t 0 * 256 ≤ (i 0 : Nat) ∧ (i 0 : Nat) < win0_9.index t 0 * 256 + win0_9.xsize (grid0.coords t) 0
    rw [e0, s0]; rw [ht]; omega
  | ⟨1, _⟩ =>
    show win0_9.index t 1 * 2048 ≤ (i 1 : Nat) ∧ (i 1 : Nat) < win0_9.index t 1 * 2048 + win0_9.xsize (grid0.coords t) 1
    rw [e1, s1]; omega

theorem final5 : (dats m 0 c).arrAt 5 cfg0.N = res5 m c := by
  refine (dats m 0 c).arrAt_eq_of_cover 5 (res5 m c) (fun t _ => ?_) cover5
  show (cfg0.win 5).cut (grid0.coords t) ((dats m 0 c).after 5 t) = _
  rw [after5]
  funext y
  rw [View.read_apply]
  have ht : t.val < 34 := lt_of_lt_of_le t.isLt (le_of_eq N_0)
  have hy : (y 0).val < 256 := lt_of_lt_of_le (y 0).isLt (le_of_eq (osize t).1.1)
  obtain ⟨-, -, -, -, -, ⟨e0, e1⟩, -⟩ := widx t
  have i0 : ((((cfg0.win 5).blk t).view.emb y) 0).val = (t.val) * 256 + (y 0).val := by
    show win0_5.index t 0 * 256 + 1 * (y 0).val = _; rw [e0]; omega
  have i1 : (((((cfg0.win 5).blk t).view.emb y) 1 : Fin 2048)).val = (y 1).val := by
    show win0_5.index t 1 * 2048 + 1 * (y 1).val = (y 1).val; rw [e1]; omega
  have h1 : (y 1).val < 2048 := by rw [← i1]; exact (((((cfg0.win 5).blk t).view.emb y) 1 : Fin 2048)).isLt
  refine Eq.trans (b := qAt m c t (ix2 ⟨(y 0).val, hy⟩ ⟨(y 1).val, h1⟩)) (congrArg (qAt m c t) (idx2 _ _ rfl rfl)) ?_
  show _ = res5 m c (((cfg0.win 5).blk t).view.emb y)
  have hp : t.val * 256 + (y 0).val < 8704 := by omega
  refine (q_at m c t (ix2 ⟨(y 0).val, hy⟩ ⟨(y 1).val, h1⟩) ⟨_, hp⟩ rfl).trans ?_
  unfold res5
  rw [show (((cfg0.win 5).blk t).view.emb y) = ix2 (⟨t.val * 256 + (y 0).val, hp⟩ : Fin 8704) (⟨(y 1).val, h1⟩ : Fin 2048) from idx2 _ _ i0 i1]
  exact (v62_at (a0 m c) (ix2 (⟨t.val * 256 + (y 0).val, hp⟩ : Fin 8704) (⟨(y 1).val, h1⟩ : Fin 2048))).symm

theorem final6 : (dats m 0 c).arrAt 6 cfg0.N = res6 m c := by
  refine (dats m 0 c).arrAt_eq_of_cover 6 (res6 m c) (fun t _ => ?_) cover6
  show (cfg0.win 6).cut (grid0.coords t) ((dats m 0 c).after 6 t) = _
  rw [after6]
  funext y
  rw [View.read_apply]
  have ht : t.val < 34 := lt_of_lt_of_le t.isLt (le_of_eq N_0)
  have hy : (y 0).val < 256 := lt_of_lt_of_le (y 0).isLt (le_of_eq (osize t).2.1.1)
  obtain ⟨-, -, -, -, -, -, ⟨e0, e1⟩, -⟩ := widx t
  have i0 : ((((cfg0.win 6).blk t).view.emb y) 0).val = (min t.val 31) * 256 + (y 0).val := by
    show win0_6.index t 0 * 256 + 1 * (y 0).val = _; rw [e0]; omega
  have i1 : (((((cfg0.win 6).blk t).view.emb y) 1 : Fin 2048)).val = (y 1).val := by
    show win0_6.index t 1 * 2048 + 1 * (y 1).val = (y 1).val; rw [e1]; omega
  have h1 : (y 1).val < 2048 := by rw [← i1]; exact (((((cfg0.win 6).blk t).view.emb y) 1 : Fin 2048)).isLt
  refine Eq.trans (b := kAt m c (lastP t) (ix2 ⟨(y 0).val, hy⟩ ⟨(y 1).val, h1⟩)) (congrArg (kAt m c (lastP t)) (idx2 _ _ rfl rfl)) ?_
  show _ = res6 m c (((cfg0.win 6).blk t).view.emb y)
  have hp : (lastP t).val * 256 + (y 0).val < 8704 := by show min t.val 31 * 256 + _ < _; omega
  refine (k_at m c (lastP t) (ix2 ⟨(y 0).val, hy⟩ ⟨(y 1).val, h1⟩) ⟨_, hp⟩ rfl).trans ?_
  unfold res6
  refine Eq.trans ?_ (v63_at (a0 m c) _ ⟨_, hp⟩ (i0.symm)).symm
  exact congrArg (spin _ _ _) (Fin.ext i1.symm)

theorem final7 : (dats m 0 c).arrAt 7 cfg0.N = res7 m c := by
  refine (dats m 0 c).arrAt_eq_of_cover 7 (res7 m c) (fun t hf => ?_) cover7
  show (cfg0.win 7).cut (grid0.coords t) ((dats m 0 c).after 7 t) = _
  rw [after7]
  funext y
  rw [View.read_apply]
  have ht : t.val < 34 := lt_of_lt_of_le t.isLt (le_of_eq N_0)
  have hy : (y 0).val < 256 := lt_of_lt_of_le (y 0).isLt (le_of_eq (osize t).2.2.1.1)
  obtain ⟨-, -, -, -, -, -, -, ⟨e0, e1⟩, -⟩ := widx t
  have i0 : ((((cfg0.win 7).blk t).view.emb y) 0).val = (t.val - 32) * 256 + (y 0).val := by
    show win0_7.index t 0 * 256 + 1 * (y 0).val = _; rw [e0]; omega
  have i1 : (((((cfg0.win 7).blk t).view.emb y) 1 : Fin 2048)).val = (y 1).val := by
    show win0_7.index t 1 * 2048 + 1 * (y 1).val = (y 1).val; rw [e1]; omega
  have h1 : (y 1).val < 2048 := by rw [← i1]; exact (((((cfg0.win 7).blk t).view.emb y) 1 : Fin 2048)).isLt
  refine Eq.trans (b := kAt m c t (ix2 ⟨(y 0).val, hy⟩ ⟨(y 1).val, h1⟩)) (congrArg (kAt m c t) (idx2 _ _ rfl rfl)) ?_
  show _ = res7 m c (((cfg0.win 7).blk t).view.emb y)
  have hp : t.val * 256 + (y 0).val < 8704 := by omega
  refine (k_at m c t (ix2 ⟨(y 0).val, hy⟩ ⟨(y 1).val, h1⟩) ⟨_, hp⟩ rfl).trans ?_
  unfold res7
  refine Eq.trans ?_ (v64_at (a0 m c) _ ⟨_, hp⟩ (by have := late7 t hf; rw [i0]; dsimp only; omega)).symm
  exact congrArg (spin _ _ _) (Fin.ext i1.symm)

theorem final8 : (dats m 0 c).arrAt 8 cfg0.N = res8 m c := by
  refine (dats m 0 c).arrAt_eq_of_cover 8 (res8 m c) (fun t _ => ?_) cover8
  show (cfg0.win 8).cut (grid0.coords t) ((dats m 0 c).after 8 t) = _
  rw [after8]
  funext y
  rw [View.read_apply]
  have ht : t.val < 34 := lt_of_lt_of_le t.isLt (le_of_eq N_0)
  have hy : (y 0).val < 256 := lt_of_lt_of_le (y 0).isLt (le_of_eq (osize t).2.2.2.1.1)
  obtain ⟨-, -, -, -, -, -, -, -, ⟨e0, e1⟩, -⟩ := widx t
  have i0 : ((((cfg0.win 8).blk t).view.emb y) 0).val = (min t.val 31) * 256 + (y 0).val := by
    show win0_8.index t 0 * 256 + 1 * (y 0).val = _; rw [e0]; omega
  have i1 : (((((cfg0.win 8).blk t).view.emb y) 1 : Fin 2048)).val = (y 1).val := by
    show win0_8.index t 1 * 2048 + 1 * (y 1).val = (y 1).val; rw [e1]; omega
  have h1 : (y 1).val < 2048 := by rw [← i1]; exact (((((cfg0.win 8).blk t).view.emb y) 1 : Fin 2048)).isLt
  refine Eq.trans (b := vAt m c (lastP t) (ix2 ⟨(y 0).val, hy⟩ ⟨(y 1).val, h1⟩)) (congrArg (vAt m c (lastP t)) (idx2 _ _ rfl rfl)) ?_
  show _ = res8 m c (((cfg0.win 8).blk t).view.emb y)
  have hp : (lastP t).val * 256 + (y 0).val < 8704 := by show min t.val 31 * 256 + _ < _; omega
  refine (v_at m c (lastP t) (ix2 ⟨(y 0).val, hy⟩ ⟨(y 1).val, h1⟩) ⟨_, hp⟩ rfl).trans ?_
  unfold res8
  refine Eq.trans ?_ (v65_at (a0 m c) _ ⟨_, hp⟩ (i0.symm)).symm
  exact congrArg (a0 m c) (idx2 _ _ rfl (congrArg (4096 + ·) i1.symm))

theorem final9 : (dats m 0 c).arrAt 9 cfg0.N = res9 m c := by
  refine (dats m 0 c).arrAt_eq_of_cover 9 (res9 m c) (fun t hf => ?_) cover9
  show (cfg0.win 9).cut (grid0.coords t) ((dats m 0 c).after 9 t) = _
  rw [after9]
  funext y
  rw [View.read_apply]
  have ht : t.val < 34 := lt_of_lt_of_le t.isLt (le_of_eq N_0)
  have hy : (y 0).val < 256 := lt_of_lt_of_le (y 0).isLt (le_of_eq (osize t).2.2.2.2.1)
  obtain ⟨-, -, -, -, -, -, -, -, -, e0, e1⟩ := widx t
  have i0 : ((((cfg0.win 9).blk t).view.emb y) 0).val = (t.val - 32) * 256 + (y 0).val := by
    show win0_9.index t 0 * 256 + 1 * (y 0).val = _; rw [e0]; omega
  have i1 : (((((cfg0.win 9).blk t).view.emb y) 1 : Fin 2048)).val = (y 1).val := by
    show win0_9.index t 1 * 2048 + 1 * (y 1).val = (y 1).val; rw [e1]; omega
  have h1 : (y 1).val < 2048 := by rw [← i1]; exact (((((cfg0.win 9).blk t).view.emb y) 1 : Fin 2048)).isLt
  refine Eq.trans (b := vAt m c t (ix2 ⟨(y 0).val, hy⟩ ⟨(y 1).val, h1⟩)) (congrArg (vAt m c t) (idx2 _ _ rfl rfl)) ?_
  show _ = res9 m c (((cfg0.win 9).blk t).view.emb y)
  have hp : t.val * 256 + (y 0).val < 8704 := by omega
  refine (v_at m c t (ix2 ⟨(y 0).val, hy⟩ ⟨(y 1).val, h1⟩) ⟨_, hp⟩ rfl).trans ?_
  unfold res9
  refine Eq.trans ?_ (v66_at (a0 m c) _ ⟨_, hp⟩ (by have := late9 t hf; rw [i0]; dsimp only; omega)).symm
  exact congrArg (a0 m c) (idx2 _ _ rfl (congrArg (4096 + ·) i1.symm))

/-! ## The claims -/

/-- The reference runs to its end, keeps its arguments and leaves every counter at zero. -/
theorem frame_ref : Cert.quiescent_RopeRefIdeal := fun m g _ =>
  (θ_run Cert.RopeRefIdeal.defs _ _).mono (fun r h => ⟨fun c => (h c).2.2.2.2.2, Idealize.ShloMosaic.sem_eq_zero_of_no_sems (by decide) r.2⟩)
    (Cert.RopeRefIdeal.Value.run (F := Ideal) m g)

/-- The argument after a run, at either float. -/
theorem kept {F : Idealize.ShloMosaic.FTy → Type} [FloatOps F] (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0)) ∧ r.2.sem = fun _ => 0) :=
  (θ_run defs _ _).mono
    (fun _ h => ⟨fun c => ((h.1 c).1 2).trans (((dats m 0 c).arrAt_in 2 rfl _).trans ((A_eq m c 2).trans (V_main_arg0 m c))), h.2⟩) (run_all m ρ)

theorem frame_ideal : Cert.quiescent_RopeIdeal := fun m ρ _ =>
  (θ_run Cert.RopeIdeal.defs _ _).mono (fun _ h => h) (kept (F := Ideal) m ρ)

/-- Kernel and reference return the same arrays. -/
theorem value : Cert.algebraic_RopeIdeal_RopeRefIdeal := by
  intro m ρ m' ρ' _ hag
  refine ⟨fun c => res5 m c, fun c => res6 m c, fun c => res7 m c, fun c => res8 m c, fun c => res9 m c,
    (θ_run _ _ _).mono (fun _ h c => ⟨((h c).1 5).trans (final5 m c), ((h c).1 6).trans (final6 m c), ((h c).1 7).trans (final7 m c),
      ((h c).1 8).trans (final8 m c), ((h c).1 9).trans (final9 m c),
      ((h c).1 2).trans (((dats m 0 c).arrAt_in 2 rfl _).trans ((A_eq m c 2).trans (V_main_arg0 m c)))⟩) (run_main m ρ),
    (θ_run _ _ _).mono (fun _ h c => ⟨(h c).1.trans ?_, (h c).2.1.trans ?_, (h c).2.2.1.trans ?_, (h c).2.2.2.1.trans ?_, (h c).2.2.2.2.1.trans ?_, (h c).2.2.2.2.2⟩)
      (Cert.RopeRefIdeal.Value.run m' ρ')⟩
  · rw [val_main_v62_eq, hag c]; rfl
  · rw [val_main_v63_eq, hag c]; rfl
  · rw [val_main_v64_eq, hag c]; rfl
  · rw [hag c]; exact val_main_v65_eq _
  · rw [hag c]; exact val_main_v66_eq _

end Cert.RopeIdeal.Turn
end
-- ==== Proof.RopeSame.lean ====
module
public import proofs.«01_k».proof.Proof.RopeVal
@[expose] public section
set_option maxRecDepth 65536
set_option maxHeartbeats 2000000
noncomputable section

/-! The program over floats has the text of the idealized one, so the run gives its frame too. -/

namespace Cert.RopeIdeal.Turn
open Idealize.ShloMosaic Idealize.ShloMosaic.TcCoe Idealize.SL.Sem

theorem same_body : Cert.Rope.cc0_rope_a (F := Bits) = Cert.RopeIdeal.cc0_rope_a := rfl

theorem same_main : Cert.Rope.main (F := Bits) = Cert.RopeIdeal.main := rfl

/-- The kernel's one label. -/
theorem same_label (t : Fin Cert.RopeIdeal.cfg0.N) (s) : Cert.Rope.defs₀ (F := Bits) .tc 0 (t, s) = Cert.RopeIdeal.defs₀ (F := Bits) .tc 0 (t, s) := by
  show Cert.Rope.cc0_rope_a _ _ _ _ _ _ _ _ _ _ _ _ _ _ _ _ _ _ _ _ _ = Cert.RopeIdeal.cc0_rope_a _ _ _ _ _ _ _ _ _ _ _ _ _ _ _ _ _ _ _ _ _
  rw [same_body]
  rfl

theorem same_table : Cert.Rope.defs₀ (F := Bits) = Cert.RopeIdeal.defs₀ (F := Bits) := by
  funext κ
  match κ with
  | .tc =>
    funext l a
    match l, a with
    | 0, (t, s) => exact same_label t s
    | ⟨n + 1, h⟩, _ => exact absurd h (Nat.not_lt.2 (Nat.le_add_left _ _))
  | .scScalar _ => rfl
  | .scVector _ _ => rfl

theorem same_defs : Cert.Rope.defs (F := Bits) = Cert.RopeIdeal.defs (F := Bits) := by
  show Pipeline.defs Cert.Rope.pcfgs Cert.Rope.defs₀ = Pipeline.defs Cert.RopeIdeal.pcfgs Cert.RopeIdeal.defs₀
  rw [same_table]
  rfl

theorem frame_kernel : Cert.quiescent_Rope := by
  intro m ρ _
  rw [same_defs, same_main]
  exact kept (F := Bits) m ρ

end Cert.RopeIdeal.Turn
end
-- ==== Proof.Out.lean ====
module
public import proofs.«01_k».proof.Proof.Mem
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import Idealize.ShloMosaic.Lib.Pointwise
public import proofs.«01_k».proof.Defs
public import Idealize.ShloMosaic.Adequacy
@[expose] public section
set_option maxRecDepth 16384
noncomputable section

/-! The output product: a block of the rows of one group times the layer's weight, added to the residual. -/

namespace Cert.OutIdeal.Prod
open Cert.OutIdeal Cert.OutIdeal.Gen Idealize.ShloMosaic Idealize.ShloMosaic.TcCoe Idealize.SL.Sem Cert.Mem
open Cert.OutRefIdeal.Read

variable (m : (ℓ : Loc nD τ sig) → Buf (Elt Ideal) ℓ) (c : Dev nD)

abbrev a0 : Vec Ideal S8192x2048 .bf16 := m ((c : Thread nD τ).loc main_arg0)
abbrev a1 : Vec Ideal S512x2048 .bf16 := m ((c : Thread nD τ).loc main_arg1)
abbrev a2 : Vec Ideal S8704x2048 .f32 := m ((c : Thread nD τ).loc main_arg2)
abbrev a3 : Vec Ideal S8192x2048 .bf16 := m ((c : Thread nD τ).loc main_arg3)

/-- The result on device `c`: the reference's, of the kernel's arguments. -/
def res : Buf (Elt Ideal) ((c : Thread nD τ).loc main_v0) := val_main_v7 (F := Ideal) (a0 m c) (a1 m c) (a2 m c) (a3 m c)

/-- Entry `(r, j)` of the residual plus the product. -/
def ent (x w : S512x2048.Idx → EReal) (u : S2048x2048.Idx → EReal) (y : S512x2048.Idx) : EReal :=
  w y + ∑ k : Fin 2048, x (ix2 (y 0) k) * u (ix2 k (y 1))

theorem pay1_at (w : Vec Ideal S512x2048 .f32) (x : Vec Ideal S512x2048 .bf16) (u : Vec Ideal S2048x2048 .bf16) (y : S512x2048.Idx) :
    k0_pay1 (F := Ideal) w x u y = ent x w u y := by
  unfold ent
  pointwise [k0_pay1]

theorem pay2_at (w : Vec Ideal S512x2048 .f32) (x : Vec Ideal S512x2048 .bf16) (u : Vec Ideal S2048x2048 .bf16) (y : S512x2048.Idx) :
    k0_pay2 (F := Ideal) w x u y = ent x w u y := by
  unfold ent
  pointwise [k0_pay2]

theorem widx : ∀ t : Fin cfg0.N,
    (win0_0.index t 0 = min t.val 15 ∧ win0_0.index t 1 = 0) ∧ (win0_1.index t 0 = 0 ∧ win0_1.index t 1 = 0)
    ∧ (win0_2.index t 0 = t.val ∧ win0_2.index t 1 = 0) ∧ (win0_3.index t 0 = 1 ∧ win0_3.index t 1 = 0)
    ∧ (win0_4.index t 0 = t.val ∧ win0_4.index t 1 = 0) := by
  decide +kernel

theorem osize : ∀ t : Fin cfg0.N, win0_4.xsize (grid0.coords t) 0 = 512 ∧ win0_4.xsize (grid0.coords t) 1 = 2048 := by
  decide +kernel

theorem cover (i : S8704x2048.Idx) : ∃ t : Fin cfg0.N, (cfg0.win 4).flush t = true ∧ i ∈ ((cfg0.win 4).blk t).view.set := by
  have h0 : (i 0 : Nat) < 8704 := (i 0).isLt
  have h1 : (i 1 : Nat) < 2048 := (i 1).isLt
  have hN : cfg0.N = 17 := N_0
  have ht : (i 0 : Nat) / 512 < cfg0.N := by omega
  refine ⟨⟨_, ht⟩, flush0_4 _, ?_⟩
  show i ∈ ((View.whole main_v0).slice (win0_4.rect ⟨_, ht⟩)).set
  rw [View.set_slice_whole, Rect.mem_set_unit]
  obtain ⟨-, -, -, -, e0, e1⟩ := widx ⟨_, ht⟩
  obtain ⟨s0, s1⟩ := osize ⟨_, ht⟩
  dsimp only at e0 e1
  intro a
  match a with
  | ⟨0, _⟩ =>
    show win0_4.index ⟨_, ht⟩ 0 * 512 ≤ (i 0 : Nat) ∧ (i 0 : Nat) < win0_4.index ⟨_, ht⟩ 0 * 512 + win0_4.xsize (grid0.coords ⟨_, ht⟩) 0
    rw [e0, s0]; omega
  | ⟨1, _⟩ =>
    show win0_4.index ⟨_, ht⟩ 1 * 2048 ≤ (i 1 : Nat) ∧ (i 1 : Nat) < win0_4.index ⟨_, ht⟩ 1 * 2048 + win0_4.xsize (grid0.coords ⟨_, ht⟩) 1
    rw [e1, s1]; omega

/-- What a point stores: the prompt group's rows up to point 15, then the sample group's. -/
theorem out_at (t : Fin cfg0.N) (y : S512x2048.Idx) :
    outsAt0 m c t.val t.isLt y
      = ent (if t.val < 16 then iblk m c 0 t else iblk m c 1 t) (iblk m c 2 t) (iblk m c 3 t) y := by
  have ht : t.val < 17 := Nat.lt_of_lt_of_eq t.isLt N_0
  by_cases h : t.val < 16
  · rw [outsAt0_A m c t h (by omega), if_pos h]
    unfold out0_A_4
    rw [View.read_writes_junk_eq_canon]
    unfold kernelRun0_A
    refine (congrFun (View.canon_unit_zero (by decide) inb_S512x2048_S512x2048_0_0 _) y).trans ?_
    rw [ld_all _ _ _ (by decide), ld_all _ _ _ (by decide), ld_all _ _ _ (by decide)]
    exact pay1_at _ _ _ y
  · rw [outsAt0_B m c t h (by omega), if_neg h]
    unfold out0_B_4
    rw [View.read_writes_junk_eq_canon]
    unfold kernelRun0_B
    refine (congrFun (View.canon_unit_zero (by decide) inb_S512x2048_S512x2048_0_0 _) y).trans ?_
    rw [ld_all _ _ _ (by decide), ld_all _ _ _ (by decide), ld_all _ _ _ (by decide)]
    exact pay2_at _ _ _ y

theorem blk0_at (t : Fin cfg0.N) (h : t.val < 16) (y : S512x2048.Idx) :
    (iblk m c 0 t : Vec Ideal S512x2048 .bf16) y
      = a0 m c (ix2 ⟨512 * t.val + (y 0).val, by have := (y 0).isLt; change _ < 512 at this; omega⟩ (y 1)) := by
  unfold iblk
  rw [View.read_apply]
  show V m c main_arg0 _ = _
  rw [V_main_arg0]
  obtain ⟨⟨p0, p1⟩, -⟩ := widx t
  refine congrArg (a0 m c) (funext fun a => Fin.ext ?_)
  match a with
  | ⟨0, _⟩ => show win0_0.index t 0 * 512 + 1 * (y 0).val = 512 * t.val + (y 0).val; rw [p0]; omega
  | ⟨1, _⟩ => show win0_0.index t 1 * 2048 + 1 * (y 1).val = (y 1).val; rw [p1]; omega

theorem blk1_at (t : Fin cfg0.N) (y : S512x2048.Idx) : (iblk m c 1 t : Vec Ideal S512x2048 .bf16) y = a1 m c y := by
  unfold iblk
  rw [View.read_apply]
  show V m c main_arg1 _ = _
  rw [V_main_arg1]
  obtain ⟨-, ⟨p0, p1⟩, -⟩ := widx t
  refine congrArg (a1 m c) (funext fun a => Fin.ext ?_)
  match a with
  | ⟨0, _⟩ => show win0_1.index t 0 * 512 + 1 * (y 0).val = (y 0).val; rw [p0]; omega
  | ⟨1, _⟩ => show win0_1.index t 1 * 2048 + 1 * (y 1).val = (y 1).val; rw [p1]; omega

theorem blk3_at (t : Fin cfg0.N) (y : S2048x2048.Idx) :
    (iblk m c 3 t : Vec Ideal S2048x2048 .bf16) y = val_main_v1 (F := Ideal) (a3 m c) y := by
  rw [val_main_v1_apply, val_main_v0_apply]
  unfold iblk
  rw [View.read_apply]
  show V m c main_arg3 _ = _
  rw [V_main_arg3]
  obtain ⟨-, -, -, ⟨p0, p1⟩, -⟩ := widx t
  refine congrArg (a3 m c) (funext fun a => Fin.ext ?_)
  match a with
  | ⟨0, _⟩ => show win0_3.index t 0 * 2048 + 1 * (y 0).val = 2048 + (y 0).val; rw [p0]; omega
  | ⟨1, _⟩ => show win0_3.index t 1 * 2048 + 1 * (y 1).val = (y 1).val; rw [p1]; omega

/-- The joined products, in the prompt group's rows and in the sample group's. -/
theorem v6_lo (x0 : Vec Ideal S8192x2048 .bf16) (x1 : Vec Ideal S512x2048 .bf16) (x3 : Vec Ideal S8192x2048 .bf16) (i : S8704x2048.Idx)
    (j : S8192x2048.Idx) (h0 : (j 0).val = (i 0).val) (h1 : (j 1).val = (i 1).val) :
    val_main_v6 (F := Ideal) x0 x1 x3 i = val_main_v3 x0 x3 j := by
  unfold val_main_v6
  refine concatenate_pair_apply_left (t := S8704x2048) (s₁ := S8192x2048) (s₂ := S512x2048) (0 : Fin 2) _ _ _ i rfl j fun b => ?_
  match b with
  | ⟨0, _⟩ => exact h0
  | ⟨1, _⟩ => exact h1

theorem v6_hi (x0 : Vec Ideal S8192x2048 .bf16) (x1 : Vec Ideal S512x2048 .bf16) (x3 : Vec Ideal S8192x2048 .bf16) (i : S8704x2048.Idx)
    (j : S512x2048.Idx) (h0 : (j 0).val + 8192 = (i 0).val) (h1 : (j 1).val = (i 1).val) :
    val_main_v6 (F := Ideal) x0 x1 x3 i = val_main_v5 x1 x3 j := by
  unfold val_main_v6
  refine concatenate_pair_apply_right (t := S8704x2048) (s₁ := S8192x2048) (s₂ := S512x2048) (0 : Fin 2) _ _ _ i rfl rfl j (fun b hb => ?_) h0
  match b, hb with
  | ⟨0, _⟩, hb => exact absurd rfl hb
  | ⟨1, _⟩, _ => exact h1

theorem final : (dats m 0 c).arrAt 4 cfg0.N = res m c := by
  refine (dats m 0 c).arrAt_eq_of_cover 4 (res m c) (fun t _ => ?_) cover
  rw [Cert.OutIdeal.Value.flushed4]
  funext y
  rw [View.read_apply]
  have ht : t.val < 17 := Nat.lt_of_lt_of_eq t.isLt N_0
  have l0 : (y 0).val < 512 := (y 0).isLt
  obtain ⟨-, -, ⟨p0, p1⟩, -, ⟨r0, r1⟩⟩ := widx t
  have e0 : ((((cfg0.win 4).blk t).view.emb y) 0).val = 512 * t.val + (y 0).val := by
    show win0_4.index t 0 * 512 + 1 * (y 0).val = _; rw [r0]; omega
  have e1 : ((((cfg0.win 4).blk t).view.emb y) 1).val = (y 1).val := by
    show win0_4.index t 1 * 2048 + 1 * (y 1).val = _; rw [r1]; omega
  refine (out_at m c t y).trans ?_
  unfold res ent
  rw [val_main_v7_apply]
  refine congrArg₂ (· + ·) ?_ ?_
  · unfold iblk
    rw [View.read_apply]
    show V m c main_arg2 _ = _
    rw [V_main_arg2]
    refine congrArg (a2 m c) (funext fun a => Fin.ext ?_)
    match a with
    | ⟨0, _⟩ => show win0_2.index t 0 * 512 + 1 * (y 0).val = win0_4.index t 0 * 512 + 1 * (y 0).val; rw [p0, r0]
    | ⟨1, _⟩ => show win0_2.index t 1 * 2048 + 1 * (y 1).val = win0_4.index t 1 * 2048 + 1 * (y 1).val; rw [p1, r1]
  · by_cases h : t.val < 16
    · rw [v6_lo _ _ _ _ (ix2 ⟨512 * t.val + (y 0).val, by omega⟩ (y 1)) e0.symm e1.symm, val_main_v3_apply]
      refine Finset.sum_congr rfl fun k _ => ?_
      rw [if_pos h, blk3_at, blk0_at m c t h]
      rw [val_main_v2_apply]
      refine congrArg₂ (· * ·) ?_ ?_
      · refine congrArg (a0 m c) (funext fun a => ?_)
        match a with
        | ⟨0, _⟩ => rfl
        | ⟨1, _⟩ => rfl
      · refine congrArg (val_main_v1 (F := Ideal) (a3 m c)) (funext fun a => ?_)
        match a with
        | ⟨0, _⟩ => rfl
        | ⟨1, _⟩ => rfl
    · rw [v6_hi _ _ _ _ y (by rw [e0]; omega) e1.symm, val_main_v5_apply]
      refine Finset.sum_congr rfl fun k _ => ?_
      rw [if_neg h, blk3_at, blk1_at]
      rw [val_main_v4_apply]
      refine congrArg₂ (· * ·) ?_ ?_
      · refine congrArg (a1 m c) (funext fun a => ?_)
        match a with
        | ⟨0, _⟩ => rfl
        | ⟨1, _⟩ => rfl
      · refine congrArg (val_main_v1 (F := Ideal) (a3 m c)) (funext fun a => ?_)
        match a with
        | ⟨0, _⟩ => rfl
        | ⟨1, _⟩ => rfl

/-- The reference runs to its end, keeps its arguments and leaves every counter at zero. -/
theorem frame_ref : Cert.quiescent_OutRefIdeal := fun m g _ =>
  (θ_run Cert.OutRefIdeal.defs _ _).mono (fun r h => ⟨fun c => (h c).2, Idealize.ShloMosaic.sem_eq_zero_of_no_sems (by decide) r.2⟩)
    (Cert.OutRefIdeal.Value.run (F := Ideal) m g)

/-- The value claim. -/
theorem value : Cert.algebraic_OutIdeal_OutRefIdeal := by
  intro m ρ m' ρ' _ hag
  refine ⟨fun c => res m c,
    (θ_run _ _ _).mono (fun _ h c => ⟨(h c).1.trans (final m c), (h c).2⟩) (Cert.OutIdeal.Value.run_blocks m ρ),
    (θ_run _ _ _).mono (fun _ h c => ⟨(h c).1.trans ?_, (h c).2⟩) (Cert.OutRefIdeal.Value.run m' ρ')⟩
  obtain ⟨g0, g1, g2, g3⟩ := hag c
  rw [val_main_v7_eq, g0, g1, g2, g3]
  rfl

theorem frames : Cert.quiescent_Out ∧ Cert.quiescent_OutIdeal :=
  ⟨fun m ρ _ => Cert.Out.Gen.frame m ρ, fun m ρ _ => Cert.OutIdeal.Gen.frame m ρ⟩

end Cert.OutIdeal.Prod
end
-- ==== Proof.lean ====
module

public import proofs.«01_k».proof.Proof.Whole
public import proofs.«01_k».proof.Proof.Gen.Pre_finite
public import Idealize.ShloMosaic.Lib.ReduceAll
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.ProjA
public import proofs.«01_k».proof.Proof.Gen.ProjA
public import proofs.«01_k».proof.Proof.Gen.ProjAIdeal
public import proofs.«01_k».proof.Proof.Gen.ProjARefIdeal
public import proofs.«01_k».proof.Proof.ProjB
public import proofs.«01_k».proof.Proof.Gen.ProjB
public import proofs.«01_k».proof.Proof.Gen.ProjBIdeal
public import proofs.«01_k».proof.Proof.Gen.ProjBRefIdeal
public import proofs.«01_k».proof.Proof.Rkvg
public import proofs.«01_k».proof.Proof.Gen.Rkvg
public import proofs.«01_k».proof.Proof.Gen.RkvgIdeal
public import proofs.«01_k».proof.Proof.Gen.RkvgRefIdeal
public import proofs.«01_k».proof.Proof.Prep
public import proofs.«01_k».proof.Proof.Lora
public import proofs.«01_k».proof.Proof.RopeSame
public import proofs.«01_k».proof.Proof.Gen.Rope
public import proofs.«01_k».proof.Proof.Gen.RopeIdeal
public import proofs.«01_k».proof.Proof.Gen.RopeRefIdeal
public import proofs.«01_k».proof.Proof.Gen.Lora
public import proofs.«01_k».proof.Proof.Gen.LoraIdeal
public import proofs.«01_k».proof.Proof.Gen.LoraRefIdeal
public import proofs.«01_k».proof.Proof.Out
public import proofs.«01_k».proof.Proof.Gen.Out
public import proofs.«01_k».proof.Proof.Gen.Prep
public import proofs.«01_k».proof.Proof.Gen.PrepIdeal
public import proofs.«01_k».proof.Proof.Gen.PrepRefIdeal
public import proofs.«01_k».proof.Proof.Gen.Prep.Frame
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.OutIdeal
public import proofs.«01_k».proof.Proof.Gen.OutRefIdeal
public import Idealize.ShloMosaic.Adequacy
public import Idealize.ShloMosaic.Init

@[expose] public section

noncomputable section

namespace Cert.Proof

open Idealize.ShloMosaic Idealize.SL.Sem

theorem inf_top : (FloatOps.ofBits (F := Ideal) .f32 0x7F800000#32 : EReal) = ⊤ := by
  show Ideal.ofBits .f32 0x7F800000#32 = ⊤
  unfold Ideal.ofBits Ideal.ieee
  dsimp only
  rw [if_pos (by decide)]
  rfl

/-- A number whose magnitude compares below the infinity is real. -/
theorem real_of_lt (x : EReal) (h : Ideal.cmp .olt (max x (-x)) ⊤ = 1#1) : ∃ r : ℝ, x = (r : EReal) := by
  have h' : max x (-x) < ⊤ := by
    by_contra hn
    have : Ideal.cmp .olt (max x (-x)) ⊤ = BitVec.ofBool (decide (max x (-x) < ⊤)) := rfl
    rw [this, decide_eq_false hn] at h
    exact absurd h (by decide)
  induction x with
  | bot => simp at h'
  | top => simp at h'
  | coe r => exact ⟨r, rfl⟩

instance : Subsingleton (Cert.Pre_finite.S_.Idx) := ⟨fun a b => funext fun i => i.elim0⟩

theorem pre_real [Cert.Pre_finite.Facts] (b0 : FVec Ideal Cert.Pre_finite.S8704x2048 .f32) (b1 b2 : FVec Ideal Cert.Pre_finite.S8192x2048 .f32)
    (b3 : FVec Ideal Cert.Pre_finite.S8704x8192 .f32) (b4 : FVec Ideal Cert.Pre_finite.S4x64 .f32) (b5 : FVec Ideal Cert.Pre_finite.S128 .f32)
    (h : Cert.Pre_finite.fn (F := Ideal) b0 b1 b2 b3 b4 b5 = fun _ => 1#1) :
    (∀ i, ∃ r : ℝ, (b2 i : EReal) = (r : EReal)) ∧ ∀ i, ∃ r : ℝ, (b4 i : EReal) = (r : EReal) := by
  have h0 := congrFun h (fun i => i.elim0)
  unfold Cert.Pre_finite.fn at h0
  dsimp only at h0
  obtain ⟨e1, e2⟩ := IntOp.andi_eq_one.1 h0
  refine ⟨fun i => real_of_lt _ ?_, fun i => real_of_lt _ ?_⟩
  · have e := Host.reduce_andi_all _ _ _ _ _ e1 i
    rw [← inf_top]
    exact e
  · have e := Host.reduce_andi_all _ _ _ _ _ e2 i
    rw [← inf_top]
    exact e

/-- The reference runs to its end, keeps its arguments and leaves every counter at zero. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The value claim. -/
theorem value [Cert.Pre_finite.Facts] : Cert.algebraic_KernelIdeal_ReferenceIdeal_pre_finite := by
  intro m ρ m' ρ' hpre hag
  refine ⟨fun c => Cert.KernelIdeal.Attn.res m c,
    (θ_run _ _ _).mono (fun _ h c => ⟨(h c).1.trans ?_, (h c).2⟩) (Cert.KernelIdeal.Value.run_blocks m ρ),
    (θ_run _ _ _).mono (fun _ h c => ⟨(h c).1.trans ?_, (h c).2⟩) (Cert.ReferenceIdeal.Value.run m' ρ')⟩
  · obtain ⟨hv, hl⟩ := pre_real _ _ _ _ _ _ (hpre c)
    exact Cert.KernelIdeal.Attn.final m c hv hl
  · obtain ⟨g0, g1, g2, g3, g4, g5⟩ := hag c
    rw [Cert.ReferenceIdeal.Read.val_main_v86_eq, g0, g1, g2, g3, g4, g5]
    rfl

theorem claim : Cert.Claim := ⟨Cert.Kernel.Gen.facts, Cert.KernelIdeal.Gen.facts, Cert.ReferenceIdeal.Gen.facts,
  Cert.ProjA.Gen.facts, Cert.ProjAIdeal.Gen.facts, Cert.ProjARefIdeal.Gen.facts, Cert.ProjB.Gen.facts, Cert.ProjBIdeal.Gen.facts, Cert.ProjBRefIdeal.Gen.facts, Cert.Rkvg.Gen.facts, Cert.RkvgIdeal.Gen.facts, Cert.RkvgRefIdeal.Gen.facts, Cert.Out.Gen.facts, Cert.OutIdeal.Gen.facts, Cert.OutRefIdeal.Gen.facts, Cert.Prep.Gen.facts, Cert.PrepIdeal.Gen.facts, Cert.PrepRefIdeal.Gen.facts, Cert.Lora.Gen.facts, Cert.LoraIdeal.Gen.facts, Cert.LoraRefIdeal.Gen.facts, Cert.Rope.Gen.facts, Cert.RopeIdeal.Gen.facts, Cert.RopeRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_ref m ρ, fun m ρ _ => frame_ref m ρ,
  Cert.ProjAIdeal.Prod.frames.1, Cert.ProjAIdeal.Prod.frames.2, Cert.ProjAIdeal.Prod.frame_ref, Cert.ProjBIdeal.Prod.frames.1, Cert.ProjBIdeal.Prod.frames.2, Cert.ProjBIdeal.Prod.frame_ref, Cert.RkvgIdeal.Prod.frames.1, Cert.RkvgIdeal.Prod.frames.2, Cert.RkvgIdeal.Prod.frame_ref, Cert.OutIdeal.Prod.frames.1, Cert.OutIdeal.Prod.frames.2, Cert.OutIdeal.Prod.frame_ref, Cert.PrepIdeal.Prod.frames.1, Cert.PrepIdeal.Prod.frames.2, Cert.PrepIdeal.Prod.frame_ref, Cert.LoraIdeal.Prod.frames.1, Cert.LoraIdeal.Prod.frames.2, Cert.LoraIdeal.Prod.frame_ref, Cert.RopeIdeal.Turn.frame_kernel, Cert.RopeIdeal.Turn.frame_ideal, Cert.RopeIdeal.Turn.frame_ref,
  trivial, value, trivial, Cert.ProjAIdeal.Prod.value, trivial, Cert.ProjBIdeal.Prod.value, trivial, Cert.RkvgIdeal.Prod.value, trivial, Cert.OutIdeal.Prod.value, trivial, Cert.PrepIdeal.Prod.value, trivial, Cert.LoraIdeal.Prod.value, trivial, Cert.RopeIdeal.Turn.value⟩

end Cert.Proof

end
